-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_FwdQkv (m : (ℓ : Loc Cert.FwdQkv.nD Cert.FwdQkv.τ Cert.FwdQkv.sig) → Buf (Elt Bits) ℓ) : Prop :=
  True

def Pre_FwdQkvIdeal (m : (ℓ : Loc Cert.FwdQkvIdeal.nD Cert.FwdQkvIdeal.τ Cert.FwdQkvIdeal.sig) → Buf (Elt Ideal) ℓ) : Prop :=
  True

def Pre_FwdQkvReferenceIdeal (m : (ℓ : Loc Cert.FwdQkvReferenceIdeal.nD Cert.FwdQkvReferenceIdeal.τ Cert.FwdQkvReferenceIdeal.sig) → Buf (Elt Ideal) ℓ) : Prop :=
  True

def Pre_FwdU (m : (ℓ : Loc Cert.FwdU.nD Cert.FwdU.τ Cert.FwdU.sig) → Buf (Elt Bits) ℓ) : Prop :=
  True

def Pre_FwdUIdeal (m : (ℓ : Loc Cert.FwdUIdeal.nD Cert.FwdUIdeal.τ Cert.FwdUIdeal.sig) → Buf (Elt Ideal) ℓ) : Prop :=
  True

def Pre_FwdUReferenceIdeal (m : (ℓ : Loc Cert.FwdUReferenceIdeal.nD Cert.FwdUReferenceIdeal.τ Cert.FwdUReferenceIdeal.sig) → Buf (Elt Ideal) ℓ) : Prop :=
  True

def Pre_FwdGates (m : (ℓ : Loc Cert.FwdGates.nD Cert.FwdGates.τ Cert.FwdGates.sig) → Buf (Elt Bits) ℓ) : Prop :=
  True

def Pre_FwdGatesIdeal (m : (ℓ : Loc Cert.FwdGatesIdeal.nD Cert.FwdGatesIdeal.τ Cert.FwdGatesIdeal.sig) → Buf (Elt Ideal) ℓ) : Prop :=
  True

def Pre_FwdGatesReferenceIdeal (m : (ℓ : Loc Cert.FwdGatesReferenceIdeal.nD Cert.FwdGatesReferenceIdeal.τ Cert.FwdGatesReferenceIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpReferenceIdeal (m : (ℓ : Loc Cert.FwdUpReferenceIdeal.nD Cert.FwdUpReferenceIdeal.τ Cert.FwdUpReferenceIdeal.sig) → Buf (Elt Ideal) ℓ) : Prop :=
  True

def Pre_FwdGlu (m : (ℓ : Loc Cert.FwdGlu.nD Cert.FwdGlu.τ Cert.FwdGlu.sig) → Buf (Elt Bits) ℓ) : Prop :=
  True

def Pre_FwdGluIdeal (m : (ℓ : Loc Cert.FwdGluIdeal.nD Cert.FwdGluIdeal.τ Cert.FwdGluIdeal.sig) → Buf (Elt Ideal) ℓ) : Prop :=
  True

def Pre_FwdGluReferenceIdeal (m : (ℓ : Loc Cert.FwdGluReferenceIdeal.nD Cert.FwdGluReferenceIdeal.τ Cert.FwdGluReferenceIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_FwdFfn (m : (ℓ : Loc Cert.FwdFfn.nD Cert.FwdFfn.τ Cert.FwdFfn.sig) → Buf (Elt Bits) ℓ) : Prop :=
  True

def Pre_FwdFfnIdeal (m : (ℓ : Loc Cert.FwdFfnIdeal.nD Cert.FwdFfnIdeal.τ Cert.FwdFfnIdeal.sig) → Buf (Elt Ideal) ℓ) : Prop :=
  True

def Pre_FwdFfnReferenceIdeal (m : (ℓ : Loc Cert.FwdFfnReferenceIdeal.nD Cert.FwdFfnReferenceIdeal.τ Cert.FwdFfnReferenceIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownReferenceIdeal (m : (ℓ : Loc Cert.FwdDownReferenceIdeal.nD Cert.FwdDownReferenceIdeal.τ Cert.FwdDownReferenceIdeal.sig) → Buf (Elt Ideal) ℓ) : Prop :=
  True

def Pre_BwdDown (m : (ℓ : Loc Cert.BwdDown.nD Cert.BwdDown.τ Cert.BwdDown.sig) → Buf (Elt Bits) ℓ) : Prop :=
  True

def Pre_BwdDownIdeal (m : (ℓ : Loc Cert.BwdDownIdeal.nD Cert.BwdDownIdeal.τ Cert.BwdDownIdeal.sig) → Buf (Elt Ideal) ℓ) : Prop :=
  True

def Pre_BwdDownReferenceIdeal (m : (ℓ : Loc Cert.BwdDownReferenceIdeal.nD Cert.BwdDownReferenceIdeal.τ Cert.BwdDownReferenceIdeal.sig) → Buf (Elt Ideal) ℓ) : Prop :=
  True

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutReferenceIdeal (m : (ℓ : Loc Cert.BwdOutReferenceIdeal.nD Cert.BwdOutReferenceIdeal.τ Cert.BwdOutReferenceIdeal.sig) → Buf (Elt Ideal) ℓ) : Prop :=
  True

def Pre_BwdUp (m : (ℓ : Loc Cert.BwdUp.nD Cert.BwdUp.τ Cert.BwdUp.sig) → Buf (Elt Bits) ℓ) : Prop :=
  True

def Pre_BwdUpIdeal (m : (ℓ : Loc Cert.BwdUpIdeal.nD Cert.BwdUpIdeal.τ Cert.BwdUpIdeal.sig) → Buf (Elt Ideal) ℓ) : Prop :=
  True

def Pre_BwdUpReferenceIdeal (m : (ℓ : Loc Cert.BwdUpReferenceIdeal.nD Cert.BwdUpReferenceIdeal.τ Cert.BwdUpReferenceIdeal.sig) → Buf (Elt Ideal) ℓ) : Prop :=
  True

def Pre_BwdQkv (m : (ℓ : Loc Cert.BwdQkv.nD Cert.BwdQkv.τ Cert.BwdQkv.sig) → Buf (Elt Bits) ℓ) : Prop :=
  True

def Pre_BwdQkvIdeal (m : (ℓ : Loc Cert.BwdQkvIdeal.nD Cert.BwdQkvIdeal.τ Cert.BwdQkvIdeal.sig) → Buf (Elt Ideal) ℓ) : Prop :=
  True

def Pre_BwdQkvReferenceIdeal (m : (ℓ : Loc Cert.BwdQkvReferenceIdeal.nD Cert.BwdQkvReferenceIdeal.τ Cert.BwdQkvReferenceIdeal.sig) → Buf (Elt Ideal) ℓ) : Prop :=
  True

def Pre_BwdU (m : (ℓ : Loc Cert.BwdU.nD Cert.BwdU.τ Cert.BwdU.sig) → Buf (Elt Bits) ℓ) : Prop :=
  True

def Pre_BwdUIdeal (m : (ℓ : Loc Cert.BwdUIdeal.nD Cert.BwdUIdeal.τ Cert.BwdUIdeal.sig) → Buf (Elt Ideal) ℓ) : Prop :=
  True

def Pre_BwdUReferenceIdeal (m : (ℓ : Loc Cert.BwdUReferenceIdeal.nD Cert.BwdUReferenceIdeal.τ Cert.BwdUReferenceIdeal.sig) → Buf (Elt Ideal) ℓ) : Prop :=
  True

def Pre_BwdGates (m : (ℓ : Loc Cert.BwdGates.nD Cert.BwdGates.τ Cert.BwdGates.sig) → Buf (Elt Bits) ℓ) : Prop :=
  True

def Pre_BwdGatesIdeal (m : (ℓ : Loc Cert.BwdGatesIdeal.nD Cert.BwdGatesIdeal.τ Cert.BwdGatesIdeal.sig) → Buf (Elt Ideal) ℓ) : Prop :=
  True

def Pre_BwdGatesReferenceIdeal (m : (ℓ : Loc Cert.BwdGatesReferenceIdeal.nD Cert.BwdGatesReferenceIdeal.τ Cert.BwdGatesReferenceIdeal.sig) → Buf (Elt Ideal) ℓ) : Prop :=
  True

def Pre_BwdFfn (m : (ℓ : Loc Cert.BwdFfn.nD Cert.BwdFfn.τ Cert.BwdFfn.sig) → Buf (Elt Bits) ℓ) : Prop :=
  True

def Pre_BwdFfnIdeal (m : (ℓ : Loc Cert.BwdFfnIdeal.nD Cert.BwdFfnIdeal.τ Cert.BwdFfnIdeal.sig) → Buf (Elt Ideal) ℓ) : Prop :=
  True

def Pre_BwdFfnReferenceIdeal (m : (ℓ : Loc Cert.BwdFfnReferenceIdeal.nD Cert.BwdFfnReferenceIdeal.τ Cert.BwdFfnReferenceIdeal.sig) → Buf (Elt Ideal) ℓ) : Prop :=
  True

def Pre_BwdGlu (m : (ℓ : Loc Cert.BwdGlu.nD Cert.BwdGlu.τ Cert.BwdGlu.sig) → Buf (Elt Bits) ℓ) : Prop :=
  True

def Pre_BwdGluIdeal (m : (ℓ : Loc Cert.BwdGluIdeal.nD Cert.BwdGluIdeal.τ Cert.BwdGluIdeal.sig) → Buf (Elt Ideal) ℓ) : Prop :=
  True

def Pre_BwdGluReferenceIdeal (m : (ℓ : Loc Cert.BwdGluReferenceIdeal.nD Cert.BwdGluReferenceIdeal.τ Cert.BwdGluReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnReferenceIdeal (m : (ℓ : Loc Cert.DwFfnReferenceIdeal.nD Cert.DwFfnReferenceIdeal.τ Cert.DwFfnReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluReferenceIdeal (m : (ℓ : Loc Cert.DwGluReferenceIdeal.nD Cert.DwGluReferenceIdeal.τ Cert.DwGluReferenceIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvReferenceIdeal (m : (ℓ : Loc Cert.DwQkvReferenceIdeal.nD Cert.DwQkvReferenceIdeal.τ Cert.DwQkvReferenceIdeal.sig) → Buf (Elt Ideal) ℓ) : Prop :=
  True

def Pre_DwU (m : (ℓ : Loc Cert.DwU.nD Cert.DwU.τ Cert.DwU.sig) → Buf (Elt Bits) ℓ) : Prop :=
  True

def Pre_DwUIdeal (m : (ℓ : Loc Cert.DwUIdeal.nD Cert.DwUIdeal.τ Cert.DwUIdeal.sig) → Buf (Elt Ideal) ℓ) : Prop :=
  True

def Pre_DwUReferenceIdeal (m : (ℓ : Loc Cert.DwUReferenceIdeal.nD Cert.DwUReferenceIdeal.τ Cert.DwUReferenceIdeal.sig) → Buf (Elt Ideal) ℓ) : Prop :=
  True

def Pre_DwGates (m : (ℓ : Loc Cert.DwGates.nD Cert.DwGates.τ Cert.DwGates.sig) → Buf (Elt Bits) ℓ) : Prop :=
  True

def Pre_DwGatesIdeal (m : (ℓ : Loc Cert.DwGatesIdeal.nD Cert.DwGatesIdeal.τ Cert.DwGatesIdeal.sig) → Buf (Elt Ideal) ℓ) : Prop :=
  True

def Pre_DwGatesReferenceIdeal (m : (ℓ : Loc Cert.DwGatesReferenceIdeal.nD Cert.DwGatesReferenceIdeal.τ Cert.DwGatesReferenceIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInReferenceIdeal (m : (ℓ : Loc Cert.RmsInReferenceIdeal.nD Cert.RmsInReferenceIdeal.τ Cert.RmsInReferenceIdeal.sig) → Buf (Elt Ideal) ℓ) : Prop :=
  True

def Pre_RmsMid (m : (ℓ : Loc Cert.RmsMid.nD Cert.RmsMid.τ Cert.RmsMid.sig) → Buf (Elt Bits) ℓ) : Prop :=
  True

def Pre_RmsMidIdeal (m : (ℓ : Loc Cert.RmsMidIdeal.nD Cert.RmsMidIdeal.τ Cert.RmsMidIdeal.sig) → Buf (Elt Ideal) ℓ) : Prop :=
  True

def Pre_RmsMidReferenceIdeal (m : (ℓ : Loc Cert.RmsMidReferenceIdeal.nD Cert.RmsMidReferenceIdeal.τ Cert.RmsMidReferenceIdeal.sig) → Buf (Elt Ideal) ℓ) : Prop :=
  True

def Pre_RmsMidBwd (m : (ℓ : Loc Cert.RmsMidBwd.nD Cert.RmsMidBwd.τ Cert.RmsMidBwd.sig) → Buf (Elt Bits) ℓ) : Prop :=
  True

def Pre_RmsMidBwdIdeal (m : (ℓ : Loc Cert.RmsMidBwdIdeal.nD Cert.RmsMidBwdIdeal.τ Cert.RmsMidBwdIdeal.sig) → Buf (Elt Ideal) ℓ) : Prop :=
  True

def Pre_RmsMidBwdReferenceIdeal (m : (ℓ : Loc Cert.RmsMidBwdReferenceIdeal.nD Cert.RmsMidBwdReferenceIdeal.τ Cert.RmsMidBwdReferenceIdeal.sig) → Buf (Elt Ideal) ℓ) : Prop :=
  True

def Pre_SsmGelu (m : (ℓ : Loc Cert.SsmGelu.nD Cert.SsmGelu.τ Cert.SsmGelu.sig) → Buf (Elt Bits) ℓ) : Prop :=
  True

def Pre_SsmGeluIdeal (m : (ℓ : Loc Cert.SsmGeluIdeal.nD Cert.SsmGeluIdeal.τ Cert.SsmGeluIdeal.sig) → Buf (Elt Ideal) ℓ) : Prop :=
  True

def Pre_SsmGeluReferenceIdeal (m : (ℓ : Loc Cert.SsmGeluReferenceIdeal.nD Cert.SsmGeluReferenceIdeal.τ Cert.SsmGeluReferenceIdeal.sig) → Buf (Elt Ideal) ℓ) : Prop :=
  True

def Pre_GateMerge (m : (ℓ : Loc Cert.GateMerge.nD Cert.GateMerge.τ Cert.GateMerge.sig) → Buf (Elt Bits) ℓ) : Prop :=
  True

def Pre_GateMergeIdeal (m : (ℓ : Loc Cert.GateMergeIdeal.nD Cert.GateMergeIdeal.τ Cert.GateMergeIdeal.sig) → Buf (Elt Ideal) ℓ) : Prop :=
  True

def Pre_GateMergeReferenceIdeal (m : (ℓ : Loc Cert.GateMergeReferenceIdeal.nD Cert.GateMergeReferenceIdeal.τ Cert.GateMergeReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_DlFold (m : (ℓ : Loc Cert.DlFold.nD Cert.DlFold.τ Cert.DlFold.sig) → Buf (Elt Bits) ℓ) : Prop :=
  True

def Pre_DlFoldIdeal (m : (ℓ : Loc Cert.DlFoldIdeal.nD Cert.DlFoldIdeal.τ Cert.DlFoldIdeal.sig) → Buf (Elt Ideal) ℓ) : Prop :=
  True

def Pre_DlFoldReferenceIdeal (m : (ℓ : Loc Cert.DlFoldReferenceIdeal.nD Cert.DlFoldReferenceIdeal.τ Cert.DlFoldReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4)
      ∧ r.2.mem ((c.tc : Thread Cert.GradXReferenceIdeal.nD Cert.GradXReferenceIdeal.τ).loc Cert.GradXReferenceIdeal.main_arg5) = m ((c.tc : Thread Cert.GradXReferenceIdeal.nD Cert.GradXReferenceIdeal.τ).loc Cert.GradXReferenceIdeal.main_arg5)
      ∧ r.2.mem ((c.tc : Thread Cert.GradXReferenceIdeal.nD Cert.GradXReferenceIdeal.τ).loc Cert.GradXReferenceIdeal.main_arg6) = m ((c.tc : Thread Cert.GradXReferenceIdeal.nD Cert.GradXReferenceIdeal.τ).loc Cert.GradXReferenceIdeal.main_arg6)
      ∧ r.2.mem ((c.tc : Thread Cert.GradXReferenceIdeal.nD Cert.GradXReferenceIdeal.τ).loc Cert.GradXReferenceIdeal.main_arg7) = m ((c.tc : Thread Cert.GradXReferenceIdeal.nD Cert.GradXReferenceIdeal.τ).loc Cert.GradXReferenceIdeal.main_arg7))
      ∧ r.2.sem = fun _ => 0)

def quiescent_FwdQkv [hFwdQkv : Cert.FwdQkv.Facts] : Prop :=
  ∀ (m : (ℓ : Loc Cert.FwdQkv.nD Cert.FwdQkv.τ Cert.FwdQkv.sig) → Buf (Elt Bits) ℓ) (g : Dev Cert.FwdQkv.nD → PrngReg), Pre_FwdQkv m →
    θ_run (Cert.FwdQkv.defs (F := Bits)) (onTc (τ := Cert.FwdQkv.τ) (Cert.FwdQkv.main (F := Bits))) ⟨m, fun _ => 0, g⟩ (fun r => (∀ c : Dev Cert.FwdQkv.nD,
      r.2.mem ((c.tc : Thread Cert.FwdQkv.nD Cert.FwdQkv.τ).loc Cert.FwdQkv.main_arg0) = m ((c.tc : Thread Cert.FwdQkv.nD Cert.FwdQkv.τ).loc Cert.FwdQkv.main_arg0)
      ∧ r.2.mem ((c.tc : Thread Cert.FwdQkv.nD Cert.FwdQkv.τ).loc Cert.FwdQkv.main_arg1) = m ((c.tc : Thread Cert.FwdQkv.nD Cert.FwdQkv.τ).loc Cert.FwdQkv.main_arg1))
      ∧ r.2.sem = fun _ => 0)

def quiescent_FwdQkvIdeal [hFwdQkvIdeal : Cert.FwdQkvIdeal.Facts] : Prop :=
  ∀ (m : (ℓ : Loc Cert.FwdQkvIdeal.nD Cert.FwdQkvIdeal.τ Cert.FwdQkvIdeal.sig) → Buf (Elt Ideal) ℓ) (g : Dev Cert.FwdQkvIdeal.nD → PrngReg), Pre_FwdQkvIdeal m →
    θ_run (Cert.FwdQkvIdeal.defs (F := Ideal)) (onTc (τ := Cert.FwdQkvIdeal.τ) (Cert.FwdQkvIdeal.main (F := Ideal))) ⟨m, fun _ => 0, g⟩ (fun r => (∀ c : Dev Cert.FwdQkvIdeal.nD,
      r.2.mem ((c.tc : Thread Cert.FwdQkvIdeal.nD Cert.FwdQkvIdeal.τ).loc Cert.FwdQkvIdeal.main_arg0) = m ((c.tc : Thread Cert.FwdQkvIdeal.nD Cert.FwdQkvIdeal.τ).loc Cert.FwdQkvIdeal.main_arg0)
      ∧ r.2.mem ((c.tc : Thread Cert.FwdQkvIdeal.nD Cert.FwdQkvIdeal.τ).loc Cert.FwdQkvIdeal.main_arg1) = m ((c.tc : Thread Cert.FwdQkvIdeal.nD Cert.FwdQkvIdeal.τ).loc Cert.FwdQkvIdeal.main_arg1))
      ∧ r.2.sem = fun _ => 0)

def quiescent_FwdQkvReferenceIdeal [hFwdQkvReferenceIdeal : Cert.FwdQkvReferenceIdeal.Facts] : Prop :=
  ∀ (m : (ℓ : Loc Cert.FwdQkvReferenceIdeal.nD Cert.FwdQkvReferenceIdeal.τ Cert.FwdQkvReferenceIdeal.sig) → Buf (Elt Ideal) ℓ) (g : Dev Cert.FwdQkvReferenceIdeal.nD → PrngReg), Pre_FwdQkvReferenceIdeal m →
    θ_run (Cert.FwdQkvReferenceIdeal.defs (F := Ideal)) (onTc (τ := Cert.FwdQkvReferenceIdeal.τ) (Cert.FwdQkvReferenceIdeal.main (F := Ideal))) ⟨m, fun _ => 0, g⟩ (fun r => (∀ c : Dev Cert.FwdQkvReferenceIdeal.nD,
      r.2.mem ((c.tc : Thread Cert.FwdQkvReferenceIdeal.nD Cert.FwdQkvReferenceIdeal.τ).loc Cert.FwdQkvReferenceIdeal.main_arg0) = m ((c.tc : Thread Cert.FwdQkvReferenceIdeal.nD Cert.FwdQkvReferenceIdeal.τ).loc Cert.FwdQkvReferenceIdeal.main_arg0)
      ∧ r.2.mem ((c.tc : Thread Cert.FwdQkvReferenceIdeal.nD Cert.FwdQkvReferenceIdeal.τ).loc Cert.FwdQkvReferenceIdeal.main_arg1) = m ((c.tc : Thread Cert.FwdQkvReferenceIdeal.nD Cert.FwdQkvReferenceIdeal.τ).loc Cert.FwdQkvReferenceIdeal.main_arg1))
      ∧ r.2.sem = fun _ => 0)

def quiescent_FwdU [hFwdU : Cert.FwdU.Facts] : Prop :=
  ∀ (m : (ℓ : Loc Cert.FwdU.nD Cert.FwdU.τ Cert.FwdU.sig) → Buf (Elt Bits) ℓ) (g : Dev Cert.FwdU.nD → PrngReg), Pre_FwdU m →
    θ_run (Cert.FwdU.defs (F := Bits)) (onTc (τ := Cert.FwdU.τ) (Cert.FwdU.main (F := Bits))) ⟨m, fun _ => 0, g⟩ (fun r => (∀ c : Dev Cert.FwdU.nD,
      r.2.mem ((c.tc : Thread Cert.FwdU.nD Cert.FwdU.τ).loc Cert.FwdU.main_arg0) = m ((c.tc : Thread Cert.FwdU.nD Cert.FwdU.τ).loc Cert.FwdU.main_arg0)
      ∧ r.2.mem ((c.tc : Thread Cert.FwdU.nD Cert.FwdU.τ).loc Cert.FwdU.main_arg1) = m ((c.tc : Thread Cert.FwdU.nD Cert.FwdU.τ).loc Cert.FwdU.main_arg1))
      ∧ r.2.sem = fun _ => 0)

def quiescent_FwdUIdeal [hFwdUIdeal : Cert.FwdUIdeal.Facts] : Prop :=
  ∀ (m : (ℓ : Loc Cert.FwdUIdeal.nD Cert.FwdUIdeal.τ Cert.FwdUIdeal.sig) → Buf (Elt Ideal) ℓ) (g : Dev Cert.FwdUIdeal.nD → PrngReg), Pre_FwdUIdeal m →
    θ_run (Cert.FwdUIdeal.defs (F := Ideal)) (onTc (τ := Cert.FwdUIdeal.τ) (Cert.FwdUIdeal.main (F := Ideal))) ⟨m, fun _ => 0, g⟩ (fun r => (∀ c : Dev Cert.FwdUIdeal.nD,
      r.2.mem ((c.tc : Thread Cert.FwdUIdeal.nD Cert.FwdUIdeal.τ).loc Cert.FwdUIdeal.main_arg0) = m ((c.tc : Thread Cert.FwdUIdeal.nD Cert.FwdUIdeal.τ).loc Cert.FwdUIdeal.main_arg0)
      ∧ r.2.mem ((c.tc : Thread Cert.FwdUIdeal.nD Cert.FwdUIdeal.τ).loc Cert.FwdUIdeal.main_arg1) = m ((c.tc : Thread Cert.FwdUIdeal.nD Cert.FwdUIdeal.τ).loc Cert.FwdUIdeal.main_arg1))
      ∧ r.2.sem = fun _ => 0)

def quiescent_FwdUReferenceIdeal [hFwdUReferenceIdeal : Cert.FwdUReferenceIdeal.Facts] : Prop :=
  ∀ (m : (ℓ : Loc Cert.FwdUReferenceIdeal.nD Cert.FwdUReferenceIdeal.τ Cert.FwdUReferenceIdeal.sig) → Buf (Elt Ideal) ℓ) (g : Dev Cert.FwdUReferenceIdeal.nD → PrngReg), Pre_FwdUReferenceIdeal m →
    θ_run (Cert.FwdUReferenceIdeal.defs (F := Ideal)) (onTc (τ := Cert.FwdUReferenceIdeal.τ) (Cert.FwdUReferenceIdeal.main (F := Ideal))) ⟨m, fun _ => 0, g⟩ (fun r => (∀ c : Dev Cert.FwdUReferenceIdeal.nD,
      r.2.mem ((c.tc : Thread Cert.FwdUReferenceIdeal.nD Cert.FwdUReferenceIdeal.τ).loc Cert.FwdUReferenceIdeal.main_arg0) = m ((c.tc : Thread Cert.FwdUReferenceIdeal.nD Cert.FwdUReferenceIdeal.τ).loc Cert.FwdUReferenceIdeal.main_arg0)
      ∧ r.2.mem ((c.tc : Thread Cert.FwdUReferenceIdeal.nD Cert.FwdUReferenceIdeal.τ).loc Cert.FwdUReferenceIdeal.main_arg1) = m ((c.tc : Thread Cert.FwdUReferenceIdeal.nD Cert.FwdUReferenceIdeal.τ).loc Cert.FwdUReferenceIdeal.main_arg1))
      ∧ r.2.sem = fun _ => 0)

def quiescent_FwdGates [hFwdGates : Cert.FwdGates.Facts] : Prop :=
  ∀ (m : (ℓ : Loc Cert.FwdGates.nD Cert.FwdGates.τ Cert.FwdGates.sig) → Buf (Elt Bits) ℓ) (g : Dev Cert.FwdGates.nD → PrngReg), Pre_FwdGates m →
    θ_run (Cert.FwdGates.defs (F := Bits)) (onTc (τ := Cert.FwdGates.τ) (Cert.FwdGates.main (F := Bits))) ⟨m, fun _ => 0, g⟩ (fun r => (∀ c : Dev Cert.FwdGates.nD,
      r.2.mem ((c.tc : Thread Cert.FwdGates.nD Cert.FwdGates.τ).loc Cert.FwdGates.main_arg0) = m ((c.tc : Thread Cert.FwdGates.nD Cert.FwdGates.τ).loc Cert.FwdGates.main_arg0)
      ∧ r.2.mem ((c.tc : Thread Cert.FwdGates.nD Cert.FwdGates.τ).loc Cert.FwdGates.main_arg1) = m ((c.tc : Thread Cert.FwdGates.nD Cert.FwdGates.τ).loc Cert.FwdGates.main_arg1))
      ∧ r.2.sem = fun _ => 0)

def quiescent_FwdGatesIdeal [hFwdGatesIdeal : Cert.FwdGatesIdeal.Facts] : Prop :=
  ∀ (m : (ℓ : Loc Cert.FwdGatesIdeal.nD Cert.FwdGatesIdeal.τ Cert.FwdGatesIdeal.sig) → Buf (Elt Ideal) ℓ) (g : Dev Cert.FwdGatesIdeal.nD → PrngReg), Pre_FwdGatesIdeal m →
    θ_run (Cert.FwdGatesIdeal.defs (F := Ideal)) (onTc (τ := Cert.FwdGatesIdeal.τ) (Cert.FwdGatesIdeal.main (F := Ideal))) ⟨m, fun _ => 0, g⟩ (fun r => (∀ c : Dev Cert.FwdGatesIdeal.nD,
      r.2.mem ((c.tc : Thread Cert.FwdGatesIdeal.nD Cert.FwdGatesIdeal.τ).loc Cert.FwdGatesIdeal.main_arg0) = m ((c.tc : Thread Cert.FwdGatesIdeal.nD Cert.FwdGatesIdeal.τ).loc Cert.FwdGatesIdeal.main_arg0)
      ∧ r.2.mem ((c.tc : Thread Cert.FwdGatesIdeal.nD Cert.FwdGatesIdeal.τ).loc Cert.FwdGatesIdeal.main_arg1) = m ((c.tc : Thread Cert.FwdGatesIdeal.nD Cert.FwdGatesIdeal.τ).loc Cert.FwdGatesIdeal.main_arg1))
      ∧ r.2.sem = fun _ => 0)

def quiescent_FwdGatesReferenceIdeal [hFwdGatesReferenceIdeal : Cert.FwdGatesReferenceIdeal.Facts] : Prop :=
  ∀ (m : (ℓ : Loc Cert.FwdGatesReferenceIdeal.nD Cert.FwdGatesReferenceIdeal.τ Cert.FwdGatesReferenceIdeal.sig) → Buf (Elt Ideal) ℓ) (g : Dev Cert.FwdGatesReferenceIdeal.nD → PrngReg), Pre_FwdGatesReferenceIdeal m →
    θ_run (Cert.FwdGatesReferenceIdeal.defs (F := Ideal)) (onTc (τ := Cert.FwdGatesReferenceIdeal.τ) (Cert.FwdGatesReferenceIdeal.main (F := Ideal))) ⟨m, fun _ => 0, g⟩ (fun r => (∀ c : Dev Cert.FwdGatesReferenceIdeal.nD,
      r.2.mem ((c.tc : Thread Cert.FwdGatesReferenceIdeal.nD Cert.FwdGatesReferenceIdeal.τ).loc Cert.FwdGatesReferenceIdeal.main_arg0) = m ((c.tc : Thread Cert.FwdGatesReferenceIdeal.nD Cert.FwdGatesReferenceIdeal.τ).loc Cert.FwdGatesReferenceIdeal.main_arg0)
      ∧ r.2.mem ((c.tc : Thread Cert.FwdGatesReferenceIdeal.nD Cert.FwdGatesReferenceIdeal.τ).loc Cert.FwdGatesReferenceIdeal.main_arg1) = m ((c.tc : Thread Cert.FwdGatesReferenceIdeal.nD Cert.FwdGatesReferenceIdeal.τ).loc Cert.FwdGatesReferenceIdeal.main_arg1))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpReferenceIdeal [hFwdUpReferenceIdeal : Cert.FwdUpReferenceIdeal.Facts] : Prop :=
  ∀ (m : (ℓ : Loc Cert.FwdUpReferenceIdeal.nD Cert.FwdUpReferenceIdeal.τ Cert.FwdUpReferenceIdeal.sig) → Buf (Elt Ideal) ℓ) (g : Dev Cert.FwdUpReferenceIdeal.nD → PrngReg), Pre_FwdUpReferenceIdeal m →
    θ_run (Cert.FwdUpReferenceIdeal.defs (F := Ideal)) (onTc (τ := Cert.FwdUpReferenceIdeal.τ) (Cert.FwdUpReferenceIdeal.main (F := Ideal))) ⟨m, fun _ => 0, g⟩ (fun r => (∀ c : Dev Cert.FwdUpReferenceIdeal.nD,
      r.2.mem ((c.tc : Thread Cert.FwdUpReferenceIdeal.nD Cert.FwdUpReferenceIdeal.τ).loc Cert.FwdUpReferenceIdeal.main_arg0) = m ((c.tc : Thread Cert.FwdUpReferenceIdeal.nD Cert.FwdUpReferenceIdeal.τ).loc Cert.FwdUpReferenceIdeal.main_arg0)
      ∧ r.2.mem ((c.tc : Thread Cert.FwdUpReferenceIdeal.nD Cert.FwdUpReferenceIdeal.τ).loc Cert.FwdUpReferenceIdeal.main_arg1) = m ((c.tc : Thread Cert.FwdUpReferenceIdeal.nD Cert.FwdUpReferenceIdeal.τ).loc Cert.FwdUpReferenceIdeal.main_arg1))
      ∧ r.2.sem = fun _ => 0)

def quiescent_FwdGlu [hFwdGlu : Cert.FwdGlu.Facts] : Prop :=
  ∀ (m : (ℓ : Loc Cert.FwdGlu.nD Cert.FwdGlu.τ Cert.FwdGlu.sig) → Buf (Elt Bits) ℓ) (g : Dev Cert.FwdGlu.nD → PrngReg), Pre_FwdGlu m →
    θ_run (Cert.FwdGlu.defs (F := Bits)) (onTc (τ := Cert.FwdGlu.τ) (Cert.FwdGlu.main (F := Bits))) ⟨m, fun _ => 0, g⟩ (fun r => (∀ c : Dev Cert.FwdGlu.nD,
      r.2.mem ((c.tc : Thread Cert.FwdGlu.nD Cert.FwdGlu.τ).loc Cert.FwdGlu.main_arg0) = m ((c.tc : Thread Cert.FwdGlu.nD Cert.FwdGlu.τ).loc Cert.FwdGlu.main_arg0)
      ∧ r.2.mem ((c.tc : Thread Cert.FwdGlu.nD Cert.FwdGlu.τ).loc Cert.FwdGlu.main_arg1) = m ((c.tc : Thread Cert.FwdGlu.nD Cert.FwdGlu.τ).loc Cert.FwdGlu.main_arg1))
      ∧ r.2.sem = fun _ => 0)

def quiescent_FwdGluIdeal [hFwdGluIdeal : Cert.FwdGluIdeal.Facts] : Prop :=
  ∀ (m : (ℓ : Loc Cert.FwdGluIdeal.nD Cert.FwdGluIdeal.τ Cert.FwdGluIdeal.sig) → Buf (Elt Ideal) ℓ) (g : Dev Cert.FwdGluIdeal.nD → PrngReg), Pre_FwdGluIdeal m →
    θ_run (Cert.FwdGluIdeal.defs (F := Ideal)) (onTc (τ := Cert.FwdGluIdeal.τ) (Cert.FwdGluIdeal.main (F := Ideal))) ⟨m, fun _ => 0, g⟩ (fun r => (∀ c : Dev Cert.FwdGluIdeal.nD,
      r.2.mem ((c.tc : Thread Cert.FwdGluIdeal.nD Cert.FwdGluIdeal.τ).loc Cert.FwdGluIdeal.main_arg0) = m ((c.tc : Thread Cert.FwdGluIdeal.nD Cert.FwdGluIdeal.τ).loc Cert.FwdGluIdeal.main_arg0)
      ∧ r.2.mem ((c.tc : Thread Cert.FwdGluIdeal.nD Cert.FwdGluIdeal.τ).loc Cert.FwdGluIdeal.main_arg1) = m ((c.tc : Thread Cert.FwdGluIdeal.nD Cert.FwdGluIdeal.τ).loc Cert.FwdGluIdeal.main_arg1))
      ∧ r.2.sem = fun _ => 0)

def quiescent_FwdGluReferenceIdeal [hFwdGluReferenceIdeal : Cert.FwdGluReferenceIdeal.Facts] : Prop :=
  ∀ (m : (ℓ : Loc Cert.FwdGluReferenceIdeal.nD Cert.FwdGluReferenceIdeal.τ Cert.FwdGluReferenceIdeal.sig) → Buf (Elt Ideal) ℓ) (g : Dev Cert.FwdGluReferenceIdeal.nD → PrngReg), Pre_FwdGluReferenceIdeal m →
    θ_run (Cert.FwdGluReferenceIdeal.defs (F := Ideal)) (onTc (τ := Cert.FwdGluReferenceIdeal.τ) (Cert.FwdGluReferenceIdeal.main (F := Ideal))) ⟨m, fun _ => 0, g⟩ (fun r => (∀ c : Dev Cert.FwdGluReferenceIdeal.nD,
      r.2.mem ((c.tc : Thread Cert.FwdGluReferenceIdeal.nD Cert.FwdGluReferenceIdeal.τ).loc Cert.FwdGluReferenceIdeal.main_arg0) = m ((c.tc : Thread Cert.FwdGluReferenceIdeal.nD Cert.FwdGluReferenceIdeal.τ).loc Cert.FwdGluReferenceIdeal.main_arg0)
      ∧ r.2.mem ((c.tc : Thread Cert.FwdGluReferenceIdeal.nD Cert.FwdGluReferenceIdeal.τ).loc Cert.FwdGluReferenceIdeal.main_arg1) = m ((c.tc : Thread Cert.FwdGluReferenceIdeal.nD Cert.FwdGluReferenceIdeal.τ).loc Cert.FwdGluReferenceIdeal.main_arg1))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1))
      ∧ r.2.sem = fun _ => 0)

def quiescent_FwdFfn [hFwdFfn : Cert.FwdFfn.Facts] : Prop :=
  ∀ (m : (ℓ : Loc Cert.FwdFfn.nD Cert.FwdFfn.τ Cert.FwdFfn.sig) → Buf (Elt Bits) ℓ) (g : Dev Cert.FwdFfn.nD → PrngReg), Pre_FwdFfn m →
    θ_run (Cert.FwdFfn.defs (F := Bits)) (onTc (τ := Cert.FwdFfn.τ) (Cert.FwdFfn.main (F := Bits))) ⟨m, fun _ => 0, g⟩ (fun r => (∀ c : Dev Cert.FwdFfn.nD,
      r.2.mem ((c.tc : Thread Cert.FwdFfn.nD Cert.FwdFfn.τ).loc Cert.FwdFfn.main_arg0) = m ((c.tc : Thread Cert.FwdFfn.nD Cert.FwdFfn.τ).loc Cert.FwdFfn.main_arg0)
      ∧ r.2.mem ((c.tc : Thread Cert.FwdFfn.nD Cert.FwdFfn.τ).loc Cert.FwdFfn.main_arg1) = m ((c.tc : Thread Cert.FwdFfn.nD Cert.FwdFfn.τ).loc Cert.FwdFfn.main_arg1))
      ∧ r.2.sem = fun _ => 0)

def quiescent_FwdFfnIdeal [hFwdFfnIdeal : Cert.FwdFfnIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg), Pre_FwdFfnIdeal m →
    θ_run (Cert.FwdFfnIdeal.defs (F := Ideal)) (onTc (τ := Cert.FwdFfnIdeal.τ) (Cert.FwdFfnIdeal.main (F := Ideal))) ⟨m, fun _ => 0, g⟩ (fun r => (∀ c : Dev Cert.FwdFfnIdeal.nD,
      r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
      ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1))
      ∧ r.2.sem = fun _ => 0)

def quiescent_FwdFfnReferenceIdeal [hFwdFfnReferenceIdeal : Cert.FwdFfnReferenceIdeal.Facts] : Prop :=
  ∀ (m : (ℓ : Loc Cert.FwdFfnReferenceIdeal.nD Cert.FwdFfnReferenceIdeal.τ Cert.FwdFfnReferenceIdeal.sig) → Buf (Elt Ideal) ℓ) (g : Dev Cert.FwdFfnReferenceIdeal.nD → PrngReg), Pre_FwdFfnReferenceIdeal m →
    θ_run (Cert.FwdFfnReferenceIdeal.defs (F := Ideal)) (onTc (τ := Cert.FwdFfnReferenceIdeal.τ) (Cert.FwdFfnReferenceIdeal.main (F := Ideal))) ⟨m, fun _ => 0, g⟩ (fun r => (∀ c : Dev Cert.FwdFfnReferenceIdeal.nD,
      r.2.mem ((c.tc : Thread Cert.FwdFfnReferenceIdeal.nD Cert.FwdFfnReferenceIdeal.τ).loc Cert.FwdFfnReferenceIdeal.main_arg0) = m ((c.tc : Thread Cert.FwdFfnReferenceIdeal.nD Cert.FwdFfnReferenceIdeal.τ).loc Cert.FwdFfnReferenceIdeal.main_arg0)
      ∧ r.2.mem ((c.tc : Thread Cert.FwdFfnReferenceIdeal.nD Cert.FwdFfnReferenceIdeal.τ).loc Cert.FwdFfnReferenceIdeal.main_arg1) = m ((c.tc : Thread Cert.FwdFfnReferenceIdeal.nD Cert.FwdFfnReferenceIdeal.τ).loc Cert.FwdFfnReferenceIdeal.main_arg1))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1))
      ∧ r.2.sem = fun _ => 0)

def quiescent_FwdDownReferenceIdeal [hFwdDownReferenceIdeal : Cert.FwdDownReferenceIdeal.Facts] : Prop :=
  ∀ (m : (ℓ : Loc Cert.FwdDownReferenceIdeal.nD Cert.FwdDownReferenceIdeal.τ Cert.FwdDownReferenceIdeal.sig) → Buf (Elt Ideal) ℓ) (g : Dev Cert.FwdDownReferenceIdeal.nD → PrngReg), Pre_FwdDownReferenceIdeal m →
    θ_run (Cert.FwdDownReferenceIdeal.defs (F := Ideal)) (onTc (τ := Cert.FwdDownReferenceIdeal.τ) (Cert.FwdDownReferenceIdeal.main (F := Ideal))) ⟨m, fun _ => 0, g⟩ (fun r => (∀ c : Dev Cert.FwdDownReferenceIdeal.nD,
      r.2.mem ((c.tc : Thread Cert.FwdDownReferenceIdeal.nD Cert.FwdDownReferenceIdeal.τ).loc Cert.FwdDownReferenceIdeal.main_arg0) = m ((c.tc : Thread Cert.FwdDownReferenceIdeal.nD Cert.FwdDownReferenceIdeal.τ).loc Cert.FwdDownReferenceIdeal.main_arg0)
      ∧ r.2.mem ((c.tc : Thread Cert.FwdDownReferenceIdeal.nD Cert.FwdDownReferenceIdeal.τ).loc Cert.FwdDownReferenceIdeal.main_arg1) = m ((c.tc : Thread Cert.FwdDownReferenceIdeal.nD Cert.FwdDownReferenceIdeal.τ).loc Cert.FwdDownReferenceIdeal.main_arg1))
      ∧ r.2.sem = fun _ => 0)

def quiescent_BwdDown [hBwdDown : Cert.BwdDown.Facts] : Prop :=
  ∀ (m : (ℓ : Loc Cert.BwdDown.nD Cert.BwdDown.τ Cert.BwdDown.sig) → Buf (Elt Bits) ℓ) (g : Dev Cert.BwdDown.nD → PrngReg), Pre_BwdDown m →
    θ_run (Cert.BwdDown.defs (F := Bits)) (onTc (τ := Cert.BwdDown.τ) (Cert.BwdDown.main (F := Bits))) ⟨m, fun _ => 0, g⟩ (fun r => (∀ c : Dev Cert.BwdDown.nD,
      r.2.mem ((c.tc : Thread Cert.BwdDown.nD Cert.BwdDown.τ).loc Cert.BwdDown.main_arg0) = m ((c.tc : Thread Cert.BwdDown.nD Cert.BwdDown.τ).loc Cert.BwdDown.main_arg0)
      ∧ r.2.mem ((c.tc : Thread Cert.BwdDown.nD Cert.BwdDown.τ).loc Cert.BwdDown.main_arg1) = m ((c.tc : Thread Cert.BwdDown.nD Cert.BwdDown.τ).loc Cert.BwdDown.main_arg1))
      ∧ r.2.sem = fun _ => 0)

def quiescent_BwdDownIdeal [hBwdDownIdeal : Cert.BwdDownIdeal.Facts] : Prop :=
  ∀ (m : (ℓ : Loc Cert.BwdDownIdeal.nD Cert.BwdDownIdeal.τ Cert.BwdDownIdeal.sig) → Buf (Elt Ideal) ℓ) (g : Dev Cert.BwdDownIdeal.nD → PrngReg), Pre_BwdDownIdeal m →
    θ_run (Cert.BwdDownIdeal.defs (F := Ideal)) (onTc (τ := Cert.BwdDownIdeal.τ) (Cert.BwdDownIdeal.main (F := Ideal))) ⟨m, fun _ => 0, g⟩ (fun r => (∀ c : Dev Cert.BwdDownIdeal.nD,
      r.2.mem ((c.tc : Thread Cert.BwdDownIdeal.nD Cert.BwdDownIdeal.τ).loc Cert.BwdDownIdeal.main_arg0) = m ((c.tc : Thread Cert.BwdDownIdeal.nD Cert.BwdDownIdeal.τ).loc Cert.BwdDownIdeal.main_arg0)
      ∧ r.2.mem ((c.tc : Thread Cert.BwdDownIdeal.nD Cert.BwdDownIdeal.τ).loc Cert.BwdDownIdeal.main_arg1) = m ((c.tc : Thread Cert.BwdDownIdeal.nD Cert.BwdDownIdeal.τ).loc Cert.BwdDownIdeal.main_arg1))
      ∧ r.2.sem = fun _ => 0)

def quiescent_BwdDownReferenceIdeal [hBwdDownReferenceIdeal : Cert.BwdDownReferenceIdeal.Facts] : Prop :=
  ∀ (m : (ℓ : Loc Cert.BwdDownReferenceIdeal.nD Cert.BwdDownReferenceIdeal.τ Cert.BwdDownReferenceIdeal.sig) → Buf (Elt Ideal) ℓ) (g : Dev Cert.BwdDownReferenceIdeal.nD → PrngReg), Pre_BwdDownReferenceIdeal m →
    θ_run (Cert.BwdDownReferenceIdeal.defs (F := Ideal)) (onTc (τ := Cert.BwdDownReferenceIdeal.τ) (Cert.BwdDownReferenceIdeal.main (F := Ideal))) ⟨m, fun _ => 0, g⟩ (fun r => (∀ c : Dev Cert.BwdDownReferenceIdeal.nD,
      r.2.mem ((c.tc : Thread Cert.BwdDownReferenceIdeal.nD Cert.BwdDownReferenceIdeal.τ).loc Cert.BwdDownReferenceIdeal.main_arg0) = m ((c.tc : Thread Cert.BwdDownReferenceIdeal.nD Cert.BwdDownReferenceIdeal.τ).loc Cert.BwdDownReferenceIdeal.main_arg0)
      ∧ r.2.mem ((c.tc : Thread Cert.BwdDownReferenceIdeal.nD Cert.BwdDownReferenceIdeal.τ).loc Cert.BwdDownReferenceIdeal.main_arg1) = m ((c.tc : Thread Cert.BwdDownReferenceIdeal.nD Cert.BwdDownReferenceIdeal.τ).loc Cert.BwdDownReferenceIdeal.main_arg1))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1))
      ∧ r.2.sem = fun _ => 0)

def quiescent_BwdOutReferenceIdeal [hBwdOutReferenceIdeal : Cert.BwdOutReferenceIdeal.Facts] : Prop :=
  ∀ (m : (ℓ : Loc Cert.BwdOutReferenceIdeal.nD Cert.BwdOutReferenceIdeal.τ Cert.BwdOutReferenceIdeal.sig) → Buf (Elt Ideal) ℓ) (g : Dev Cert.BwdOutReferenceIdeal.nD → PrngReg), Pre_BwdOutReferenceIdeal m →
    θ_run (Cert.BwdOutReferenceIdeal.defs (F := Ideal)) (onTc (τ := Cert.BwdOutReferenceIdeal.τ) (Cert.BwdOutReferenceIdeal.main (F := Ideal))) ⟨m, fun _ => 0, g⟩ (fun r => (∀ c : Dev Cert.BwdOutReferenceIdeal.nD,
      r.2.mem ((c.tc : Thread Cert.BwdOutReferenceIdeal.nD Cert.BwdOutReferenceIdeal.τ).loc Cert.BwdOutReferenceIdeal.main_arg0) = m ((c.tc : Thread Cert.BwdOutReferenceIdeal.nD Cert.BwdOutReferenceIdeal.τ).loc Cert.BwdOutReferenceIdeal.main_arg0)
      ∧ r.2.mem ((c.tc : Thread Cert.BwdOutReferenceIdeal.nD Cert.BwdOutReferenceIdeal.τ).loc Cert.BwdOutReferenceIdeal.main_arg1) = m ((c.tc : Thread Cert.BwdOutReferenceIdeal.nD Cert.BwdOutReferenceIdeal.τ).loc Cert.BwdOutReferenceIdeal.main_arg1))
      ∧ r.2.sem = fun _ => 0)

def quiescent_BwdUp [hBwdUp : Cert.BwdUp.Facts] : Prop :=
  ∀ (m : (ℓ : Loc Cert.BwdUp.nD Cert.BwdUp.τ Cert.BwdUp.sig) → Buf (Elt Bits) ℓ) (g : Dev Cert.BwdUp.nD → PrngReg), Pre_BwdUp m →
    θ_run (Cert.BwdUp.defs (F := Bits)) (onTc (τ := Cert.BwdUp.τ) (Cert.BwdUp.main (F := Bits))) ⟨m, fun _ => 0, g⟩ (fun r => (∀ c : Dev Cert.BwdUp.nD,
      r.2.mem ((c.tc : Thread Cert.BwdUp.nD Cert.BwdUp.τ).loc Cert.BwdUp.main_arg0) = m ((c.tc : Thread Cert.BwdUp.nD Cert.BwdUp.τ).loc Cert.BwdUp.main_arg0)
      ∧ r.2.mem ((c.tc : Thread Cert.BwdUp.nD Cert.BwdUp.τ).loc Cert.BwdUp.main_arg1) = m ((c.tc : Thread Cert.BwdUp.nD Cert.BwdUp.τ).loc Cert.BwdUp.main_arg1))
      ∧ r.2.sem = fun _ => 0)

def quiescent_BwdUpIdeal [hBwdUpIdeal : Cert.BwdUpIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg), Pre_BwdUpIdeal m →
    θ_run (Cert.BwdUpIdeal.defs (F := Ideal)) (onTc (τ := Cert.BwdUpIdeal.τ) (Cert.BwdUpIdeal.main (F := Ideal))) ⟨m, fun _ => 0, g⟩ (fun r => (∀ c : Dev Cert.BwdUpIdeal.nD,
      r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
      ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1))
      ∧ r.2.sem = fun _ => 0)

def quiescent_BwdUpReferenceIdeal [hBwdUpReferenceIdeal : Cert.BwdUpReferenceIdeal.Facts] : Prop :=
  ∀ (m : (ℓ : Loc Cert.BwdUpReferenceIdeal.nD Cert.BwdUpReferenceIdeal.τ Cert.BwdUpReferenceIdeal.sig) → Buf (Elt Ideal) ℓ) (g : Dev Cert.BwdUpReferenceIdeal.nD → PrngReg), Pre_BwdUpReferenceIdeal m →
    θ_run (Cert.BwdUpReferenceIdeal.defs (F := Ideal)) (onTc (τ := Cert.BwdUpReferenceIdeal.τ) (Cert.BwdUpReferenceIdeal.main (F := Ideal))) ⟨m, fun _ => 0, g⟩ (fun r => (∀ c : Dev Cert.BwdUpReferenceIdeal.nD,
      r.2.mem ((c.tc : Thread Cert.BwdUpReferenceIdeal.nD Cert.BwdUpReferenceIdeal.τ).loc Cert.BwdUpReferenceIdeal.main_arg0) = m ((c.tc : Thread Cert.BwdUpReferenceIdeal.nD Cert.BwdUpReferenceIdeal.τ).loc Cert.BwdUpReferenceIdeal.main_arg0)
      ∧ r.2.mem ((c.tc : Thread Cert.BwdUpReferenceIdeal.nD Cert.BwdUpReferenceIdeal.τ).loc Cert.BwdUpReferenceIdeal.main_arg1) = m ((c.tc : Thread Cert.BwdUpReferenceIdeal.nD Cert.BwdUpReferenceIdeal.τ).loc Cert.BwdUpReferenceIdeal.main_arg1))
      ∧ r.2.sem = fun _ => 0)

def quiescent_BwdQkv [hBwdQkv : Cert.BwdQkv.Facts] : Prop :=
  ∀ (m : (ℓ : Loc Cert.BwdQkv.nD Cert.BwdQkv.τ Cert.BwdQkv.sig) → Buf (Elt Bits) ℓ) (g : Dev Cert.BwdQkv.nD → PrngReg), Pre_BwdQkv m →
    θ_run (Cert.BwdQkv.defs (F := Bits)) (onTc (τ := Cert.BwdQkv.τ) (Cert.BwdQkv.main (F := Bits))) ⟨m, fun _ => 0, g⟩ (fun r => (∀ c : Dev Cert.BwdQkv.nD,
      r.2.mem ((c.tc : Thread Cert.BwdQkv.nD Cert.BwdQkv.τ).loc Cert.BwdQkv.main_arg0) = m ((c.tc : Thread Cert.BwdQkv.nD Cert.BwdQkv.τ).loc Cert.BwdQkv.main_arg0)
      ∧ r.2.mem ((c.tc : Thread Cert.BwdQkv.nD Cert.BwdQkv.τ).loc Cert.BwdQkv.main_arg1) = m ((c.tc : Thread Cert.BwdQkv.nD Cert.BwdQkv.τ).loc Cert.BwdQkv.main_arg1))
      ∧ r.2.sem = fun _ => 0)

def quiescent_BwdQkvIdeal [hBwdQkvIdeal : Cert.BwdQkvIdeal.Facts] : Prop :=
  ∀ (m : (ℓ : Loc Cert.BwdQkvIdeal.nD Cert.BwdQkvIdeal.τ Cert.BwdQkvIdeal.sig) → Buf (Elt Ideal) ℓ) (g : Dev Cert.BwdQkvIdeal.nD → PrngReg), Pre_BwdQkvIdeal m →
    θ_run (Cert.BwdQkvIdeal.defs (F := Ideal)) (onTc (τ := Cert.BwdQkvIdeal.τ) (Cert.BwdQkvIdeal.main (F := Ideal))) ⟨m, fun _ => 0, g⟩ (fun r => (∀ c : Dev Cert.BwdQkvIdeal.nD,
      r.2.mem ((c.tc : Thread Cert.BwdQkvIdeal.nD Cert.BwdQkvIdeal.τ).loc Cert.BwdQkvIdeal.main_arg0) = m ((c.tc : Thread Cert.BwdQkvIdeal.nD Cert.BwdQkvIdeal.τ).loc Cert.BwdQkvIdeal.main_arg0)
      ∧ r.2.mem ((c.tc : Thread Cert.BwdQkvIdeal.nD Cert.BwdQkvIdeal.τ).loc Cert.BwdQkvIdeal.main_arg1) = m ((c.tc : Thread Cert.BwdQkvIdeal.nD Cert.BwdQkvIdeal.τ).loc Cert.BwdQkvIdeal.main_arg1))
      ∧ r.2.sem = fun _ => 0)

def quiescent_BwdQkvReferenceIdeal [hBwdQkvReferenceIdeal : Cert.BwdQkvReferenceIdeal.Facts] : Prop :=
  ∀ (m : (ℓ : Loc Cert.BwdQkvReferenceIdeal.nD Cert.BwdQkvReferenceIdeal.τ Cert.BwdQkvReferenceIdeal.sig) → Buf (Elt Ideal) ℓ) (g : Dev Cert.BwdQkvReferenceIdeal.nD → PrngReg), Pre_BwdQkvReferenceIdeal m →
    θ_run (Cert.BwdQkvReferenceIdeal.defs (F := Ideal)) (onTc (τ := Cert.BwdQkvReferenceIdeal.τ) (Cert.BwdQkvReferenceIdeal.main (F := Ideal))) ⟨m, fun _ => 0, g⟩ (fun r => (∀ c : Dev Cert.BwdQkvReferenceIdeal.nD,
      r.2.mem ((c.tc : Thread Cert.BwdQkvReferenceIdeal.nD Cert.BwdQkvReferenceIdeal.τ).loc Cert.BwdQkvReferenceIdeal.main_arg0) = m ((c.tc : Thread Cert.BwdQkvReferenceIdeal.nD Cert.BwdQkvReferenceIdeal.τ).loc Cert.BwdQkvReferenceIdeal.main_arg0)
      ∧ r.2.mem ((c.tc : Thread Cert.BwdQkvReferenceIdeal.nD Cert.BwdQkvReferenceIdeal.τ).loc Cert.BwdQkvReferenceIdeal.main_arg1) = m ((c.tc : Thread Cert.BwdQkvReferenceIdeal.nD Cert.BwdQkvReferenceIdeal.τ).loc Cert.BwdQkvReferenceIdeal.main_arg1))
      ∧ r.2.sem = fun _ => 0)

def quiescent_BwdU [hBwdU : Cert.BwdU.Facts] : Prop :=
  ∀ (m : (ℓ : Loc Cert.BwdU.nD Cert.BwdU.τ Cert.BwdU.sig) → Buf (Elt Bits) ℓ) (g : Dev Cert.BwdU.nD → PrngReg), Pre_BwdU m →
    θ_run (Cert.BwdU.defs (F := Bits)) (onTc (τ := Cert.BwdU.τ) (Cert.BwdU.main (F := Bits))) ⟨m, fun _ => 0, g⟩ (fun r => (∀ c : Dev Cert.BwdU.nD,
      r.2.mem ((c.tc : Thread Cert.BwdU.nD Cert.BwdU.τ).loc Cert.BwdU.main_arg0) = m ((c.tc : Thread Cert.BwdU.nD Cert.BwdU.τ).loc Cert.BwdU.main_arg0)
      ∧ r.2.mem ((c.tc : Thread Cert.BwdU.nD Cert.BwdU.τ).loc Cert.BwdU.main_arg1) = m ((c.tc : Thread Cert.BwdU.nD Cert.BwdU.τ).loc Cert.BwdU.main_arg1))
      ∧ r.2.sem = fun _ => 0)

def quiescent_BwdUIdeal [hBwdUIdeal : Cert.BwdUIdeal.Facts] : Prop :=
  ∀ (m : (ℓ : Loc Cert.BwdUIdeal.nD Cert.BwdUIdeal.τ Cert.BwdUIdeal.sig) → Buf (Elt Ideal) ℓ) (g : Dev Cert.BwdUIdeal.nD → PrngReg), Pre_BwdUIdeal m →
    θ_run (Cert.BwdUIdeal.defs (F := Ideal)) (onTc (τ := Cert.BwdUIdeal.τ) (Cert.BwdUIdeal.main (F := Ideal))) ⟨m, fun _ => 0, g⟩ (fun r => (∀ c : Dev Cert.BwdUIdeal.nD,
      r.2.mem ((c.tc : Thread Cert.BwdUIdeal.nD Cert.BwdUIdeal.τ).loc Cert.BwdUIdeal.main_arg0) = m ((c.tc : Thread Cert.BwdUIdeal.nD Cert.BwdUIdeal.τ).loc Cert.BwdUIdeal.main_arg0)
      ∧ r.2.mem ((c.tc : Thread Cert.BwdUIdeal.nD Cert.BwdUIdeal.τ).loc Cert.BwdUIdeal.main_arg1) = m ((c.tc : Thread Cert.BwdUIdeal.nD Cert.BwdUIdeal.τ).loc Cert.BwdUIdeal.main_arg1))
      ∧ r.2.sem = fun _ => 0)

def quiescent_BwdUReferenceIdeal [hBwdUReferenceIdeal : Cert.BwdUReferenceIdeal.Facts] : Prop :=
  ∀ (m : (ℓ : Loc Cert.BwdUReferenceIdeal.nD Cert.BwdUReferenceIdeal.τ Cert.BwdUReferenceIdeal.sig) → Buf (Elt Ideal) ℓ) (g : Dev Cert.BwdUReferenceIdeal.nD → PrngReg), Pre_BwdUReferenceIdeal m →
    θ_run (Cert.BwdUReferenceIdeal.defs (F := Ideal)) (onTc (τ := Cert.BwdUReferenceIdeal.τ) (Cert.BwdUReferenceIdeal.main (F := Ideal))) ⟨m, fun _ => 0, g⟩ (fun r => (∀ c : Dev Cert.BwdUReferenceIdeal.nD,
      r.2.mem ((c.tc : Thread Cert.BwdUReferenceIdeal.nD Cert.BwdUReferenceIdeal.τ).loc Cert.BwdUReferenceIdeal.main_arg0) = m ((c.tc : Thread Cert.BwdUReferenceIdeal.nD Cert.BwdUReferenceIdeal.τ).loc Cert.BwdUReferenceIdeal.main_arg0)
      ∧ r.2.mem ((c.tc : Thread Cert.BwdUReferenceIdeal.nD Cert.BwdUReferenceIdeal.τ).loc Cert.BwdUReferenceIdeal.main_arg1) = m ((c.tc : Thread Cert.BwdUReferenceIdeal.nD Cert.BwdUReferenceIdeal.τ).loc Cert.BwdUReferenceIdeal.main_arg1))
      ∧ r.2.sem = fun _ => 0)

def quiescent_BwdGates [hBwdGates : Cert.BwdGates.Facts] : Prop :=
  ∀ (m : (ℓ : Loc Cert.BwdGates.nD Cert.BwdGates.τ Cert.BwdGates.sig) → Buf (Elt Bits) ℓ) (g : Dev Cert.BwdGates.nD → PrngReg), Pre_BwdGates m →
    θ_run (Cert.BwdGates.defs (F := Bits)) (onTc (τ := Cert.BwdGates.τ) (Cert.BwdGates.main (F := Bits))) ⟨m, fun _ => 0, g⟩ (fun r => (∀ c : Dev Cert.BwdGates.nD,
      r.2.mem ((c.tc : Thread Cert.BwdGates.nD Cert.BwdGates.τ).loc Cert.BwdGates.main_arg0) = m ((c.tc : Thread Cert.BwdGates.nD Cert.BwdGates.τ).loc Cert.BwdGates.main_arg0)
      ∧ r.2.mem ((c.tc : Thread Cert.BwdGates.nD Cert.BwdGates.τ).loc Cert.BwdGates.main_arg1) = m ((c.tc : Thread Cert.BwdGates.nD Cert.BwdGates.τ).loc Cert.BwdGates.main_arg1))
      ∧ r.2.sem = fun _ => 0)

def quiescent_BwdGatesIdeal [hBwdGatesIdeal : Cert.BwdGatesIdeal.Facts] : Prop :=
  ∀ (m : (ℓ : Loc Cert.BwdGatesIdeal.nD Cert.BwdGatesIdeal.τ Cert.BwdGatesIdeal.sig) → Buf (Elt Ideal) ℓ) (g : Dev Cert.BwdGatesIdeal.nD → PrngReg), Pre_BwdGatesIdeal m →
    θ_run (Cert.BwdGatesIdeal.defs (F := Ideal)) (onTc (τ := Cert.BwdGatesIdeal.τ) (Cert.BwdGatesIdeal.main (F := Ideal))) ⟨m, fun _ => 0, g⟩ (fun r => (∀ c : Dev Cert.BwdGatesIdeal.nD,
      r.2.mem ((c.tc : Thread Cert.BwdGatesIdeal.nD Cert.BwdGatesIdeal.τ).loc Cert.BwdGatesIdeal.main_arg0) = m ((c.tc : Thread Cert.BwdGatesIdeal.nD Cert.BwdGatesIdeal.τ).loc Cert.BwdGatesIdeal.main_arg0)
      ∧ r.2.mem ((c.tc : Thread Cert.BwdGatesIdeal.nD Cert.BwdGatesIdeal.τ).loc Cert.BwdGatesIdeal.main_arg1) = m ((c.tc : Thread Cert.BwdGatesIdeal.nD Cert.BwdGatesIdeal.τ).loc Cert.BwdGatesIdeal.main_arg1))
      ∧ r.2.sem = fun _ => 0)

def quiescent_BwdGatesReferenceIdeal [hBwdGatesReferenceIdeal : Cert.BwdGatesReferenceIdeal.Facts] : Prop :=
  ∀ (m : (ℓ : Loc Cert.BwdGatesReferenceIdeal.nD Cert.BwdGatesReferenceIdeal.τ Cert.BwdGatesReferenceIdeal.sig) → Buf (Elt Ideal) ℓ) (g : Dev Cert.BwdGatesReferenceIdeal.nD → PrngReg), Pre_BwdGatesReferenceIdeal m →
    θ_run (Cert.BwdGatesReferenceIdeal.defs (F := Ideal)) (onTc (τ := Cert.BwdGatesReferenceIdeal.τ) (Cert.BwdGatesReferenceIdeal.main (F := Ideal))) ⟨m, fun _ => 0, g⟩ (fun r => (∀ c : Dev Cert.BwdGatesReferenceIdeal.nD,
      r.2.mem ((c.tc : Thread Cert.BwdGatesReferenceIdeal.nD Cert.BwdGatesReferenceIdeal.τ).loc Cert.BwdGatesReferenceIdeal.main_arg0) = m ((c.tc : Thread Cert.BwdGatesReferenceIdeal.nD Cert.BwdGatesReferenceIdeal.τ).loc Cert.BwdGatesReferenceIdeal.main_arg0)
      ∧ r.2.mem ((c.tc : Thread Cert.BwdGatesReferenceIdeal.nD Cert.BwdGatesReferenceIdeal.τ).loc Cert.BwdGatesReferenceIdeal.main_arg1) = m ((c.tc : Thread Cert.BwdGatesReferenceIdeal.nD Cert.BwdGatesReferenceIdeal.τ).loc Cert.BwdGatesReferenceIdeal.main_arg1))
      ∧ r.2.sem = fun _ => 0)

def quiescent_BwdFfn [hBwdFfn : Cert.BwdFfn.Facts] : Prop :=
  ∀ (m : (ℓ : Loc Cert.BwdFfn.nD Cert.BwdFfn.τ Cert.BwdFfn.sig) → Buf (Elt Bits) ℓ) (g : Dev Cert.BwdFfn.nD → PrngReg), Pre_BwdFfn m →
    θ_run (Cert.BwdFfn.defs (F := Bits)) (onTc (τ := Cert.BwdFfn.τ) (Cert.BwdFfn.main (F := Bits))) ⟨m, fun _ => 0, g⟩ (fun r => (∀ c : Dev Cert.BwdFfn.nD,
      r.2.mem ((c.tc : Thread Cert.BwdFfn.nD Cert.BwdFfn.τ).loc Cert.BwdFfn.main_arg0) = m ((c.tc : Thread Cert.BwdFfn.nD Cert.BwdFfn.τ).loc Cert.BwdFfn.main_arg0)
      ∧ r.2.mem ((c.tc : Thread Cert.BwdFfn.nD Cert.BwdFfn.τ).loc Cert.BwdFfn.main_arg1) = m ((c.tc : Thread Cert.BwdFfn.nD Cert.BwdFfn.τ).loc Cert.BwdFfn.main_arg1)
      ∧ r.2.mem ((c.tc : Thread Cert.BwdFfn.nD Cert.BwdFfn.τ).loc Cert.BwdFfn.main_arg2) = m ((c.tc : Thread Cert.BwdFfn.nD Cert.BwdFfn.τ).loc Cert.BwdFfn.main_arg2)
      ∧ r.2.mem ((c.tc : Thread Cert.BwdFfn.nD Cert.BwdFfn.τ).loc Cert.BwdFfn.main_arg3) = m ((c.tc : Thread Cert.BwdFfn.nD Cert.BwdFfn.τ).loc Cert.BwdFfn.main_arg3))
      ∧ r.2.sem = fun _ => 0)

def quiescent_BwdFfnIdeal [hBwdFfnIdeal : Cert.BwdFfnIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3))
      ∧ r.2.sem = fun _ => 0)

def quiescent_BwdFfnReferenceIdeal [hBwdFfnReferenceIdeal : Cert.BwdFfnReferenceIdeal.Facts] : Prop :=
  ∀ (m : (ℓ : Loc Cert.BwdFfnReferenceIdeal.nD Cert.BwdFfnReferenceIdeal.τ Cert.BwdFfnReferenceIdeal.sig) → Buf (Elt Ideal) ℓ) (g : Dev Cert.BwdFfnReferenceIdeal.nD → PrngReg), Pre_BwdFfnReferenceIdeal m →
    θ_run (Cert.BwdFfnReferenceIdeal.defs (F := Ideal)) (onTc (τ := Cert.BwdFfnReferenceIdeal.τ) (Cert.BwdFfnReferenceIdeal.main (F := Ideal))) ⟨m, fun _ => 0, g⟩ (fun r => (∀ c : Dev Cert.BwdFfnReferenceIdeal.nD,
      r.2.mem ((c.tc : Thread Cert.BwdFfnReferenceIdeal.nD Cert.BwdFfnReferenceIdeal.τ).loc Cert.BwdFfnReferenceIdeal.main_arg0) = m ((c.tc : Thread Cert.BwdFfnReferenceIdeal.nD Cert.BwdFfnReferenceIdeal.τ).loc Cert.BwdFfnReferenceIdeal.main_arg0)
      ∧ r.2.mem ((c.tc : Thread Cert.BwdFfnReferenceIdeal.nD Cert.BwdFfnReferenceIdeal.τ).loc Cert.BwdFfnReferenceIdeal.main_arg1) = m ((c.tc : Thread Cert.BwdFfnReferenceIdeal.nD Cert.BwdFfnReferenceIdeal.τ).loc Cert.BwdFfnReferenceIdeal.main_arg1)
      ∧ r.2.mem ((c.tc : Thread Cert.BwdFfnReferenceIdeal.nD Cert.BwdFfnReferenceIdeal.τ).loc Cert.BwdFfnReferenceIdeal.main_arg2) = m ((c.tc : Thread Cert.BwdFfnReferenceIdeal.nD Cert.BwdFfnReferenceIdeal.τ).loc Cert.BwdFfnReferenceIdeal.main_arg2)
      ∧ r.2.mem ((c.tc : Thread Cert.BwdFfnReferenceIdeal.nD Cert.BwdFfnReferenceIdeal.τ).loc Cert.BwdFfnReferenceIdeal.main_arg3) = m ((c.tc : Thread Cert.BwdFfnReferenceIdeal.nD Cert.BwdFfnReferenceIdeal.τ).loc Cert.BwdFfnReferenceIdeal.main_arg3))
      ∧ r.2.sem = fun _ => 0)

def quiescent_BwdGlu [hBwdGlu : Cert.BwdGlu.Facts] : Prop :=
  ∀ (m : (ℓ : Loc Cert.BwdGlu.nD Cert.BwdGlu.τ Cert.BwdGlu.sig) → Buf (Elt Bits) ℓ) (g : Dev Cert.BwdGlu.nD → PrngReg), Pre_BwdGlu m →
    θ_run (Cert.BwdGlu.defs (F := Bits)) (onTc (τ := Cert.BwdGlu.τ) (Cert.BwdGlu.main (F := Bits))) ⟨m, fun _ => 0, g⟩ (fun r => (∀ c : Dev Cert.BwdGlu.nD,
      r.2.mem ((c.tc : Thread Cert.BwdGlu.nD Cert.BwdGlu.τ).loc Cert.BwdGlu.main_arg0) = m ((c.tc : Thread Cert.BwdGlu.nD Cert.BwdGlu.τ).loc Cert.BwdGlu.main_arg0)
      ∧ r.2.mem ((c.tc : Thread Cert.BwdGlu.nD Cert.BwdGlu.τ).loc Cert.BwdGlu.main_arg1) = m ((c.tc : Thread Cert.BwdGlu.nD Cert.BwdGlu.τ).loc Cert.BwdGlu.main_arg1)
      ∧ r.2.mem ((c.tc : Thread Cert.BwdGlu.nD Cert.BwdGlu.τ).loc Cert.BwdGlu.main_arg2) = m ((c.tc : Thread Cert.BwdGlu.nD Cert.BwdGlu.τ).loc Cert.BwdGlu.main_arg2)
      ∧ r.2.mem ((c.tc : Thread Cert.BwdGlu.nD Cert.BwdGlu.τ).loc Cert.BwdGlu.main_arg3) = m ((c.tc : Thread Cert.BwdGlu.nD Cert.BwdGlu.τ).loc Cert.BwdGlu.main_arg3))
      ∧ r.2.sem = fun _ => 0)

def quiescent_BwdGluIdeal [hBwdGluIdeal : Cert.BwdGluIdeal.Facts] : Prop :=
  ∀ (m : (ℓ : Loc Cert.BwdGluIdeal.nD Cert.BwdGluIdeal.τ Cert.BwdGluIdeal.sig) → Buf (Elt Ideal) ℓ) (g : Dev Cert.BwdGluIdeal.nD → PrngReg), Pre_BwdGluIdeal m →
    θ_run (Cert.BwdGluIdeal.defs (F := Ideal)) (onTc (τ := Cert.BwdGluIdeal.τ) (Cert.BwdGluIdeal.main (F := Ideal))) ⟨m, fun _ => 0, g⟩ (fun r => (∀ c : Dev Cert.BwdGluIdeal.nD,
      r.2.mem ((c.tc : Thread Cert.BwdGluIdeal.nD Cert.BwdGluIdeal.τ).loc Cert.BwdGluIdeal.main_arg0) = m ((c.tc : Thread Cert.BwdGluIdeal.nD Cert.BwdGluIdeal.τ).loc Cert.BwdGluIdeal.main_arg0)
      ∧ r.2.mem ((c.tc : Thread Cert.BwdGluIdeal.nD Cert.BwdGluIdeal.τ).loc Cert.BwdGluIdeal.main_arg1) = m ((c.tc : Thread Cert.BwdGluIdeal.nD Cert.BwdGluIdeal.τ).loc Cert.BwdGluIdeal.main_arg1)
      ∧ r.2.mem ((c.tc : Thread Cert.BwdGluIdeal.nD Cert.BwdGluIdeal.τ).loc Cert.BwdGluIdeal.main_arg2) = m ((c.tc : Thread Cert.BwdGluIdeal.nD Cert.BwdGluIdeal.τ).loc Cert.BwdGluIdeal.main_arg2)
      ∧ r.2.mem ((c.tc : Thread Cert.BwdGluIdeal.nD Cert.BwdGluIdeal.τ).loc Cert.BwdGluIdeal.main_arg3) = m ((c.tc : Thread Cert.BwdGluIdeal.nD Cert.BwdGluIdeal.τ).loc Cert.BwdGluIdeal.main_arg3))
      ∧ r.2.sem = fun _ => 0)

def quiescent_BwdGluReferenceIdeal [hBwdGluReferenceIdeal : Cert.BwdGluReferenceIdeal.Facts] : Prop :=
  ∀ (m : (ℓ : Loc Cert.BwdGluReferenceIdeal.nD Cert.BwdGluReferenceIdeal.τ Cert.BwdGluReferenceIdeal.sig) → Buf (Elt Ideal) ℓ) (g : Dev Cert.BwdGluReferenceIdeal.nD → PrngReg), Pre_BwdGluReferenceIdeal m →
    θ_run (Cert.BwdGluReferenceIdeal.defs (F := Ideal)) (onTc (τ := Cert.BwdGluReferenceIdeal.τ) (Cert.BwdGluReferenceIdeal.main (F := Ideal))) ⟨m, fun _ => 0, g⟩ (fun r => (∀ c : Dev Cert.BwdGluReferenceIdeal.nD,
      r.2.mem ((c.tc : Thread Cert.BwdGluReferenceIdeal.nD Cert.BwdGluReferenceIdeal.τ).loc Cert.BwdGluReferenceIdeal.main_arg0) = m ((c.tc : Thread Cert.BwdGluReferenceIdeal.nD Cert.BwdGluReferenceIdeal.τ).loc Cert.BwdGluReferenceIdeal.main_arg0)
      ∧ r.2.mem ((c.tc : Thread Cert.BwdGluReferenceIdeal.nD Cert.BwdGluReferenceIdeal.τ).loc Cert.BwdGluReferenceIdeal.main_arg1) = m ((c.tc : Thread Cert.BwdGluReferenceIdeal.nD Cert.BwdGluReferenceIdeal.τ).loc Cert.BwdGluReferenceIdeal.main_arg1)
      ∧ r.2.mem ((c.tc : Thread Cert.BwdGluReferenceIdeal.nD Cert.BwdGluReferenceIdeal.τ).loc Cert.BwdGluReferenceIdeal.main_arg2) = m ((c.tc : Thread Cert.BwdGluReferenceIdeal.nD Cert.BwdGluReferenceIdeal.τ).loc Cert.BwdGluReferenceIdeal.main_arg2)
      ∧ r.2.mem ((c.tc : Thread Cert.BwdGluReferenceIdeal.nD Cert.BwdGluReferenceIdeal.τ).loc Cert.BwdGluReferenceIdeal.main_arg3) = m ((c.tc : Thread Cert.BwdGluReferenceIdeal.nD Cert.BwdGluReferenceIdeal.τ).loc Cert.BwdGluReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnReferenceIdeal [hDwFfnReferenceIdeal : Cert.DwFfnReferenceIdeal.Facts] : Prop :=
  ∀ (m : (ℓ : Loc Cert.DwFfnReferenceIdeal.nD Cert.DwFfnReferenceIdeal.τ Cert.DwFfnReferenceIdeal.sig) → Buf (Elt Ideal) ℓ) (g : Dev Cert.DwFfnReferenceIdeal.nD → PrngReg), Pre_DwFfnReferenceIdeal m →
    θ_run (Cert.DwFfnReferenceIdeal.defs (F := Ideal)) (onTc (τ := Cert.DwFfnReferenceIdeal.τ) (Cert.DwFfnReferenceIdeal.main (F := Ideal))) ⟨m, fun _ => 0, g⟩ (fun r => (∀ c : Dev Cert.DwFfnReferenceIdeal.nD,
      r.2.mem ((c.tc : Thread Cert.DwFfnReferenceIdeal.nD Cert.DwFfnReferenceIdeal.τ).loc Cert.DwFfnReferenceIdeal.main_arg0) = m ((c.tc : Thread Cert.DwFfnReferenceIdeal.nD Cert.DwFfnReferenceIdeal.τ).loc Cert.DwFfnReferenceIdeal.main_arg0)
      ∧ r.2.mem ((c.tc : Thread Cert.DwFfnReferenceIdeal.nD Cert.DwFfnReferenceIdeal.τ).loc Cert.DwFfnReferenceIdeal.main_arg1) = m ((c.tc : Thread Cert.DwFfnReferenceIdeal.nD Cert.DwFfnReferenceIdeal.τ).loc Cert.DwFfnReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluReferenceIdeal [hDwGluReferenceIdeal : Cert.DwGluReferenceIdeal.Facts] : Prop :=
  ∀ (m : (ℓ : Loc Cert.DwGluReferenceIdeal.nD Cert.DwGluReferenceIdeal.τ Cert.DwGluReferenceIdeal.sig) → Buf (Elt Ideal) ℓ) (g : Dev Cert.DwGluReferenceIdeal.nD → PrngReg), Pre_DwGluReferenceIdeal m →
    θ_run (Cert.DwGluReferenceIdeal.defs (F := Ideal)) (onTc (τ := Cert.DwGluReferenceIdeal.τ) (Cert.DwGluReferenceIdeal.main (F := Ideal))) ⟨m, fun _ => 0, g⟩ (fun r => (∀ c : Dev Cert.DwGluReferenceIdeal.nD,
      r.2.mem ((c.tc : Thread Cert.DwGluReferenceIdeal.nD Cert.DwGluReferenceIdeal.τ).loc Cert.DwGluReferenceIdeal.main_arg0) = m ((c.tc : Thread Cert.DwGluReferenceIdeal.nD Cert.DwGluReferenceIdeal.τ).loc Cert.DwGluReferenceIdeal.main_arg0)
      ∧ r.2.mem ((c.tc : Thread Cert.DwGluReferenceIdeal.nD Cert.DwGluReferenceIdeal.τ).loc Cert.DwGluReferenceIdeal.main_arg1) = m ((c.tc : Thread Cert.DwGluReferenceIdeal.nD Cert.DwGluReferenceIdeal.τ).loc Cert.DwGluReferenceIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvReferenceIdeal [hDwQkvReferenceIdeal : Cert.DwQkvReferenceIdeal.Facts] : Prop :=
  ∀ (m : (ℓ : Loc Cert.DwQkvReferenceIdeal.nD Cert.DwQkvReferenceIdeal.τ Cert.DwQkvReferenceIdeal.sig) → Buf (Elt Ideal) ℓ) (g : Dev Cert.DwQkvReferenceIdeal.nD → PrngReg), Pre_DwQkvReferenceIdeal m →
    θ_run (Cert.DwQkvReferenceIdeal.defs (F := Ideal)) (onTc (τ := Cert.DwQkvReferenceIdeal.τ) (Cert.DwQkvReferenceIdeal.main (F := Ideal))) ⟨m, fun _ => 0, g⟩ (fun r => (∀ c : Dev Cert.DwQkvReferenceIdeal.nD,
      r.2.mem ((c.tc : Thread Cert.DwQkvReferenceIdeal.nD Cert.DwQkvReferenceIdeal.τ).loc Cert.DwQkvReferenceIdeal.main_arg0) = m ((c.tc : Thread Cert.DwQkvReferenceIdeal.nD Cert.DwQkvReferenceIdeal.τ).loc Cert.DwQkvReferenceIdeal.main_arg0)
      ∧ r.2.mem ((c.tc : Thread Cert.DwQkvReferenceIdeal.nD Cert.DwQkvReferenceIdeal.τ).loc Cert.DwQkvReferenceIdeal.main_arg1) = m ((c.tc : Thread Cert.DwQkvReferenceIdeal.nD Cert.DwQkvReferenceIdeal.τ).loc Cert.DwQkvReferenceIdeal.main_arg1))
      ∧ r.2.sem = fun _ => 0)

def quiescent_DwU [hDwU : Cert.DwU.Facts] : Prop :=
  ∀ (m : (ℓ : Loc Cert.DwU.nD Cert.DwU.τ Cert.DwU.sig) → Buf (Elt Bits) ℓ) (g : Dev Cert.DwU.nD → PrngReg), Pre_DwU m →
    θ_run (Cert.DwU.defs (F := Bits)) (onTc (τ := Cert.DwU.τ) (Cert.DwU.main (F := Bits))) ⟨m, fun _ => 0, g⟩ (fun r => (∀ c : Dev Cert.DwU.nD,
      r.2.mem ((c.tc : Thread Cert.DwU.nD Cert.DwU.τ).loc Cert.DwU.main_arg0) = m ((c.tc : Thread Cert.DwU.nD Cert.DwU.τ).loc Cert.DwU.main_arg0)
      ∧ r.2.mem ((c.tc : Thread Cert.DwU.nD Cert.DwU.τ).loc Cert.DwU.main_arg1) = m ((c.tc : Thread Cert.DwU.nD Cert.DwU.τ).loc Cert.DwU.main_arg1))
      ∧ r.2.sem = fun _ => 0)

def quiescent_DwUIdeal [hDwUIdeal : Cert.DwUIdeal.Facts] : Prop :=
  ∀ (m : (ℓ : Loc Cert.DwUIdeal.nD Cert.DwUIdeal.τ Cert.DwUIdeal.sig) → Buf (Elt Ideal) ℓ) (g : Dev Cert.DwUIdeal.nD → PrngReg), Pre_DwUIdeal m →
    θ_run (Cert.DwUIdeal.defs (F := Ideal)) (onTc (τ := Cert.DwUIdeal.τ) (Cert.DwUIdeal.main (F := Ideal))) ⟨m, fun _ => 0, g⟩ (fun r => (∀ c : Dev Cert.DwUIdeal.nD,
      r.2.mem ((c.tc : Thread Cert.DwUIdeal.nD Cert.DwUIdeal.τ).loc Cert.DwUIdeal.main_arg0) = m ((c.tc : Thread Cert.DwUIdeal.nD Cert.DwUIdeal.τ).loc Cert.DwUIdeal.main_arg0)
      ∧ r.2.mem ((c.tc : Thread Cert.DwUIdeal.nD Cert.DwUIdeal.τ).loc Cert.DwUIdeal.main_arg1) = m ((c.tc : Thread Cert.DwUIdeal.nD Cert.DwUIdeal.τ).loc Cert.DwUIdeal.main_arg1))
      ∧ r.2.sem = fun _ => 0)

def quiescent_DwUReferenceIdeal [hDwUReferenceIdeal : Cert.DwUReferenceIdeal.Facts] : Prop :=
  ∀ (m : (ℓ : Loc Cert.DwUReferenceIdeal.nD Cert.DwUReferenceIdeal.τ Cert.DwUReferenceIdeal.sig) → Buf (Elt Ideal) ℓ) (g : Dev Cert.DwUReferenceIdeal.nD → PrngReg), Pre_DwUReferenceIdeal m →
    θ_run (Cert.DwUReferenceIdeal.defs (F := Ideal)) (onTc (τ := Cert.DwUReferenceIdeal.τ) (Cert.DwUReferenceIdeal.main (F := Ideal))) ⟨m, fun _ => 0, g⟩ (fun r => (∀ c : Dev Cert.DwUReferenceIdeal.nD,
      r.2.mem ((c.tc : Thread Cert.DwUReferenceIdeal.nD Cert.DwUReferenceIdeal.τ).loc Cert.DwUReferenceIdeal.main_arg0) = m ((c.tc : Thread Cert.DwUReferenceIdeal.nD Cert.DwUReferenceIdeal.τ).loc Cert.DwUReferenceIdeal.main_arg0)
      ∧ r.2.mem ((c.tc : Thread Cert.DwUReferenceIdeal.nD Cert.DwUReferenceIdeal.τ).loc Cert.DwUReferenceIdeal.main_arg1) = m ((c.tc : Thread Cert.DwUReferenceIdeal.nD Cert.DwUReferenceIdeal.τ).loc Cert.DwUReferenceIdeal.main_arg1))
      ∧ r.2.sem = fun _ => 0)

def quiescent_DwGates [hDwGates : Cert.DwGates.Facts] : Prop :=
  ∀ (m : (ℓ : Loc Cert.DwGates.nD Cert.DwGates.τ Cert.DwGates.sig) → Buf (Elt Bits) ℓ) (g : Dev Cert.DwGates.nD → PrngReg), Pre_DwGates m →
    θ_run (Cert.DwGates.defs (F := Bits)) (onTc (τ := Cert.DwGates.τ) (Cert.DwGates.main (F := Bits))) ⟨m, fun _ => 0, g⟩ (fun r => (∀ c : Dev Cert.DwGates.nD,
      r.2.mem ((c.tc : Thread Cert.DwGates.nD Cert.DwGates.τ).loc Cert.DwGates.main_arg0) = m ((c.tc : Thread Cert.DwGates.nD Cert.DwGates.τ).loc Cert.DwGates.main_arg0)
      ∧ r.2.mem ((c.tc : Thread Cert.DwGates.nD Cert.DwGates.τ).loc Cert.DwGates.main_arg1) = m ((c.tc : Thread Cert.DwGates.nD Cert.DwGates.τ).loc Cert.DwGates.main_arg1))
      ∧ r.2.sem = fun _ => 0)

def quiescent_DwGatesIdeal [hDwGatesIdeal : Cert.DwGatesIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg), Pre_DwGatesIdeal m →
    θ_run (Cert.DwGatesIdeal.defs (F := Ideal)) (onTc (τ := Cert.DwGatesIdeal.τ) (Cert.DwGatesIdeal.main (F := Ideal))) ⟨m, fun _ => 0, g⟩ (fun r => (∀ c : Dev Cert.DwGatesIdeal.nD,
      r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
      ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ r.2.sem = fun _ => 0)

def quiescent_DwGatesReferenceIdeal [hDwGatesReferenceIdeal : Cert.DwGatesReferenceIdeal.Facts] : Prop :=
  ∀ (m : (ℓ : Loc Cert.DwGatesReferenceIdeal.nD Cert.DwGatesReferenceIdeal.τ Cert.DwGatesReferenceIdeal.sig) → Buf (Elt Ideal) ℓ) (g : Dev Cert.DwGatesReferenceIdeal.nD → PrngReg), Pre_DwGatesReferenceIdeal m →
    θ_run (Cert.DwGatesReferenceIdeal.defs (F := Ideal)) (onTc (τ := Cert.DwGatesReferenceIdeal.τ) (Cert.DwGatesReferenceIdeal.main (F := Ideal))) ⟨m, fun _ => 0, g⟩ (fun r => (∀ c : Dev Cert.DwGatesReferenceIdeal.nD,
      r.2.mem ((c.tc : Thread Cert.DwGatesReferenceIdeal.nD Cert.DwGatesReferenceIdeal.τ).loc Cert.DwGatesReferenceIdeal.main_arg0) = m ((c.tc : Thread Cert.DwGatesReferenceIdeal.nD Cert.DwGatesReferenceIdeal.τ).loc Cert.DwGatesReferenceIdeal.main_arg0)
      ∧ r.2.mem ((c.tc : Thread Cert.DwGatesReferenceIdeal.nD Cert.DwGatesReferenceIdeal.τ).loc Cert.DwGatesReferenceIdeal.main_arg1) = m ((c.tc : Thread Cert.DwGatesReferenceIdeal.nD Cert.DwGatesReferenceIdeal.τ).loc Cert.DwGatesReferenceIdeal.main_arg1))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ r.2.sem = fun _ => 0)

def quiescent_RmsInReferenceIdeal [hRmsInReferenceIdeal : Cert.RmsInReferenceIdeal.Facts] : Prop :=
  ∀ (m : (ℓ : Loc Cert.RmsInReferenceIdeal.nD Cert.RmsInReferenceIdeal.τ Cert.RmsInReferenceIdeal.sig) → Buf (Elt Ideal) ℓ) (g : Dev Cert.RmsInReferenceIdeal.nD → PrngReg), Pre_RmsInReferenceIdeal m →
    θ_run (Cert.RmsInReferenceIdeal.defs (F := Ideal)) (onTc (τ := Cert.RmsInReferenceIdeal.τ) (Cert.RmsInReferenceIdeal.main (F := Ideal))) ⟨m, fun _ => 0, g⟩ (fun r => (∀ c : Dev Cert.RmsInReferenceIdeal.nD,
      r.2.mem ((c.tc : Thread Cert.RmsInReferenceIdeal.nD Cert.RmsInReferenceIdeal.τ).loc Cert.RmsInReferenceIdeal.main_arg0) = m ((c.tc : Thread Cert.RmsInReferenceIdeal.nD Cert.RmsInReferenceIdeal.τ).loc Cert.RmsInReferenceIdeal.main_arg0)
      ∧ r.2.mem ((c.tc : Thread Cert.RmsInReferenceIdeal.nD Cert.RmsInReferenceIdeal.τ).loc Cert.RmsInReferenceIdeal.main_arg1) = m ((c.tc : Thread Cert.RmsInReferenceIdeal.nD Cert.RmsInReferenceIdeal.τ).loc Cert.RmsInReferenceIdeal.main_arg1))
      ∧ r.2.sem = fun _ => 0)

def quiescent_RmsMid [hRmsMid : Cert.RmsMid.Facts] : Prop :=
  ∀ (m : (ℓ : Loc Cert.RmsMid.nD Cert.RmsMid.τ Cert.RmsMid.sig) → Buf (Elt Bits) ℓ) (g : Dev Cert.RmsMid.nD → PrngReg), Pre_RmsMid m →
    θ_run (Cert.RmsMid.defs (F := Bits)) (onTc (τ := Cert.RmsMid.τ) (Cert.RmsMid.main (F := Bits))) ⟨m, fun _ => 0, g⟩ (fun r => (∀ c : Dev Cert.RmsMid.nD,
      r.2.mem ((c.tc : Thread Cert.RmsMid.nD Cert.RmsMid.τ).loc Cert.RmsMid.main_arg0) = m ((c.tc : Thread Cert.RmsMid.nD Cert.RmsMid.τ).loc Cert.RmsMid.main_arg0)
      ∧ r.2.mem ((c.tc : Thread Cert.RmsMid.nD Cert.RmsMid.τ).loc Cert.RmsMid.main_arg1) = m ((c.tc : Thread Cert.RmsMid.nD Cert.RmsMid.τ).loc Cert.RmsMid.main_arg1)
      ∧ r.2.mem ((c.tc : Thread Cert.RmsMid.nD Cert.RmsMid.τ).loc Cert.RmsMid.main_arg2) = m ((c.tc : Thread Cert.RmsMid.nD Cert.RmsMid.τ).loc Cert.RmsMid.main_arg2)
      ∧ r.2.mem ((c.tc : Thread Cert.RmsMid.nD Cert.RmsMid.τ).loc Cert.RmsMid.main_arg3) = m ((c.tc : Thread Cert.RmsMid.nD Cert.RmsMid.τ).loc Cert.RmsMid.main_arg3))
      ∧ r.2.sem = fun _ => 0)

def quiescent_RmsMidIdeal [hRmsMidIdeal : Cert.RmsMidIdeal.Facts] : Prop :=
  ∀ (m : (ℓ : Loc Cert.RmsMidIdeal.nD Cert.RmsMidIdeal.τ Cert.RmsMidIdeal.sig) → Buf (Elt Ideal) ℓ) (g : Dev Cert.RmsMidIdeal.nD → PrngReg), Pre_RmsMidIdeal m →
    θ_run (Cert.RmsMidIdeal.defs (F := Ideal)) (onTc (τ := Cert.RmsMidIdeal.τ) (Cert.RmsMidIdeal.main (F := Ideal))) ⟨m, fun _ => 0, g⟩ (fun r => (∀ c : Dev Cert.RmsMidIdeal.nD,
      r.2.mem ((c.tc : Thread Cert.RmsMidIdeal.nD Cert.RmsMidIdeal.τ).loc Cert.RmsMidIdeal.main_arg0) = m ((c.tc : Thread Cert.RmsMidIdeal.nD Cert.RmsMidIdeal.τ).loc Cert.RmsMidIdeal.main_arg0)
      ∧ r.2.mem ((c.tc : Thread Cert.RmsMidIdeal.nD Cert.RmsMidIdeal.τ).loc Cert.RmsMidIdeal.main_arg1) = m ((c.tc : Thread Cert.RmsMidIdeal.nD Cert.RmsMidIdeal.τ).loc Cert.RmsMidIdeal.main_arg1)
      ∧ r.2.mem ((c.tc : Thread Cert.RmsMidIdeal.nD Cert.RmsMidIdeal.τ).loc Cert.RmsMidIdeal.main_arg2) = m ((c.tc : Thread Cert.RmsMidIdeal.nD Cert.RmsMidIdeal.τ).loc Cert.RmsMidIdeal.main_arg2)
      ∧ r.2.mem ((c.tc : Thread Cert.RmsMidIdeal.nD Cert.RmsMidIdeal.τ).loc Cert.RmsMidIdeal.main_arg3) = m ((c.tc : Thread Cert.RmsMidIdeal.nD Cert.RmsMidIdeal.τ).loc Cert.RmsMidIdeal.main_arg3))
      ∧ r.2.sem = fun _ => 0)

def quiescent_RmsMidReferenceIdeal [hRmsMidReferenceIdeal : Cert.RmsMidReferenceIdeal.Facts] : Prop :=
  ∀ (m : (ℓ : Loc Cert.RmsMidReferenceIdeal.nD Cert.RmsMidReferenceIdeal.τ Cert.RmsMidReferenceIdeal.sig) → Buf (Elt Ideal) ℓ) (g : Dev Cert.RmsMidReferenceIdeal.nD → PrngReg), Pre_RmsMidReferenceIdeal m →
    θ_run (Cert.RmsMidReferenceIdeal.defs (F := Ideal)) (onTc (τ := Cert.RmsMidReferenceIdeal.τ) (Cert.RmsMidReferenceIdeal.main (F := Ideal))) ⟨m, fun _ => 0, g⟩ (fun r => (∀ c : Dev Cert.RmsMidReferenceIdeal.nD,
      r.2.mem ((c.tc : Thread Cert.RmsMidReferenceIdeal.nD Cert.RmsMidReferenceIdeal.τ).loc Cert.RmsMidReferenceIdeal.main_arg0) = m ((c.tc : Thread Cert.RmsMidReferenceIdeal.nD Cert.RmsMidReferenceIdeal.τ).loc Cert.RmsMidReferenceIdeal.main_arg0)
      ∧ r.2.mem ((c.tc : Thread Cert.RmsMidReferenceIdeal.nD Cert.RmsMidReferenceIdeal.τ).loc Cert.RmsMidReferenceIdeal.main_arg1) = m ((c.tc : Thread Cert.RmsMidReferenceIdeal.nD Cert.RmsMidReferenceIdeal.τ).loc Cert.RmsMidReferenceIdeal.main_arg1)
      ∧ r.2.mem ((c.tc : Thread Cert.RmsMidReferenceIdeal.nD Cert.RmsMidReferenceIdeal.τ).loc Cert.RmsMidReferenceIdeal.main_arg2) = m ((c.tc : Thread Cert.RmsMidReferenceIdeal.nD Cert.RmsMidReferenceIdeal.τ).loc Cert.RmsMidReferenceIdeal.main_arg2)
      ∧ r.2.mem ((c.tc : Thread Cert.RmsMidReferenceIdeal.nD Cert.RmsMidReferenceIdeal.τ).loc Cert.RmsMidReferenceIdeal.main_arg3) = m ((c.tc : Thread Cert.RmsMidReferenceIdeal.nD Cert.RmsMidReferenceIdeal.τ).loc Cert.RmsMidReferenceIdeal.main_arg3))
      ∧ r.2.sem = fun _ => 0)

def quiescent_RmsMidBwd [hRmsMidBwd : Cert.RmsMidBwd.Facts] : Prop :=
  ∀ (m : (ℓ : Loc Cert.RmsMidBwd.nD Cert.RmsMidBwd.τ Cert.RmsMidBwd.sig) → Buf (Elt Bits) ℓ) (g : Dev Cert.RmsMidBwd.nD → PrngReg), Pre_RmsMidBwd m →
    θ_run (Cert.RmsMidBwd.defs (F := Bits)) (onTc (τ := Cert.RmsMidBwd.τ) (Cert.RmsMidBwd.main (F := Bits))) ⟨m, fun _ => 0, g⟩ (fun r => (∀ c : Dev Cert.RmsMidBwd.nD,
      r.2.mem ((c.tc : Thread Cert.RmsMidBwd.nD Cert.RmsMidBwd.τ).loc Cert.RmsMidBwd.main_arg0) = m ((c.tc : Thread Cert.RmsMidBwd.nD Cert.RmsMidBwd.τ).loc Cert.RmsMidBwd.main_arg0)
      ∧ r.2.mem ((c.tc : Thread Cert.RmsMidBwd.nD Cert.RmsMidBwd.τ).loc Cert.RmsMidBwd.main_arg1) = m ((c.tc : Thread Cert.RmsMidBwd.nD Cert.RmsMidBwd.τ).loc Cert.RmsMidBwd.main_arg1)
      ∧ r.2.mem ((c.tc : Thread Cert.RmsMidBwd.nD Cert.RmsMidBwd.τ).loc Cert.RmsMidBwd.main_arg2) = m ((c.tc : Thread Cert.RmsMidBwd.nD Cert.RmsMidBwd.τ).loc Cert.RmsMidBwd.main_arg2)
      ∧ r.2.mem ((c.tc : Thread Cert.RmsMidBwd.nD Cert.RmsMidBwd.τ).loc Cert.RmsMidBwd.main_arg3) = m ((c.tc : Thread Cert.RmsMidBwd.nD Cert.RmsMidBwd.τ).loc Cert.RmsMidBwd.main_arg3)
      ∧ r.2.mem ((c.tc : Thread Cert.RmsMidBwd.nD Cert.RmsMidBwd.τ).loc Cert.RmsMidBwd.main_arg4) = m ((c.tc : Thread Cert.RmsMidBwd.nD Cert.RmsMidBwd.τ).loc Cert.RmsMidBwd.main_arg4)
      ∧ r.2.mem ((c.tc : Thread Cert.RmsMidBwd.nD Cert.RmsMidBwd.τ).loc Cert.RmsMidBwd.main_arg5) = m ((c.tc : Thread Cert.RmsMidBwd.nD Cert.RmsMidBwd.τ).loc Cert.RmsMidBwd.main_arg5))
      ∧ r.2.sem = fun _ => 0)

def quiescent_RmsMidBwdIdeal [hRmsMidBwdIdeal : Cert.RmsMidBwdIdeal.Facts] : Prop :=
  ∀ (m : (ℓ : Loc Cert.RmsMidBwdIdeal.nD Cert.RmsMidBwdIdeal.τ Cert.RmsMidBwdIdeal.sig) → Buf (Elt Ideal) ℓ) (g : Dev Cert.RmsMidBwdIdeal.nD → PrngReg), Pre_RmsMidBwdIdeal m →
    θ_run (Cert.RmsMidBwdIdeal.defs (F := Ideal)) (onTc (τ := Cert.RmsMidBwdIdeal.τ) (Cert.RmsMidBwdIdeal.main (F := Ideal))) ⟨m, fun _ => 0, g⟩ (fun r => (∀ c : Dev Cert.RmsMidBwdIdeal.nD,
      r.2.mem ((c.tc : Thread Cert.RmsMidBwdIdeal.nD Cert.RmsMidBwdIdeal.τ).loc Cert.RmsMidBwdIdeal.main_arg0) = m ((c.tc : Thread Cert.RmsMidBwdIdeal.nD Cert.RmsMidBwdIdeal.τ).loc Cert.RmsMidBwdIdeal.main_arg0)
      ∧ r.2.mem ((c.tc : Thread Cert.RmsMidBwdIdeal.nD Cert.RmsMidBwdIdeal.τ).loc Cert.RmsMidBwdIdeal.main_arg1) = m ((c.tc : Thread Cert.RmsMidBwdIdeal.nD Cert.RmsMidBwdIdeal.τ).loc Cert.RmsMidBwdIdeal.main_arg1)
      ∧ r.2.mem ((c.tc : Thread Cert.RmsMidBwdIdeal.nD Cert.RmsMidBwdIdeal.τ).loc Cert.RmsMidBwdIdeal.main_arg2) = m ((c.tc : Thread Cert.RmsMidBwdIdeal.nD Cert.RmsMidBwdIdeal.τ).loc Cert.RmsMidBwdIdeal.main_arg2)
      ∧ r.2.mem ((c.tc : Thread Cert.RmsMidBwdIdeal.nD Cert.RmsMidBwdIdeal.τ).loc Cert.RmsMidBwdIdeal.main_arg3) = m ((c.tc : Thread Cert.RmsMidBwdIdeal.nD Cert.RmsMidBwdIdeal.τ).loc Cert.RmsMidBwdIdeal.main_arg3)
      ∧ r.2.mem ((c.tc : Thread Cert.RmsMidBwdIdeal.nD Cert.RmsMidBwdIdeal.τ).loc Cert.RmsMidBwdIdeal.main_arg4) = m ((c.tc : Thread Cert.RmsMidBwdIdeal.nD Cert.RmsMidBwdIdeal.τ).loc Cert.RmsMidBwdIdeal.main_arg4)
      ∧ r.2.mem ((c.tc : Thread Cert.RmsMidBwdIdeal.nD Cert.RmsMidBwdIdeal.τ).loc Cert.RmsMidBwdIdeal.main_arg5) = m ((c.tc : Thread Cert.RmsMidBwdIdeal.nD Cert.RmsMidBwdIdeal.τ).loc Cert.RmsMidBwdIdeal.main_arg5))
      ∧ r.2.sem = fun _ => 0)

def quiescent_RmsMidBwdReferenceIdeal [hRmsMidBwdReferenceIdeal : Cert.RmsMidBwdReferenceIdeal.Facts] : Prop :=
  ∀ (m : (ℓ : Loc Cert.RmsMidBwdReferenceIdeal.nD Cert.RmsMidBwdReferenceIdeal.τ Cert.RmsMidBwdReferenceIdeal.sig) → Buf (Elt Ideal) ℓ) (g : Dev Cert.RmsMidBwdReferenceIdeal.nD → PrngReg), Pre_RmsMidBwdReferenceIdeal m →
    θ_run (Cert.RmsMidBwdReferenceIdeal.defs (F := Ideal)) (onTc (τ := Cert.RmsMidBwdReferenceIdeal.τ) (Cert.RmsMidBwdReferenceIdeal.main (F := Ideal))) ⟨m, fun _ => 0, g⟩ (fun r => (∀ c : Dev Cert.RmsMidBwdReferenceIdeal.nD,
      r.2.mem ((c.tc : Thread Cert.RmsMidBwdReferenceIdeal.nD Cert.RmsMidBwdReferenceIdeal.τ).loc Cert.RmsMidBwdReferenceIdeal.main_arg0) = m ((c.tc : Thread Cert.RmsMidBwdReferenceIdeal.nD Cert.RmsMidBwdReferenceIdeal.τ).loc Cert.RmsMidBwdReferenceIdeal.main_arg0)
      ∧ r.2.mem ((c.tc : Thread Cert.RmsMidBwdReferenceIdeal.nD Cert.RmsMidBwdReferenceIdeal.τ).loc Cert.RmsMidBwdReferenceIdeal.main_arg1) = m ((c.tc : Thread Cert.RmsMidBwdReferenceIdeal.nD Cert.RmsMidBwdReferenceIdeal.τ).loc Cert.RmsMidBwdReferenceIdeal.main_arg1)
      ∧ r.2.mem ((c.tc : Thread Cert.RmsMidBwdReferenceIdeal.nD Cert.RmsMidBwdReferenceIdeal.τ).loc Cert.RmsMidBwdReferenceIdeal.main_arg2) = m ((c.tc : Thread Cert.RmsMidBwdReferenceIdeal.nD Cert.RmsMidBwdReferenceIdeal.τ).loc Cert.RmsMidBwdReferenceIdeal.main_arg2)
      ∧ r.2.mem ((c.tc : Thread Cert.RmsMidBwdReferenceIdeal.nD Cert.RmsMidBwdReferenceIdeal.τ).loc Cert.RmsMidBwdReferenceIdeal.main_arg3) = m ((c.tc : Thread Cert.RmsMidBwdReferenceIdeal.nD Cert.RmsMidBwdReferenceIdeal.τ).loc Cert.RmsMidBwdReferenceIdeal.main_arg3)
      ∧ r.2.mem ((c.tc : Thread Cert.RmsMidBwdReferenceIdeal.nD Cert.RmsMidBwdReferenceIdeal.τ).loc Cert.RmsMidBwdReferenceIdeal.main_arg4) = m ((c.tc : Thread Cert.RmsMidBwdReferenceIdeal.nD Cert.RmsMidBwdReferenceIdeal.τ).loc Cert.RmsMidBwdReferenceIdeal.main_arg4)
      ∧ r.2.mem ((c.tc : Thread Cert.RmsMidBwdReferenceIdeal.nD Cert.RmsMidBwdReferenceIdeal.τ).loc Cert.RmsMidBwdReferenceIdeal.main_arg5) = m ((c.tc : Thread Cert.RmsMidBwdReferenceIdeal.nD Cert.RmsMidBwdReferenceIdeal.τ).loc Cert.RmsMidBwdReferenceIdeal.main_arg5))
      ∧ r.2.sem = fun _ => 0)

def quiescent_SsmGelu [hSsmGelu : Cert.SsmGelu.Facts] : Prop :=
  ∀ (m : (ℓ : Loc Cert.SsmGelu.nD Cert.SsmGelu.τ Cert.SsmGelu.sig) → Buf (Elt Bits) ℓ) (g : Dev Cert.SsmGelu.nD → PrngReg), Pre_SsmGelu m →
    θ_run (Cert.SsmGelu.defs (F := Bits)) (onTc (τ := Cert.SsmGelu.τ) (Cert.SsmGelu.main (F := Bits))) ⟨m, fun _ => 0, g⟩ (fun r => (∀ c : Dev Cert.SsmGelu.nD,
      r.2.mem ((c.tc : Thread Cert.SsmGelu.nD Cert.SsmGelu.τ).loc Cert.SsmGelu.main_arg0) = m ((c.tc : Thread Cert.SsmGelu.nD Cert.SsmGelu.τ).loc Cert.SsmGelu.main_arg0)
      ∧ r.2.mem ((c.tc : Thread Cert.SsmGelu.nD Cert.SsmGelu.τ).loc Cert.SsmGelu.main_arg1) = m ((c.tc : Thread Cert.SsmGelu.nD Cert.SsmGelu.τ).loc Cert.SsmGelu.main_arg1)
      ∧ r.2.mem ((c.tc : Thread Cert.SsmGelu.nD Cert.SsmGelu.τ).loc Cert.SsmGelu.main_arg2) = m ((c.tc : Thread Cert.SsmGelu.nD Cert.SsmGelu.τ).loc Cert.SsmGelu.main_arg2))
      ∧ r.2.sem = fun _ => 0)

def quiescent_SsmGeluIdeal [hSsmGeluIdeal : Cert.SsmGeluIdeal.Facts] : Prop :=
  ∀ (m : (ℓ : Loc Cert.SsmGeluIdeal.nD Cert.SsmGeluIdeal.τ Cert.SsmGeluIdeal.sig) → Buf (Elt Ideal) ℓ) (g : Dev Cert.SsmGeluIdeal.nD → PrngReg), Pre_SsmGeluIdeal m →
    θ_run (Cert.SsmGeluIdeal.defs (F := Ideal)) (onTc (τ := Cert.SsmGeluIdeal.τ) (Cert.SsmGeluIdeal.main (F := Ideal))) ⟨m, fun _ => 0, g⟩ (fun r => (∀ c : Dev Cert.SsmGeluIdeal.nD,
      r.2.mem ((c.tc : Thread Cert.SsmGeluIdeal.nD Cert.SsmGeluIdeal.τ).loc Cert.SsmGeluIdeal.main_arg0) = m ((c.tc : Thread Cert.SsmGeluIdeal.nD Cert.SsmGeluIdeal.τ).loc Cert.SsmGeluIdeal.main_arg0)
      ∧ r.2.mem ((c.tc : Thread Cert.SsmGeluIdeal.nD Cert.SsmGeluIdeal.τ).loc Cert.SsmGeluIdeal.main_arg1) = m ((c.tc : Thread Cert.SsmGeluIdeal.nD Cert.SsmGeluIdeal.τ).loc Cert.SsmGeluIdeal.main_arg1)
      ∧ r.2.mem ((c.tc : Thread Cert.SsmGeluIdeal.nD Cert.SsmGeluIdeal.τ).loc Cert.SsmGeluIdeal.main_arg2) = m ((c.tc : Thread Cert.SsmGeluIdeal.nD Cert.SsmGeluIdeal.τ).loc Cert.SsmGeluIdeal.main_arg2))
      ∧ r.2.sem = fun _ => 0)

def quiescent_SsmGeluReferenceIdeal [hSsmGeluReferenceIdeal : Cert.SsmGeluReferenceIdeal.Facts] : Prop :=
  ∀ (m : (ℓ : Loc Cert.SsmGeluReferenceIdeal.nD Cert.SsmGeluReferenceIdeal.τ Cert.SsmGeluReferenceIdeal.sig) → Buf (Elt Ideal) ℓ) (g : Dev Cert.SsmGeluReferenceIdeal.nD → PrngReg), Pre_SsmGeluReferenceIdeal m →
    θ_run (Cert.SsmGeluReferenceIdeal.defs (F := Ideal)) (onTc (τ := Cert.SsmGeluReferenceIdeal.τ) (Cert.SsmGeluReferenceIdeal.main (F := Ideal))) ⟨m, fun _ => 0, g⟩ (fun r => (∀ c : Dev Cert.SsmGeluReferenceIdeal.nD,
      r.2.mem ((c.tc : Thread Cert.SsmGeluReferenceIdeal.nD Cert.SsmGeluReferenceIdeal.τ).loc Cert.SsmGeluReferenceIdeal.main_arg0) = m ((c.tc : Thread Cert.SsmGeluReferenceIdeal.nD Cert.SsmGeluReferenceIdeal.τ).loc Cert.SsmGeluReferenceIdeal.main_arg0)
      ∧ r.2.mem ((c.tc : Thread Cert.SsmGeluReferenceIdeal.nD Cert.SsmGeluReferenceIdeal.τ).loc Cert.SsmGeluReferenceIdeal.main_arg1) = m ((c.tc : Thread Cert.SsmGeluReferenceIdeal.nD Cert.SsmGeluReferenceIdeal.τ).loc Cert.SsmGeluReferenceIdeal.main_arg1)
      ∧ r.2.mem ((c.tc : Thread Cert.SsmGeluReferenceIdeal.nD Cert.SsmGeluReferenceIdeal.τ).loc Cert.SsmGeluReferenceIdeal.main_arg2) = m ((c.tc : Thread Cert.SsmGeluReferenceIdeal.nD Cert.SsmGeluReferenceIdeal.τ).loc Cert.SsmGeluReferenceIdeal.main_arg2))
      ∧ r.2.sem = fun _ => 0)

def quiescent_GateMerge [hGateMerge : Cert.GateMerge.Facts] : Prop :=
  ∀ (m : (ℓ : Loc Cert.GateMerge.nD Cert.GateMerge.τ Cert.GateMerge.sig) → Buf (Elt Bits) ℓ) (g : Dev Cert.GateMerge.nD → PrngReg), Pre_GateMerge m →
    θ_run (Cert.GateMerge.defs (F := Bits)) (onTc (τ := Cert.GateMerge.τ) (Cert.GateMerge.main (F := Bits))) ⟨m, fun _ => 0, g⟩ (fun r => (∀ c : Dev Cert.GateMerge.nD,
      r.2.mem ((c.tc : Thread Cert.GateMerge.nD Cert.GateMerge.τ).loc Cert.GateMerge.main_arg0) = m ((c.tc : Thread Cert.GateMerge.nD Cert.GateMerge.τ).loc Cert.GateMerge.main_arg0)
      ∧ r.2.mem ((c.tc : Thread Cert.GateMerge.nD Cert.GateMerge.τ).loc Cert.GateMerge.main_arg1) = m ((c.tc : Thread Cert.GateMerge.nD Cert.GateMerge.τ).loc Cert.GateMerge.main_arg1)
      ∧ r.2.mem ((c.tc : Thread Cert.GateMerge.nD Cert.GateMerge.τ).loc Cert.GateMerge.main_arg2) = m ((c.tc : Thread Cert.GateMerge.nD Cert.GateMerge.τ).loc Cert.GateMerge.main_arg2)
      ∧ r.2.mem ((c.tc : Thread Cert.GateMerge.nD Cert.GateMerge.τ).loc Cert.GateMerge.main_arg3) = m ((c.tc : Thread Cert.GateMerge.nD Cert.GateMerge.τ).loc Cert.GateMerge.main_arg3))
      ∧ r.2.sem = fun _ => 0)

def quiescent_GateMergeIdeal [hGateMergeIdeal : Cert.GateMergeIdeal.Facts] : Prop :=
  ∀ (m : (ℓ : Loc Cert.GateMergeIdeal.nD Cert.GateMergeIdeal.τ Cert.GateMergeIdeal.sig) → Buf (Elt Ideal) ℓ) (g : Dev Cert.GateMergeIdeal.nD → PrngReg), Pre_GateMergeIdeal m →
    θ_run (Cert.GateMergeIdeal.defs (F := Ideal)) (onTc (τ := Cert.GateMergeIdeal.τ) (Cert.GateMergeIdeal.main (F := Ideal))) ⟨m, fun _ => 0, g⟩ (fun r => (∀ c : Dev Cert.GateMergeIdeal.nD,
      r.2.mem ((c.tc : Thread Cert.GateMergeIdeal.nD Cert.GateMergeIdeal.τ).loc Cert.GateMergeIdeal.main_arg0) = m ((c.tc : Thread Cert.GateMergeIdeal.nD Cert.GateMergeIdeal.τ).loc Cert.GateMergeIdeal.main_arg0)
      ∧ r.2.mem ((c.tc : Thread Cert.GateMergeIdeal.nD Cert.GateMergeIdeal.τ).loc Cert.GateMergeIdeal.main_arg1) = m ((c.tc : Thread Cert.GateMergeIdeal.nD Cert.GateMergeIdeal.τ).loc Cert.GateMergeIdeal.main_arg1)
      ∧ r.2.mem ((c.tc : Thread Cert.GateMergeIdeal.nD Cert.GateMergeIdeal.τ).loc Cert.GateMergeIdeal.main_arg2) = m ((c.tc : Thread Cert.GateMergeIdeal.nD Cert.GateMergeIdeal.τ).loc Cert.GateMergeIdeal.main_arg2)
      ∧ r.2.mem ((c.tc : Thread Cert.GateMergeIdeal.nD Cert.GateMergeIdeal.τ).loc Cert.GateMergeIdeal.main_arg3) = m ((c.tc : Thread Cert.GateMergeIdeal.nD Cert.GateMergeIdeal.τ).loc Cert.GateMergeIdeal.main_arg3))
      ∧ r.2.sem = fun _ => 0)

def quiescent_GateMergeReferenceIdeal [hGateMergeReferenceIdeal : Cert.GateMergeReferenceIdeal.Facts] : Prop :=
  ∀ (m : (ℓ : Loc Cert.GateMergeReferenceIdeal.nD Cert.GateMergeReferenceIdeal.τ Cert.GateMergeReferenceIdeal.sig) → Buf (Elt Ideal) ℓ) (g : Dev Cert.GateMergeReferenceIdeal.nD → PrngReg), Pre_GateMergeReferenceIdeal m →
    θ_run (Cert.GateMergeReferenceIdeal.defs (F := Ideal)) (onTc (τ := Cert.GateMergeReferenceIdeal.τ) (Cert.GateMergeReferenceIdeal.main (F := Ideal))) ⟨m, fun _ => 0, g⟩ (fun r => (∀ c : Dev Cert.GateMergeReferenceIdeal.nD,
      r.2.mem ((c.tc : Thread Cert.GateMergeReferenceIdeal.nD Cert.GateMergeReferenceIdeal.τ).loc Cert.GateMergeReferenceIdeal.main_arg0) = m ((c.tc : Thread Cert.GateMergeReferenceIdeal.nD Cert.GateMergeReferenceIdeal.τ).loc Cert.GateMergeReferenceIdeal.main_arg0)
      ∧ r.2.mem ((c.tc : Thread Cert.GateMergeReferenceIdeal.nD Cert.GateMergeReferenceIdeal.τ).loc Cert.GateMergeReferenceIdeal.main_arg1) = m ((c.tc : Thread Cert.GateMergeReferenceIdeal.nD Cert.GateMergeReferenceIdeal.τ).loc Cert.GateMergeReferenceIdeal.main_arg1)
      ∧ r.2.mem ((c.tc : Thread Cert.GateMergeReferenceIdeal.nD Cert.GateMergeReferenceIdeal.τ).loc Cert.GateMergeReferenceIdeal.main_arg2) = m ((c.tc : Thread Cert.GateMergeReferenceIdeal.nD Cert.GateMergeReferenceIdeal.τ).loc Cert.GateMergeReferenceIdeal.main_arg2)
      ∧ r.2.mem ((c.tc : Thread Cert.GateMergeReferenceIdeal.nD Cert.GateMergeReferenceIdeal.τ).loc Cert.GateMergeReferenceIdeal.main_arg3) = m ((c.tc : Thread Cert.GateMergeReferenceIdeal.nD Cert.GateMergeReferenceIdeal.τ).loc Cert.GateMergeReferenceIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1)
      ∧ r.2.mem ((c.tc : Thread Cert.SwigluBwdReferenceIdeal.nD Cert.SwigluBwdReferenceIdeal.τ).loc Cert.SwigluBwdReferenceIdeal.main_arg2) = m ((c.tc : Thread Cert.SwigluBwdReferenceIdeal.nD Cert.SwigluBwdReferenceIdeal.τ).loc Cert.SwigluBwdReferenceIdeal.main_arg2))
      ∧ r.2.sem = fun _ => 0)

def quiescent_DlFold [hDlFold : Cert.DlFold.Facts] : Prop :=
  ∀ (m : (ℓ : Loc Cert.DlFold.nD Cert.DlFold.τ Cert.DlFold.sig) → Buf (Elt Bits) ℓ) (g : Dev Cert.DlFold.nD → PrngReg), Pre_DlFold m →
    θ_run (Cert.DlFold.defs (F := Bits)) (onTc (τ := Cert.DlFold.τ) (Cert.DlFold.main (F := Bits))) ⟨m, fun _ => 0, g⟩ (fun r => (∀ c : Dev Cert.DlFold.nD,
      r.2.mem ((c.tc : Thread Cert.DlFold.nD Cert.DlFold.τ).loc Cert.DlFold.main_arg0) = m ((c.tc : Thread Cert.DlFold.nD Cert.DlFold.τ).loc Cert.DlFold.main_arg0)
      ∧ r.2.mem ((c.tc : Thread Cert.DlFold.nD Cert.DlFold.τ).loc Cert.DlFold.main_arg1) = m ((c.tc : Thread Cert.DlFold.nD Cert.DlFold.τ).loc Cert.DlFold.main_arg1))
      ∧ r.2.sem = fun _ => 0)

def quiescent_DlFoldIdeal [hDlFoldIdeal : Cert.DlFoldIdeal.Facts] : Prop :=
  ∀ (m : (ℓ : Loc Cert.DlFoldIdeal.nD Cert.DlFoldIdeal.τ Cert.DlFoldIdeal.sig) → Buf (Elt Ideal) ℓ) (g : Dev Cert.DlFoldIdeal.nD → PrngReg), Pre_DlFoldIdeal m →
    θ_run (Cert.DlFoldIdeal.defs (F := Ideal)) (onTc (τ := Cert.DlFoldIdeal.τ) (Cert.DlFoldIdeal.main (F := Ideal))) ⟨m, fun _ => 0, g⟩ (fun r => (∀ c : Dev Cert.DlFoldIdeal.nD,
      r.2.mem ((c.tc : Thread Cert.DlFoldIdeal.nD Cert.DlFoldIdeal.τ).loc Cert.DlFoldIdeal.main_arg0) = m ((c.tc : Thread Cert.DlFoldIdeal.nD Cert.DlFoldIdeal.τ).loc Cert.DlFoldIdeal.main_arg0)
      ∧ r.2.mem ((c.tc : Thread Cert.DlFoldIdeal.nD Cert.DlFoldIdeal.τ).loc Cert.DlFoldIdeal.main_arg1) = m ((c.tc : Thread Cert.DlFoldIdeal.nD Cert.DlFoldIdeal.τ).loc Cert.DlFoldIdeal.main_arg1))
      ∧ r.2.sem = fun _ => 0)

def quiescent_DlFoldReferenceIdeal [hDlFoldReferenceIdeal : Cert.DlFoldReferenceIdeal.Facts] : Prop :=
  ∀ (m : (ℓ : Loc Cert.DlFoldReferenceIdeal.nD Cert.DlFoldReferenceIdeal.τ Cert.DlFoldReferenceIdeal.sig) → Buf (Elt Ideal) ℓ) (g : Dev Cert.DlFoldReferenceIdeal.nD → PrngReg), Pre_DlFoldReferenceIdeal m →
    θ_run (Cert.DlFoldReferenceIdeal.defs (F := Ideal)) (onTc (τ := Cert.DlFoldReferenceIdeal.τ) (Cert.DlFoldReferenceIdeal.main (F := Ideal))) ⟨m, fun _ => 0, g⟩ (fun r => (∀ c : Dev Cert.DlFoldReferenceIdeal.nD,
      r.2.mem ((c.tc : Thread Cert.DlFoldReferenceIdeal.nD Cert.DlFoldReferenceIdeal.τ).loc Cert.DlFoldReferenceIdeal.main_arg0) = m ((c.tc : Thread Cert.DlFoldReferenceIdeal.nD Cert.DlFoldReferenceIdeal.τ).loc Cert.DlFoldReferenceIdeal.main_arg0)
      ∧ r.2.mem ((c.tc : Thread Cert.DlFoldReferenceIdeal.nD Cert.DlFoldReferenceIdeal.τ).loc Cert.DlFoldReferenceIdeal.main_arg1) = m ((c.tc : Thread Cert.DlFoldReferenceIdeal.nD Cert.DlFoldReferenceIdeal.τ).loc Cert.DlFoldReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 7808, 1024]⟩ ⟨3, ![64, 7808, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 7808, 1024]⟩ ⟨3, ![64, 7808, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 7808, 1024]⟩ ⟨3, ![64, 7808, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 7808, 1024]⟩ ⟨3, ![64, 7808, 1024]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![7808, 1024]⟩ ⟨2, ![62464, 1024]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![7808, 1024]⟩ ⟨2, ![62464, 1024]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![320, 1024]⟩ ⟨2, ![2560, 1024]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![320, 1024]⟩ ⟨2, ![2560, 1024]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v6) = v2 c
          ∧ r.2.mem ((c.tc : Thread Cert.AdamInReferenceIdeal.nD Cert.AdamInReferenceIdeal.τ).loc Cert.AdamInReferenceIdeal.main_v12) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v1) = v0 c
          ∧ r.2.mem ((c.tc : Thread Cert.AdamUpReferenceIdeal.nD Cert.AdamUpReferenceIdeal.τ).loc Cert.AdamUpReferenceIdeal.main_v25) = v1 c
          ∧ r.2.mem ((c.tc : Thread Cert.AdamUpReferenceIdeal.nD Cert.AdamUpReferenceIdeal.τ).loc Cert.AdamUpReferenceIdeal.main_v6) = v2 c
          ∧ r.2.mem ((c.tc : Thread Cert.AdamUpReferenceIdeal.nD Cert.AdamUpReferenceIdeal.τ).loc Cert.AdamUpReferenceIdeal.main_v12) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamGlu_AdamGluIdeal : Prop :=
  IdealRules.named_const.Statement Cert.AdamGluIdeal.κ "c1" .f32 0x3FC48605#32 ((8388608 / 5463681 : ℝ) : EReal)
  ∧ IdealRules.named_const.Statement Cert.AdamGluIdeal.κ "c2" .f32 0x42C8E6D3#32 ((268435456 / 2672307 : ℝ) : EReal)

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v1) = v0 c
          ∧ r.2.mem ((c.tc : Thread Cert.AdamGluReferenceIdeal.nD Cert.AdamGluReferenceIdeal.τ).loc Cert.AdamGluReferenceIdeal.main_v25) = v1 c
          ∧ r.2.mem ((c.tc : Thread Cert.AdamGluReferenceIdeal.nD Cert.AdamGluReferenceIdeal.τ).loc Cert.AdamGluReferenceIdeal.main_v6) = v2 c
          ∧ r.2.mem ((c.tc : Thread Cert.AdamGluReferenceIdeal.nD Cert.AdamGluReferenceIdeal.τ).loc Cert.AdamGluReferenceIdeal.main_v12) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v1) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v6) = v2 c
          ∧ r.2.mem ((c.tc : Thread Cert.AdamOutReferenceIdeal.nD Cert.AdamOutReferenceIdeal.τ).loc Cert.AdamOutReferenceIdeal.main_v12) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamGate_AdamGateIdeal : Prop :=
  IdealRules.named_const.Statement Cert.AdamGateIdeal.κ "c1" .f32 0x3FC48605#32 ((8388608 / 5463681 : ℝ) : EReal)
  ∧ IdealRules.named_const.Statement Cert.AdamGateIdeal.κ "c2" .f32 0x42C8E6D3#32 ((268435456 / 2672307 : ℝ) : EReal)

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v1) = v0 c
          ∧ r.2.mem ((c.tc : Thread Cert.AdamGateReferenceIdeal.nD Cert.AdamGateReferenceIdeal.τ).loc Cert.AdamGateReferenceIdeal.main_v25) = v1 c
          ∧ r.2.mem ((c.tc : Thread Cert.AdamGateReferenceIdeal.nD Cert.AdamGateReferenceIdeal.τ).loc Cert.AdamGateReferenceIdeal.main_v6) = v2 c
          ∧ r.2.mem ((c.tc : Thread Cert.AdamGateReferenceIdeal.nD Cert.AdamGateReferenceIdeal.τ).loc Cert.AdamGateReferenceIdeal.main_v12) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v1) = v0 c
          ∧ r.2.mem ((c.tc : Thread Cert.AdamDownReferenceIdeal.nD Cert.AdamDownReferenceIdeal.τ).loc Cert.AdamDownReferenceIdeal.main_v25) = v1 c
          ∧ r.2.mem ((c.tc : Thread Cert.AdamDownReferenceIdeal.nD Cert.AdamDownReferenceIdeal.τ).loc Cert.AdamDownReferenceIdeal.main_v6) = v2 c
          ∧ r.2.mem ((c.tc : Thread Cert.AdamDownReferenceIdeal.nD Cert.AdamDownReferenceIdeal.τ).loc Cert.AdamDownReferenceIdeal.main_v12) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v30) = v1 c
          ∧ r.2.mem ((c.tc : Thread Cert.LossReferenceIdeal.nD Cert.LossReferenceIdeal.τ).loc Cert.LossReferenceIdeal.main_v33) = v2 c
          ∧ r.2.mem ((c.tc : Thread Cert.LossReferenceIdeal.nD Cert.LossReferenceIdeal.τ).loc Cert.LossReferenceIdeal.main_v51) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)
      ∧ m' ((c.tc : Thread Cert.GradXReferenceIdeal.nD Cert.GradXReferenceIdeal.τ).loc Cert.GradXReferenceIdeal.main_arg5) = m ((c.tc : Thread Cert.GradXIdeal.nD Cert.GradXIdeal.τ).loc Cert.GradXIdeal.main_arg5)
      ∧ m' ((c.tc : Thread Cert.GradXReferenceIdeal.nD Cert.GradXReferenceIdeal.τ).loc Cert.GradXReferenceIdeal.main_arg6) = m ((c.tc : Thread Cert.GradXIdeal.nD Cert.GradXIdeal.τ).loc Cert.GradXIdeal.main_arg6)
      ∧ m' ((c.tc : Thread Cert.GradXReferenceIdeal.nD Cert.GradXReferenceIdeal.τ).loc Cert.GradXReferenceIdeal.main_arg7) = m ((c.tc : Thread Cert.GradXIdeal.nD Cert.GradXIdeal.τ).loc Cert.GradXIdeal.main_arg7)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v38) = v0 c
          ∧ r.2.mem ((c.tc : Thread Cert.GradXReferenceIdeal.nD Cert.GradXReferenceIdeal.τ).loc Cert.GradXReferenceIdeal.main_v21) = v1 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4)
          ∧ r.2.mem ((c.tc : Thread Cert.GradXReferenceIdeal.nD Cert.GradXReferenceIdeal.τ).loc Cert.GradXReferenceIdeal.main_arg5) = m' ((c.tc : Thread Cert.GradXReferenceIdeal.nD Cert.GradXReferenceIdeal.τ).loc Cert.GradXReferenceIdeal.main_arg5)
          ∧ r.2.mem ((c.tc : Thread Cert.GradXReferenceIdeal.nD Cert.GradXReferenceIdeal.τ).loc Cert.GradXReferenceIdeal.main_arg6) = m' ((c.tc : Thread Cert.GradXReferenceIdeal.nD Cert.GradXReferenceIdeal.τ).loc Cert.GradXReferenceIdeal.main_arg6)
          ∧ r.2.mem ((c.tc : Thread Cert.GradXReferenceIdeal.nD Cert.GradXReferenceIdeal.τ).loc Cert.GradXReferenceIdeal.main_arg7) = m' ((c.tc : Thread Cert.GradXReferenceIdeal.nD Cert.GradXReferenceIdeal.τ).loc Cert.GradXReferenceIdeal.main_arg7))

def preserves_FwdQkv_FwdQkvIdeal : Prop :=
  True

def algebraic_FwdQkvIdeal_FwdQkvReferenceIdeal [hFwdQkvIdeal : Cert.FwdQkvIdeal.Facts] [hFwdQkvReferenceIdeal : Cert.FwdQkvReferenceIdeal.Facts] : Prop :=
  ∀ (m : (ℓ : Loc Cert.FwdQkvIdeal.nD Cert.FwdQkvIdeal.τ Cert.FwdQkvIdeal.sig) → Buf (Elt Ideal) ℓ) (g : Dev Cert.FwdQkvIdeal.nD → PrngReg)
    (m' : (ℓ : Loc Cert.FwdQkvReferenceIdeal.nD Cert.FwdQkvReferenceIdeal.τ Cert.FwdQkvReferenceIdeal.sig) → Buf (Elt Ideal) ℓ) (g' : Dev Cert.FwdQkvReferenceIdeal.nD → PrngReg), Pre_FwdQkvIdeal m →
    (∀ c : Dev Cert.FwdQkvIdeal.nD,
      m' ((c.tc : Thread Cert.FwdQkvReferenceIdeal.nD Cert.FwdQkvReferenceIdeal.τ).loc Cert.FwdQkvReferenceIdeal.main_arg0) = m ((c.tc : Thread Cert.FwdQkvIdeal.nD Cert.FwdQkvIdeal.τ).loc Cert.FwdQkvIdeal.main_arg0)
      ∧ m' ((c.tc : Thread Cert.FwdQkvReferenceIdeal.nD Cert.FwdQkvReferenceIdeal.τ).loc Cert.FwdQkvReferenceIdeal.main_arg1) = m ((c.tc : Thread Cert.FwdQkvIdeal.nD Cert.FwdQkvIdeal.τ).loc Cert.FwdQkvIdeal.main_arg1)) →
    ∃ (v0 : (c : Dev Cert.FwdQkvIdeal.nD) → Buf (Elt Ideal) ((c.tc : Thread Cert.FwdQkvIdeal.nD Cert.FwdQkvIdeal.τ).loc Cert.FwdQkvIdeal.main_v0)),
      θ_run (Cert.FwdQkvIdeal.defs (F := Ideal)) (onTc (τ := Cert.FwdQkvIdeal.τ) (Cert.FwdQkvIdeal.main (F := Ideal))) ⟨m, fun _ => 0, g⟩ (fun r => ∀ c : Dev Cert.FwdQkvIdeal.nD,
          r.2.mem ((c.tc : Thread Cert.FwdQkvIdeal.nD Cert.FwdQkvIdeal.τ).loc Cert.FwdQkvIdeal.main_v0) = v0 c
          ∧ r.2.mem ((c.tc : Thread Cert.FwdQkvIdeal.nD Cert.FwdQkvIdeal.τ).loc Cert.FwdQkvIdeal.main_arg0) = m ((c.tc : Thread Cert.FwdQkvIdeal.nD Cert.FwdQkvIdeal.τ).loc Cert.FwdQkvIdeal.main_arg0)
          ∧ r.2.mem ((c.tc : Thread Cert.FwdQkvIdeal.nD Cert.FwdQkvIdeal.τ).loc Cert.FwdQkvIdeal.main_arg1) = m ((c.tc : Thread Cert.FwdQkvIdeal.nD Cert.FwdQkvIdeal.τ).loc Cert.FwdQkvIdeal.main_arg1))
      ∧ θ_run (Cert.FwdQkvReferenceIdeal.defs (F := Ideal)) (onTc (τ := Cert.FwdQkvReferenceIdeal.τ) (Cert.FwdQkvReferenceIdeal.main (F := Ideal))) ⟨m', fun _ => 0, g'⟩ (fun r => ∀ c : Dev Cert.FwdQkvReferenceIdeal.nD,
          r.2.mem ((c.tc : Thread Cert.FwdQkvReferenceIdeal.nD Cert.FwdQkvReferenceIdeal.τ).loc Cert.FwdQkvReferenceIdeal.main_v3) = v0 c
          ∧ r.2.mem ((c.tc : Thread Cert.FwdQkvReferenceIdeal.nD Cert.FwdQkvReferenceIdeal.τ).loc Cert.FwdQkvReferenceIdeal.main_arg0) = m' ((c.tc : Thread Cert.FwdQkvReferenceIdeal.nD Cert.FwdQkvReferenceIdeal.τ).loc Cert.FwdQkvReferenceIdeal.main_arg0)
          ∧ r.2.mem ((c.tc : Thread Cert.FwdQkvReferenceIdeal.nD Cert.FwdQkvReferenceIdeal.τ).loc Cert.FwdQkvReferenceIdeal.main_arg1) = m' ((c.tc : Thread Cert.FwdQkvReferenceIdeal.nD Cert.FwdQkvReferenceIdeal.τ).loc Cert.FwdQkvReferenceIdeal.main_arg1))

def preserves_FwdU_FwdUIdeal : Prop :=
  True

def algebraic_FwdUIdeal_FwdUReferenceIdeal [hFwdUIdeal : Cert.FwdUIdeal.Facts] [hFwdUReferenceIdeal : Cert.FwdUReferenceIdeal.Facts] : Prop :=
  ∀ (m : (ℓ : Loc Cert.FwdUIdeal.nD Cert.FwdUIdeal.τ Cert.FwdUIdeal.sig) → Buf (Elt Ideal) ℓ) (g : Dev Cert.FwdUIdeal.nD → PrngReg)
    (m' : (ℓ : Loc Cert.FwdUReferenceIdeal.nD Cert.FwdUReferenceIdeal.τ Cert.FwdUReferenceIdeal.sig) → Buf (Elt Ideal) ℓ) (g' : Dev Cert.FwdUReferenceIdeal.nD → PrngReg), Pre_FwdUIdeal m →
    (∀ c : Dev Cert.FwdUIdeal.nD,
      m' ((c.tc : Thread Cert.FwdUReferenceIdeal.nD Cert.FwdUReferenceIdeal.τ).loc Cert.FwdUReferenceIdeal.main_arg0) = m ((c.tc : Thread Cert.FwdUIdeal.nD Cert.FwdUIdeal.τ).loc Cert.FwdUIdeal.main_arg0)
      ∧ m' ((c.tc : Thread Cert.FwdUReferenceIdeal.nD Cert.FwdUReferenceIdeal.τ).loc Cert.FwdUReferenceIdeal.main_arg1) = m ((c.tc : Thread Cert.FwdUIdeal.nD Cert.FwdUIdeal.τ).loc Cert.FwdUIdeal.main_arg1)) →
    ∃ (v0 : (c : Dev Cert.FwdUIdeal.nD) → Buf (Elt Ideal) ((c.tc : Thread Cert.FwdUIdeal.nD Cert.FwdUIdeal.τ).loc Cert.FwdUIdeal.main_v0)),
      θ_run (Cert.FwdUIdeal.defs (F := Ideal)) (onTc (τ := Cert.FwdUIdeal.τ) (Cert.FwdUIdeal.main (F := Ideal))) ⟨m, fun _ => 0, g⟩ (fun r => ∀ c : Dev Cert.FwdUIdeal.nD,
          r.2.mem ((c.tc : Thread Cert.FwdUIdeal.nD Cert.FwdUIdeal.τ).loc Cert.FwdUIdeal.main_v0) = v0 c
          ∧ r.2.mem ((c.tc : Thread Cert.FwdUIdeal.nD Cert.FwdUIdeal.τ).loc Cert.FwdUIdeal.main_arg0) = m ((c.tc : Thread Cert.FwdUIdeal.nD Cert.FwdUIdeal.τ).loc Cert.FwdUIdeal.main_arg0)
          ∧ r.2.mem ((c.tc : Thread Cert.FwdUIdeal.nD Cert.FwdUIdeal.τ).loc Cert.FwdUIdeal.main_arg1) = m ((c.tc : Thread Cert.FwdUIdeal.nD Cert.FwdUIdeal.τ).loc Cert.FwdUIdeal.main_arg1))
      ∧ θ_run (Cert.FwdUReferenceIdeal.defs (F := Ideal)) (onTc (τ := Cert.FwdUReferenceIdeal.τ) (Cert.FwdUReferenceIdeal.main (F := Ideal))) ⟨m', fun _ => 0, g'⟩ (fun r => ∀ c : Dev Cert.FwdUReferenceIdeal.nD,
          r.2.mem ((c.tc : Thread Cert.FwdUReferenceIdeal.nD Cert.FwdUReferenceIdeal.τ).loc Cert.FwdUReferenceIdeal.main_v2) = v0 c
          ∧ r.2.mem ((c.tc : Thread Cert.FwdUReferenceIdeal.nD Cert.FwdUReferenceIdeal.τ).loc Cert.FwdUReferenceIdeal.main_arg0) = m' ((c.tc : Thread Cert.FwdUReferenceIdeal.nD Cert.FwdUReferenceIdeal.τ).loc Cert.FwdUReferenceIdeal.main_arg0)
          ∧ r.2.mem ((c.tc : Thread Cert.FwdUReferenceIdeal.nD Cert.FwdUReferenceIdeal.τ).loc Cert.FwdUReferenceIdeal.main_arg1) = m' ((c.tc : Thread Cert.FwdUReferenceIdeal.nD Cert.FwdUReferenceIdeal.τ).loc Cert.FwdUReferenceIdeal.main_arg1))

def preserves_FwdGates_FwdGatesIdeal : Prop :=
  True

def algebraic_FwdGatesIdeal_FwdGatesReferenceIdeal [hFwdGatesIdeal : Cert.FwdGatesIdeal.Facts] [hFwdGatesReferenceIdeal : Cert.FwdGatesReferenceIdeal.Facts] : Prop :=
  ∀ (m : (ℓ : Loc Cert.FwdGatesIdeal.nD Cert.FwdGatesIdeal.τ Cert.FwdGatesIdeal.sig) → Buf (Elt Ideal) ℓ) (g : Dev Cert.FwdGatesIdeal.nD → PrngReg)
    (m' : (ℓ : Loc Cert.FwdGatesReferenceIdeal.nD Cert.FwdGatesReferenceIdeal.τ Cert.FwdGatesReferenceIdeal.sig) → Buf (Elt Ideal) ℓ) (g' : Dev Cert.FwdGatesReferenceIdeal.nD → PrngReg), Pre_FwdGatesIdeal m →
    (∀ c : Dev Cert.FwdGatesIdeal.nD,
      m' ((c.tc : Thread Cert.FwdGatesReferenceIdeal.nD Cert.FwdGatesReferenceIdeal.τ).loc Cert.FwdGatesReferenceIdeal.main_arg0) = m ((c.tc : Thread Cert.FwdGatesIdeal.nD Cert.FwdGatesIdeal.τ).loc Cert.FwdGatesIdeal.main_arg0)
      ∧ m' ((c.tc : Thread Cert.FwdGatesReferenceIdeal.nD Cert.FwdGatesReferenceIdeal.τ).loc Cert.FwdGatesReferenceIdeal.main_arg1) = m ((c.tc : Thread Cert.FwdGatesIdeal.nD Cert.FwdGatesIdeal.τ).loc Cert.FwdGatesIdeal.main_arg1)) →
    ∃ (v0 : (c : Dev Cert.FwdGatesIdeal.nD) → Buf (Elt Ideal) ((c.tc : Thread Cert.FwdGatesIdeal.nD Cert.FwdGatesIdeal.τ).loc Cert.FwdGatesIdeal.main_v0)),
      θ_run (Cert.FwdGatesIdeal.defs (F := Ideal)) (onTc (τ := Cert.FwdGatesIdeal.τ) (Cert.FwdGatesIdeal.main (F := Ideal))) ⟨m, fun _ => 0, g⟩ (fun r => ∀ c : Dev Cert.FwdGatesIdeal.nD,
          r.2.mem ((c.tc : Thread Cert.FwdGatesIdeal.nD Cert.FwdGatesIdeal.τ).loc Cert.FwdGatesIdeal.main_v0) = v0 c
          ∧ r.2.mem ((c.tc : Thread Cert.FwdGatesIdeal.nD Cert.FwdGatesIdeal.τ).loc Cert.FwdGatesIdeal.main_arg0) = m ((c.tc : Thread Cert.FwdGatesIdeal.nD Cert.FwdGatesIdeal.τ).loc Cert.FwdGatesIdeal.main_arg0)
          ∧ r.2.mem ((c.tc : Thread Cert.FwdGatesIdeal.nD Cert.FwdGatesIdeal.τ).loc Cert.FwdGatesIdeal.main_arg1) = m ((c.tc : Thread Cert.FwdGatesIdeal.nD Cert.FwdGatesIdeal.τ).loc Cert.FwdGatesIdeal.main_arg1))
      ∧ θ_run (Cert.FwdGatesReferenceIdeal.defs (F := Ideal)) (onTc (τ := Cert.FwdGatesReferenceIdeal.τ) (Cert.FwdGatesReferenceIdeal.main (F := Ideal))) ⟨m', fun _ => 0, g'⟩ (fun r => ∀ c : Dev Cert.FwdGatesReferenceIdeal.nD,
          r.2.mem ((c.tc : Thread Cert.FwdGatesReferenceIdeal.nD Cert.FwdGatesReferenceIdeal.τ).loc Cert.FwdGatesReferenceIdeal.main_v2) = v0 c
          ∧ r.2.mem ((c.tc : Thread Cert.FwdGatesReferenceIdeal.nD Cert.FwdGatesReferenceIdeal.τ).loc Cert.FwdGatesReferenceIdeal.main_arg0) = m' ((c.tc : Thread Cert.FwdGatesReferenceIdeal.nD Cert.FwdGatesReferenceIdeal.τ).loc Cert.FwdGatesReferenceIdeal.main_arg0)
          ∧ r.2.mem ((c.tc : Thread Cert.FwdGatesReferenceIdeal.nD Cert.FwdGatesReferenceIdeal.τ).loc Cert.FwdGatesReferenceIdeal.main_arg1) = m' ((c.tc : Thread Cert.FwdGatesReferenceIdeal.nD Cert.FwdGatesReferenceIdeal.τ).loc Cert.FwdGatesReferenceIdeal.main_arg1))

def preserves_FwdUp_FwdUpIdeal : Prop :=
  True

def algebraic_FwdUpIdeal_FwdUpReferenceIdeal [hFwdUpIdeal : Cert.FwdUpIdeal.Facts] [hFwdUpReferenceIdeal : Cert.FwdUpReferenceIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpReferenceIdeal.nD Cert.FwdUpReferenceIdeal.τ Cert.FwdUpReferenceIdeal.sig) → Buf (Elt Ideal) ℓ) (g' : Dev Cert.FwdUpReferenceIdeal.nD → PrngReg), Pre_FwdUpIdeal m →
    (∀ c : Dev Cert.FwdUpIdeal.nD,
      m' ((c.tc : Thread Cert.FwdUpReferenceIdeal.nD Cert.FwdUpReferenceIdeal.τ).loc Cert.FwdUpReferenceIdeal.main_arg0) = m ((c.tc : Thread Cert.FwdUpIdeal.nD Cert.FwdUpIdeal.τ).loc Cert.FwdUpIdeal.main_arg0)
      ∧ m' ((c.tc : Thread Cert.FwdUpReferenceIdeal.nD Cert.FwdUpReferenceIdeal.τ).loc Cert.FwdUpReferenceIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0) = v0 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpReferenceIdeal.defs (F := Ideal)) (onTc (τ := Cert.FwdUpReferenceIdeal.τ) (Cert.FwdUpReferenceIdeal.main (F := Ideal))) ⟨m', fun _ => 0, g'⟩ (fun r => ∀ c : Dev Cert.FwdUpReferenceIdeal.nD,
          r.2.mem ((c.tc : Thread Cert.FwdUpReferenceIdeal.nD Cert.FwdUpReferenceIdeal.τ).loc Cert.FwdUpReferenceIdeal.main_v2) = v0 c
          ∧ r.2.mem ((c.tc : Thread Cert.FwdUpReferenceIdeal.nD Cert.FwdUpReferenceIdeal.τ).loc Cert.FwdUpReferenceIdeal.main_arg0) = m' ((c.tc : Thread Cert.FwdUpReferenceIdeal.nD Cert.FwdUpReferenceIdeal.τ).loc Cert.FwdUpReferenceIdeal.main_arg0)
          ∧ r.2.mem ((c.tc : Thread Cert.FwdUpReferenceIdeal.nD Cert.FwdUpReferenceIdeal.τ).loc Cert.FwdUpReferenceIdeal.main_arg1) = m' ((c.tc : Thread Cert.FwdUpReferenceIdeal.nD Cert.FwdUpReferenceIdeal.τ).loc Cert.FwdUpReferenceIdeal.main_arg1))

def preserves_FwdGlu_FwdGluIdeal : Prop :=
  True

def algebraic_FwdGluIdeal_FwdGluReferenceIdeal [hFwdGluIdeal : Cert.FwdGluIdeal.Facts] [hFwdGluReferenceIdeal : Cert.FwdGluReferenceIdeal.Facts] : Prop :=
  ∀ (m : (ℓ : Loc Cert.FwdGluIdeal.nD Cert.FwdGluIdeal.τ Cert.FwdGluIdeal.sig) → Buf (Elt Ideal) ℓ) (g : Dev Cert.FwdGluIdeal.nD → PrngReg)
    (m' : (ℓ : Loc Cert.FwdGluReferenceIdeal.nD Cert.FwdGluReferenceIdeal.τ Cert.FwdGluReferenceIdeal.sig) → Buf (Elt Ideal) ℓ) (g' : Dev Cert.FwdGluReferenceIdeal.nD → PrngReg), Pre_FwdGluIdeal m →
    (∀ c : Dev Cert.FwdGluIdeal.nD,
      m' ((c.tc : Thread Cert.FwdGluReferenceIdeal.nD Cert.FwdGluReferenceIdeal.τ).loc Cert.FwdGluReferenceIdeal.main_arg0) = m ((c.tc : Thread Cert.FwdGluIdeal.nD Cert.FwdGluIdeal.τ).loc Cert.FwdGluIdeal.main_arg0)
      ∧ m' ((c.tc : Thread Cert.FwdGluReferenceIdeal.nD Cert.FwdGluReferenceIdeal.τ).loc Cert.FwdGluReferenceIdeal.main_arg1) = m ((c.tc : Thread Cert.FwdGluIdeal.nD Cert.FwdGluIdeal.τ).loc Cert.FwdGluIdeal.main_arg1)) →
    ∃ (v0 : (c : Dev Cert.FwdGluIdeal.nD) → Buf (Elt Ideal) ((c.tc : Thread Cert.FwdGluIdeal.nD Cert.FwdGluIdeal.τ).loc Cert.FwdGluIdeal.main_v0)),
      θ_run (Cert.FwdGluIdeal.defs (F := Ideal)) (onTc (τ := Cert.FwdGluIdeal.τ) (Cert.FwdGluIdeal.main (F := Ideal))) ⟨m, fun _ => 0, g⟩ (fun r => ∀ c : Dev Cert.FwdGluIdeal.nD,
          r.2.mem ((c.tc : Thread Cert.FwdGluIdeal.nD Cert.FwdGluIdeal.τ).loc Cert.FwdGluIdeal.main_v0) = v0 c
          ∧ r.2.mem ((c.tc : Thread Cert.FwdGluIdeal.nD Cert.FwdGluIdeal.τ).loc Cert.FwdGluIdeal.main_arg0) = m ((c.tc : Thread Cert.FwdGluIdeal.nD Cert.FwdGluIdeal.τ).loc Cert.FwdGluIdeal.main_arg0)
          ∧ r.2.mem ((c.tc : Thread Cert.FwdGluIdeal.nD Cert.FwdGluIdeal.τ).loc Cert.FwdGluIdeal.main_arg1) = m ((c.tc : Thread Cert.FwdGluIdeal.nD Cert.FwdGluIdeal.τ).loc Cert.FwdGluIdeal.main_arg1))
      ∧ θ_run (Cert.FwdGluReferenceIdeal.defs (F := Ideal)) (onTc (τ := Cert.FwdGluReferenceIdeal.τ) (Cert.FwdGluReferenceIdeal.main (F := Ideal))) ⟨m', fun _ => 0, g'⟩ (fun r => ∀ c : Dev Cert.FwdGluReferenceIdeal.nD,
          r.2.mem ((c.tc : Thread Cert.FwdGluReferenceIdeal.nD Cert.FwdGluReferenceIdeal.τ).loc Cert.FwdGluReferenceIdeal.main_v2) = v0 c
          ∧ r.2.mem ((c.tc : Thread Cert.FwdGluReferenceIdeal.nD Cert.FwdGluReferenceIdeal.τ).loc Cert.FwdGluReferenceIdeal.main_arg0) = m' ((c.tc : Thread Cert.FwdGluReferenceIdeal.nD Cert.FwdGluReferenceIdeal.τ).loc Cert.FwdGluReferenceIdeal.main_arg0)
          ∧ r.2.mem ((c.tc : Thread Cert.FwdGluReferenceIdeal.nD Cert.FwdGluReferenceIdeal.τ).loc Cert.FwdGluReferenceIdeal.main_arg1) = m' ((c.tc : Thread Cert.FwdGluReferenceIdeal.nD Cert.FwdGluReferenceIdeal.τ).loc Cert.FwdGluReferenceIdeal.main_arg1))

def preserves_FwdOut_FwdOutIdeal : Prop :=
  True

def algebraic_FwdOutIdeal_FwdOutReferenceIdeal [hFwdOutIdeal : Cert.FwdOutIdeal.Facts] [hFwdOutReferenceIdeal : Cert.FwdOutReferenceIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutIdeal m →
    (∀ c : Dev Cert.FwdOutIdeal.nD,
      m' ((c.tc : Thread Cert.FwdOutReferenceIdeal.nD Cert.FwdOutReferenceIdeal.τ).loc Cert.FwdOutReferenceIdeal.main_arg0) = m ((c.tc : Thread Cert.FwdOutIdeal.nD Cert.FwdOutIdeal.τ).loc Cert.FwdOutIdeal.main_arg0)
      ∧ m' ((c.tc : Thread Cert.FwdOutReferenceIdeal.nD Cert.FwdOutReferenceIdeal.τ).loc Cert.FwdOutReferenceIdeal.main_arg1) = m ((c.tc : Thread Cert.FwdOutIdeal.nD Cert.FwdOutIdeal.τ).loc Cert.FwdOutIdeal.main_arg1)) →
    ∃ (v0 : (c : Dev Cert.FwdOutIdeal.nD) → Buf (Elt Ideal) ((c.tc : Thread Cert.FwdOutIdeal.nD Cert.FwdOutIdeal.τ).loc Cert.FwdOutIdeal.main_v0)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v0) = v0 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v2) = v0 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1))

def preserves_FwdFfn_FwdFfnIdeal : Prop :=
  True

def algebraic_FwdFfnIdeal_FwdFfnReferenceIdeal [hFwdFfnIdeal : Cert.FwdFfnIdeal.Facts] [hFwdFfnReferenceIdeal : Cert.FwdFfnReferenceIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg)
    (m' : (ℓ : Loc Cert.FwdFfnReferenceIdeal.nD Cert.FwdFfnReferenceIdeal.τ Cert.FwdFfnReferenceIdeal.sig) → Buf (Elt Ideal) ℓ) (g' : Dev Cert.FwdFfnReferenceIdeal.nD → PrngReg), Pre_FwdFfnIdeal m →
    (∀ c : Dev Cert.FwdFfnIdeal.nD,
      m' ((c.tc : Thread Cert.FwdFfnReferenceIdeal.nD Cert.FwdFfnReferenceIdeal.τ).loc Cert.FwdFfnReferenceIdeal.main_arg0) = m ((c.tc : Thread Cert.FwdFfnIdeal.nD Cert.FwdFfnIdeal.τ).loc Cert.FwdFfnIdeal.main_arg0)
      ∧ m' ((c.tc : Thread Cert.FwdFfnReferenceIdeal.nD Cert.FwdFfnReferenceIdeal.τ).loc Cert.FwdFfnReferenceIdeal.main_arg1) = m ((c.tc : Thread Cert.FwdFfnIdeal.nD Cert.FwdFfnIdeal.τ).loc Cert.FwdFfnIdeal.main_arg1)) →
    ∃ (v0 : (c : Dev Cert.FwdFfnIdeal.nD) → Buf (Elt Ideal) ((c.tc : Thread Cert.FwdFfnIdeal.nD Cert.FwdFfnIdeal.τ).loc Cert.FwdFfnIdeal.main_v0)),
      θ_run (Cert.FwdFfnIdeal.defs (F := Ideal)) (onTc (τ := Cert.FwdFfnIdeal.τ) (Cert.FwdFfnIdeal.main (F := Ideal))) ⟨m, fun _ => 0, g⟩ (fun r => ∀ c : Dev Cert.FwdFfnIdeal.nD,
          r.2.mem ((c.tc : Thread Cert.FwdFfnIdeal.nD Cert.FwdFfnIdeal.τ).loc Cert.FwdFfnIdeal.main_v0) = v0 c
          ∧ r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
          ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1))
      ∧ θ_run (Cert.FwdFfnReferenceIdeal.defs (F := Ideal)) (onTc (τ := Cert.FwdFfnReferenceIdeal.τ) (Cert.FwdFfnReferenceIdeal.main (F := Ideal))) ⟨m', fun _ => 0, g'⟩ (fun r => ∀ c : Dev Cert.FwdFfnReferenceIdeal.nD,
          r.2.mem ((c.tc : Thread Cert.FwdFfnReferenceIdeal.nD Cert.FwdFfnReferenceIdeal.τ).loc Cert.FwdFfnReferenceIdeal.main_v2) = v0 c
          ∧ r.2.mem ((c.tc : Thread Cert.FwdFfnReferenceIdeal.nD Cert.FwdFfnReferenceIdeal.τ).loc Cert.FwdFfnReferenceIdeal.main_arg0) = m' ((c.tc : Thread Cert.FwdFfnReferenceIdeal.nD Cert.FwdFfnReferenceIdeal.τ).loc Cert.FwdFfnReferenceIdeal.main_arg0)
          ∧ r.2.mem ((c.tc : Thread Cert.FwdFfnReferenceIdeal.nD Cert.FwdFfnReferenceIdeal.τ).loc Cert.FwdFfnReferenceIdeal.main_arg1) = m' ((c.tc : Thread Cert.FwdFfnReferenceIdeal.nD Cert.FwdFfnReferenceIdeal.τ).loc Cert.FwdFfnReferenceIdeal.main_arg1))

def preserves_FwdDown_FwdDownIdeal : Prop :=
  True

def algebraic_FwdDownIdeal_FwdDownReferenceIdeal [hFwdDownIdeal : Cert.FwdDownIdeal.Facts] [hFwdDownReferenceIdeal : Cert.FwdDownReferenceIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownReferenceIdeal.nD Cert.FwdDownReferenceIdeal.τ Cert.FwdDownReferenceIdeal.sig) → Buf (Elt Ideal) ℓ) (g' : Dev Cert.FwdDownReferenceIdeal.nD → PrngReg), Pre_FwdDownIdeal m →
    (∀ c : Dev Cert.FwdDownIdeal.nD,
      m' ((c.tc : Thread Cert.FwdDownReferenceIdeal.nD Cert.FwdDownReferenceIdeal.τ).loc Cert.FwdDownReferenceIdeal.main_arg0) = m ((c.tc : Thread Cert.FwdDownIdeal.nD Cert.FwdDownIdeal.τ).loc Cert.FwdDownIdeal.main_arg0)
      ∧ m' ((c.tc : Thread Cert.FwdDownReferenceIdeal.nD Cert.FwdDownReferenceIdeal.τ).loc Cert.FwdDownReferenceIdeal.main_arg1) = m ((c.tc : Thread Cert.FwdDownIdeal.nD Cert.FwdDownIdeal.τ).loc Cert.FwdDownIdeal.main_arg1)) →
    ∃ (v0 : (c : Dev Cert.FwdDownIdeal.nD) → Buf (Elt Ideal) ((c.tc : Thread Cert.FwdDownIdeal.nD Cert.FwdDownIdeal.τ).loc Cert.FwdDownIdeal.main_v0)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v0) = v0 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1))
      ∧ θ_run (Cert.FwdDownReferenceIdeal.defs (F := Ideal)) (onTc (τ := Cert.FwdDownReferenceIdeal.τ) (Cert.FwdDownReferenceIdeal.main (F := Ideal))) ⟨m', fun _ => 0, g'⟩ (fun r => ∀ c : Dev Cert.FwdDownReferenceIdeal.nD,
          r.2.mem ((c.tc : Thread Cert.FwdDownReferenceIdeal.nD Cert.FwdDownReferenceIdeal.τ).loc Cert.FwdDownReferenceIdeal.main_v2) = v0 c
          ∧ r.2.mem ((c.tc : Thread Cert.FwdDownReferenceIdeal.nD Cert.FwdDownReferenceIdeal.τ).loc Cert.FwdDownReferenceIdeal.main_arg0) = m' ((c.tc : Thread Cert.FwdDownReferenceIdeal.nD Cert.FwdDownReferenceIdeal.τ).loc Cert.FwdDownReferenceIdeal.main_arg0)
          ∧ r.2.mem ((c.tc : Thread Cert.FwdDownReferenceIdeal.nD Cert.FwdDownReferenceIdeal.τ).loc Cert.FwdDownReferenceIdeal.main_arg1) = m' ((c.tc : Thread Cert.FwdDownReferenceIdeal.nD Cert.FwdDownReferenceIdeal.τ).loc Cert.FwdDownReferenceIdeal.main_arg1))

def preserves_BwdDown_BwdDownIdeal : Prop :=
  True

def algebraic_BwdDownIdeal_BwdDownReferenceIdeal [hBwdDownIdeal : Cert.BwdDownIdeal.Facts] [hBwdDownReferenceIdeal : Cert.BwdDownReferenceIdeal.Facts] : Prop :=
  ∀ (m : (ℓ : Loc Cert.BwdDownIdeal.nD Cert.BwdDownIdeal.τ Cert.BwdDownIdeal.sig) → Buf (Elt Ideal) ℓ) (g : Dev Cert.BwdDownIdeal.nD → PrngReg)
    (m' : (ℓ : Loc Cert.BwdDownReferenceIdeal.nD Cert.BwdDownReferenceIdeal.τ Cert.BwdDownReferenceIdeal.sig) → Buf (Elt Ideal) ℓ) (g' : Dev Cert.BwdDownReferenceIdeal.nD → PrngReg), Pre_BwdDownIdeal m →
    (∀ c : Dev Cert.BwdDownIdeal.nD,
      m' ((c.tc : Thread Cert.BwdDownReferenceIdeal.nD Cert.BwdDownReferenceIdeal.τ).loc Cert.BwdDownReferenceIdeal.main_arg0) = m ((c.tc : Thread Cert.BwdDownIdeal.nD Cert.BwdDownIdeal.τ).loc Cert.BwdDownIdeal.main_arg0)
      ∧ m' ((c.tc : Thread Cert.BwdDownReferenceIdeal.nD Cert.BwdDownReferenceIdeal.τ).loc Cert.BwdDownReferenceIdeal.main_arg1) = m ((c.tc : Thread Cert.BwdDownIdeal.nD Cert.BwdDownIdeal.τ).loc Cert.BwdDownIdeal.main_arg1)) →
    ∃ (v0 : (c : Dev Cert.BwdDownIdeal.nD) → Buf (Elt Ideal) ((c.tc : Thread Cert.BwdDownIdeal.nD Cert.BwdDownIdeal.τ).loc Cert.BwdDownIdeal.main_v0)),
      θ_run (Cert.BwdDownIdeal.defs (F := Ideal)) (onTc (τ := Cert.BwdDownIdeal.τ) (Cert.BwdDownIdeal.main (F := Ideal))) ⟨m, fun _ => 0, g⟩ (fun r => ∀ c : Dev Cert.BwdDownIdeal.nD,
          r.2.mem ((c.tc : Thread Cert.BwdDownIdeal.nD Cert.BwdDownIdeal.τ).loc Cert.BwdDownIdeal.main_v0) = v0 c
          ∧ r.2.mem ((c.tc : Thread Cert.BwdDownIdeal.nD Cert.BwdDownIdeal.τ).loc Cert.BwdDownIdeal.main_arg0) = m ((c.tc : Thread Cert.BwdDownIdeal.nD Cert.BwdDownIdeal.τ).loc Cert.BwdDownIdeal.main_arg0)
          ∧ r.2.mem ((c.tc : Thread Cert.BwdDownIdeal.nD Cert.BwdDownIdeal.τ).loc Cert.BwdDownIdeal.main_arg1) = m ((c.tc : Thread Cert.BwdDownIdeal.nD Cert.BwdDownIdeal.τ).loc Cert.BwdDownIdeal.main_arg1))
      ∧ θ_run (Cert.BwdDownReferenceIdeal.defs (F := Ideal)) (onTc (τ := Cert.BwdDownReferenceIdeal.τ) (Cert.BwdDownReferenceIdeal.main (F := Ideal))) ⟨m', fun _ => 0, g'⟩ (fun r => ∀ c : Dev Cert.BwdDownReferenceIdeal.nD,
          r.2.mem ((c.tc : Thread Cert.BwdDownReferenceIdeal.nD Cert.BwdDownReferenceIdeal.τ).loc Cert.BwdDownReferenceIdeal.main_v3) = v0 c
          ∧ r.2.mem ((c.tc : Thread Cert.BwdDownReferenceIdeal.nD Cert.BwdDownReferenceIdeal.τ).loc Cert.BwdDownReferenceIdeal.main_arg0) = m' ((c.tc : Thread Cert.BwdDownReferenceIdeal.nD Cert.BwdDownReferenceIdeal.τ).loc Cert.BwdDownReferenceIdeal.main_arg0)
          ∧ r.2.mem ((c.tc : Thread Cert.BwdDownReferenceIdeal.nD Cert.BwdDownReferenceIdeal.τ).loc Cert.BwdDownReferenceIdeal.main_arg1) = m' ((c.tc : Thread Cert.BwdDownReferenceIdeal.nD Cert.BwdDownReferenceIdeal.τ).loc Cert.BwdDownReferenceIdeal.main_arg1))

def preserves_BwdOut_BwdOutIdeal : Prop :=
  True

def algebraic_BwdOutIdeal_BwdOutReferenceIdeal [hBwdOutIdeal : Cert.BwdOutIdeal.Facts] [hBwdOutReferenceIdeal : Cert.BwdOutReferenceIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutReferenceIdeal.nD Cert.BwdOutReferenceIdeal.τ Cert.BwdOutReferenceIdeal.sig) → Buf (Elt Ideal) ℓ) (g' : Dev Cert.BwdOutReferenceIdeal.nD → PrngReg), Pre_BwdOutIdeal m →
    (∀ c : Dev Cert.BwdOutIdeal.nD,
      m' ((c.tc : Thread Cert.BwdOutReferenceIdeal.nD Cert.BwdOutReferenceIdeal.τ).loc Cert.BwdOutReferenceIdeal.main_arg0) = m ((c.tc : Thread Cert.BwdOutIdeal.nD Cert.BwdOutIdeal.τ).loc Cert.BwdOutIdeal.main_arg0)
      ∧ m' ((c.tc : Thread Cert.BwdOutReferenceIdeal.nD Cert.BwdOutReferenceIdeal.τ).loc Cert.BwdOutReferenceIdeal.main_arg1) = m ((c.tc : Thread Cert.BwdOutIdeal.nD Cert.BwdOutIdeal.τ).loc Cert.BwdOutIdeal.main_arg1)) →
    ∃ (v0 : (c : Dev Cert.BwdOutIdeal.nD) → Buf (Elt Ideal) ((c.tc : Thread Cert.BwdOutIdeal.nD Cert.BwdOutIdeal.τ).loc Cert.BwdOutIdeal.main_v0)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v0) = v0 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1))
      ∧ θ_run (Cert.BwdOutReferenceIdeal.defs (F := Ideal)) (onTc (τ := Cert.BwdOutReferenceIdeal.τ) (Cert.BwdOutReferenceIdeal.main (F := Ideal))) ⟨m', fun _ => 0, g'⟩ (fun r => ∀ c : Dev Cert.BwdOutReferenceIdeal.nD,
          r.2.mem ((c.tc : Thread Cert.BwdOutReferenceIdeal.nD Cert.BwdOutReferenceIdeal.τ).loc Cert.BwdOutReferenceIdeal.main_v3) = v0 c
          ∧ r.2.mem ((c.tc : Thread Cert.BwdOutReferenceIdeal.nD Cert.BwdOutReferenceIdeal.τ).loc Cert.BwdOutReferenceIdeal.main_arg0) = m' ((c.tc : Thread Cert.BwdOutReferenceIdeal.nD Cert.BwdOutReferenceIdeal.τ).loc Cert.BwdOutReferenceIdeal.main_arg0)
          ∧ r.2.mem ((c.tc : Thread Cert.BwdOutReferenceIdeal.nD Cert.BwdOutReferenceIdeal.τ).loc Cert.BwdOutReferenceIdeal.main_arg1) = m' ((c.tc : Thread Cert.BwdOutReferenceIdeal.nD Cert.BwdOutReferenceIdeal.τ).loc Cert.BwdOutReferenceIdeal.main_arg1))

def preserves_BwdUp_BwdUpIdeal : Prop :=
  True

def algebraic_BwdUpIdeal_BwdUpReferenceIdeal [hBwdUpIdeal : Cert.BwdUpIdeal.Facts] [hBwdUpReferenceIdeal : Cert.BwdUpReferenceIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg)
    (m' : (ℓ : Loc Cert.BwdUpReferenceIdeal.nD Cert.BwdUpReferenceIdeal.τ Cert.BwdUpReferenceIdeal.sig) → Buf (Elt Ideal) ℓ) (g' : Dev Cert.BwdUpReferenceIdeal.nD → PrngReg), Pre_BwdUpIdeal m →
    (∀ c : Dev Cert.BwdUpIdeal.nD,
      m' ((c.tc : Thread Cert.BwdUpReferenceIdeal.nD Cert.BwdUpReferenceIdeal.τ).loc Cert.BwdUpReferenceIdeal.main_arg0) = m ((c.tc : Thread Cert.BwdUpIdeal.nD Cert.BwdUpIdeal.τ).loc Cert.BwdUpIdeal.main_arg0)
      ∧ m' ((c.tc : Thread Cert.BwdUpReferenceIdeal.nD Cert.BwdUpReferenceIdeal.τ).loc Cert.BwdUpReferenceIdeal.main_arg1) = m ((c.tc : Thread Cert.BwdUpIdeal.nD Cert.BwdUpIdeal.τ).loc Cert.BwdUpIdeal.main_arg1)) →
    ∃ (v0 : (c : Dev Cert.BwdUpIdeal.nD) → Buf (Elt Ideal) ((c.tc : Thread Cert.BwdUpIdeal.nD Cert.BwdUpIdeal.τ).loc Cert.BwdUpIdeal.main_v0)),
      θ_run (Cert.BwdUpIdeal.defs (F := Ideal)) (onTc (τ := Cert.BwdUpIdeal.τ) (Cert.BwdUpIdeal.main (F := Ideal))) ⟨m, fun _ => 0, g⟩ (fun r => ∀ c : Dev Cert.BwdUpIdeal.nD,
          r.2.mem ((c.tc : Thread Cert.BwdUpIdeal.nD Cert.BwdUpIdeal.τ).loc Cert.BwdUpIdeal.main_v0) = v0 c
          ∧ r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
          ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1))
      ∧ θ_run (Cert.BwdUpReferenceIdeal.defs (F := Ideal)) (onTc (τ := Cert.BwdUpReferenceIdeal.τ) (Cert.BwdUpReferenceIdeal.main (F := Ideal))) ⟨m', fun _ => 0, g'⟩ (fun r => ∀ c : Dev Cert.BwdUpReferenceIdeal.nD,
          r.2.mem ((c.tc : Thread Cert.BwdUpReferenceIdeal.nD Cert.BwdUpReferenceIdeal.τ).loc Cert.BwdUpReferenceIdeal.main_v3) = v0 c
          ∧ r.2.mem ((c.tc : Thread Cert.BwdUpReferenceIdeal.nD Cert.BwdUpReferenceIdeal.τ).loc Cert.BwdUpReferenceIdeal.main_arg0) = m' ((c.tc : Thread Cert.BwdUpReferenceIdeal.nD Cert.BwdUpReferenceIdeal.τ).loc Cert.BwdUpReferenceIdeal.main_arg0)
          ∧ r.2.mem ((c.tc : Thread Cert.BwdUpReferenceIdeal.nD Cert.BwdUpReferenceIdeal.τ).loc Cert.BwdUpReferenceIdeal.main_arg1) = m' ((c.tc : Thread Cert.BwdUpReferenceIdeal.nD Cert.BwdUpReferenceIdeal.τ).loc Cert.BwdUpReferenceIdeal.main_arg1))

def preserves_BwdQkv_BwdQkvIdeal : Prop :=
  True

def algebraic_BwdQkvIdeal_BwdQkvReferenceIdeal [hBwdQkvIdeal : Cert.BwdQkvIdeal.Facts] [hBwdQkvReferenceIdeal : Cert.BwdQkvReferenceIdeal.Facts] : Prop :=
  ∀ (m : (ℓ : Loc Cert.BwdQkvIdeal.nD Cert.BwdQkvIdeal.τ Cert.BwdQkvIdeal.sig) → Buf (Elt Ideal) ℓ) (g : Dev Cert.BwdQkvIdeal.nD → PrngReg)
    (m' : (ℓ : Loc Cert.BwdQkvReferenceIdeal.nD Cert.BwdQkvReferenceIdeal.τ Cert.BwdQkvReferenceIdeal.sig) → Buf (Elt Ideal) ℓ) (g' : Dev Cert.BwdQkvReferenceIdeal.nD → PrngReg), Pre_BwdQkvIdeal m →
    (∀ c : Dev Cert.BwdQkvIdeal.nD,
      m' ((c.tc : Thread Cert.BwdQkvReferenceIdeal.nD Cert.BwdQkvReferenceIdeal.τ).loc Cert.BwdQkvReferenceIdeal.main_arg0) = m ((c.tc : Thread Cert.BwdQkvIdeal.nD Cert.BwdQkvIdeal.τ).loc Cert.BwdQkvIdeal.main_arg0)
      ∧ m' ((c.tc : Thread Cert.BwdQkvReferenceIdeal.nD Cert.BwdQkvReferenceIdeal.τ).loc Cert.BwdQkvReferenceIdeal.main_arg1) = m ((c.tc : Thread Cert.BwdQkvIdeal.nD Cert.BwdQkvIdeal.τ).loc Cert.BwdQkvIdeal.main_arg1)) →
    ∃ (v0 : (c : Dev Cert.BwdQkvIdeal.nD) → Buf (Elt Ideal) ((c.tc : Thread Cert.BwdQkvIdeal.nD Cert.BwdQkvIdeal.τ).loc Cert.BwdQkvIdeal.main_v0)),
      θ_run (Cert.BwdQkvIdeal.defs (F := Ideal)) (onTc (τ := Cert.BwdQkvIdeal.τ) (Cert.BwdQkvIdeal.main (F := Ideal))) ⟨m, fun _ => 0, g⟩ (fun r => ∀ c : Dev Cert.BwdQkvIdeal.nD,
          r.2.mem ((c.tc : Thread Cert.BwdQkvIdeal.nD Cert.BwdQkvIdeal.τ).loc Cert.BwdQkvIdeal.main_v0) = v0 c
          ∧ r.2.mem ((c.tc : Thread Cert.BwdQkvIdeal.nD Cert.BwdQkvIdeal.τ).loc Cert.BwdQkvIdeal.main_arg0) = m ((c.tc : Thread Cert.BwdQkvIdeal.nD Cert.BwdQkvIdeal.τ).loc Cert.BwdQkvIdeal.main_arg0)
          ∧ r.2.mem ((c.tc : Thread Cert.BwdQkvIdeal.nD Cert.BwdQkvIdeal.τ).loc Cert.BwdQkvIdeal.main_arg1) = m ((c.tc : Thread Cert.BwdQkvIdeal.nD Cert.BwdQkvIdeal.τ).loc Cert.BwdQkvIdeal.main_arg1))
      ∧ θ_run (Cert.BwdQkvReferenceIdeal.defs (F := Ideal)) (onTc (τ := Cert.BwdQkvReferenceIdeal.τ) (Cert.BwdQkvReferenceIdeal.main (F := Ideal))) ⟨m', fun _ => 0, g'⟩ (fun r => ∀ c : Dev Cert.BwdQkvReferenceIdeal.nD,
          r.2.mem ((c.tc : Thread Cert.BwdQkvReferenceIdeal.nD Cert.BwdQkvReferenceIdeal.τ).loc Cert.BwdQkvReferenceIdeal.main_v3) = v0 c
          ∧ r.2.mem ((c.tc : Thread Cert.BwdQkvReferenceIdeal.nD Cert.BwdQkvReferenceIdeal.τ).loc Cert.BwdQkvReferenceIdeal.main_arg0) = m' ((c.tc : Thread Cert.BwdQkvReferenceIdeal.nD Cert.BwdQkvReferenceIdeal.τ).loc Cert.BwdQkvReferenceIdeal.main_arg0)
          ∧ r.2.mem ((c.tc : Thread Cert.BwdQkvReferenceIdeal.nD Cert.BwdQkvReferenceIdeal.τ).loc Cert.BwdQkvReferenceIdeal.main_arg1) = m' ((c.tc : Thread Cert.BwdQkvReferenceIdeal.nD Cert.BwdQkvReferenceIdeal.τ).loc Cert.BwdQkvReferenceIdeal.main_arg1))

def preserves_BwdU_BwdUIdeal : Prop :=
  True

def algebraic_BwdUIdeal_BwdUReferenceIdeal [hBwdUIdeal : Cert.BwdUIdeal.Facts] [hBwdUReferenceIdeal : Cert.BwdUReferenceIdeal.Facts] : Prop :=
  ∀ (m : (ℓ : Loc Cert.BwdUIdeal.nD Cert.BwdUIdeal.τ Cert.BwdUIdeal.sig) → Buf (Elt Ideal) ℓ) (g : Dev Cert.BwdUIdeal.nD → PrngReg)
    (m' : (ℓ : Loc Cert.BwdUReferenceIdeal.nD Cert.BwdUReferenceIdeal.τ Cert.BwdUReferenceIdeal.sig) → Buf (Elt Ideal) ℓ) (g' : Dev Cert.BwdUReferenceIdeal.nD → PrngReg), Pre_BwdUIdeal m →
    (∀ c : Dev Cert.BwdUIdeal.nD,
      m' ((c.tc : Thread Cert.BwdUReferenceIdeal.nD Cert.BwdUReferenceIdeal.τ).loc Cert.BwdUReferenceIdeal.main_arg0) = m ((c.tc : Thread Cert.BwdUIdeal.nD Cert.BwdUIdeal.τ).loc Cert.BwdUIdeal.main_arg0)
      ∧ m' ((c.tc : Thread Cert.BwdUReferenceIdeal.nD Cert.BwdUReferenceIdeal.τ).loc Cert.BwdUReferenceIdeal.main_arg1) = m ((c.tc : Thread Cert.BwdUIdeal.nD Cert.BwdUIdeal.τ).loc Cert.BwdUIdeal.main_arg1)) →
    ∃ (v0 : (c : Dev Cert.BwdUIdeal.nD) → Buf (Elt Ideal) ((c.tc : Thread Cert.BwdUIdeal.nD Cert.BwdUIdeal.τ).loc Cert.BwdUIdeal.main_v0)),
      θ_run (Cert.BwdUIdeal.defs (F := Ideal)) (onTc (τ := Cert.BwdUIdeal.τ) (Cert.BwdUIdeal.main (F := Ideal))) ⟨m, fun _ => 0, g⟩ (fun r => ∀ c : Dev Cert.BwdUIdeal.nD,
          r.2.mem ((c.tc : Thread Cert.BwdUIdeal.nD Cert.BwdUIdeal.τ).loc Cert.BwdUIdeal.main_v0) = v0 c
          ∧ r.2.mem ((c.tc : Thread Cert.BwdUIdeal.nD Cert.BwdUIdeal.τ).loc Cert.BwdUIdeal.main_arg0) = m ((c.tc : Thread Cert.BwdUIdeal.nD Cert.BwdUIdeal.τ).loc Cert.BwdUIdeal.main_arg0)
          ∧ r.2.mem ((c.tc : Thread Cert.BwdUIdeal.nD Cert.BwdUIdeal.τ).loc Cert.BwdUIdeal.main_arg1) = m ((c.tc : Thread Cert.BwdUIdeal.nD Cert.BwdUIdeal.τ).loc Cert.BwdUIdeal.main_arg1))
      ∧ θ_run (Cert.BwdUReferenceIdeal.defs (F := Ideal)) (onTc (τ := Cert.BwdUReferenceIdeal.τ) (Cert.BwdUReferenceIdeal.main (F := Ideal))) ⟨m', fun _ => 0, g'⟩ (fun r => ∀ c : Dev Cert.BwdUReferenceIdeal.nD,
          r.2.mem ((c.tc : Thread Cert.BwdUReferenceIdeal.nD Cert.BwdUReferenceIdeal.τ).loc Cert.BwdUReferenceIdeal.main_v2) = v0 c
          ∧ r.2.mem ((c.tc : Thread Cert.BwdUReferenceIdeal.nD Cert.BwdUReferenceIdeal.τ).loc Cert.BwdUReferenceIdeal.main_arg0) = m' ((c.tc : Thread Cert.BwdUReferenceIdeal.nD Cert.BwdUReferenceIdeal.τ).loc Cert.BwdUReferenceIdeal.main_arg0)
          ∧ r.2.mem ((c.tc : Thread Cert.BwdUReferenceIdeal.nD Cert.BwdUReferenceIdeal.τ).loc Cert.BwdUReferenceIdeal.main_arg1) = m' ((c.tc : Thread Cert.BwdUReferenceIdeal.nD Cert.BwdUReferenceIdeal.τ).loc Cert.BwdUReferenceIdeal.main_arg1))

def preserves_BwdGates_BwdGatesIdeal : Prop :=
  True

def algebraic_BwdGatesIdeal_BwdGatesReferenceIdeal [hBwdGatesIdeal : Cert.BwdGatesIdeal.Facts] [hBwdGatesReferenceIdeal : Cert.BwdGatesReferenceIdeal.Facts] : Prop :=
  ∀ (m : (ℓ : Loc Cert.BwdGatesIdeal.nD Cert.BwdGatesIdeal.τ Cert.BwdGatesIdeal.sig) → Buf (Elt Ideal) ℓ) (g : Dev Cert.BwdGatesIdeal.nD → PrngReg)
    (m' : (ℓ : Loc Cert.BwdGatesReferenceIdeal.nD Cert.BwdGatesReferenceIdeal.τ Cert.BwdGatesReferenceIdeal.sig) → Buf (Elt Ideal) ℓ) (g' : Dev Cert.BwdGatesReferenceIdeal.nD → PrngReg), Pre_BwdGatesIdeal m →
    (∀ c : Dev Cert.BwdGatesIdeal.nD,
      m' ((c.tc : Thread Cert.BwdGatesReferenceIdeal.nD Cert.BwdGatesReferenceIdeal.τ).loc Cert.BwdGatesReferenceIdeal.main_arg0) = m ((c.tc : Thread Cert.BwdGatesIdeal.nD Cert.BwdGatesIdeal.τ).loc Cert.BwdGatesIdeal.main_arg0)
      ∧ m' ((c.tc : Thread Cert.BwdGatesReferenceIdeal.nD Cert.BwdGatesReferenceIdeal.τ).loc Cert.BwdGatesReferenceIdeal.main_arg1) = m ((c.tc : Thread Cert.BwdGatesIdeal.nD Cert.BwdGatesIdeal.τ).loc Cert.BwdGatesIdeal.main_arg1)) →
    ∃ (v0 : (c : Dev Cert.BwdGatesIdeal.nD) → Buf (Elt Ideal) ((c.tc : Thread Cert.BwdGatesIdeal.nD Cert.BwdGatesIdeal.τ).loc Cert.BwdGatesIdeal.main_v0)),
      θ_run (Cert.BwdGatesIdeal.defs (F := Ideal)) (onTc (τ := Cert.BwdGatesIdeal.τ) (Cert.BwdGatesIdeal.main (F := Ideal))) ⟨m, fun _ => 0, g⟩ (fun r => ∀ c : Dev Cert.BwdGatesIdeal.nD,
          r.2.mem ((c.tc : Thread Cert.BwdGatesIdeal.nD Cert.BwdGatesIdeal.τ).loc Cert.BwdGatesIdeal.main_v0) = v0 c
          ∧ r.2.mem ((c.tc : Thread Cert.BwdGatesIdeal.nD Cert.BwdGatesIdeal.τ).loc Cert.BwdGatesIdeal.main_arg0) = m ((c.tc : Thread Cert.BwdGatesIdeal.nD Cert.BwdGatesIdeal.τ).loc Cert.BwdGatesIdeal.main_arg0)
          ∧ r.2.mem ((c.tc : Thread Cert.BwdGatesIdeal.nD Cert.BwdGatesIdeal.τ).loc Cert.BwdGatesIdeal.main_arg1) = m ((c.tc : Thread Cert.BwdGatesIdeal.nD Cert.BwdGatesIdeal.τ).loc Cert.BwdGatesIdeal.main_arg1))
      ∧ θ_run (Cert.BwdGatesReferenceIdeal.defs (F := Ideal)) (onTc (τ := Cert.BwdGatesReferenceIdeal.τ) (Cert.BwdGatesReferenceIdeal.main (F := Ideal))) ⟨m', fun _ => 0, g'⟩ (fun r => ∀ c : Dev Cert.BwdGatesReferenceIdeal.nD,
          r.2.mem ((c.tc : Thread Cert.BwdGatesReferenceIdeal.nD Cert.BwdGatesReferenceIdeal.τ).loc Cert.BwdGatesReferenceIdeal.main_v3) = v0 c
          ∧ r.2.mem ((c.tc : Thread Cert.BwdGatesReferenceIdeal.nD Cert.BwdGatesReferenceIdeal.τ).loc Cert.BwdGatesReferenceIdeal.main_arg0) = m' ((c.tc : Thread Cert.BwdGatesReferenceIdeal.nD Cert.BwdGatesReferenceIdeal.τ).loc Cert.BwdGatesReferenceIdeal.main_arg0)
          ∧ r.2.mem ((c.tc : Thread Cert.BwdGatesReferenceIdeal.nD Cert.BwdGatesReferenceIdeal.τ).loc Cert.BwdGatesReferenceIdeal.main_arg1) = m' ((c.tc : Thread Cert.BwdGatesReferenceIdeal.nD Cert.BwdGatesReferenceIdeal.τ).loc Cert.BwdGatesReferenceIdeal.main_arg1))

def preserves_BwdFfn_BwdFfnIdeal : Prop :=
  True

def algebraic_BwdFfnIdeal_BwdFfnReferenceIdeal [hBwdFfnIdeal : Cert.BwdFfnIdeal.Facts] [hBwdFfnReferenceIdeal : Cert.BwdFfnReferenceIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg)
    (m' : (ℓ : Loc Cert.BwdFfnReferenceIdeal.nD Cert.BwdFfnReferenceIdeal.τ Cert.BwdFfnReferenceIdeal.sig) → Buf (Elt Ideal) ℓ) (g' : Dev Cert.BwdFfnReferenceIdeal.nD → PrngReg), Pre_BwdFfnIdeal m →
    (∀ c : Dev Cert.BwdFfnIdeal.nD,
      m' ((c.tc : Thread Cert.BwdFfnReferenceIdeal.nD Cert.BwdFfnReferenceIdeal.τ).loc Cert.BwdFfnReferenceIdeal.main_arg0) = m ((c.tc : Thread Cert.BwdFfnIdeal.nD Cert.BwdFfnIdeal.τ).loc Cert.BwdFfnIdeal.main_arg0)
      ∧ m' ((c.tc : Thread Cert.BwdFfnReferenceIdeal.nD Cert.BwdFfnReferenceIdeal.τ).loc Cert.BwdFfnReferenceIdeal.main_arg1) = m ((c.tc : Thread Cert.BwdFfnIdeal.nD Cert.BwdFfnIdeal.τ).loc Cert.BwdFfnIdeal.main_arg1)
      ∧ m' ((c.tc : Thread Cert.BwdFfnReferenceIdeal.nD Cert.BwdFfnReferenceIdeal.τ).loc Cert.BwdFfnReferenceIdeal.main_arg2) = m ((c.tc : Thread Cert.BwdFfnIdeal.nD Cert.BwdFfnIdeal.τ).loc Cert.BwdFfnIdeal.main_arg2)
      ∧ m' ((c.tc : Thread Cert.BwdFfnReferenceIdeal.nD Cert.BwdFfnReferenceIdeal.τ).loc Cert.BwdFfnReferenceIdeal.main_arg3) = m ((c.tc : Thread Cert.BwdFfnIdeal.nD Cert.BwdFfnIdeal.τ).loc Cert.BwdFfnIdeal.main_arg3)) →
    ∃ (v0 : (c : Dev Cert.BwdFfnIdeal.nD) → Buf (Elt Ideal) ((c.tc : Thread Cert.BwdFfnIdeal.nD Cert.BwdFfnIdeal.τ).loc Cert.BwdFfnIdeal.main_v0)),
      θ_run (Cert.BwdFfnIdeal.defs (F := Ideal)) (onTc (τ := Cert.BwdFfnIdeal.τ) (Cert.BwdFfnIdeal.main (F := Ideal))) ⟨m, fun _ => 0, g⟩ (fun r => ∀ c : Dev Cert.BwdFfnIdeal.nD,
          r.2.mem ((c.tc : Thread Cert.BwdFfnIdeal.nD Cert.BwdFfnIdeal.τ).loc Cert.BwdFfnIdeal.main_v0) = v0 c
          ∧ r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
          ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
          ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
          ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3))
      ∧ θ_run (Cert.BwdFfnReferenceIdeal.defs (F := Ideal)) (onTc (τ := Cert.BwdFfnReferenceIdeal.τ) (Cert.BwdFfnReferenceIdeal.main (F := Ideal))) ⟨m', fun _ => 0, g'⟩ (fun r => ∀ c : Dev Cert.BwdFfnReferenceIdeal.nD,
          r.2.mem ((c.tc : Thread Cert.BwdFfnReferenceIdeal.nD Cert.BwdFfnReferenceIdeal.τ).loc Cert.BwdFfnReferenceIdeal.main_v8) = v0 c
          ∧ r.2.mem ((c.tc : Thread Cert.BwdFfnReferenceIdeal.nD Cert.BwdFfnReferenceIdeal.τ).loc Cert.BwdFfnReferenceIdeal.main_arg0) = m' ((c.tc : Thread Cert.BwdFfnReferenceIdeal.nD Cert.BwdFfnReferenceIdeal.τ).loc Cert.BwdFfnReferenceIdeal.main_arg0)
          ∧ r.2.mem ((c.tc : Thread Cert.BwdFfnReferenceIdeal.nD Cert.BwdFfnReferenceIdeal.τ).loc Cert.BwdFfnReferenceIdeal.main_arg1) = m' ((c.tc : Thread Cert.BwdFfnReferenceIdeal.nD Cert.BwdFfnReferenceIdeal.τ).loc Cert.BwdFfnReferenceIdeal.main_arg1)
          ∧ r.2.mem ((c.tc : Thread Cert.BwdFfnReferenceIdeal.nD Cert.BwdFfnReferenceIdeal.τ).loc Cert.BwdFfnReferenceIdeal.main_arg2) = m' ((c.tc : Thread Cert.BwdFfnReferenceIdeal.nD Cert.BwdFfnReferenceIdeal.τ).loc Cert.BwdFfnReferenceIdeal.main_arg2)
          ∧ r.2.mem ((c.tc : Thread Cert.BwdFfnReferenceIdeal.nD Cert.BwdFfnReferenceIdeal.τ).loc Cert.BwdFfnReferenceIdeal.main_arg3) = m' ((c.tc : Thread Cert.BwdFfnReferenceIdeal.nD Cert.BwdFfnReferenceIdeal.τ).loc Cert.BwdFfnReferenceIdeal.main_arg3))

def preserves_BwdGlu_BwdGluIdeal : Prop :=
  True

def algebraic_BwdGluIdeal_BwdGluReferenceIdeal [hBwdGluIdeal : Cert.BwdGluIdeal.Facts] [hBwdGluReferenceIdeal : Cert.BwdGluReferenceIdeal.Facts] : Prop :=
  ∀ (m : (ℓ : Loc Cert.BwdGluIdeal.nD Cert.BwdGluIdeal.τ Cert.BwdGluIdeal.sig) → Buf (Elt Ideal) ℓ) (g : Dev Cert.BwdGluIdeal.nD → PrngReg)
    (m' : (ℓ : Loc Cert.BwdGluReferenceIdeal.nD Cert.BwdGluReferenceIdeal.τ Cert.BwdGluReferenceIdeal.sig) → Buf (Elt Ideal) ℓ) (g' : Dev Cert.BwdGluReferenceIdeal.nD → PrngReg), Pre_BwdGluIdeal m →
    (∀ c : Dev Cert.BwdGluIdeal.nD,
      m' ((c.tc : Thread Cert.BwdGluReferenceIdeal.nD Cert.BwdGluReferenceIdeal.τ).loc Cert.BwdGluReferenceIdeal.main_arg0) = m ((c.tc : Thread Cert.BwdGluIdeal.nD Cert.BwdGluIdeal.τ).loc Cert.BwdGluIdeal.main_arg0)
      ∧ m' ((c.tc : Thread Cert.BwdGluReferenceIdeal.nD Cert.BwdGluReferenceIdeal.τ).loc Cert.BwdGluReferenceIdeal.main_arg1) = m ((c.tc : Thread Cert.BwdGluIdeal.nD Cert.BwdGluIdeal.τ).loc Cert.BwdGluIdeal.main_arg1)
      ∧ m' ((c.tc : Thread Cert.BwdGluReferenceIdeal.nD Cert.BwdGluReferenceIdeal.τ).loc Cert.BwdGluReferenceIdeal.main_arg2) = m ((c.tc : Thread Cert.BwdGluIdeal.nD Cert.BwdGluIdeal.τ).loc Cert.BwdGluIdeal.main_arg2)
      ∧ m' ((c.tc : Thread Cert.BwdGluReferenceIdeal.nD Cert.BwdGluReferenceIdeal.τ).loc Cert.BwdGluReferenceIdeal.main_arg3) = m ((c.tc : Thread Cert.BwdGluIdeal.nD Cert.BwdGluIdeal.τ).loc Cert.BwdGluIdeal.main_arg3)) →
    ∃ (v0 : (c : Dev Cert.BwdGluIdeal.nD) → Buf (Elt Ideal) ((c.tc : Thread Cert.BwdGluIdeal.nD Cert.BwdGluIdeal.τ).loc Cert.BwdGluIdeal.main_v0)),
      θ_run (Cert.BwdGluIdeal.defs (F := Ideal)) (onTc (τ := Cert.BwdGluIdeal.τ) (Cert.BwdGluIdeal.main (F := Ideal))) ⟨m, fun _ => 0, g⟩ (fun r => ∀ c : Dev Cert.BwdGluIdeal.nD,
          r.2.mem ((c.tc : Thread Cert.BwdGluIdeal.nD Cert.BwdGluIdeal.τ).loc Cert.BwdGluIdeal.main_v0) = v0 c
          ∧ r.2.mem ((c.tc : Thread Cert.BwdGluIdeal.nD Cert.BwdGluIdeal.τ).loc Cert.BwdGluIdeal.main_arg0) = m ((c.tc : Thread Cert.BwdGluIdeal.nD Cert.BwdGluIdeal.τ).loc Cert.BwdGluIdeal.main_arg0)
          ∧ r.2.mem ((c.tc : Thread Cert.BwdGluIdeal.nD Cert.BwdGluIdeal.τ).loc Cert.BwdGluIdeal.main_arg1) = m ((c.tc : Thread Cert.BwdGluIdeal.nD Cert.BwdGluIdeal.τ).loc Cert.BwdGluIdeal.main_arg1)
          ∧ r.2.mem ((c.tc : Thread Cert.BwdGluIdeal.nD Cert.BwdGluIdeal.τ).loc Cert.BwdGluIdeal.main_arg2) = m ((c.tc : Thread Cert.BwdGluIdeal.nD Cert.BwdGluIdeal.τ).loc Cert.BwdGluIdeal.main_arg2)
          ∧ r.2.mem ((c.tc : Thread Cert.BwdGluIdeal.nD Cert.BwdGluIdeal.τ).loc Cert.BwdGluIdeal.main_arg3) = m ((c.tc : Thread Cert.BwdGluIdeal.nD Cert.BwdGluIdeal.τ).loc Cert.BwdGluIdeal.main_arg3))
      ∧ θ_run (Cert.BwdGluReferenceIdeal.defs (F := Ideal)) (onTc (τ := Cert.BwdGluReferenceIdeal.τ) (Cert.BwdGluReferenceIdeal.main (F := Ideal))) ⟨m', fun _ => 0, g'⟩ (fun r => ∀ c : Dev Cert.BwdGluReferenceIdeal.nD,
          r.2.mem ((c.tc : Thread Cert.BwdGluReferenceIdeal.nD Cert.BwdGluReferenceIdeal.τ).loc Cert.BwdGluReferenceIdeal.main_v8) = v0 c
          ∧ r.2.mem ((c.tc : Thread Cert.BwdGluReferenceIdeal.nD Cert.BwdGluReferenceIdeal.τ).loc Cert.BwdGluReferenceIdeal.main_arg0) = m' ((c.tc : Thread Cert.BwdGluReferenceIdeal.nD Cert.BwdGluReferenceIdeal.τ).loc Cert.BwdGluReferenceIdeal.main_arg0)
          ∧ r.2.mem ((c.tc : Thread Cert.BwdGluReferenceIdeal.nD Cert.BwdGluReferenceIdeal.τ).loc Cert.BwdGluReferenceIdeal.main_arg1) = m' ((c.tc : Thread Cert.BwdGluReferenceIdeal.nD Cert.BwdGluReferenceIdeal.τ).loc Cert.BwdGluReferenceIdeal.main_arg1)
          ∧ r.2.mem ((c.tc : Thread Cert.BwdGluReferenceIdeal.nD Cert.BwdGluReferenceIdeal.τ).loc Cert.BwdGluReferenceIdeal.main_arg2) = m' ((c.tc : Thread Cert.BwdGluReferenceIdeal.nD Cert.BwdGluReferenceIdeal.τ).loc Cert.BwdGluReferenceIdeal.main_arg2)
          ∧ r.2.mem ((c.tc : Thread Cert.BwdGluReferenceIdeal.nD Cert.BwdGluReferenceIdeal.τ).loc Cert.BwdGluReferenceIdeal.main_arg3) = m' ((c.tc : Thread Cert.BwdGluReferenceIdeal.nD Cert.BwdGluReferenceIdeal.τ).loc Cert.BwdGluReferenceIdeal.main_arg3))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v4) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwFfn_DwFfnIdeal : Prop :=
  True

def algebraic_DwFfnIdeal_DwFfnReferenceIdeal [hDwFfnIdeal : Cert.DwFfnIdeal.Facts] [hDwFfnReferenceIdeal : Cert.DwFfnReferenceIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnReferenceIdeal.nD Cert.DwFfnReferenceIdeal.τ Cert.DwFfnReferenceIdeal.sig) → Buf (Elt Ideal) ℓ) (g' : Dev Cert.DwFfnReferenceIdeal.nD → PrngReg), Pre_DwFfnIdeal m →
    (∀ c : Dev Cert.DwFfnIdeal.nD,
      m' ((c.tc : Thread Cert.DwFfnReferenceIdeal.nD Cert.DwFfnReferenceIdeal.τ).loc Cert.DwFfnReferenceIdeal.main_arg0) = m ((c.tc : Thread Cert.DwFfnIdeal.nD Cert.DwFfnIdeal.τ).loc Cert.DwFfnIdeal.main_arg0)
      ∧ m' ((c.tc : Thread Cert.DwFfnReferenceIdeal.nD Cert.DwFfnReferenceIdeal.τ).loc Cert.DwFfnReferenceIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnReferenceIdeal.defs (F := Ideal)) (onTc (τ := Cert.DwFfnReferenceIdeal.τ) (Cert.DwFfnReferenceIdeal.main (F := Ideal))) ⟨m', fun _ => 0, g'⟩ (fun r => ∀ c : Dev Cert.DwFfnReferenceIdeal.nD,
          r.2.mem ((c.tc : Thread Cert.DwFfnReferenceIdeal.nD Cert.DwFfnReferenceIdeal.τ).loc Cert.DwFfnReferenceIdeal.main_v4) = v0 c
          ∧ r.2.mem ((c.tc : Thread Cert.DwFfnReferenceIdeal.nD Cert.DwFfnReferenceIdeal.τ).loc Cert.DwFfnReferenceIdeal.main_arg0) = m' ((c.tc : Thread Cert.DwFfnReferenceIdeal.nD Cert.DwFfnReferenceIdeal.τ).loc Cert.DwFfnReferenceIdeal.main_arg0)
          ∧ r.2.mem ((c.tc : Thread Cert.DwFfnReferenceIdeal.nD Cert.DwFfnReferenceIdeal.τ).loc Cert.DwFfnReferenceIdeal.main_arg1) = m' ((c.tc : Thread Cert.DwFfnReferenceIdeal.nD Cert.DwFfnReferenceIdeal.τ).loc Cert.DwFfnReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v4) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwGlu_DwGluIdeal : Prop :=
  True

def algebraic_DwGluIdeal_DwGluReferenceIdeal [hDwGluIdeal : Cert.DwGluIdeal.Facts] [hDwGluReferenceIdeal : Cert.DwGluReferenceIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluReferenceIdeal.nD Cert.DwGluReferenceIdeal.τ Cert.DwGluReferenceIdeal.sig) → Buf (Elt Ideal) ℓ) (g' : Dev Cert.DwGluReferenceIdeal.nD → PrngReg), Pre_DwGluIdeal m →
    (∀ c : Dev Cert.DwGluIdeal.nD,
      m' ((c.tc : Thread Cert.DwGluReferenceIdeal.nD Cert.DwGluReferenceIdeal.τ).loc Cert.DwGluReferenceIdeal.main_arg0) = m ((c.tc : Thread Cert.DwGluIdeal.nD Cert.DwGluIdeal.τ).loc Cert.DwGluIdeal.main_arg0)
      ∧ m' ((c.tc : Thread Cert.DwGluReferenceIdeal.nD Cert.DwGluReferenceIdeal.τ).loc Cert.DwGluReferenceIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluReferenceIdeal.defs (F := Ideal)) (onTc (τ := Cert.DwGluReferenceIdeal.τ) (Cert.DwGluReferenceIdeal.main (F := Ideal))) ⟨m', fun _ => 0, g'⟩ (fun r => ∀ c : Dev Cert.DwGluReferenceIdeal.nD,
          r.2.mem ((c.tc : Thread Cert.DwGluReferenceIdeal.nD Cert.DwGluReferenceIdeal.τ).loc Cert.DwGluReferenceIdeal.main_v4) = v0 c
          ∧ r.2.mem ((c.tc : Thread Cert.DwGluReferenceIdeal.nD Cert.DwGluReferenceIdeal.τ).loc Cert.DwGluReferenceIdeal.main_arg0) = m' ((c.tc : Thread Cert.DwGluReferenceIdeal.nD Cert.DwGluReferenceIdeal.τ).loc Cert.DwGluReferenceIdeal.main_arg0)
          ∧ r.2.mem ((c.tc : Thread Cert.DwGluReferenceIdeal.nD Cert.DwGluReferenceIdeal.τ).loc Cert.DwGluReferenceIdeal.main_arg1) = m' ((c.tc : Thread Cert.DwGluReferenceIdeal.nD Cert.DwGluReferenceIdeal.τ).loc Cert.DwGluReferenceIdeal.main_arg1))

def preserves_DwQkv_DwQkvIdeal : Prop :=
  True

def algebraic_DwQkvIdeal_DwQkvReferenceIdeal [hDwQkvIdeal : Cert.DwQkvIdeal.Facts] [hDwQkvReferenceIdeal : Cert.DwQkvReferenceIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvReferenceIdeal.nD Cert.DwQkvReferenceIdeal.τ Cert.DwQkvReferenceIdeal.sig) → Buf (Elt Ideal) ℓ) (g' : Dev Cert.DwQkvReferenceIdeal.nD → PrngReg), Pre_DwQkvIdeal m →
    (∀ c : Dev Cert.DwQkvIdeal.nD,
      m' ((c.tc : Thread Cert.DwQkvReferenceIdeal.nD Cert.DwQkvReferenceIdeal.τ).loc Cert.DwQkvReferenceIdeal.main_arg0) = m ((c.tc : Thread Cert.DwQkvIdeal.nD Cert.DwQkvIdeal.τ).loc Cert.DwQkvIdeal.main_arg0)
      ∧ m' ((c.tc : Thread Cert.DwQkvReferenceIdeal.nD Cert.DwQkvReferenceIdeal.τ).loc Cert.DwQkvReferenceIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvReferenceIdeal.defs (F := Ideal)) (onTc (τ := Cert.DwQkvReferenceIdeal.τ) (Cert.DwQkvReferenceIdeal.main (F := Ideal))) ⟨m', fun _ => 0, g'⟩ (fun r => ∀ c : Dev Cert.DwQkvReferenceIdeal.nD,
          r.2.mem ((c.tc : Thread Cert.DwQkvReferenceIdeal.nD Cert.DwQkvReferenceIdeal.τ).loc Cert.DwQkvReferenceIdeal.main_v4) = v0 c
          ∧ r.2.mem ((c.tc : Thread Cert.DwQkvReferenceIdeal.nD Cert.DwQkvReferenceIdeal.τ).loc Cert.DwQkvReferenceIdeal.main_arg0) = m' ((c.tc : Thread Cert.DwQkvReferenceIdeal.nD Cert.DwQkvReferenceIdeal.τ).loc Cert.DwQkvReferenceIdeal.main_arg0)
          ∧ r.2.mem ((c.tc : Thread Cert.DwQkvReferenceIdeal.nD Cert.DwQkvReferenceIdeal.τ).loc Cert.DwQkvReferenceIdeal.main_arg1) = m' ((c.tc : Thread Cert.DwQkvReferenceIdeal.nD Cert.DwQkvReferenceIdeal.τ).loc Cert.DwQkvReferenceIdeal.main_arg1))

def preserves_DwU_DwUIdeal : Prop :=
  True

def algebraic_DwUIdeal_DwUReferenceIdeal [hDwUIdeal : Cert.DwUIdeal.Facts] [hDwUReferenceIdeal : Cert.DwUReferenceIdeal.Facts] : Prop :=
  ∀ (m : (ℓ : Loc Cert.DwUIdeal.nD Cert.DwUIdeal.τ Cert.DwUIdeal.sig) → Buf (Elt Ideal) ℓ) (g : Dev Cert.DwUIdeal.nD → PrngReg)
    (m' : (ℓ : Loc Cert.DwUReferenceIdeal.nD Cert.DwUReferenceIdeal.τ Cert.DwUReferenceIdeal.sig) → Buf (Elt Ideal) ℓ) (g' : Dev Cert.DwUReferenceIdeal.nD → PrngReg), Pre_DwUIdeal m →
    (∀ c : Dev Cert.DwUIdeal.nD,
      m' ((c.tc : Thread Cert.DwUReferenceIdeal.nD Cert.DwUReferenceIdeal.τ).loc Cert.DwUReferenceIdeal.main_arg0) = m ((c.tc : Thread Cert.DwUIdeal.nD Cert.DwUIdeal.τ).loc Cert.DwUIdeal.main_arg0)
      ∧ m' ((c.tc : Thread Cert.DwUReferenceIdeal.nD Cert.DwUReferenceIdeal.τ).loc Cert.DwUReferenceIdeal.main_arg1) = m ((c.tc : Thread Cert.DwUIdeal.nD Cert.DwUIdeal.τ).loc Cert.DwUIdeal.main_arg1)) →
    ∃ (v0 : (c : Dev Cert.DwUIdeal.nD) → Buf (Elt Ideal) ((c.tc : Thread Cert.DwUIdeal.nD Cert.DwUIdeal.τ).loc Cert.DwUIdeal.main_v0)),
      θ_run (Cert.DwUIdeal.defs (F := Ideal)) (onTc (τ := Cert.DwUIdeal.τ) (Cert.DwUIdeal.main (F := Ideal))) ⟨m, fun _ => 0, g⟩ (fun r => ∀ c : Dev Cert.DwUIdeal.nD,
          r.2.mem ((c.tc : Thread Cert.DwUIdeal.nD Cert.DwUIdeal.τ).loc Cert.DwUIdeal.main_v0) = v0 c
          ∧ r.2.mem ((c.tc : Thread Cert.DwUIdeal.nD Cert.DwUIdeal.τ).loc Cert.DwUIdeal.main_arg0) = m ((c.tc : Thread Cert.DwUIdeal.nD Cert.DwUIdeal.τ).loc Cert.DwUIdeal.main_arg0)
          ∧ r.2.mem ((c.tc : Thread Cert.DwUIdeal.nD Cert.DwUIdeal.τ).loc Cert.DwUIdeal.main_arg1) = m ((c.tc : Thread Cert.DwUIdeal.nD Cert.DwUIdeal.τ).loc Cert.DwUIdeal.main_arg1))
      ∧ θ_run (Cert.DwUReferenceIdeal.defs (F := Ideal)) (onTc (τ := Cert.DwUReferenceIdeal.τ) (Cert.DwUReferenceIdeal.main (F := Ideal))) ⟨m', fun _ => 0, g'⟩ (fun r => ∀ c : Dev Cert.DwUReferenceIdeal.nD,
          r.2.mem ((c.tc : Thread Cert.DwUReferenceIdeal.nD Cert.DwUReferenceIdeal.τ).loc Cert.DwUReferenceIdeal.main_v3) = v0 c
          ∧ r.2.mem ((c.tc : Thread Cert.DwUReferenceIdeal.nD Cert.DwUReferenceIdeal.τ).loc Cert.DwUReferenceIdeal.main_arg0) = m' ((c.tc : Thread Cert.DwUReferenceIdeal.nD Cert.DwUReferenceIdeal.τ).loc Cert.DwUReferenceIdeal.main_arg0)
          ∧ r.2.mem ((c.tc : Thread Cert.DwUReferenceIdeal.nD Cert.DwUReferenceIdeal.τ).loc Cert.DwUReferenceIdeal.main_arg1) = m' ((c.tc : Thread Cert.DwUReferenceIdeal.nD Cert.DwUReferenceIdeal.τ).loc Cert.DwUReferenceIdeal.main_arg1))

def preserves_DwGates_DwGatesIdeal : Prop :=
  True

def algebraic_DwGatesIdeal_DwGatesReferenceIdeal [hDwGatesIdeal : Cert.DwGatesIdeal.Facts] [hDwGatesReferenceIdeal : Cert.DwGatesReferenceIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg)
    (m' : (ℓ : Loc Cert.DwGatesReferenceIdeal.nD Cert.DwGatesReferenceIdeal.τ Cert.DwGatesReferenceIdeal.sig) → Buf (Elt Ideal) ℓ) (g' : Dev Cert.DwGatesReferenceIdeal.nD → PrngReg), Pre_DwGatesIdeal m →
    (∀ c : Dev Cert.DwGatesIdeal.nD,
      m' ((c.tc : Thread Cert.DwGatesReferenceIdeal.nD Cert.DwGatesReferenceIdeal.τ).loc Cert.DwGatesReferenceIdeal.main_arg0) = m ((c.tc : Thread Cert.DwGatesIdeal.nD Cert.DwGatesIdeal.τ).loc Cert.DwGatesIdeal.main_arg0)
      ∧ m' ((c.tc : Thread Cert.DwGatesReferenceIdeal.nD Cert.DwGatesReferenceIdeal.τ).loc Cert.DwGatesReferenceIdeal.main_arg1) = m ((c.tc : Thread Cert.DwGatesIdeal.nD Cert.DwGatesIdeal.τ).loc Cert.DwGatesIdeal.main_arg1)) →
    ∃ (v0 : (c : Dev Cert.DwGatesIdeal.nD) → Buf (Elt Ideal) ((c.tc : Thread Cert.DwGatesIdeal.nD Cert.DwGatesIdeal.τ).loc Cert.DwGatesIdeal.main_v0)),
      θ_run (Cert.DwGatesIdeal.defs (F := Ideal)) (onTc (τ := Cert.DwGatesIdeal.τ) (Cert.DwGatesIdeal.main (F := Ideal))) ⟨m, fun _ => 0, g⟩ (fun r => ∀ c : Dev Cert.DwGatesIdeal.nD,
          r.2.mem ((c.tc : Thread Cert.DwGatesIdeal.nD Cert.DwGatesIdeal.τ).loc Cert.DwGatesIdeal.main_v0) = v0 c
          ∧ r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
          ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ θ_run (Cert.DwGatesReferenceIdeal.defs (F := Ideal)) (onTc (τ := Cert.DwGatesReferenceIdeal.τ) (Cert.DwGatesReferenceIdeal.main (F := Ideal))) ⟨m', fun _ => 0, g'⟩ (fun r => ∀ c : Dev Cert.DwGatesReferenceIdeal.nD,
          r.2.mem ((c.tc : Thread Cert.DwGatesReferenceIdeal.nD Cert.DwGatesReferenceIdeal.τ).loc Cert.DwGatesReferenceIdeal.main_v4) = v0 c
          ∧ r.2.mem ((c.tc : Thread Cert.DwGatesReferenceIdeal.nD Cert.DwGatesReferenceIdeal.τ).loc Cert.DwGatesReferenceIdeal.main_arg0) = m' ((c.tc : Thread Cert.DwGatesReferenceIdeal.nD Cert.DwGatesReferenceIdeal.τ).loc Cert.DwGatesReferenceIdeal.main_arg0)
          ∧ r.2.mem ((c.tc : Thread Cert.DwGatesReferenceIdeal.nD Cert.DwGatesReferenceIdeal.τ).loc Cert.DwGatesReferenceIdeal.main_arg1) = m' ((c.tc : Thread Cert.DwGatesReferenceIdeal.nD Cert.DwGatesReferenceIdeal.τ).loc Cert.DwGatesReferenceIdeal.main_arg1))

def preserves_RmsIn_RmsInIdeal : Prop :=
  True

def algebraic_RmsInIdeal_RmsInReferenceIdeal [hRmsInIdeal : Cert.RmsInIdeal.Facts] [hRmsInReferenceIdeal : Cert.RmsInReferenceIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInReferenceIdeal.nD Cert.RmsInReferenceIdeal.τ Cert.RmsInReferenceIdeal.sig) → Buf (Elt Ideal) ℓ) (g' : Dev Cert.RmsInReferenceIdeal.nD → PrngReg), Pre_RmsInIdeal m →
    (∀ c : Dev Cert.RmsInIdeal.nD,
      m' ((c.tc : Thread Cert.RmsInReferenceIdeal.nD Cert.RmsInReferenceIdeal.τ).loc Cert.RmsInReferenceIdeal.main_arg0) = m ((c.tc : Thread Cert.RmsInIdeal.nD Cert.RmsInIdeal.τ).loc Cert.RmsInIdeal.main_arg0)
      ∧ m' ((c.tc : Thread Cert.RmsInReferenceIdeal.nD Cert.RmsInReferenceIdeal.τ).loc Cert.RmsInReferenceIdeal.main_arg1) = m ((c.tc : Thread Cert.RmsInIdeal.nD Cert.RmsInIdeal.τ).loc Cert.RmsInIdeal.main_arg1)) →
    ∃ (v0 : (c : Dev Cert.RmsInIdeal.nD) → Buf (Elt Ideal) ((c.tc : Thread Cert.RmsInIdeal.nD Cert.RmsInIdeal.τ).loc Cert.RmsInIdeal.main_v0)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ θ_run (Cert.RmsInReferenceIdeal.defs (F := Ideal)) (onTc (τ := Cert.RmsInReferenceIdeal.τ) (Cert.RmsInReferenceIdeal.main (F := Ideal))) ⟨m', fun _ => 0, g'⟩ (fun r => ∀ c : Dev Cert.RmsInReferenceIdeal.nD,
          r.2.mem ((c.tc : Thread Cert.RmsInReferenceIdeal.nD Cert.RmsInReferenceIdeal.τ).loc Cert.RmsInReferenceIdeal.main_v12) = v0 c
          ∧ r.2.mem ((c.tc : Thread Cert.RmsInReferenceIdeal.nD Cert.RmsInReferenceIdeal.τ).loc Cert.RmsInReferenceIdeal.main_arg0) = m' ((c.tc : Thread Cert.RmsInReferenceIdeal.nD Cert.RmsInReferenceIdeal.τ).loc Cert.RmsInReferenceIdeal.main_arg0)
          ∧ r.2.mem ((c.tc : Thread Cert.RmsInReferenceIdeal.nD Cert.RmsInReferenceIdeal.τ).loc Cert.RmsInReferenceIdeal.main_arg1) = m' ((c.tc : Thread Cert.RmsInReferenceIdeal.nD Cert.RmsInReferenceIdeal.τ).loc Cert.RmsInReferenceIdeal.main_arg1))

def preserves_RmsMid_RmsMidIdeal : Prop :=
  True

def algebraic_RmsMidIdeal_RmsMidReferenceIdeal [hRmsMidIdeal : Cert.RmsMidIdeal.Facts] [hRmsMidReferenceIdeal : Cert.RmsMidReferenceIdeal.Facts] : Prop :=
  ∀ (m : (ℓ : Loc Cert.RmsMidIdeal.nD Cert.RmsMidIdeal.τ Cert.RmsMidIdeal.sig) → Buf (Elt Ideal) ℓ) (g : Dev Cert.RmsMidIdeal.nD → PrngReg)
    (m' : (ℓ : Loc Cert.RmsMidReferenceIdeal.nD Cert.RmsMidReferenceIdeal.τ Cert.RmsMidReferenceIdeal.sig) → Buf (Elt Ideal) ℓ) (g' : Dev Cert.RmsMidReferenceIdeal.nD → PrngReg), Pre_RmsMidIdeal m →
    (∀ c : Dev Cert.RmsMidIdeal.nD,
      m' ((c.tc : Thread Cert.RmsMidReferenceIdeal.nD Cert.RmsMidReferenceIdeal.τ).loc Cert.RmsMidReferenceIdeal.main_arg0) = m ((c.tc : Thread Cert.RmsMidIdeal.nD Cert.RmsMidIdeal.τ).loc Cert.RmsMidIdeal.main_arg0)
      ∧ m' ((c.tc : Thread Cert.RmsMidReferenceIdeal.nD Cert.RmsMidReferenceIdeal.τ).loc Cert.RmsMidReferenceIdeal.main_arg1) = m ((c.tc : Thread Cert.RmsMidIdeal.nD Cert.RmsMidIdeal.τ).loc Cert.RmsMidIdeal.main_arg1)
      ∧ m' ((c.tc : Thread Cert.RmsMidReferenceIdeal.nD Cert.RmsMidReferenceIdeal.τ).loc Cert.RmsMidReferenceIdeal.main_arg2) = m ((c.tc : Thread Cert.RmsMidIdeal.nD Cert.RmsMidIdeal.τ).loc Cert.RmsMidIdeal.main_arg2)
      ∧ m' ((c.tc : Thread Cert.RmsMidReferenceIdeal.nD Cert.RmsMidReferenceIdeal.τ).loc Cert.RmsMidReferenceIdeal.main_arg3) = m ((c.tc : Thread Cert.RmsMidIdeal.nD Cert.RmsMidIdeal.τ).loc Cert.RmsMidIdeal.main_arg3)) →
    ∃ (v0 : (c : Dev Cert.RmsMidIdeal.nD) → Buf (Elt Ideal) ((c.tc : Thread Cert.RmsMidIdeal.nD Cert.RmsMidIdeal.τ).loc Cert.RmsMidIdeal.main_v0_0)) (v1 : (c : Dev Cert.RmsMidIdeal.nD) → Buf (Elt Ideal) ((c.tc : Thread Cert.RmsMidIdeal.nD Cert.RmsMidIdeal.τ).loc Cert.RmsMidIdeal.main_v0_1)),
      θ_run (Cert.RmsMidIdeal.defs (F := Ideal)) (onTc (τ := Cert.RmsMidIdeal.τ) (Cert.RmsMidIdeal.main (F := Ideal))) ⟨m, fun _ => 0, g⟩ (fun r => ∀ c : Dev Cert.RmsMidIdeal.nD,
          r.2.mem ((c.tc : Thread Cert.RmsMidIdeal.nD Cert.RmsMidIdeal.τ).loc Cert.RmsMidIdeal.main_v0_0) = v0 c
          ∧ r.2.mem ((c.tc : Thread Cert.RmsMidIdeal.nD Cert.RmsMidIdeal.τ).loc Cert.RmsMidIdeal.main_v0_1) = v1 c
          ∧ r.2.mem ((c.tc : Thread Cert.RmsMidIdeal.nD Cert.RmsMidIdeal.τ).loc Cert.RmsMidIdeal.main_arg0) = m ((c.tc : Thread Cert.RmsMidIdeal.nD Cert.RmsMidIdeal.τ).loc Cert.RmsMidIdeal.main_arg0)
          ∧ r.2.mem ((c.tc : Thread Cert.RmsMidIdeal.nD Cert.RmsMidIdeal.τ).loc Cert.RmsMidIdeal.main_arg1) = m ((c.tc : Thread Cert.RmsMidIdeal.nD Cert.RmsMidIdeal.τ).loc Cert.RmsMidIdeal.main_arg1)
          ∧ r.2.mem ((c.tc : Thread Cert.RmsMidIdeal.nD Cert.RmsMidIdeal.τ).loc Cert.RmsMidIdeal.main_arg2) = m ((c.tc : Thread Cert.RmsMidIdeal.nD Cert.RmsMidIdeal.τ).loc Cert.RmsMidIdeal.main_arg2)
          ∧ r.2.mem ((c.tc : Thread Cert.RmsMidIdeal.nD Cert.RmsMidIdeal.τ).loc Cert.RmsMidIdeal.main_arg3) = m ((c.tc : Thread Cert.RmsMidIdeal.nD Cert.RmsMidIdeal.τ).loc Cert.RmsMidIdeal.main_arg3))
      ∧ θ_run (Cert.RmsMidReferenceIdeal.defs (F := Ideal)) (onTc (τ := Cert.RmsMidReferenceIdeal.τ) (Cert.RmsMidReferenceIdeal.main (F := Ideal))) ⟨m', fun _ => 0, g'⟩ (fun r => ∀ c : Dev Cert.RmsMidReferenceIdeal.nD,
          r.2.mem ((c.tc : Thread Cert.RmsMidReferenceIdeal.nD Cert.RmsMidReferenceIdeal.τ).loc Cert.RmsMidReferenceIdeal.main_v12) = v0 c
          ∧ r.2.mem ((c.tc : Thread Cert.RmsMidReferenceIdeal.nD Cert.RmsMidReferenceIdeal.τ).loc Cert.RmsMidReferenceIdeal.main_v25) = v1 c
          ∧ r.2.mem ((c.tc : Thread Cert.RmsMidReferenceIdeal.nD Cert.RmsMidReferenceIdeal.τ).loc Cert.RmsMidReferenceIdeal.main_arg0) = m' ((c.tc : Thread Cert.RmsMidReferenceIdeal.nD Cert.RmsMidReferenceIdeal.τ).loc Cert.RmsMidReferenceIdeal.main_arg0)
          ∧ r.2.mem ((c.tc : Thread Cert.RmsMidReferenceIdeal.nD Cert.RmsMidReferenceIdeal.τ).loc Cert.RmsMidReferenceIdeal.main_arg1) = m' ((c.tc : Thread Cert.RmsMidReferenceIdeal.nD Cert.RmsMidReferenceIdeal.τ).loc Cert.RmsMidReferenceIdeal.main_arg1)
          ∧ r.2.mem ((c.tc : Thread Cert.RmsMidReferenceIdeal.nD Cert.RmsMidReferenceIdeal.τ).loc Cert.RmsMidReferenceIdeal.main_arg2) = m' ((c.tc : Thread Cert.RmsMidReferenceIdeal.nD Cert.RmsMidReferenceIdeal.τ).loc Cert.RmsMidReferenceIdeal.main_arg2)
          ∧ r.2.mem ((c.tc : Thread Cert.RmsMidReferenceIdeal.nD Cert.RmsMidReferenceIdeal.τ).loc Cert.RmsMidReferenceIdeal.main_arg3) = m' ((c.tc : Thread Cert.RmsMidReferenceIdeal.nD Cert.RmsMidReferenceIdeal.τ).loc Cert.RmsMidReferenceIdeal.main_arg3))

def preserves_RmsMidBwd_RmsMidBwdIdeal : Prop :=
  True

def algebraic_RmsMidBwdIdeal_RmsMidBwdReferenceIdeal [hRmsMidBwdIdeal : Cert.RmsMidBwdIdeal.Facts] [hRmsMidBwdReferenceIdeal : Cert.RmsMidBwdReferenceIdeal.Facts] : Prop :=
  ∀ (m : (ℓ : Loc Cert.RmsMidBwdIdeal.nD Cert.RmsMidBwdIdeal.τ Cert.RmsMidBwdIdeal.sig) → Buf (Elt Ideal) ℓ) (g : Dev Cert.RmsMidBwdIdeal.nD → PrngReg)
    (m' : (ℓ : Loc Cert.RmsMidBwdReferenceIdeal.nD Cert.RmsMidBwdReferenceIdeal.τ Cert.RmsMidBwdReferenceIdeal.sig) → Buf (Elt Ideal) ℓ) (g' : Dev Cert.RmsMidBwdReferenceIdeal.nD → PrngReg), Pre_RmsMidBwdIdeal m →
    (∀ c : Dev Cert.RmsMidBwdIdeal.nD,
      m' ((c.tc : Thread Cert.RmsMidBwdReferenceIdeal.nD Cert.RmsMidBwdReferenceIdeal.τ).loc Cert.RmsMidBwdReferenceIdeal.main_arg0) = m ((c.tc : Thread Cert.RmsMidBwdIdeal.nD Cert.RmsMidBwdIdeal.τ).loc Cert.RmsMidBwdIdeal.main_arg0)
      ∧ m' ((c.tc : Thread Cert.RmsMidBwdReferenceIdeal.nD Cert.RmsMidBwdReferenceIdeal.τ).loc Cert.RmsMidBwdReferenceIdeal.main_arg1) = m ((c.tc : Thread Cert.RmsMidBwdIdeal.nD Cert.RmsMidBwdIdeal.τ).loc Cert.RmsMidBwdIdeal.main_arg1)
      ∧ m' ((c.tc : Thread Cert.RmsMidBwdReferenceIdeal.nD Cert.RmsMidBwdReferenceIdeal.τ).loc Cert.RmsMidBwdReferenceIdeal.main_arg2) = m ((c.tc : Thread Cert.RmsMidBwdIdeal.nD Cert.RmsMidBwdIdeal.τ).loc Cert.RmsMidBwdIdeal.main_arg2)
      ∧ m' ((c.tc : Thread Cert.RmsMidBwdReferenceIdeal.nD Cert.RmsMidBwdReferenceIdeal.τ).loc Cert.RmsMidBwdReferenceIdeal.main_arg3) = m ((c.tc : Thread Cert.RmsMidBwdIdeal.nD Cert.RmsMidBwdIdeal.τ).loc Cert.RmsMidBwdIdeal.main_arg3)
      ∧ m' ((c.tc : Thread Cert.RmsMidBwdReferenceIdeal.nD Cert.RmsMidBwdReferenceIdeal.τ).loc Cert.RmsMidBwdReferenceIdeal.main_arg4) = m ((c.tc : Thread Cert.RmsMidBwdIdeal.nD Cert.RmsMidBwdIdeal.τ).loc Cert.RmsMidBwdIdeal.main_arg4)
      ∧ m' ((c.tc : Thread Cert.RmsMidBwdReferenceIdeal.nD Cert.RmsMidBwdReferenceIdeal.τ).loc Cert.RmsMidBwdReferenceIdeal.main_arg5) = m ((c.tc : Thread Cert.RmsMidBwdIdeal.nD Cert.RmsMidBwdIdeal.τ).loc Cert.RmsMidBwdIdeal.main_arg5)) →
    ∃ (v0 : (c : Dev Cert.RmsMidBwdIdeal.nD) → Buf (Elt Ideal) ((c.tc : Thread Cert.RmsMidBwdIdeal.nD Cert.RmsMidBwdIdeal.τ).loc Cert.RmsMidBwdIdeal.main_v0_0)) (v1 : (c : Dev Cert.RmsMidBwdIdeal.nD) → Buf (Elt Ideal) ((c.tc : Thread Cert.RmsMidBwdIdeal.nD Cert.RmsMidBwdIdeal.τ).loc Cert.RmsMidBwdIdeal.main_v0_1)) (v2 : (c : Dev Cert.RmsMidBwdIdeal.nD) → Buf (Elt Ideal) ((c.tc : Thread Cert.RmsMidBwdIdeal.nD Cert.RmsMidBwdIdeal.τ).loc Cert.RmsMidBwdIdeal.main_v0_2)) (v3 : (c : Dev Cert.RmsMidBwdIdeal.nD) → Buf (Elt Ideal) ((c.tc : Thread Cert.RmsMidBwdIdeal.nD Cert.RmsMidBwdIdeal.τ).loc Cert.RmsMidBwdIdeal.main_v0_3)),
      θ_run (Cert.RmsMidBwdIdeal.defs (F := Ideal)) (onTc (τ := Cert.RmsMidBwdIdeal.τ) (Cert.RmsMidBwdIdeal.main (F := Ideal))) ⟨m, fun _ => 0, g⟩ (fun r => ∀ c : Dev Cert.RmsMidBwdIdeal.nD,
          r.2.mem ((c.tc : Thread Cert.RmsMidBwdIdeal.nD Cert.RmsMidBwdIdeal.τ).loc Cert.RmsMidBwdIdeal.main_v0_0) = v0 c
          ∧ r.2.mem ((c.tc : Thread Cert.RmsMidBwdIdeal.nD Cert.RmsMidBwdIdeal.τ).loc Cert.RmsMidBwdIdeal.main_v0_1) = v1 c
          ∧ r.2.mem ((c.tc : Thread Cert.RmsMidBwdIdeal.nD Cert.RmsMidBwdIdeal.τ).loc Cert.RmsMidBwdIdeal.main_v0_2) = v2 c
          ∧ r.2.mem ((c.tc : Thread Cert.RmsMidBwdIdeal.nD Cert.RmsMidBwdIdeal.τ).loc Cert.RmsMidBwdIdeal.main_v0_3) = v3 c
          ∧ r.2.mem ((c.tc : Thread Cert.RmsMidBwdIdeal.nD Cert.RmsMidBwdIdeal.τ).loc Cert.RmsMidBwdIdeal.main_arg0) = m ((c.tc : Thread Cert.RmsMidBwdIdeal.nD Cert.RmsMidBwdIdeal.τ).loc Cert.RmsMidBwdIdeal.main_arg0)
          ∧ r.2.mem ((c.tc : Thread Cert.RmsMidBwdIdeal.nD Cert.RmsMidBwdIdeal.τ).loc Cert.RmsMidBwdIdeal.main_arg1) = m ((c.tc : Thread Cert.RmsMidBwdIdeal.nD Cert.RmsMidBwdIdeal.τ).loc Cert.RmsMidBwdIdeal.main_arg1)
          ∧ r.2.mem ((c.tc : Thread Cert.RmsMidBwdIdeal.nD Cert.RmsMidBwdIdeal.τ).loc Cert.RmsMidBwdIdeal.main_arg2) = m ((c.tc : Thread Cert.RmsMidBwdIdeal.nD Cert.RmsMidBwdIdeal.τ).loc Cert.RmsMidBwdIdeal.main_arg2)
          ∧ r.2.mem ((c.tc : Thread Cert.RmsMidBwdIdeal.nD Cert.RmsMidBwdIdeal.τ).loc Cert.RmsMidBwdIdeal.main_arg3) = m ((c.tc : Thread Cert.RmsMidBwdIdeal.nD Cert.RmsMidBwdIdeal.τ).loc Cert.RmsMidBwdIdeal.main_arg3)
          ∧ r.2.mem ((c.tc : Thread Cert.RmsMidBwdIdeal.nD Cert.RmsMidBwdIdeal.τ).loc Cert.RmsMidBwdIdeal.main_arg4) = m ((c.tc : Thread Cert.RmsMidBwdIdeal.nD Cert.RmsMidBwdIdeal.τ).loc Cert.RmsMidBwdIdeal.main_arg4)
          ∧ r.2.mem ((c.tc : Thread Cert.RmsMidBwdIdeal.nD Cert.RmsMidBwdIdeal.τ).loc Cert.RmsMidBwdIdeal.main_arg5) = m ((c.tc : Thread Cert.RmsMidBwdIdeal.nD Cert.RmsMidBwdIdeal.τ).loc Cert.RmsMidBwdIdeal.main_arg5))
      ∧ θ_run (Cert.RmsMidBwdReferenceIdeal.defs (F := Ideal)) (onTc (τ := Cert.RmsMidBwdReferenceIdeal.τ) (Cert.RmsMidBwdReferenceIdeal.main (F := Ideal))) ⟨m', fun _ => 0, g'⟩ (fun r => ∀ c : Dev Cert.RmsMidBwdReferenceIdeal.nD,
          r.2.mem ((c.tc : Thread Cert.RmsMidBwdReferenceIdeal.nD Cert.RmsMidBwdReferenceIdeal.τ).loc Cert.RmsMidBwdReferenceIdeal.main_v34) = v0 c
          ∧ r.2.mem ((c.tc : Thread Cert.RmsMidBwdReferenceIdeal.nD Cert.RmsMidBwdReferenceIdeal.τ).loc Cert.RmsMidBwdReferenceIdeal.main_v69) = v1 c
          ∧ r.2.mem ((c.tc : Thread Cert.RmsMidBwdReferenceIdeal.nD Cert.RmsMidBwdReferenceIdeal.τ).loc Cert.RmsMidBwdReferenceIdeal.main_v52) = v2 c
          ∧ r.2.mem ((c.tc : Thread Cert.RmsMidBwdReferenceIdeal.nD Cert.RmsMidBwdReferenceIdeal.τ).loc Cert.RmsMidBwdReferenceIdeal.main_v17) = v3 c
          ∧ r.2.mem ((c.tc : Thread Cert.RmsMidBwdReferenceIdeal.nD Cert.RmsMidBwdReferenceIdeal.τ).loc Cert.RmsMidBwdReferenceIdeal.main_arg0) = m' ((c.tc : Thread Cert.RmsMidBwdReferenceIdeal.nD Cert.RmsMidBwdReferenceIdeal.τ).loc Cert.RmsMidBwdReferenceIdeal.main_arg0)
          ∧ r.2.mem ((c.tc : Thread Cert.RmsMidBwdReferenceIdeal.nD Cert.RmsMidBwdReferenceIdeal.τ).loc Cert.RmsMidBwdReferenceIdeal.main_arg1) = m' ((c.tc : Thread Cert.RmsMidBwdReferenceIdeal.nD Cert.RmsMidBwdReferenceIdeal.τ).loc Cert.RmsMidBwdReferenceIdeal.main_arg1)
          ∧ r.2.mem ((c.tc : Thread Cert.RmsMidBwdReferenceIdeal.nD Cert.RmsMidBwdReferenceIdeal.τ).loc Cert.RmsMidBwdReferenceIdeal.main_arg2) = m' ((c.tc : Thread Cert.RmsMidBwdReferenceIdeal.nD Cert.RmsMidBwdReferenceIdeal.τ).loc Cert.RmsMidBwdReferenceIdeal.main_arg2)
          ∧ r.2.mem ((c.tc : Thread Cert.RmsMidBwdReferenceIdeal.nD Cert.RmsMidBwdReferenceIdeal.τ).loc Cert.RmsMidBwdReferenceIdeal.main_arg3) = m' ((c.tc : Thread Cert.RmsMidBwdReferenceIdeal.nD Cert.RmsMidBwdReferenceIdeal.τ).loc Cert.RmsMidBwdReferenceIdeal.main_arg3)
          ∧ r.2.mem ((c.tc : Thread Cert.RmsMidBwdReferenceIdeal.nD Cert.RmsMidBwdReferenceIdeal.τ).loc Cert.RmsMidBwdReferenceIdeal.main_arg4) = m' ((c.tc : Thread Cert.RmsMidBwdReferenceIdeal.nD Cert.RmsMidBwdReferenceIdeal.τ).loc Cert.RmsMidBwdReferenceIdeal.main_arg4)
          ∧ r.2.mem ((c.tc : Thread Cert.RmsMidBwdReferenceIdeal.nD Cert.RmsMidBwdReferenceIdeal.τ).loc Cert.RmsMidBwdReferenceIdeal.main_arg5) = m' ((c.tc : Thread Cert.RmsMidBwdReferenceIdeal.nD Cert.RmsMidBwdReferenceIdeal.τ).loc Cert.RmsMidBwdReferenceIdeal.main_arg5))

def preserves_SsmGelu_SsmGeluIdeal : Prop :=
  True

def algebraic_SsmGeluIdeal_SsmGeluReferenceIdeal [hSsmGeluIdeal : Cert.SsmGeluIdeal.Facts] [hSsmGeluReferenceIdeal : Cert.SsmGeluReferenceIdeal.Facts] : Prop :=
  ∀ (m : (ℓ : Loc Cert.SsmGeluIdeal.nD Cert.SsmGeluIdeal.τ Cert.SsmGeluIdeal.sig) → Buf (Elt Ideal) ℓ) (g : Dev Cert.SsmGeluIdeal.nD → PrngReg)
    (m' : (ℓ : Loc Cert.SsmGeluReferenceIdeal.nD Cert.SsmGeluReferenceIdeal.τ Cert.SsmGeluReferenceIdeal.sig) → Buf (Elt Ideal) ℓ) (g' : Dev Cert.SsmGeluReferenceIdeal.nD → PrngReg), Pre_SsmGeluIdeal m →
    (∀ c : Dev Cert.SsmGeluIdeal.nD,
      m' ((c.tc : Thread Cert.SsmGeluReferenceIdeal.nD Cert.SsmGeluReferenceIdeal.τ).loc Cert.SsmGeluReferenceIdeal.main_arg0) = m ((c.tc : Thread Cert.SsmGeluIdeal.nD Cert.SsmGeluIdeal.τ).loc Cert.SsmGeluIdeal.main_arg0)
      ∧ m' ((c.tc : Thread Cert.SsmGeluReferenceIdeal.nD Cert.SsmGeluReferenceIdeal.τ).loc Cert.SsmGeluReferenceIdeal.main_arg1) = m ((c.tc : Thread Cert.SsmGeluIdeal.nD Cert.SsmGeluIdeal.τ).loc Cert.SsmGeluIdeal.main_arg1)
      ∧ m' ((c.tc : Thread Cert.SsmGeluReferenceIdeal.nD Cert.SsmGeluReferenceIdeal.τ).loc Cert.SsmGeluReferenceIdeal.main_arg2) = m ((c.tc : Thread Cert.SsmGeluIdeal.nD Cert.SsmGeluIdeal.τ).loc Cert.SsmGeluIdeal.main_arg2)) →
    ∃ (v0 : (c : Dev Cert.SsmGeluIdeal.nD) → Buf (Elt Ideal) ((c.tc : Thread Cert.SsmGeluIdeal.nD Cert.SsmGeluIdeal.τ).loc Cert.SsmGeluIdeal.main_v0_0)) (v1 : (c : Dev Cert.SsmGeluIdeal.nD) → Buf (Elt Ideal) ((c.tc : Thread Cert.SsmGeluIdeal.nD Cert.SsmGeluIdeal.τ).loc Cert.SsmGeluIdeal.main_v0_1)),
      θ_run (Cert.SsmGeluIdeal.defs (F := Ideal)) (onTc (τ := Cert.SsmGeluIdeal.τ) (Cert.SsmGeluIdeal.main (F := Ideal))) ⟨m, fun _ => 0, g⟩ (fun r => ∀ c : Dev Cert.SsmGeluIdeal.nD,
          r.2.mem ((c.tc : Thread Cert.SsmGeluIdeal.nD Cert.SsmGeluIdeal.τ).loc Cert.SsmGeluIdeal.main_v0_0) = v0 c
          ∧ r.2.mem ((c.tc : Thread Cert.SsmGeluIdeal.nD Cert.SsmGeluIdeal.τ).loc Cert.SsmGeluIdeal.main_v0_1) = v1 c
          ∧ r.2.mem ((c.tc : Thread Cert.SsmGeluIdeal.nD Cert.SsmGeluIdeal.τ).loc Cert.SsmGeluIdeal.main_arg0) = m ((c.tc : Thread Cert.SsmGeluIdeal.nD Cert.SsmGeluIdeal.τ).loc Cert.SsmGeluIdeal.main_arg0)
          ∧ r.2.mem ((c.tc : Thread Cert.SsmGeluIdeal.nD Cert.SsmGeluIdeal.τ).loc Cert.SsmGeluIdeal.main_arg1) = m ((c.tc : Thread Cert.SsmGeluIdeal.nD Cert.SsmGeluIdeal.τ).loc Cert.SsmGeluIdeal.main_arg1)
          ∧ r.2.mem ((c.tc : Thread Cert.SsmGeluIdeal.nD Cert.SsmGeluIdeal.τ).loc Cert.SsmGeluIdeal.main_arg2) = m ((c.tc : Thread Cert.SsmGeluIdeal.nD Cert.SsmGeluIdeal.τ).loc Cert.SsmGeluIdeal.main_arg2))
      ∧ θ_run (Cert.SsmGeluReferenceIdeal.defs (F := Ideal)) (onTc (τ := Cert.SsmGeluReferenceIdeal.τ) (Cert.SsmGeluReferenceIdeal.main (F := Ideal))) ⟨m', fun _ => 0, g'⟩ (fun r => ∀ c : Dev Cert.SsmGeluReferenceIdeal.nD,
          r.2.mem ((c.tc : Thread Cert.SsmGeluReferenceIdeal.nD Cert.SsmGeluReferenceIdeal.τ).loc Cert.SsmGeluReferenceIdeal.main_v16) = v0 c
          ∧ r.2.mem ((c.tc : Thread Cert.SsmGeluReferenceIdeal.nD Cert.SsmGeluReferenceIdeal.τ).loc Cert.SsmGeluReferenceIdeal.main_v2) = v1 c
          ∧ r.2.mem ((c.tc : Thread Cert.SsmGeluReferenceIdeal.nD Cert.SsmGeluReferenceIdeal.τ).loc Cert.SsmGeluReferenceIdeal.main_arg0) = m' ((c.tc : Thread Cert.SsmGeluReferenceIdeal.nD Cert.SsmGeluReferenceIdeal.τ).loc Cert.SsmGeluReferenceIdeal.main_arg0)
          ∧ r.2.mem ((c.tc : Thread Cert.SsmGeluReferenceIdeal.nD Cert.SsmGeluReferenceIdeal.τ).loc Cert.SsmGeluReferenceIdeal.main_arg1) = m' ((c.tc : Thread Cert.SsmGeluReferenceIdeal.nD Cert.SsmGeluReferenceIdeal.τ).loc Cert.SsmGeluReferenceIdeal.main_arg1)
          ∧ r.2.mem ((c.tc : Thread Cert.SsmGeluReferenceIdeal.nD Cert.SsmGeluReferenceIdeal.τ).loc Cert.SsmGeluReferenceIdeal.main_arg2) = m' ((c.tc : Thread Cert.SsmGeluReferenceIdeal.nD Cert.SsmGeluReferenceIdeal.τ).loc Cert.SsmGeluReferenceIdeal.main_arg2))

def preserves_GateMerge_GateMergeIdeal : Prop :=
  True

def algebraic_GateMergeIdeal_GateMergeReferenceIdeal [hGateMergeIdeal : Cert.GateMergeIdeal.Facts] [hGateMergeReferenceIdeal : Cert.GateMergeReferenceIdeal.Facts] : Prop :=
  ∀ (m : (ℓ : Loc Cert.GateMergeIdeal.nD Cert.GateMergeIdeal.τ Cert.GateMergeIdeal.sig) → Buf (Elt Ideal) ℓ) (g : Dev Cert.GateMergeIdeal.nD → PrngReg)
    (m' : (ℓ : Loc Cert.GateMergeReferenceIdeal.nD Cert.GateMergeReferenceIdeal.τ Cert.GateMergeReferenceIdeal.sig) → Buf (Elt Ideal) ℓ) (g' : Dev Cert.GateMergeReferenceIdeal.nD → PrngReg), Pre_GateMergeIdeal m →
    (∀ c : Dev Cert.GateMergeIdeal.nD,
      m' ((c.tc : Thread Cert.GateMergeReferenceIdeal.nD Cert.GateMergeReferenceIdeal.τ).loc Cert.GateMergeReferenceIdeal.main_arg0) = m ((c.tc : Thread Cert.GateMergeIdeal.nD Cert.GateMergeIdeal.τ).loc Cert.GateMergeIdeal.main_arg0)
      ∧ m' ((c.tc : Thread Cert.GateMergeReferenceIdeal.nD Cert.GateMergeReferenceIdeal.τ).loc Cert.GateMergeReferenceIdeal.main_arg1) = m ((c.tc : Thread Cert.GateMergeIdeal.nD Cert.GateMergeIdeal.τ).loc Cert.GateMergeIdeal.main_arg1)
      ∧ m' ((c.tc : Thread Cert.GateMergeReferenceIdeal.nD Cert.GateMergeReferenceIdeal.τ).loc Cert.GateMergeReferenceIdeal.main_arg2) = m ((c.tc : Thread Cert.GateMergeIdeal.nD Cert.GateMergeIdeal.τ).loc Cert.GateMergeIdeal.main_arg2)
      ∧ m' ((c.tc : Thread Cert.GateMergeReferenceIdeal.nD Cert.GateMergeReferenceIdeal.τ).loc Cert.GateMergeReferenceIdeal.main_arg3) = m ((c.tc : Thread Cert.GateMergeIdeal.nD Cert.GateMergeIdeal.τ).loc Cert.GateMergeIdeal.main_arg3)) →
    ∃ (v0 : (c : Dev Cert.GateMergeIdeal.nD) → Buf (Elt Ideal) ((c.tc : Thread Cert.GateMergeIdeal.nD Cert.GateMergeIdeal.τ).loc Cert.GateMergeIdeal.main_v0)),
      θ_run (Cert.GateMergeIdeal.defs (F := Ideal)) (onTc (τ := Cert.GateMergeIdeal.τ) (Cert.GateMergeIdeal.main (F := Ideal))) ⟨m, fun _ => 0, g⟩ (fun r => ∀ c : Dev Cert.GateMergeIdeal.nD,
          r.2.mem ((c.tc : Thread Cert.GateMergeIdeal.nD Cert.GateMergeIdeal.τ).loc Cert.GateMergeIdeal.main_v0) = v0 c
          ∧ r.2.mem ((c.tc : Thread Cert.GateMergeIdeal.nD Cert.GateMergeIdeal.τ).loc Cert.GateMergeIdeal.main_arg0) = m ((c.tc : Thread Cert.GateMergeIdeal.nD Cert.GateMergeIdeal.τ).loc Cert.GateMergeIdeal.main_arg0)
          ∧ r.2.mem ((c.tc : Thread Cert.GateMergeIdeal.nD Cert.GateMergeIdeal.τ).loc Cert.GateMergeIdeal.main_arg1) = m ((c.tc : Thread Cert.GateMergeIdeal.nD Cert.GateMergeIdeal.τ).loc Cert.GateMergeIdeal.main_arg1)
          ∧ r.2.mem ((c.tc : Thread Cert.GateMergeIdeal.nD Cert.GateMergeIdeal.τ).loc Cert.GateMergeIdeal.main_arg2) = m ((c.tc : Thread Cert.GateMergeIdeal.nD Cert.GateMergeIdeal.τ).loc Cert.GateMergeIdeal.main_arg2)
          ∧ r.2.mem ((c.tc : Thread Cert.GateMergeIdeal.nD Cert.GateMergeIdeal.τ).loc Cert.GateMergeIdeal.main_arg3) = m ((c.tc : Thread Cert.GateMergeIdeal.nD Cert.GateMergeIdeal.τ).loc Cert.GateMergeIdeal.main_arg3))
      ∧ θ_run (Cert.GateMergeReferenceIdeal.defs (F := Ideal)) (onTc (τ := Cert.GateMergeReferenceIdeal.τ) (Cert.GateMergeReferenceIdeal.main (F := Ideal))) ⟨m', fun _ => 0, g'⟩ (fun r => ∀ c : Dev Cert.GateMergeReferenceIdeal.nD,
          r.2.mem ((c.tc : Thread Cert.GateMergeReferenceIdeal.nD Cert.GateMergeReferenceIdeal.τ).loc Cert.GateMergeReferenceIdeal.main_v24) = v0 c
          ∧ r.2.mem ((c.tc : Thread Cert.GateMergeReferenceIdeal.nD Cert.GateMergeReferenceIdeal.τ).loc Cert.GateMergeReferenceIdeal.main_arg0) = m' ((c.tc : Thread Cert.GateMergeReferenceIdeal.nD Cert.GateMergeReferenceIdeal.τ).loc Cert.GateMergeReferenceIdeal.main_arg0)
          ∧ r.2.mem ((c.tc : Thread Cert.GateMergeReferenceIdeal.nD Cert.GateMergeReferenceIdeal.τ).loc Cert.GateMergeReferenceIdeal.main_arg1) = m' ((c.tc : Thread Cert.GateMergeReferenceIdeal.nD Cert.GateMergeReferenceIdeal.τ).loc Cert.GateMergeReferenceIdeal.main_arg1)
          ∧ r.2.mem ((c.tc : Thread Cert.GateMergeReferenceIdeal.nD Cert.GateMergeReferenceIdeal.τ).loc Cert.GateMergeReferenceIdeal.main_arg2) = m' ((c.tc : Thread Cert.GateMergeReferenceIdeal.nD Cert.GateMergeReferenceIdeal.τ).loc Cert.GateMergeReferenceIdeal.main_arg2)
          ∧ r.2.mem ((c.tc : Thread Cert.GateMergeReferenceIdeal.nD Cert.GateMergeReferenceIdeal.τ).loc Cert.GateMergeReferenceIdeal.main_arg3) = m' ((c.tc : Thread Cert.GateMergeReferenceIdeal.nD Cert.GateMergeReferenceIdeal.τ).loc Cert.GateMergeReferenceIdeal.main_arg3))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v45) = v0 c
          ∧ r.2.mem ((c.tc : Thread Cert.GateBwdReferenceIdeal.nD Cert.GateBwdReferenceIdeal.τ).loc Cert.GateBwdReferenceIdeal.main_v46) = v1 c
          ∧ r.2.mem ((c.tc : Thread Cert.GateBwdReferenceIdeal.nD Cert.GateBwdReferenceIdeal.τ).loc Cert.GateBwdReferenceIdeal.main_v47) = v2 c
          ∧ r.2.mem ((c.tc : Thread Cert.GateBwdReferenceIdeal.nD Cert.GateBwdReferenceIdeal.τ).loc Cert.GateBwdReferenceIdeal.main_v48) = v3 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v2) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_SwigluBwd_SwigluBwdIdeal : Prop :=
  True

def algebraic_SwigluBwdIdeal_SwigluBwdReferenceIdeal [hSwigluBwdIdeal : Cert.SwigluBwdIdeal.Facts] [hSwigluBwdReferenceIdeal : Cert.SwigluBwdReferenceIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdIdeal m →
    (∀ c : Dev Cert.SwigluBwdIdeal.nD,
      m' ((c.tc : Thread Cert.SwigluBwdReferenceIdeal.nD Cert.SwigluBwdReferenceIdeal.τ).loc Cert.SwigluBwdReferenceIdeal.main_arg0) = m ((c.tc : Thread Cert.SwigluBwdIdeal.nD Cert.SwigluBwdIdeal.τ).loc Cert.SwigluBwdIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdIdeal.nD Cert.SwigluBwdIdeal.τ).loc Cert.SwigluBwdIdeal.main_arg1)
      ∧ m' ((c.tc : Thread Cert.SwigluBwdReferenceIdeal.nD Cert.SwigluBwdReferenceIdeal.τ).loc Cert.SwigluBwdReferenceIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v5) = v0 c
          ∧ r.2.mem ((c.tc : Thread Cert.SwigluBwdReferenceIdeal.nD Cert.SwigluBwdReferenceIdeal.τ).loc Cert.SwigluBwdReferenceIdeal.main_v7) = v1 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1)
          ∧ r.2.mem ((c.tc : Thread Cert.SwigluBwdReferenceIdeal.nD Cert.SwigluBwdReferenceIdeal.τ).loc Cert.SwigluBwdReferenceIdeal.main_arg2) = m' ((c.tc : Thread Cert.SwigluBwdReferenceIdeal.nD Cert.SwigluBwdReferenceIdeal.τ).loc Cert.SwigluBwdReferenceIdeal.main_arg2))

def preserves_DlFold_DlFoldIdeal : Prop :=
  True

def algebraic_DlFoldIdeal_DlFoldReferenceIdeal [hDlFoldIdeal : Cert.DlFoldIdeal.Facts] [hDlFoldReferenceIdeal : Cert.DlFoldReferenceIdeal.Facts] : Prop :=
  ∀ (m : (ℓ : Loc Cert.DlFoldIdeal.nD Cert.DlFoldIdeal.τ Cert.DlFoldIdeal.sig) → Buf (Elt Ideal) ℓ) (g : Dev Cert.DlFoldIdeal.nD → PrngReg)
    (m' : (ℓ : Loc Cert.DlFoldReferenceIdeal.nD Cert.DlFoldReferenceIdeal.τ Cert.DlFoldReferenceIdeal.sig) → Buf (Elt Ideal) ℓ) (g' : Dev Cert.DlFoldReferenceIdeal.nD → PrngReg), Pre_DlFoldIdeal m →
    (∀ c : Dev Cert.DlFoldIdeal.nD,
      m' ((c.tc : Thread Cert.DlFoldReferenceIdeal.nD Cert.DlFoldReferenceIdeal.τ).loc Cert.DlFoldReferenceIdeal.main_arg0) = m ((c.tc : Thread Cert.DlFoldIdeal.nD Cert.DlFoldIdeal.τ).loc Cert.DlFoldIdeal.main_arg0)
      ∧ m' ((c.tc : Thread Cert.DlFoldReferenceIdeal.nD Cert.DlFoldReferenceIdeal.τ).loc Cert.DlFoldReferenceIdeal.main_arg1) = m ((c.tc : Thread Cert.DlFoldIdeal.nD Cert.DlFoldIdeal.τ).loc Cert.DlFoldIdeal.main_arg1)) →
    ∃ (v0 : (c : Dev Cert.DlFoldIdeal.nD) → Buf (Elt Ideal) ((c.tc : Thread Cert.DlFoldIdeal.nD Cert.DlFoldIdeal.τ).loc Cert.DlFoldIdeal.main_v0_0)) (v1 : (c : Dev Cert.DlFoldIdeal.nD) → Buf (Elt Ideal) ((c.tc : Thread Cert.DlFoldIdeal.nD Cert.DlFoldIdeal.τ).loc Cert.DlFoldIdeal.main_v0_1)),
      θ_run (Cert.DlFoldIdeal.defs (F := Ideal)) (onTc (τ := Cert.DlFoldIdeal.τ) (Cert.DlFoldIdeal.main (F := Ideal))) ⟨m, fun _ => 0, g⟩ (fun r => ∀ c : Dev Cert.DlFoldIdeal.nD,
          r.2.mem ((c.tc : Thread Cert.DlFoldIdeal.nD Cert.DlFoldIdeal.τ).loc Cert.DlFoldIdeal.main_v0_0) = v0 c
          ∧ r.2.mem ((c.tc : Thread Cert.DlFoldIdeal.nD Cert.DlFoldIdeal.τ).loc Cert.DlFoldIdeal.main_v0_1) = v1 c
          ∧ r.2.mem ((c.tc : Thread Cert.DlFoldIdeal.nD Cert.DlFoldIdeal.τ).loc Cert.DlFoldIdeal.main_arg0) = m ((c.tc : Thread Cert.DlFoldIdeal.nD Cert.DlFoldIdeal.τ).loc Cert.DlFoldIdeal.main_arg0)
          ∧ r.2.mem ((c.tc : Thread Cert.DlFoldIdeal.nD Cert.DlFoldIdeal.τ).loc Cert.DlFoldIdeal.main_arg1) = m ((c.tc : Thread Cert.DlFoldIdeal.nD Cert.DlFoldIdeal.τ).loc Cert.DlFoldIdeal.main_arg1))
      ∧ θ_run (Cert.DlFoldReferenceIdeal.defs (F := Ideal)) (onTc (τ := Cert.DlFoldReferenceIdeal.τ) (Cert.DlFoldReferenceIdeal.main (F := Ideal))) ⟨m', fun _ => 0, g'⟩ (fun r => ∀ c : Dev Cert.DlFoldReferenceIdeal.nD,
          r.2.mem ((c.tc : Thread Cert.DlFoldReferenceIdeal.nD Cert.DlFoldReferenceIdeal.τ).loc Cert.DlFoldReferenceIdeal.main_v1) = v0 c
          ∧ r.2.mem ((c.tc : Thread Cert.DlFoldReferenceIdeal.nD Cert.DlFoldReferenceIdeal.τ).loc Cert.DlFoldReferenceIdeal.main_v3) = v1 c
          ∧ r.2.mem ((c.tc : Thread Cert.DlFoldReferenceIdeal.nD Cert.DlFoldReferenceIdeal.τ).loc Cert.DlFoldReferenceIdeal.main_arg0) = m' ((c.tc : Thread Cert.DlFoldReferenceIdeal.nD Cert.DlFoldReferenceIdeal.τ).loc Cert.DlFoldReferenceIdeal.main_arg0)
          ∧ r.2.mem ((c.tc : Thread Cert.DlFoldReferenceIdeal.nD Cert.DlFoldReferenceIdeal.τ).loc Cert.DlFoldReferenceIdeal.main_arg1) = m' ((c.tc : Thread Cert.DlFoldReferenceIdeal.nD Cert.DlFoldReferenceIdeal.τ).loc Cert.DlFoldReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hSmall : Cert.Small.Facts) (hSmallIdeal : Cert.SmallIdeal.Facts) (hSmallReferenceIdeal : Cert.SmallReferenceIdeal.Facts) (hSmallReference : Cert.SmallReference.Facts) (hAdamSmall : Cert.AdamSmall.Facts) (hAdamSmallIdeal : Cert.AdamSmallIdeal.Facts) (hAdamSmallReferenceIdeal : Cert.AdamSmallReferenceIdeal.Facts) (hAdamIn : Cert.AdamIn.Facts) (hAdamInIdeal : Cert.AdamInIdeal.Facts) (hAdamInReferenceIdeal : Cert.AdamInReferenceIdeal.Facts) (hAdamUp : Cert.AdamUp.Facts) (hAdamUpIdeal : Cert.AdamUpIdeal.Facts) (hAdamUpReferenceIdeal : Cert.AdamUpReferenceIdeal.Facts) (hAdamGlu : Cert.AdamGlu.Facts) (hAdamGluIdeal : Cert.AdamGluIdeal.Facts) (hAdamGluReferenceIdeal : Cert.AdamGluReferenceIdeal.Facts) (hAdamOut : Cert.AdamOut.Facts) (hAdamOutIdeal : Cert.AdamOutIdeal.Facts) (hAdamOutReferenceIdeal : Cert.AdamOutReferenceIdeal.Facts) (hAdamGate : Cert.AdamGate.Facts) (hAdamGateIdeal : Cert.AdamGateIdeal.Facts) (hAdamGateReferenceIdeal : Cert.AdamGateReferenceIdeal.Facts) (hAdamDown : Cert.AdamDown.Facts) (hAdamDownIdeal : Cert.AdamDownIdeal.Facts) (hAdamDownReferenceIdeal : Cert.AdamDownReferenceIdeal.Facts) (hLoss : Cert.Loss.Facts) (hLossIdeal : Cert.LossIdeal.Facts) (hLossReferenceIdeal : Cert.LossReferenceIdeal.Facts) (hGradX : Cert.GradX.Facts) (hGradXIdeal : Cert.GradXIdeal.Facts) (hGradXReferenceIdeal : Cert.GradXReferenceIdeal.Facts) (hFwdQkv : Cert.FwdQkv.Facts) (hFwdQkvIdeal : Cert.FwdQkvIdeal.Facts) (hFwdQkvReferenceIdeal : Cert.FwdQkvReferenceIdeal.Facts) (hFwdU : Cert.FwdU.Facts) (hFwdUIdeal : Cert.FwdUIdeal.Facts) (hFwdUReferenceIdeal : Cert.FwdUReferenceIdeal.Facts) (hFwdGates : Cert.FwdGates.Facts) (hFwdGatesIdeal : Cert.FwdGatesIdeal.Facts) (hFwdGatesReferenceIdeal : Cert.FwdGatesReferenceIdeal.Facts) (hFwdUp : Cert.FwdUp.Facts) (hFwdUpIdeal : Cert.FwdUpIdeal.Facts) (hFwdUpReferenceIdeal : Cert.FwdUpReferenceIdeal.Facts) (hFwdGlu : Cert.FwdGlu.Facts) (hFwdGluIdeal : Cert.FwdGluIdeal.Facts) (hFwdGluReferenceIdeal : Cert.FwdGluReferenceIdeal.Facts) (hFwdOut : Cert.FwdOut.Facts) (hFwdOutIdeal : Cert.FwdOutIdeal.Facts) (hFwdOutReferenceIdeal : Cert.FwdOutReferenceIdeal.Facts) (hFwdFfn : Cert.FwdFfn.Facts) (hFwdFfnIdeal : Cert.FwdFfnIdeal.Facts) (hFwdFfnReferenceIdeal : Cert.FwdFfnReferenceIdeal.Facts) (hFwdDown : Cert.FwdDown.Facts) (hFwdDownIdeal : Cert.FwdDownIdeal.Facts) (hFwdDownReferenceIdeal : Cert.FwdDownReferenceIdeal.Facts) (hBwdDown : Cert.BwdDown.Facts) (hBwdDownIdeal : Cert.BwdDownIdeal.Facts) (hBwdDownReferenceIdeal : Cert.BwdDownReferenceIdeal.Facts) (hBwdOut : Cert.BwdOut.Facts) (hBwdOutIdeal : Cert.BwdOutIdeal.Facts) (hBwdOutReferenceIdeal : Cert.BwdOutReferenceIdeal.Facts) (hBwdUp : Cert.BwdUp.Facts) (hBwdUpIdeal : Cert.BwdUpIdeal.Facts) (hBwdUpReferenceIdeal : Cert.BwdUpReferenceIdeal.Facts) (hBwdQkv : Cert.BwdQkv.Facts) (hBwdQkvIdeal : Cert.BwdQkvIdeal.Facts) (hBwdQkvReferenceIdeal : Cert.BwdQkvReferenceIdeal.Facts) (hBwdU : Cert.BwdU.Facts) (hBwdUIdeal : Cert.BwdUIdeal.Facts) (hBwdUReferenceIdeal : Cert.BwdUReferenceIdeal.Facts) (hBwdGates : Cert.BwdGates.Facts) (hBwdGatesIdeal : Cert.BwdGatesIdeal.Facts) (hBwdGatesReferenceIdeal : Cert.BwdGatesReferenceIdeal.Facts) (hBwdFfn : Cert.BwdFfn.Facts) (hBwdFfnIdeal : Cert.BwdFfnIdeal.Facts) (hBwdFfnReferenceIdeal : Cert.BwdFfnReferenceIdeal.Facts) (hBwdGlu : Cert.BwdGlu.Facts) (hBwdGluIdeal : Cert.BwdGluIdeal.Facts) (hBwdGluReferenceIdeal : Cert.BwdGluReferenceIdeal.Facts) (hDwDown : Cert.DwDown.Facts) (hDwDownIdeal : Cert.DwDownIdeal.Facts) (hDwDownReferenceIdeal : Cert.DwDownReferenceIdeal.Facts) (hDwFfn : Cert.DwFfn.Facts) (hDwFfnIdeal : Cert.DwFfnIdeal.Facts) (hDwFfnReferenceIdeal : Cert.DwFfnReferenceIdeal.Facts) (hDwOut : Cert.DwOut.Facts) (hDwOutIdeal : Cert.DwOutIdeal.Facts) (hDwOutReferenceIdeal : Cert.DwOutReferenceIdeal.Facts) (hDwUp : Cert.DwUp.Facts) (hDwUpIdeal : Cert.DwUpIdeal.Facts) (hDwUpReferenceIdeal : Cert.DwUpReferenceIdeal.Facts) (hDwGlu : Cert.DwGlu.Facts) (hDwGluIdeal : Cert.DwGluIdeal.Facts) (hDwGluReferenceIdeal : Cert.DwGluReferenceIdeal.Facts) (hDwQkv : Cert.DwQkv.Facts) (hDwQkvIdeal : Cert.DwQkvIdeal.Facts) (hDwQkvReferenceIdeal : Cert.DwQkvReferenceIdeal.Facts) (hDwU : Cert.DwU.Facts) (hDwUIdeal : Cert.DwUIdeal.Facts) (hDwUReferenceIdeal : Cert.DwUReferenceIdeal.Facts) (hDwGates : Cert.DwGates.Facts) (hDwGatesIdeal : Cert.DwGatesIdeal.Facts) (hDwGatesReferenceIdeal : Cert.DwGatesReferenceIdeal.Facts) (hRmsIn : Cert.RmsIn.Facts) (hRmsInIdeal : Cert.RmsInIdeal.Facts) (hRmsInReferenceIdeal : Cert.RmsInReferenceIdeal.Facts) (hRmsMid : Cert.RmsMid.Facts) (hRmsMidIdeal : Cert.RmsMidIdeal.Facts) (hRmsMidReferenceIdeal : Cert.RmsMidReferenceIdeal.Facts) (hRmsMidBwd : Cert.RmsMidBwd.Facts) (hRmsMidBwdIdeal : Cert.RmsMidBwdIdeal.Facts) (hRmsMidBwdReferenceIdeal : Cert.RmsMidBwdReferenceIdeal.Facts) (hSsmGelu : Cert.SsmGelu.Facts) (hSsmGeluIdeal : Cert.SsmGeluIdeal.Facts) (hSsmGeluReferenceIdeal : Cert.SsmGeluReferenceIdeal.Facts) (hGateMerge : Cert.GateMerge.Facts) (hGateMergeIdeal : Cert.GateMergeIdeal.Facts) (hGateMergeReferenceIdeal : Cert.GateMergeReferenceIdeal.Facts) (hGateBwd : Cert.GateBwd.Facts) (hGateBwdIdeal : Cert.GateBwdIdeal.Facts) (hGateBwdReferenceIdeal : Cert.GateBwdReferenceIdeal.Facts) (hSwiglu : Cert.Swiglu.Facts) (hSwigluIdeal : Cert.SwigluIdeal.Facts) (hSwigluReferenceIdeal : Cert.SwigluReferenceIdeal.Facts) (hSwigluBwd : Cert.SwigluBwd.Facts) (hSwigluBwdIdeal : Cert.SwigluBwdIdeal.Facts) (hSwigluBwdReferenceIdeal : Cert.SwigluBwdReferenceIdeal.Facts) (hDlFold : Cert.DlFold.Facts) (hDlFoldIdeal : Cert.DlFoldIdeal.Facts) (hDlFoldReferenceIdeal : Cert.DlFoldReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_FwdQkv (hFwdQkv := hFwdQkv)
    ∧ quiescent_FwdQkvIdeal (hFwdQkvIdeal := hFwdQkvIdeal)
    ∧ quiescent_FwdQkvReferenceIdeal (hFwdQkvReferenceIdeal := hFwdQkvReferenceIdeal)
    ∧ quiescent_FwdU (hFwdU := hFwdU)
    ∧ quiescent_FwdUIdeal (hFwdUIdeal := hFwdUIdeal)
    ∧ quiescent_FwdUReferenceIdeal (hFwdUReferenceIdeal := hFwdUReferenceIdeal)
    ∧ quiescent_FwdGates (hFwdGates := hFwdGates)
    ∧ quiescent_FwdGatesIdeal (hFwdGatesIdeal := hFwdGatesIdeal)
    ∧ quiescent_FwdGatesReferenceIdeal (hFwdGatesReferenceIdeal := hFwdGatesReferenceIdeal)
    ∧ quiescent_FwdUp (hFwdUp := hFwdUp)
    ∧ quiescent_FwdUpIdeal (hFwdUpIdeal := hFwdUpIdeal)
    ∧ quiescent_FwdUpReferenceIdeal (hFwdUpReferenceIdeal := hFwdUpReferenceIdeal)
    ∧ quiescent_FwdGlu (hFwdGlu := hFwdGlu)
    ∧ quiescent_FwdGluIdeal (hFwdGluIdeal := hFwdGluIdeal)
    ∧ quiescent_FwdGluReferenceIdeal (hFwdGluReferenceIdeal := hFwdGluReferenceIdeal)
    ∧ quiescent_FwdOut (hFwdOut := hFwdOut)
    ∧ quiescent_FwdOutIdeal (hFwdOutIdeal := hFwdOutIdeal)
    ∧ quiescent_FwdOutReferenceIdeal (hFwdOutReferenceIdeal := hFwdOutReferenceIdeal)
    ∧ quiescent_FwdFfn (hFwdFfn := hFwdFfn)
    ∧ quiescent_FwdFfnIdeal (hFwdFfnIdeal := hFwdFfnIdeal)
    ∧ quiescent_FwdFfnReferenceIdeal (hFwdFfnReferenceIdeal := hFwdFfnReferenceIdeal)
    ∧ quiescent_FwdDown (hFwdDown := hFwdDown)
    ∧ quiescent_FwdDownIdeal (hFwdDownIdeal := hFwdDownIdeal)
    ∧ quiescent_FwdDownReferenceIdeal (hFwdDownReferenceIdeal := hFwdDownReferenceIdeal)
    ∧ quiescent_BwdDown (hBwdDown := hBwdDown)
    ∧ quiescent_BwdDownIdeal (hBwdDownIdeal := hBwdDownIdeal)
    ∧ quiescent_BwdDownReferenceIdeal (hBwdDownReferenceIdeal := hBwdDownReferenceIdeal)
    ∧ quiescent_BwdOut (hBwdOut := hBwdOut)
    ∧ quiescent_BwdOutIdeal (hBwdOutIdeal := hBwdOutIdeal)
    ∧ quiescent_BwdOutReferenceIdeal (hBwdOutReferenceIdeal := hBwdOutReferenceIdeal)
    ∧ quiescent_BwdUp (hBwdUp := hBwdUp)
    ∧ quiescent_BwdUpIdeal (hBwdUpIdeal := hBwdUpIdeal)
    ∧ quiescent_BwdUpReferenceIdeal (hBwdUpReferenceIdeal := hBwdUpReferenceIdeal)
    ∧ quiescent_BwdQkv (hBwdQkv := hBwdQkv)
    ∧ quiescent_BwdQkvIdeal (hBwdQkvIdeal := hBwdQkvIdeal)
    ∧ quiescent_BwdQkvReferenceIdeal (hBwdQkvReferenceIdeal := hBwdQkvReferenceIdeal)
    ∧ quiescent_BwdU (hBwdU := hBwdU)
    ∧ quiescent_BwdUIdeal (hBwdUIdeal := hBwdUIdeal)
    ∧ quiescent_BwdUReferenceIdeal (hBwdUReferenceIdeal := hBwdUReferenceIdeal)
    ∧ quiescent_BwdGates (hBwdGates := hBwdGates)
    ∧ quiescent_BwdGatesIdeal (hBwdGatesIdeal := hBwdGatesIdeal)
    ∧ quiescent_BwdGatesReferenceIdeal (hBwdGatesReferenceIdeal := hBwdGatesReferenceIdeal)
    ∧ quiescent_BwdFfn (hBwdFfn := hBwdFfn)
    ∧ quiescent_BwdFfnIdeal (hBwdFfnIdeal := hBwdFfnIdeal)
    ∧ quiescent_BwdFfnReferenceIdeal (hBwdFfnReferenceIdeal := hBwdFfnReferenceIdeal)
    ∧ quiescent_BwdGlu (hBwdGlu := hBwdGlu)
    ∧ quiescent_BwdGluIdeal (hBwdGluIdeal := hBwdGluIdeal)
    ∧ quiescent_BwdGluReferenceIdeal (hBwdGluReferenceIdeal := hBwdGluReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwFfn (hDwFfn := hDwFfn)
    ∧ quiescent_DwFfnIdeal (hDwFfnIdeal := hDwFfnIdeal)
    ∧ quiescent_DwFfnReferenceIdeal (hDwFfnReferenceIdeal := hDwFfnReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwGlu (hDwGlu := hDwGlu)
    ∧ quiescent_DwGluIdeal (hDwGluIdeal := hDwGluIdeal)
    ∧ quiescent_DwGluReferenceIdeal (hDwGluReferenceIdeal := hDwGluReferenceIdeal)
    ∧ quiescent_DwQkv (hDwQkv := hDwQkv)
    ∧ quiescent_DwQkvIdeal (hDwQkvIdeal := hDwQkvIdeal)
    ∧ quiescent_DwQkvReferenceIdeal (hDwQkvReferenceIdeal := hDwQkvReferenceIdeal)
    ∧ quiescent_DwU (hDwU := hDwU)
    ∧ quiescent_DwUIdeal (hDwUIdeal := hDwUIdeal)
    ∧ quiescent_DwUReferenceIdeal (hDwUReferenceIdeal := hDwUReferenceIdeal)
    ∧ quiescent_DwGates (hDwGates := hDwGates)
    ∧ quiescent_DwGatesIdeal (hDwGatesIdeal := hDwGatesIdeal)
    ∧ quiescent_DwGatesReferenceIdeal (hDwGatesReferenceIdeal := hDwGatesReferenceIdeal)
    ∧ quiescent_RmsIn (hRmsIn := hRmsIn)
    ∧ quiescent_RmsInIdeal (hRmsInIdeal := hRmsInIdeal)
    ∧ quiescent_RmsInReferenceIdeal (hRmsInReferenceIdeal := hRmsInReferenceIdeal)
    ∧ quiescent_RmsMid (hRmsMid := hRmsMid)
    ∧ quiescent_RmsMidIdeal (hRmsMidIdeal := hRmsMidIdeal)
    ∧ quiescent_RmsMidReferenceIdeal (hRmsMidReferenceIdeal := hRmsMidReferenceIdeal)
    ∧ quiescent_RmsMidBwd (hRmsMidBwd := hRmsMidBwd)
    ∧ quiescent_RmsMidBwdIdeal (hRmsMidBwdIdeal := hRmsMidBwdIdeal)
    ∧ quiescent_RmsMidBwdReferenceIdeal (hRmsMidBwdReferenceIdeal := hRmsMidBwdReferenceIdeal)
    ∧ quiescent_SsmGelu (hSsmGelu := hSsmGelu)
    ∧ quiescent_SsmGeluIdeal (hSsmGeluIdeal := hSsmGeluIdeal)
    ∧ quiescent_SsmGeluReferenceIdeal (hSsmGeluReferenceIdeal := hSsmGeluReferenceIdeal)
    ∧ quiescent_GateMerge (hGateMerge := hGateMerge)
    ∧ quiescent_GateMergeIdeal (hGateMergeIdeal := hGateMergeIdeal)
    ∧ quiescent_GateMergeReferenceIdeal (hGateMergeReferenceIdeal := hGateMergeReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_SwigluBwd (hSwigluBwd := hSwigluBwd)
    ∧ quiescent_SwigluBwdIdeal (hSwigluBwdIdeal := hSwigluBwdIdeal)
    ∧ quiescent_SwigluBwdReferenceIdeal (hSwigluBwdReferenceIdeal := hSwigluBwdReferenceIdeal)
    ∧ quiescent_DlFold (hDlFold := hDlFold)
    ∧ quiescent_DlFoldIdeal (hDlFoldIdeal := hDlFoldIdeal)
    ∧ quiescent_DlFoldReferenceIdeal (hDlFoldReferenceIdeal := hDlFoldReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Small_SmallIdeal
    ∧ algebraic_SmallIdeal_SmallReferenceIdeal (hSmallIdeal := hSmallIdeal) (hSmallReferenceIdeal := hSmallReferenceIdeal)
    ∧ bitexact_Small_SmallReference (hSmall := hSmall) (hSmallReference := hSmallReference)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_Loss_LossIdeal
    ∧ algebraic_LossIdeal_LossReferenceIdeal (hLossIdeal := hLossIdeal) (hLossReferenceIdeal := hLossReferenceIdeal)
    ∧ preserves_GradX_GradXIdeal
    ∧ algebraic_GradXIdeal_GradXReferenceIdeal (hGradXIdeal := hGradXIdeal) (hGradXReferenceIdeal := hGradXReferenceIdeal)
    ∧ preserves_FwdQkv_FwdQkvIdeal
    ∧ algebraic_FwdQkvIdeal_FwdQkvReferenceIdeal (hFwdQkvIdeal := hFwdQkvIdeal) (hFwdQkvReferenceIdeal := hFwdQkvReferenceIdeal)
    ∧ preserves_FwdU_FwdUIdeal
    ∧ algebraic_FwdUIdeal_FwdUReferenceIdeal (hFwdUIdeal := hFwdUIdeal) (hFwdUReferenceIdeal := hFwdUReferenceIdeal)
    ∧ preserves_FwdGates_FwdGatesIdeal
    ∧ algebraic_FwdGatesIdeal_FwdGatesReferenceIdeal (hFwdGatesIdeal := hFwdGatesIdeal) (hFwdGatesReferenceIdeal := hFwdGatesReferenceIdeal)
    ∧ preserves_FwdUp_FwdUpIdeal
    ∧ algebraic_FwdUpIdeal_FwdUpReferenceIdeal (hFwdUpIdeal := hFwdUpIdeal) (hFwdUpReferenceIdeal := hFwdUpReferenceIdeal)
    ∧ preserves_FwdGlu_FwdGluIdeal
    ∧ algebraic_FwdGluIdeal_FwdGluReferenceIdeal (hFwdGluIdeal := hFwdGluIdeal) (hFwdGluReferenceIdeal := hFwdGluReferenceIdeal)
    ∧ preserves_FwdOut_FwdOutIdeal
    ∧ algebraic_FwdOutIdeal_FwdOutReferenceIdeal (hFwdOutIdeal := hFwdOutIdeal) (hFwdOutReferenceIdeal := hFwdOutReferenceIdeal)
    ∧ preserves_FwdFfn_FwdFfnIdeal
    ∧ algebraic_FwdFfnIdeal_FwdFfnReferenceIdeal (hFwdFfnIdeal := hFwdFfnIdeal) (hFwdFfnReferenceIdeal := hFwdFfnReferenceIdeal)
    ∧ preserves_FwdDown_FwdDownIdeal
    ∧ algebraic_FwdDownIdeal_FwdDownReferenceIdeal (hFwdDownIdeal := hFwdDownIdeal) (hFwdDownReferenceIdeal := hFwdDownReferenceIdeal)
    ∧ preserves_BwdDown_BwdDownIdeal
    ∧ algebraic_BwdDownIdeal_BwdDownReferenceIdeal (hBwdDownIdeal := hBwdDownIdeal) (hBwdDownReferenceIdeal := hBwdDownReferenceIdeal)
    ∧ preserves_BwdOut_BwdOutIdeal
    ∧ algebraic_BwdOutIdeal_BwdOutReferenceIdeal (hBwdOutIdeal := hBwdOutIdeal) (hBwdOutReferenceIdeal := hBwdOutReferenceIdeal)
    ∧ preserves_BwdUp_BwdUpIdeal
    ∧ algebraic_BwdUpIdeal_BwdUpReferenceIdeal (hBwdUpIdeal := hBwdUpIdeal) (hBwdUpReferenceIdeal := hBwdUpReferenceIdeal)
    ∧ preserves_BwdQkv_BwdQkvIdeal
    ∧ algebraic_BwdQkvIdeal_BwdQkvReferenceIdeal (hBwdQkvIdeal := hBwdQkvIdeal) (hBwdQkvReferenceIdeal := hBwdQkvReferenceIdeal)
    ∧ preserves_BwdU_BwdUIdeal
    ∧ algebraic_BwdUIdeal_BwdUReferenceIdeal (hBwdUIdeal := hBwdUIdeal) (hBwdUReferenceIdeal := hBwdUReferenceIdeal)
    ∧ preserves_BwdGates_BwdGatesIdeal
    ∧ algebraic_BwdGatesIdeal_BwdGatesReferenceIdeal (hBwdGatesIdeal := hBwdGatesIdeal) (hBwdGatesReferenceIdeal := hBwdGatesReferenceIdeal)
    ∧ preserves_BwdFfn_BwdFfnIdeal
    ∧ algebraic_BwdFfnIdeal_BwdFfnReferenceIdeal (hBwdFfnIdeal := hBwdFfnIdeal) (hBwdFfnReferenceIdeal := hBwdFfnReferenceIdeal)
    ∧ preserves_BwdGlu_BwdGluIdeal
    ∧ algebraic_BwdGluIdeal_BwdGluReferenceIdeal (hBwdGluIdeal := hBwdGluIdeal) (hBwdGluReferenceIdeal := hBwdGluReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwFfn_DwFfnIdeal
    ∧ algebraic_DwFfnIdeal_DwFfnReferenceIdeal (hDwFfnIdeal := hDwFfnIdeal) (hDwFfnReferenceIdeal := hDwFfnReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwUp_DwUpIdeal
    ∧ algebraic_DwUpIdeal_DwUpReferenceIdeal (hDwUpIdeal := hDwUpIdeal) (hDwUpReferenceIdeal := hDwUpReferenceIdeal)
    ∧ preserves_DwGlu_DwGluIdeal
    ∧ algebraic_DwGluIdeal_DwGluReferenceIdeal (hDwGluIdeal := hDwGluIdeal) (hDwGluReferenceIdeal := hDwGluReferenceIdeal)
    ∧ preserves_DwQkv_DwQkvIdeal
    ∧ algebraic_DwQkvIdeal_DwQkvReferenceIdeal (hDwQkvIdeal := hDwQkvIdeal) (hDwQkvReferenceIdeal := hDwQkvReferenceIdeal)
    ∧ preserves_DwU_DwUIdeal
    ∧ algebraic_DwUIdeal_DwUReferenceIdeal (hDwUIdeal := hDwUIdeal) (hDwUReferenceIdeal := hDwUReferenceIdeal)
    ∧ preserves_DwGates_DwGatesIdeal
    ∧ algebraic_DwGatesIdeal_DwGatesReferenceIdeal (hDwGatesIdeal := hDwGatesIdeal) (hDwGatesReferenceIdeal := hDwGatesReferenceIdeal)
    ∧ preserves_RmsIn_RmsInIdeal
    ∧ algebraic_RmsInIdeal_RmsInReferenceIdeal (hRmsInIdeal := hRmsInIdeal) (hRmsInReferenceIdeal := hRmsInReferenceIdeal)
    ∧ preserves_RmsMid_RmsMidIdeal
    ∧ algebraic_RmsMidIdeal_RmsMidReferenceIdeal (hRmsMidIdeal := hRmsMidIdeal) (hRmsMidReferenceIdeal := hRmsMidReferenceIdeal)
    ∧ preserves_RmsMidBwd_RmsMidBwdIdeal
    ∧ algebraic_RmsMidBwdIdeal_RmsMidBwdReferenceIdeal (hRmsMidBwdIdeal := hRmsMidBwdIdeal) (hRmsMidBwdReferenceIdeal := hRmsMidBwdReferenceIdeal)
    ∧ preserves_SsmGelu_SsmGeluIdeal
    ∧ algebraic_SsmGeluIdeal_SsmGeluReferenceIdeal (hSsmGeluIdeal := hSsmGeluIdeal) (hSsmGeluReferenceIdeal := hSsmGeluReferenceIdeal)
    ∧ preserves_GateMerge_GateMergeIdeal
    ∧ algebraic_GateMergeIdeal_GateMergeReferenceIdeal (hGateMergeIdeal := hGateMergeIdeal) (hGateMergeReferenceIdeal := hGateMergeReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_SwigluBwd_SwigluBwdIdeal
    ∧ algebraic_SwigluBwdIdeal_SwigluBwdReferenceIdeal (hSwigluBwdIdeal := hSwigluBwdIdeal) (hSwigluBwdReferenceIdeal := hSwigluBwdReferenceIdeal)
    ∧ preserves_DlFold_DlFoldIdeal
    ∧ algebraic_DlFoldIdeal_DlFoldReferenceIdeal (hDlFoldIdeal := hDlFoldIdeal) (hDlFoldReferenceIdeal := hDlFoldReferenceIdeal)
-- ==== Kernel.lean ====
abbrev S8x7808x1024 : Shape := ⟨3, ![8, 7808, 1024]⟩
abbrev S7 : Shape := ⟨1, ![7]⟩
abbrev S_ : Shape := ⟨0, ![]⟩
abbrev S1x7808x1024 : Shape := ⟨3, ![1, 7808, 1024]⟩
abbrev S7808x1024 : Shape := ⟨2, ![7808, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x7808x1024, .bf16⟩
  | .hbm, ⟨1, _⟩ => ⟨S8x7808x1024, .bf16⟩
  | _, _ => ⟨S8x7808x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_8 : BitVec 32) (c0_i32_9 : BitVec 32) (c1_i32_10 : BitVec 32) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.xori v2 c0_i32_8
  let v20 : BitVec 32 := Scalar.muli c4_i32_11 v17
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.xori v5 c0_i32_9
  let v21 : BitVec 32 := Scalar.muli c2_i32_12 v18
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.xori v8 c1_i32_10
  let v23 : BitVec 32 := Scalar.addi v22 v19
  let c0_i32_51 : BitVec 32 := 0#32
  let c0_i32_52 : BitVec 32 := 0#32
  ![v23.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_45 : BitVec 32 := 4#32
  let v66 : BitVec 32 := Scalar.muli v17 c4_i32_45
  let v67 : BitVec 32 := Scalar.addi c0_i32_46 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v18 : BitVec 32 := Scalar.xori v5 c0_i32_9
  let c2_i32_47 : BitVec 32 := 2#32
  let v68 : BitVec 32 := Scalar.muli v18 c2_i32_47
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.xori v8 c1_i32_10
  let c1_i32_48 : BitVec 32 := 1#32
  let v70 : BitVec 32 := Scalar.muli v19 c1_i32_48
  let v71 : BitVec 32 := Scalar.addi v69 v70
  v71.toNat
def k0_dev2 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_13 : BitVec 32 := 0#32
  let v24 : BitVec 32 := Scalar.xori v2 c0_i32_13
  let c4_i32_55 : BitVec 32 := 4#32
  let v80 : BitVec 32 := Scalar.muli v24 c4_i32_55
  let v81 : BitVec 32 := Scalar.addi c0_i32_56 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v25 : BitVec 32 := Scalar.xori v5 c1_i32_14
  let c2_i32_57 : BitVec 32 := 2#32
  let v82 : BitVec 32 := Scalar.muli v25 c2_i32_57
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v26 : BitVec 32 := Scalar.xori v8 c0_i32_15
  let c1_i32_58 : BitVec 32 := 1#32
  let v84 : BitVec 32 := Scalar.muli v26 c1_i32_58
  let v85 : BitVec 32 := Scalar.addi v83 v84
  v85.toNat
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_18 : BitVec 32 := 0#32
  let v31 : BitVec 32 := Scalar.xori v2 c0_i32_18
  let c4_i32_65 : BitVec 32 := 4#32
  let v94 : BitVec 32 := Scalar.muli v31 c4_i32_65
  let v95 : BitVec 32 := Scalar.addi c0_i32_66 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v32 : BitVec 32 := Scalar.xori v5 c1_i32_19
  let c2_i32_67 : BitVec 32 := 2#32
  let v96 : BitVec 32 := Scalar.muli v32 c2_i32_67
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.xori v8 c1_i32_20
  let c1_i32_68 : BitVec 32 := 1#32
  let v98 : BitVec 32 := Scalar.muli v33 c1_i32_68
  let v99 : BitVec 32 := Scalar.addi v97 v98
  v99.toNat
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_23 : BitVec 32 := 1#32
  let v38 : BitVec 32 := Scalar.xori v2 c1_i32_23
  let c4_i32_74 : BitVec 32 := 4#32
  let v108 : BitVec 32 := Scalar.muli v38 c4_i32_74
  let v109 : BitVec 32 := Scalar.addi c0_i32_75 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_24 : BitVec 32 := 0#32
  let v39 : BitVec 32 := Scalar.xori v5 c0_i32_24
  let c2_i32_76 : BitVec 32 := 2#32
  let v110 : BitVec 32 := Scalar.muli v39 c2_i32_76
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_25 : BitVec 32 := 0#32
  let v40 : BitVec 32 := Scalar.xori v8 c0_i32_25
  let c1_i32_77 : BitVec 32 := 1#32
  let v112 : BitVec 32 := Scalar.muli v40 c1_i32_77
  let v113 : BitVec 32 := Scalar.addi v111 v112
  v113.toNat
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_28 : BitVec 32 := 1#32
  let v45 : BitVec 32 := Scalar.xori v2 c1_i32_28
  let c4_i32_84 : BitVec 32 := 4#32
  let v122 : BitVec 32 := Scalar.muli v45 c4_i32_84
  let v123 : BitVec 32 := Scalar.addi c0_i32_85 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v46 : BitVec 32 := Scalar.xori v5 c0_i32_29
  let c2_i32_86 : BitVec 32 := 2#32
  let v124 : BitVec 32 := Scalar.muli v46 c2_i32_86
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.xori v8 c1_i32_30
  let c1_i32_87 : BitVec 32 := 1#32
  let v126 : BitVec 32 := Scalar.muli v47 c1_i32_87
  let v127 : BitVec 32 := Scalar.addi v125 v126
  v127.toNat
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_33 : BitVec 32 := 1#32
  let v52 : BitVec 32 := Scalar.xori v2 c1_i32_33
  let c4_i32_93 : BitVec 32 := 4#32
  let v136 : BitVec 32 := Scalar.muli v52 c4_i32_93
  let v137 : BitVec 32 := Scalar.addi c0_i32_94 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v53 : BitVec 32 := Scalar.xori v5 c1_i32_34
  let c2_i32_95 : BitVec 32 := 2#32
  let v138 : BitVec 32 := Scalar.muli v53 c2_i32_95
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v54 : BitVec 32 := Scalar.xori v8 c0_i32_35
  let c1_i32_96 : BitVec 32 := 1#32
  let v140 : BitVec 32 := Scalar.muli v54 c1_i32_96
  let v141 : BitVec 32 := Scalar.addi v139 v140
  v141.toNat
def k0_dev7 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_38 : BitVec 32 := 1#32
  let v59 : BitVec 32 := Scalar.xori v2 c1_i32_38
  let c4_i32_102 : BitVec 32 := 4#32
  let v150 : BitVec 32 := Scalar.muli v59 c4_i32_102
  let v151 : BitVec 32 := Scalar.addi c0_i32_103 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v60 : BitVec 32 := Scalar.xori v5 c1_i32_39
  let c2_i32_104 : BitVec 32 := 2#32
  let v152 : BitVec 32 := Scalar.muli v60 c2_i32_104
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v61 : BitVec 32 := Scalar.xori v8 c1_i32_40
  let c1_i32_105 : BitVec 32 := 1#32
  let v154 : BitVec 32 := Scalar.muli v61 c1_i32_105
  let v155 : BitVec 32 := Scalar.addi v153 v154
  v155.toNat
-- ==== Reference.lean ====
abbrev S64x7808x1024 : Shape := ⟨3, ![64, 7808, 1024]⟩
abbrev S8x8x7808x1024 : Shape := ⟨4, ![8, 8, 7808, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x7808x1024, .bf16⟩
  | .hbm, ⟨1, _⟩ => ⟨S8x8x7808x1024, .bf16⟩
  | .hbm, ⟨2, _⟩ => ⟨S8x8x7808x1024, .bf16⟩
  | .hbm, ⟨3, _⟩ => ⟨S64x7808x1024, .bf16⟩
  | _, _ => ⟨S64x7808x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Gather.lean ====
abbrev S7808x1024 : Shape := ⟨2, ![7808, 1024]⟩
abbrev S8x7808x1024 : Shape := ⟨3, ![8, 7808, 1024]⟩
abbrev S7 : Shape := ⟨1, ![7]⟩
abbrev S_ : Shape := ⟨0, ![]⟩
abbrev S1x7808x1024 : Shape := ⟨3, ![1, 7808, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S7808x1024, .bf16⟩
  | .hbm, ⟨1, _⟩ => ⟨S8x7808x1024, .bf16⟩
  | _, _ => ⟨S7808x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherReference.lean ====
abbrev S62464x1024 : Shape := ⟨2, ![62464, 1024]⟩
abbrev S8x7808x1024 : Shape := ⟨3, ![8, 7808, 1024]⟩

abbrev nBuf : Space → Nat
  | .hbm => 2
  | .vmem => 0
  | .smem => 0
  | _ => 0

abbrev bufTy : (tb : Table) → Fin (tcTables nBuf tb) → BufTy
  | .hbm, ⟨0, _⟩ => ⟨S62464x1024, .bf16⟩
  | .hbm, ⟨1, _⟩ => ⟨S8x7808x1024, .bf16⟩
  | _, _ => ⟨S62464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S320x1024 : Shape := ⟨2, ![320, 1024]⟩
abbrev S8x320x1024 : Shape := ⟨3, ![8, 320, 1024]⟩
abbrev S7 : Shape := ⟨1, ![7]⟩
abbrev S_ : Shape := ⟨0, ![]⟩
abbrev S1x320x1024 : Shape := ⟨3, ![1, 320, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S8x320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallReference.lean ====
abbrev S2560x1024 : Shape := ⟨2, ![2560, 1024]⟩
abbrev S8x320x1024 : Shape := ⟨3, ![8, 320, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2560x1024, .f32⟩
  | .hbm, ⟨1, _⟩ => ⟨S8x320x1024, .f32⟩
  | _, _ => ⟨S2560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamSmall.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .local _ .vmem, ⟨0, _⟩ => ⟨S8x160x1024, .f32⟩
  | .local _ .vmem, ⟨1, _⟩ => ⟨S8x160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | _, _ => ⟨S8x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallIdeal.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .local _ .vmem, ⟨0, _⟩ => ⟨S8x160x1024, .f32⟩
  | .local _ .vmem, ⟨1, _⟩ => ⟨S8x160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | _, _ => ⟨S8x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S8x320x1024 : Shape := ⟨3, ![8, 320, 1024]⟩
abbrev S320x1024 : Shape := ⟨2, ![320, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S_, .f32⟩
  | .hbm, ⟨7, _⟩ => ⟨S320x1024, .f32⟩
  | .hbm, ⟨8, _⟩ => ⟨S320x1024, .f32⟩
  | .hbm, ⟨9, _⟩ => ⟨S_, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S_, .f32⟩
  | .hbm, ⟨14, _⟩ => ⟨S320x1024, .f32⟩
  | .hbm, ⟨15, _⟩ => ⟨S320x1024, .f32⟩
  | .hbm, ⟨16, _⟩ => ⟨S320x1024, .f32⟩
  | .hbm, ⟨17, _⟩ => ⟨S_, .f32⟩
  | .hbm, ⟨18, _⟩ => ⟨S320x1024, .f32⟩
  | .hbm, ⟨19, _⟩ => ⟨S320x1024, .f32⟩
  | .hbm, ⟨20, _⟩ => ⟨S320x1024, .f32⟩
  | .hbm, ⟨21, _⟩ => ⟨S_, .f32⟩
  | .hbm, ⟨22, _⟩ => ⟨S320x1024, .f32⟩
  | .hbm, ⟨23, _⟩ => ⟨S320x1024, .f32⟩
  | .hbm, ⟨24, _⟩ => ⟨S_, .f32⟩
  | .hbm, ⟨25, _⟩ => ⟨S320x1024, .f32⟩
  | .hbm, ⟨26, _⟩ => ⟨S320x1024, .f32⟩
  | .hbm, ⟨27, _⟩ => ⟨S320x1024, .f32⟩
  | .hbm, ⟨28, _⟩ => ⟨S_, .f32⟩
  | .hbm, ⟨29, _⟩ => ⟨S320x1024, .f32⟩
  | .hbm, ⟨30, _⟩ => ⟨S320x1024, .f32⟩
  | .hbm, ⟨31, _⟩ => ⟨S320x1024, .f32⟩
  | .hbm, ⟨32, _⟩ => ⟨S_, .f32⟩
  | .hbm, ⟨33, _⟩ => ⟨S320x1024, .f32⟩
  | .hbm, ⟨34, _⟩ => ⟨S320x1024, .f32⟩
  | .hbm, ⟨35, _⟩ => ⟨S320x1024, .f32⟩
  | .hbm, ⟨36, _⟩ => ⟨S_, .f32⟩
  | .hbm, ⟨37, _⟩ => ⟨S320x1024, .f32⟩
  | .hbm, ⟨38, _⟩ => ⟨S320x1024, .f32⟩
  | _, _ => ⟨S8x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S8x2048x1216 : Shape := ⟨3, ![8, 2048, 1216]⟩
abbrev S2048x1216 : Shape := ⟨2, ![2048, 1216]⟩
abbrev S8x128x1216 : Shape := ⟨3, ![8, 128, 1216]⟩
abbrev S128x1216 : Shape := ⟨2, ![128, 1216]⟩
abbrev S1x128x1216 : Shape := ⟨3, ![1, 128, 1216]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1216, .bf16⟩
  | .hbm, ⟨1, _⟩ => ⟨S2048x1216, .f32⟩
  | .hbm, ⟨2, _⟩ => ⟨S2048x1216, .f32⟩
  | .hbm, ⟨3, _⟩ => ⟨S2048x1216, .f32⟩
  | .hbm, ⟨4, _⟩ => ⟨S2048x1216, .f32⟩
  | .hbm, ⟨5, _⟩ => ⟨S2048x1216, .f32⟩
  | .hbm, ⟨6, _⟩ => ⟨S2048x1216, .f32⟩
  | .hbm, ⟨7, _⟩ => ⟨S2048x1216, .f32⟩
  | .local _ .vmem, ⟨0, _⟩ => ⟨S8x128x1216, .bf16⟩
  | .local _ .vmem, ⟨1, _⟩ => ⟨S8x128x1216, .bf16⟩
  | .local _ .vmem, ⟨2, _⟩ => ⟨S128x1216, .f32⟩
  | .local _ .vmem, ⟨3, _⟩ => ⟨S128x1216, .f32⟩
  | .local _ .vmem, ⟨4, _⟩ => ⟨S128x1216, .f32⟩
  | .local _ .vmem, ⟨5, _⟩ => ⟨S128x1216, .f32⟩
  | .local _ .vmem, ⟨6, _⟩ => ⟨S128x1216, .f32⟩
  | .local _ .vmem, ⟨7, _⟩ => ⟨S128x1216, .f32⟩
  | .local _ .vmem, ⟨8, _⟩ => ⟨S128x1216, .f32⟩
  | .local _ .vmem, ⟨9, _⟩ => ⟨S128x1216, .f32⟩
  | .local _ .vmem, ⟨10, _⟩ => ⟨S128x1216, .f32⟩
  | .local _ .vmem, ⟨11, _⟩ => ⟨S128x1216, .f32⟩
  | .local _ .vmem, ⟨12, _⟩ => ⟨S128x1216, .f32⟩
  | .local _ .vmem, ⟨13, _⟩ => ⟨S128x1216, .f32⟩
  | .local _ .vmem, ⟨14, _⟩ => ⟨S128x1216, .f32⟩
  | .local _ .vmem, ⟨15, _⟩ => ⟨S128x1216, .f32⟩
  | _, _ => ⟨S8x2048x1216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1216 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x2048x1216 : Shape := ⟨3, ![8, 2048, 1216]⟩
abbrev S2048x1216 : Shape := ⟨2, ![2048, 1216]⟩
abbrev S8x128x1216 : Shape := ⟨3, ![8, 128, 1216]⟩
abbrev S128x1216 : Shape := ⟨2, ![128, 1216]⟩
abbrev S1x128x1216 : Shape := ⟨3, ![1, 128, 1216]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1216, .bf16⟩
  | .hbm, ⟨1, _⟩ => ⟨S2048x1216, .f32⟩
  | .hbm, ⟨2, _⟩ => ⟨S2048x1216, .f32⟩
  | .hbm, ⟨3, _⟩ => ⟨S2048x1216, .f32⟩
  | .hbm, ⟨4, _⟩ => ⟨S2048x1216, .f32⟩
  | .hbm, ⟨5, _⟩ => ⟨S2048x1216, .f32⟩
  | .hbm, ⟨6, _⟩ => ⟨S2048x1216, .f32⟩
  | .hbm, ⟨7, _⟩ => ⟨S2048x1216, .f32⟩
  | .local _ .vmem, ⟨0, _⟩ => ⟨S8x128x1216, .bf16⟩
  | .local _ .vmem, ⟨1, _⟩ => ⟨S8x128x1216, .bf16⟩
  | .local _ .vmem, ⟨2, _⟩ => ⟨S128x1216, .f32⟩
  | .local _ .vmem, ⟨3, _⟩ => ⟨S128x1216, .f32⟩
  | .local _ .vmem, ⟨4, _⟩ => ⟨S128x1216, .f32⟩
  | .local _ .vmem, ⟨5, _⟩ => ⟨S128x1216, .f32⟩
  | .local _ .vmem, ⟨6, _⟩ => ⟨S128x1216, .f32⟩
  | .local _ .vmem, ⟨7, _⟩ => ⟨S128x1216, .f32⟩
  | .local _ .vmem, ⟨8, _⟩ => ⟨S128x1216, .f32⟩
  | .local _ .vmem, ⟨9, _⟩ => ⟨S128x1216, .f32⟩
  | .local _ .vmem, ⟨10, _⟩ => ⟨S128x1216, .f32⟩
  | .local _ .vmem, ⟨11, _⟩ => ⟨S128x1216, .f32⟩
  | .local _ .vmem, ⟨12, _⟩ => ⟨S128x1216, .f32⟩
  | .local _ .vmem, ⟨13, _⟩ => ⟨S128x1216, .f32⟩
  | .local _ .vmem, ⟨14, _⟩ => ⟨S128x1216, .f32⟩
  | .local _ .vmem, ⟨15, _⟩ => ⟨S128x1216, .f32⟩
  | _, _ => ⟨S8x2048x1216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1216 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S8x2048x1216 : Shape := ⟨3, ![8, 2048, 1216]⟩
abbrev S2048x1216 : Shape := ⟨2, ![2048, 1216]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1216, .bf16⟩
  | .hbm, ⟨1, _⟩ => ⟨S2048x1216, .f32⟩
  | .hbm, ⟨2, _⟩ => ⟨S2048x1216, .f32⟩
  | .hbm, ⟨3, _⟩ => ⟨S2048x1216, .f32⟩
  | .hbm, ⟨4, _⟩ => ⟨S8x2048x1216, .f32⟩
  | .hbm, ⟨5, _⟩ => ⟨S_, .f32⟩
  | .hbm, ⟨6, _⟩ => ⟨S2048x1216, .f32⟩
  | .hbm, ⟨7, _⟩ => ⟨S_, .f32⟩
  | .hbm, ⟨8, _⟩ => ⟨S2048x1216, .f32⟩
  | .hbm, ⟨9, _⟩ => ⟨S2048x1216, .f32⟩
  | .hbm, ⟨10, _⟩ => ⟨S_, .f32⟩
  | .hbm, ⟨11, _⟩ => ⟨S2048x1216, .f32⟩
  | .hbm, ⟨12, _⟩ => ⟨S2048x1216, .f32⟩
  | .hbm, ⟨13, _⟩ => ⟨S2048x1216, .f32⟩
  | .hbm, ⟨14, _⟩ => ⟨S_, .f32⟩
  | .hbm, ⟨15, _⟩ => ⟨S2048x1216, .f32⟩
  | .hbm, ⟨16, _⟩ => ⟨S2048x1216, .f32⟩
  | .hbm, ⟨17, _⟩ => ⟨S2048x1216, .f32⟩
  | .hbm, ⟨18, _⟩ => ⟨S_, .f32⟩
  | .hbm, ⟨19, _⟩ => ⟨S2048x1216, .f32⟩
  | .hbm, ⟨20, _⟩ => ⟨S2048x1216, .f32⟩
  | .hbm, ⟨21, _⟩ => ⟨S2048x1216, .f32⟩
  | .hbm, ⟨22, _⟩ => ⟨S_, .f32⟩
  | .hbm, ⟨23, _⟩ => ⟨S2048x1216, .f32⟩
  | .hbm, ⟨24, _⟩ => ⟨S2048x1216, .f32⟩
  | .hbm, ⟨25, _⟩ => ⟨S_, .f32⟩
  | .hbm, ⟨26, _⟩ => ⟨S2048x1216, .f32⟩
  | .hbm, ⟨27, _⟩ => ⟨S2048x1216, .f32⟩
  | .hbm, ⟨28, _⟩ => ⟨S2048x1216, .f32⟩
  | .hbm, ⟨29, _⟩ => ⟨S_, .f32⟩
  | .hbm, ⟨30, _⟩ => ⟨S2048x1216, .f32⟩
  | .hbm, ⟨31, _⟩ => ⟨S2048x1216, .f32⟩
  | .hbm, ⟨32, _⟩ => ⟨S2048x1216, .f32⟩
  | .hbm, ⟨33, _⟩ => ⟨S_, .f32⟩
  | .hbm, ⟨34, _⟩ => ⟨S2048x1216, .f32⟩
  | .hbm, ⟨35, _⟩ => ⟨S2048x1216, .f32⟩
  | .hbm, ⟨36, _⟩ => ⟨S2048x1216, .f32⟩
  | .hbm, ⟨37, _⟩ => ⟨S_, .f32⟩
  | .hbm, ⟨38, _⟩ => ⟨S2048x1216, .f32⟩
  | .hbm, ⟨39, _⟩ => ⟨S2048x1216, .f32⟩
  | _, _ => ⟨S8x2048x1216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S8x512x256, .bf16⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUpIdeal.lean ====
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S8x512x256, .bf16⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUpReferenceIdeal.lean ====
abbrev S8x512x256 : Shape := ⟨3, ![8, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluReferenceIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGate.lean ====
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateIdeal.lean ====
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateReferenceIdeal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x704x2048 : Shape := ⟨3, ![8, 704, 2048]⟩
abbrev S704x2048 : Shape := ⟨2, ![704, 2048]⟩
abbrev S8x88x2048 : Shape := ⟨3, ![8, 88, 2048]⟩
abbrev S88x2048 : Shape := ⟨2, ![88, 2048]⟩
abbrev S1x88x2048 : Shape := ⟨3, ![1, 88, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x88x2048, .bf16⟩
  | .local _ .vmem, ⟨1, _⟩ => ⟨S8x88x2048, .bf16⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x704x2048 : Shape := ⟨3, ![8, 704, 2048]⟩
abbrev S704x2048 : Shape := ⟨2, ![704, 2048]⟩
abbrev S8x88x2048 : Shape := ⟨3, ![8, 88, 2048]⟩
abbrev S88x2048 : Shape := ⟨2, ![88, 2048]⟩
abbrev S1x88x2048 : Shape := ⟨3, ![1, 88, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x88x2048, .bf16⟩
  | .local _ .vmem, ⟨1, _⟩ => ⟨S8x88x2048, .bf16⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S1x2048, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_21 : BitVec 32 := 0#32
  let v49 : BitVec 1 := Scalar.cmpi .ne v48 c0_i32_21
  v49

def k0_cond2 (i : grid0.Coords) : BitVec 1 :=
  let arg0 : BitVec 32 := BitVec.ofNat 32 (i 0).val
  let c0_i32 : BitVec 32 := 0#32
  let v47 : BitVec 1 := Scalar.cmpi .eq arg0 c0_i32
  let v_true : BitVec 1 := 1#1
  let v50 : BitVec 1 := Scalar.xori v47 v_true
  let v51 : BitVec 32 := Scalar.extui v50
  let c0_i32_22 : BitVec 32 := 0#32
  let v52 : BitVec 1 := Scalar.cmpi .ne v51 c0_i32_22
  v52

def k0_cond3 (i : grid0.Coords) : BitVec 1 :=
  let arg0 : BitVec 32 := BitVec.ofNat 32 (i 0).val
  let c0_i32 : BitVec 32 := 0#32
  let v47 : BitVec 1 := Scalar.cmpi .eq arg0 c0_i32
  let v53 : BitVec 32 := Scalar.extui v47
  let c0_i32_23 : BitVec 32 := 0#32
  let v54 : BitVec 1 := Scalar.cmpi .ne v53 c0_i32_23
  v54

def k0_cond4 (i : grid0.Coords) : BitVec 1 :=
  let arg0 : BitVec 32 := BitVec.ofNat 32 (i 0).val
  let c0_i32 : BitVec 32 := 0#32
  let v47 : BitVec 1 := Scalar.cmpi .eq arg0 c0_i32
  let true_24 : BitVec 1 := 1#1
  let v55 : BitVec 1 := Scalar.xori v47 true_24
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | .hbm, ⟨71, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== GradX.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_22 : BitVec 32 := 0#32
  let v41 : BitVec 1 := Scalar.cmpi .ne v40 c0_i32_22
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GradXReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== FwdQkv.lean ====
abbrev S8192x2048 : Shape := ⟨2, ![8192, 2048]⟩
abbrev S2048x1536 : Shape := ⟨2, ![2048, 1536]⟩
abbrev S8192x1536 : Shape := ⟨2, ![8192, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1536, .bf16⟩
  | .hbm, ⟨2, _⟩ => ⟨S8192x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdQkvIdeal.lean ====
abbrev S8192x2048 : Shape := ⟨2, ![8192, 2048]⟩
abbrev S2048x1536 : Shape := ⟨2, ![2048, 1536]⟩
abbrev S8192x1536 : Shape := ⟨2, ![8192, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1536, .bf16⟩
  | .hbm, ⟨2, _⟩ => ⟨S8192x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdQkvReferenceIdeal.lean ====
abbrev S8192x2048 : Shape := ⟨2, ![8192, 2048]⟩
abbrev S2048x1536 : Shape := ⟨2, ![2048, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1536, .bf16⟩
  | .hbm, ⟨2, _⟩ => ⟨S8192x2048, .f32⟩
  | .hbm, ⟨3, _⟩ => ⟨S2048x1536, .f32⟩
  | .hbm, ⟨4, _⟩ => ⟨S8192x1536, .f32⟩
  | .hbm, ⟨5, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdU.lean ====
abbrev S8192x2048 : Shape := ⟨2, ![8192, 2048]⟩
abbrev S2048x1024 : Shape := ⟨2, ![2048, 1024]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUIdeal.lean ====
abbrev S8192x2048 : Shape := ⟨2, ![8192, 2048]⟩
abbrev S2048x1024 : Shape := ⟨2, ![2048, 1024]⟩
abbrev S8192x1024 : Shape := ⟨2, ![8192, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdGates.lean ====
abbrev S8192x2048 : Shape := ⟨2, ![8192, 2048]⟩
abbrev S2048x4096 : Shape := ⟨2, ![2048, 4096]⟩
abbrev S8192x4096 : Shape := ⟨2, ![8192, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGatesIdeal.lean ====
abbrev S8192x2048 : Shape := ⟨2, ![8192, 2048]⟩
abbrev S2048x4096 : Shape := ⟨2, ![2048, 4096]⟩
abbrev S8192x4096 : Shape := ⟨2, ![8192, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGatesReferenceIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdUp.lean ====
abbrev S8192x512 : Shape := ⟨2, ![8192, 512]⟩
abbrev S512x2048 : Shape := ⟨2, ![512, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUpIdeal.lean ====
abbrev S8192x512 : Shape := ⟨2, ![8192, 512]⟩
abbrev S512x2048 : Shape := ⟨2, ![512, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdUpReferenceIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdGlu.lean ====
abbrev S8192x1024 : Shape := ⟨2, ![8192, 1024]⟩
abbrev S1024x2048 : Shape := ⟨2, ![1024, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGluIdeal.lean ====
abbrev S8192x1024 : Shape := ⟨2, ![8192, 1024]⟩
abbrev S1024x2048 : Shape := ⟨2, ![1024, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdGluReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdOut.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdOutIdeal.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdOutReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdFfn.lean ====
abbrev S8192x2048 : Shape := ⟨2, ![8192, 2048]⟩
abbrev S2048x5632 : Shape := ⟨2, ![2048, 5632]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdFfnIdeal.lean ====
abbrev S8192x2048 : Shape := ⟨2, ![8192, 2048]⟩
abbrev S2048x5632 : Shape := ⟨2, ![2048, 5632]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdFfnReferenceIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdDown.lean ====
abbrev S8192x5632 : Shape := ⟨2, ![8192, 5632]⟩
abbrev S5632x2048 : Shape := ⟨2, ![5632, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdDownIdeal.lean ====
abbrev S8192x5632 : Shape := ⟨2, ![8192, 5632]⟩
abbrev S5632x2048 : Shape := ⟨2, ![5632, 2048]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdDownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BwdDown.lean ====
abbrev S8192x2048 : Shape := ⟨2, ![8192, 2048]⟩
abbrev S5632x2048 : Shape := ⟨2, ![5632, 2048]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdDownIdeal.lean ====
abbrev S8192x2048 : Shape := ⟨2, ![8192, 2048]⟩
abbrev S5632x2048 : Shape := ⟨2, ![5632, 2048]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdDownReferenceIdeal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S2048x5632, .f32⟩
  | .hbm, ⟨5, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BwdOut.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdOutIdeal.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdOutReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BwdUp.lean ====
abbrev S8192x2048 : Shape := ⟨2, ![8192, 2048]⟩
abbrev S512x2048 : Shape := ⟨2, ![512, 2048]⟩
abbrev S8192x512 : Shape := ⟨2, ![8192, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdUpIdeal.lean ====
abbrev S8192x2048 : Shape := ⟨2, ![8192, 2048]⟩
abbrev S512x2048 : Shape := ⟨2, ![512, 2048]⟩
abbrev S8192x512 : Shape := ⟨2, ![8192, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdUpReferenceIdeal.lean ====
abbrev S8192x2048 : Shape := ⟨2, ![8192, 2048]⟩
abbrev S512x2048 : Shape := ⟨2, ![512, 2048]⟩
abbrev S2048x512 : Shape := ⟨2, ![2048, 512]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x2048, .f32⟩
  | .hbm, ⟨3, _⟩ => ⟨S512x2048, .f32⟩
  | .hbm, ⟨4, _⟩ => ⟨S2048x512, .f32⟩
  | .hbm, ⟨5, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BwdQkv.lean ====
abbrev S8192x1536 : Shape := ⟨2, ![8192, 1536]⟩
abbrev S2048x1536 : Shape := ⟨2, ![2048, 1536]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S2048x1536, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdQkvIdeal.lean ====
abbrev S8192x1536 : Shape := ⟨2, ![8192, 1536]⟩
abbrev S2048x1536 : Shape := ⟨2, ![2048, 1536]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S2048x1536, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdQkvReferenceIdeal.lean ====
abbrev S8192x1536 : Shape := ⟨2, ![8192, 1536]⟩
abbrev S2048x1536 : Shape := ⟨2, ![2048, 1536]⟩
abbrev S1536x2048 : Shape := ⟨2, ![1536, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S2048x1536, .bf16⟩
  | .hbm, ⟨2, _⟩ => ⟨S8192x1536, .f32⟩
  | .hbm, ⟨3, _⟩ => ⟨S2048x1536, .f32⟩
  | .hbm, ⟨4, _⟩ => ⟨S1536x2048, .f32⟩
  | .hbm, ⟨5, _⟩ => ⟨S8192x2048, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BwdU.lean ====
abbrev S8192x1024 : Shape := ⟨2, ![8192, 1024]⟩
abbrev S2048x1024 : Shape := ⟨2, ![2048, 1024]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdUIdeal.lean ====
abbrev S8192x1024 : Shape := ⟨2, ![8192, 1024]⟩
abbrev S2048x1024 : Shape := ⟨2, ![2048, 1024]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdUReferenceIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BwdGates.lean ====
abbrev S8192x4096 : Shape := ⟨2, ![8192, 4096]⟩
abbrev S2048x4096 : Shape := ⟨2, ![2048, 4096]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdGatesIdeal.lean ====
abbrev S8192x4096 : Shape := ⟨2, ![8192, 4096]⟩
abbrev S2048x4096 : Shape := ⟨2, ![2048, 4096]⟩
abbrev S8192x2048 : Shape := ⟨2, ![8192, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BwdGatesReferenceIdeal.lean ====
abbrev S8192x4096 : Shape := ⟨2, ![8192, 4096]⟩
abbrev S2048x4096 : Shape := ⟨2, ![2048, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x4096, .f32⟩
  | .hbm, ⟨3, _⟩ => ⟨S2048x4096, .f32⟩
  | .hbm, ⟨4, _⟩ => ⟨S4096x2048, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BwdFfn.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== BwdFfnIdeal.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== BwdFfnReferenceIdeal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x5632, .f32⟩
  | .hbm, ⟨5, _⟩ => ⟨S2048x5632, .f32⟩
  | .hbm, ⟨6, _⟩ => ⟨S5632x2048, .f32⟩
  | .hbm, ⟨7, _⟩ => ⟨S8192x2048, .f32⟩
  | .hbm, ⟨8, _⟩ => ⟨S8192x5632, .f32⟩
  | .hbm, ⟨9, _⟩ => ⟨S2048x5632, .f32⟩
  | .hbm, ⟨10, _⟩ => ⟨S5632x2048, .f32⟩
  | .hbm, ⟨11, _⟩ => ⟨S8192x2048, .f32⟩
  | .hbm, ⟨12, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== BwdGlu.lean ====
abbrev S8192x2048 : Shape := ⟨2, ![8192, 2048]⟩
abbrev S1024x2048 : Shape := ⟨2, ![1024, 2048]⟩
abbrev S8192x1024 : Shape := ⟨2, ![8192, 1024]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== BwdGluIdeal.lean ====
abbrev S8192x2048 : Shape := ⟨2, ![8192, 2048]⟩
abbrev S1024x2048 : Shape := ⟨2, ![1024, 2048]⟩
abbrev S8192x1024 : Shape := ⟨2, ![8192, 1024]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== BwdGluReferenceIdeal.lean ====
abbrev S8192x2048 : Shape := ⟨2, ![8192, 2048]⟩
abbrev S1024x2048 : Shape := ⟨2, ![1024, 2048]⟩
abbrev S2048x1024 : Shape := ⟨2, ![2048, 1024]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x2048, .f32⟩
  | .hbm, ⟨5, _⟩ => ⟨S1024x2048, .f32⟩
  | .hbm, ⟨6, _⟩ => ⟨S2048x1024, .f32⟩
  | .hbm, ⟨7, _⟩ => ⟨S8192x1024, .f32⟩
  | .hbm, ⟨8, _⟩ => ⟨S8192x2048, .f32⟩
  | .hbm, ⟨9, _⟩ => ⟨S1024x2048, .f32⟩
  | .hbm, ⟨10, _⟩ => ⟨S2048x1024, .f32⟩
  | .hbm, ⟨11, _⟩ => ⟨S8192x1024, .f32⟩
  | .hbm, ⟨12, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S8192x5632 : Shape := ⟨2, ![8192, 5632]⟩
abbrev S8192x2048 : Shape := ⟨2, ![8192, 2048]⟩
abbrev S5632x2048 : Shape := ⟨2, ![5632, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S5632x8192, .f32⟩
  | .hbm, ⟨5, _⟩ => ⟨S5632x2048, .f32⟩
  | .hbm, ⟨6, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwFfn.lean ====
abbrev S8192x2048 : Shape := ⟨2, ![8192, 2048]⟩
abbrev S8192x5632 : Shape := ⟨2, ![8192, 5632]⟩
abbrev S2048x5632 : Shape := ⟨2, ![2048, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnIdeal.lean ====
abbrev S8192x2048 : Shape := ⟨2, ![8192, 2048]⟩
abbrev S8192x5632 : Shape := ⟨2, ![8192, 5632]⟩
abbrev S2048x5632 : Shape := ⟨2, ![2048, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnReferenceIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S2048x8192, .f32⟩
  | .hbm, ⟨5, _⟩ => ⟨S2048x5632, .f32⟩
  | .hbm, ⟨6, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S8192x2048 : Shape := ⟨2, ![8192, 2048]⟩
abbrev S2048x2048 : Shape := ⟨2, ![2048, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwUp.lean ====
abbrev S8192x512 : Shape := ⟨2, ![8192, 512]⟩
abbrev S8192x2048 : Shape := ⟨2, ![8192, 2048]⟩
abbrev S512x2048 : Shape := ⟨2, ![512, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S8192x512 : Shape := ⟨2, ![8192, 512]⟩
abbrev S8192x2048 : Shape := ⟨2, ![8192, 2048]⟩
abbrev S512x2048 : Shape := ⟨2, ![512, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x512 : Shape := ⟨2, ![8192, 512]⟩
abbrev S8192x2048 : Shape := ⟨2, ![8192, 2048]⟩
abbrev S512x8192 : Shape := ⟨2, ![512, 8192]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S8192x2048, .f32⟩
  | .hbm, ⟨4, _⟩ => ⟨S512x8192, .f32⟩
  | .hbm, ⟨5, _⟩ => ⟨S512x2048, .f32⟩
  | .hbm, ⟨6, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwGlu.lean ====
abbrev S8192x1024 : Shape := ⟨2, ![8192, 1024]⟩
abbrev S8192x2048 : Shape := ⟨2, ![8192, 2048]⟩
abbrev S1024x2048 : Shape := ⟨2, ![1024, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGluIdeal.lean ====
abbrev S8192x1024 : Shape := ⟨2, ![8192, 1024]⟩
abbrev S8192x2048 : Shape := ⟨2, ![8192, 2048]⟩
abbrev S1024x2048 : Shape := ⟨2, ![1024, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGluReferenceIdeal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S1024x8192, .f32⟩
  | .hbm, ⟨5, _⟩ => ⟨S1024x2048, .f32⟩
  | .hbm, ⟨6, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwQkv.lean ====
abbrev S8192x2048 : Shape := ⟨2, ![8192, 2048]⟩
abbrev S8192x1536 : Shape := ⟨2, ![8192, 1536]⟩
abbrev S2048x1536 : Shape := ⟨2, ![2048, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .bf16⟩
  | .hbm, ⟨2, _⟩ => ⟨S2048x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvIdeal.lean ====
abbrev S8192x2048 : Shape := ⟨2, ![8192, 2048]⟩
abbrev S8192x1536 : Shape := ⟨2, ![8192, 1536]⟩
abbrev S2048x1536 : Shape := ⟨2, ![2048, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .bf16⟩
  | .hbm, ⟨2, _⟩ => ⟨S2048x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvReferenceIdeal.lean ====
abbrev S8192x2048 : Shape := ⟨2, ![8192, 2048]⟩
abbrev S8192x1536 : Shape := ⟨2, ![8192, 1536]⟩
abbrev S2048x8192 : Shape := ⟨2, ![2048, 8192]⟩
abbrev S2048x1536 : Shape := ⟨2, ![2048, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1536, .bf16⟩
  | .hbm, ⟨2, _⟩ => ⟨S8192x2048, .f32⟩
  | .hbm, ⟨3, _⟩ => ⟨S8192x1536, .f32⟩
  | .hbm, ⟨4, _⟩ => ⟨S2048x8192, .f32⟩
  | .hbm, ⟨5, _⟩ => ⟨S2048x1536, .f32⟩
  | .hbm, ⟨6, _⟩ => ⟨S2048x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwU.lean ====
abbrev S8192x2048 : Shape := ⟨2, ![8192, 2048]⟩
abbrev S8192x1024 : Shape := ⟨2, ![8192, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUIdeal.lean ====
abbrev S8192x2048 : Shape := ⟨2, ![8192, 2048]⟩
abbrev S8192x1024 : Shape := ⟨2, ![8192, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUReferenceIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S2048x8192, .f32⟩
  | .hbm, ⟨4, _⟩ => ⟨S2048x1024, .f32⟩
  | .hbm, ⟨5, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwGates.lean ====
abbrev S8192x2048 : Shape := ⟨2, ![8192, 2048]⟩
abbrev S8192x4096 : Shape := ⟨2, ![8192, 4096]⟩
abbrev S2048x4096 : Shape := ⟨2, ![2048, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGatesReferenceIdeal.lean ====
abbrev S8192x2048 : Shape := ⟨2, ![8192, 2048]⟩
abbrev S8192x4096 : Shape := ⟨2, ![8192, 4096]⟩
abbrev S2048x8192 : Shape := ⟨2, ![2048, 8192]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S2048x8192, .f32⟩
  | .hbm, ⟨5, _⟩ => ⟨S2048x4096, .f32⟩
  | .hbm, ⟨6, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RmsIn.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsMid.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsMidReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== RmsMidBwd.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32 : BitVec 32 := 0#32
  let v60 : BitVec 1 := Scalar.cmpi .eq arg0 c0_i32
  let v66 : BitVec 32 := Scalar.extui v60
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v60 : BitVec 1 := Scalar.cmpi .eq arg0 c0_i32
  let true_29 : BitVec 1 := 1#1
  let v68 : BitVec 1 := Scalar.xori v60 true_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsMidBwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x2048, .f32⟩
  | .hbm, ⟨79, _⟩ => ⟨S8192x2048, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== SsmGelu.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SsmGeluReferenceIdeal.lean ====
abbrev S8192x1024 : Shape := ⟨2, ![8192, 1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateMerge.lean ====
abbrev S8192x4096 : Shape := ⟨2, ![8192, 4096]⟩
abbrev S8192x2048 : Shape := ⟨2, ![8192, 2048]⟩
abbrev S128x4096 : Shape := ⟨2, ![128, 4096]⟩
abbrev S128x2048 : Shape := ⟨2, ![128, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateMergeReferenceIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== GateBwd.lean ====
abbrev S8192x2048 : Shape := ⟨2, ![8192, 2048]⟩
abbrev S8192x4096 : Shape := ⟨2, ![8192, 4096]⟩
abbrev S128x2048 : Shape := ⟨2, ![128, 2048]⟩
abbrev S128x4096 : Shape := ⟨2, ![128, 4096]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x4096, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x4096, .f32⟩
  | .local _ .vmem, ⟨3, _⟩ => ⟨S128x4096, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x4096, .bf16⟩
  | .local _ .vmem, ⟨11, _⟩ => ⟨S128x4096, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateBwdReferenceIdeal.lean ====
abbrev S8192x2048 : Shape := ⟨2, ![8192, 2048]⟩
abbrev S8192x4096 : Shape := ⟨2, ![8192, 4096]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x4096, .f32⟩
  | .hbm, ⟨59, _⟩ => ⟨S8192x4096, .bf16⟩
  | .hbm, ⟨60, _⟩ => ⟨S8192x2048, .bf16⟩
  | .hbm, ⟨61, _⟩ => ⟨S8192x2048, .bf16⟩
  | .hbm, ⟨62, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Swiglu.lean ====
abbrev S8192x5632 : Shape := ⟨2, ![8192, 5632]⟩
abbrev S128x5632 : Shape := ⟨2, ![128, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluReferenceIdeal.lean ====
abbrev S8192x5632 : Shape := ⟨2, ![8192, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== SwigluBwd.lean ====
abbrev S8192x5632 : Shape := ⟨2, ![8192, 5632]⟩
abbrev S64x5632 : Shape := ⟨2, ![64, 5632]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .bf16⟩
  | .hbm, ⟨4, _⟩ => ⟨S8192x5632, .bf16⟩
  | .local _ .vmem, ⟨0, _⟩ => ⟨S64x5632, .f32⟩
  | .local _ .vmem, ⟨1, _⟩ => ⟨S64x5632, .f32⟩
  | .local _ .vmem, ⟨2, _⟩ => ⟨S64x5632, .f32⟩
  | .local _ .vmem, ⟨3, _⟩ => ⟨S64x5632, .f32⟩
  | .local _ .vmem, ⟨4, _⟩ => ⟨S64x5632, .f32⟩
  | .local _ .vmem, ⟨5, _⟩ => ⟨S64x5632, .f32⟩
  | .local _ .vmem, ⟨6, _⟩ => ⟨S64x5632, .bf16⟩
  | .local _ .vmem, ⟨7, _⟩ => ⟨S64x5632, .bf16⟩
  | .local _ .vmem, ⟨8, _⟩ => ⟨S64x5632, .bf16⟩
  | .local _ .vmem, ⟨9, _⟩ => ⟨S64x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluBwdReferenceIdeal.lean ====
abbrev S8192x5632 : Shape := ⟨2, ![8192, 5632]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .bf16⟩
  | .hbm, ⟨25, _⟩ => ⟨S8192x5632, .f32⟩
  | .hbm, ⟨26, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== DlFold.lean ====
abbrev S8x4096 : Shape := ⟨2, ![8, 4096]⟩
abbrev S1x4096 : Shape := ⟨2, ![1, 4096]⟩
abbrev S4096 : Shape := ⟨1, ![4096]⟩

abbrev nBuf : Space → Nat
  | .hbm => 4
  | .vmem => 4
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S1x4096, .f32⟩
  | .hbm, ⟨3, _⟩ => ⟨S1x4096, .f32⟩
  | .local _ .vmem, ⟨0, _⟩ => ⟨S8x4096, .f32⟩
  | .local _ .vmem, ⟨1, _⟩ => ⟨S8x4096, .f32⟩
  | .local _ .vmem, ⟨2, _⟩ => ⟨S1x4096, .f32⟩
  | .local _ .vmem, ⟨3, _⟩ => ⟨S1x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v9 : BitVec 1 := Scalar.xori v6 v_true
  let v10 : BitVec 32 := Scalar.extui v9
  let c0_i32_5 : BitVec 32 := 0#32
  let v11 : BitVec 1 := Scalar.cmpi .ne v10 c0_i32_5
  v11

def k0_cond3 (i : grid0.Coords) : BitVec 1 :=
  let arg0 : BitVec 32 := BitVec.ofNat 32 (i 0).val
  let c0_i32 : BitVec 32 := 0#32
  let v6 : BitVec 1 := Scalar.cmpi .eq arg0 c0_i32
  let v12 : BitVec 32 := Scalar.extui v6
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32 : BitVec 32 := 0#32
  let v6 : BitVec 1 := Scalar.cmpi .eq arg0 c0_i32
  let true_7 : BitVec 1 := 1#1
  let v14 : BitVec 1 := Scalar.xori v6 true_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DlFoldReferenceIdeal.lean ====
abbrev S8x4096 : Shape := ⟨2, ![8, 4096]⟩
abbrev S_ : Shape := ⟨0, ![]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S_, .f32⟩
  | .hbm, ⟨3, _⟩ => ⟨S4096, .f32⟩
  | .hbm, ⟨4, _⟩ => ⟨S1x4096, .f32⟩
  | .hbm, ⟨5, _⟩ => ⟨S_, .f32⟩
  | .hbm, ⟨6, _⟩ => ⟨S4096, .f32⟩
  | .hbm, ⟨7, _⟩ => ⟨S1x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Start.lean ====
/-
  How a program of several devices is run when its devices share out what they hold BEFORE any of them moves.

  The exchange of this certificate has no barrier: a device copies into another device's result buffer as soon as it
  enters the kernel, and the copy is counted on a semaphore that is scratch of the receiving device's kernel. So the
  buffers of all devices, and the counters of all devices' semaphores, have to be dealt out once for the whole machine.
  `run_dealt` is that launch: one step (`hdeal`) turns everything the devices hold at launch into what each of them
  starts with, and each device is then run by itself. `region_wp` is the kernel call of a program whose kernel has no
  window and no grid: its body is run once, from what the device was dealt.
-/
module

public import Idealize.ShloMosaic.Lib.Pipeline.Launch
public import Idealize.ShloMosaic.Lib.Pipeline.Kit
public import Idealize.ShloMosaic.Lib.Tactic

@[expose] public section

noncomputable section

namespace Cert.Start

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U] [∀ e, Nonempty (Val e)]

local notation "𝕄" => MT nD τ sig Unit Val ℕ U ℕ

/-! ## The launch -/

/-- The levels of the whole machine, assigned from the blank ones of every core. -/
theorem assign_levels (L : GSem nD τ sig → Finset Unit) (lv : GSem nD τ sig → Unit → ℕ)
    (hL : ∀ g : GSem nD τ sig, g.1.2 ≠ .tc → L g = ∅) :
    (bigSep Finset.univ fun c : Dev nD => levels0 c : sProp 𝕄) ⊢ |==> levAts L lv := by
  classical
  have hoff (d : Dev nD) : (bigSep (Finset.univ.erase Proc.tc) fun p => (coreLevAts ((d, p) : Thread nD τ) L lv : sProp 𝕄)) = BI.emp := by
    rw [← BI.bigSep_emp_const (Finset.univ.erase (Proc.tc : Proc τ))]
    refine bigSep_congr fun p hp => ?_
    unfold coreLevAts
    rw [← BI.bigSep_emp_const (Finset.univ : Finset (SemLoc sig))]
    refine bigSep_congr fun sm _ => ?_
    rw [hL (((d, p) : Thread nD τ), sm) (Finset.ne_of_mem_erase hp), BI.bigSep_empty]
  have hall : (levAts L lv : sProp 𝕄)
      = iprop((bigSep Finset.univ fun d : Dev nD => coreLevAts (d.tc : Thread nD τ) L lv) ∗ BI.emp) := by
    rw [← BI.bigSep_emp_const (Finset.univ : Finset (Dev nD)), ← bigSep_congr (fun d _ => hoff d)]
    exact (bigSep_univ_prod fun g : GSem nD τ sig => bigSep (L g) fun i => levAt g i (lv g i)).trans
      (bigSep_threads fun c : Thread nD τ => coreLevAts c L lv)
  rw [hall]
  refine (bigSep_mono fun c _ => lev_assign_cells (c.tc : Thread nD τ) L lv).trans
    ((BI.bigSep_bupd _ _).trans (BI.bupd_mono ?_))
  rw [bigSep_sep']
  refine (show iprop((bigSep Finset.univ fun c : Dev nD => bigSep Finset.univ fun sm : SemLoc sig =>
        levels ((c.tc : Thread nD τ), sm) (L ((c.tc : Thread nD τ), sm)))
      ∗ (bigSep Finset.univ fun c : Dev nD => (coreLevAts (c.tc : Thread nD τ) L lv : sProp 𝕄))) ⊢ _ from ?_)
  iintro ⟨-, H⟩
  isplitl [H]; · iexact H
  iempintro

/-- What one core holds at launch, besides what it owes, the launch credit and the levels. -/
def atLaunch (m : (ℓ : Loc nD τ sig) → Buf Val ℓ) (c : Dev nD) : sProp 𝕄 :=
  iprop(scopedBufs (c.tc : Thread nD τ) ∗ scopedSems0 (c.tc : Thread nD τ)
    ∗ unscopedBufs c (fun b => m ((c.tc : Thread nD τ).loc b)))

/-- A program of several devices, from one dealing of all they hold: `hdeal` turns the buffers and the counters of
    every device, with the certificate's own resource, into what each device starts with; `hrun` runs one device;
    `hread` reads what a device ends with against the final memory. -/
theorem run_dealt {Λ : Labels} (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Unit)
    (L : GSem nD τ sig → Finset Unit) (lv : GSem nD τ sig → Unit → ℕ) (hL : ∀ g : GSem nD τ sig, g.1.2 ≠ .tc → L g = ∅)
    (u₀ : U) (Hold Y : Dev nD → sProp 𝕄)
    (hdeal : iprop((bigSep Finset.univ fun c => atLaunch m c) ∗ ownU u₀) ⊢ |={Set.univ}=> bigSep Finset.univ Hold)
    (hrun : ∀ c, iprop(Hold c ∗ owes (c.tc : Thread nD τ) (O₀ c) ∅ ∗ levAts L lv ∗ launchCred O₀ c)
      ⊢ wp frame (wpE defs 𝒱 (c.tc : Thread nD τ) none) Set.univ (main c)
          (fun _ => iprop(Y c ∗ scopedSems0 (c.tc : Thread nD τ) ∗ ∃ W, owes (c.tc : Thread nD τ) (0 : CellTallies nD τ sig Unit) W)))
    (QY : Dev nD → MemSt nD τ sig Val → Prop)
    (hread : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let pre : Dev nD → sProp 𝕄 := fun c => iprop(Hold c ∗ owes (c.tc : Thread nD τ) (O₀ c) ∅ ∗ levAts L lv ∗ launchCred O₀ c)
  let fin : Dev nD → sProp 𝕄 := fun c => iprop(Y c ∗ scopedSems0 (c.tc : Thread nD τ))
  refine (θ_run defs _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => pre) (fun _ => fin)
      (fun _ => iprop(emp)) Set.univ ?_ (fun _ c => ?_) fun _ => ?_))
  · have hcore (c : Dev nD) :
        coreInit (Ix := Unit) (Name := ℕ) (U := U) (Lvl := ℕ) (owing O₀) 0 (⟨m, fun _ => 0, g⟩ : MemSt nD τ sig Val) (c.tc : Thread nD τ)
          ⊢ iprop(atLaunch m c ∗ owes (c.tc : Thread nD τ) (O₀ c) ∅ ∗ launchCred O₀ c ∗ levels0 c) := by
      refine (coreInit_boundary_owing O₀ m g c).trans ?_
      unfold boundary atLaunch
      iintro ⟨⟨Hsc, Hss, -⟩, Hub, -, HL, Hlv, -, Hcr⟩
      isplitl [Hsc Hss Hub]
      · isplitl [Hsc]; · iexact Hsc
        isplitl [Hss] <;> iassumption
      isplitl [HL]; · iexact HL
      isplitl [Hcr] <;> iassumption
    have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => atLaunch m c) ∗ (bigSep Finset.univ fun c : Dev nD => owes (c.tc : Thread nD τ) (O₀ c) ∅)
          ∗ (bigSep Finset.univ fun c : Dev nD => launchCred O₀ c) ∗ (bigSep Finset.univ fun c : Dev nD => levels0 c) : sProp 𝕄) := by
      rw [← bigSep_sep', ← bigSep_sep', ← bigSep_sep']
      exact bigSep_mono fun c _ => hcore c
    iintro ⟨Hcores, Hu⟩
    ihave Hc := hcores $$ Hcores
    icases Hc with ⟨Hat, HL, Hcr, Hlv⟩
    imod (assign_levels L lv hL) $$ Hlv with Hla
    imod hdeal $$ [Hat Hu] with HH
    · isplitl [Hat] <;> iassumption
    imodintro
    iexists ()
    isplitr []
    · simp only [pre, bigSep_sep']
      isplitl [HH]; · iexact HH
      isplitl [HL]; · iexact HL
      isplitl [Hla]
      · iapply (BI.bigSep_intro_persistent (S := Finset.univ) fun (c : Dev nD) _ => (BI.Entails.refl (levAts L lv : sProp 𝕄)))
        iexact Hla
      iexact Hcr
    · iempintro
  · refine (hrun c).trans (wp_mono _ _ _ fun _ => ?_)
    unfold post; simp only [liftTc_tc, fin]
    iintro ⟨HY, Hs, HW⟩
    isplitl [HY Hs]
    · isplitl [HY] <;> iassumption
    · iexact HW
  · have hone (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hread c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hone s') $$ [H HSI] with %h
    · isplitl [H] <;> iassumption
    imodintro
    ipureintro
    exact ⟨fun c => h c (Finset.mem_univ c), hsc⟩

/-- A whole buffer held is what the memory has. -/
theorem read_buf {ℓ : Loc nD τ sig} {f : Buf Val ℓ} (s' : Phys nD τ sig Val) :
    iprop((ℓ ↦{fullShare} f) ∗ SI s') ⊢ (⌜s'.mem.mem ℓ = f⌝ : sProp 𝕄) := by
  iintro ⟨H, HSI⟩
  ihave %h := (SI_pointsTo_agree (st := s') (ℓ := ℓ) (I := Finset.univ) (q := fullShare) (f := f)) $$ [HSI H]
  · isplitl [HSI] <;> iassumption
  ipureintro
  exact funext fun i => h i (Finset.mem_univ i)

/-! ## The kernel call -/

section Region

variable {Λ₀ : Labels} {P : Type} [Fintype P] [DecidableEq P] (cfgs : P → Cfg sig Λ₀)
  (dats : (p : P) → (c : Dev nD) → Dat τ Val Unit ℕ U ℕ (cfgs p) c)
  (EP : Emb (URounds (GSem nD τ sig) Unit) (MT nD τ sig Unit Val ℕ U ℕ))
  (hinj : Function.Injective (cellOf (nD := nD) (τ := τ) cfgs)) (p : P)
  (defs₀ : Defs nD τ sig Val Λ₀) (𝒱₀ : Variants)

include hinj EP in
/-- A kernel call with no window: the body runs from the invariant's start, made of what the device holds and its scoped
    buffers, to its end, which gives back the result, the scoped semaphores at zero and the scoped buffers. -/
theorem region_wp (hW : (cfgs p).W = 0) (c : Dev nD)
    (hbody : BodyObligation (dats p c) defs₀ 𝒱₀ () Set.univ)
    (O₀ : CellTallies nD τ sig Unit) (howed₀ : (dats p c).owed 0 = O₀) (howedN : (dats p c).owed (Fin.last _) = 0)
    {X Y : sProp 𝕄}
    (hin : iprop(X ∗ scopedBufs (c.tc : Thread nD τ)) ⊢ (dats p c).Φ 0)
    (hout : (dats p c).Φ (Fin.last (cfgs p).N) ⊢ iprop(Y ∗ scopedSems0 (c.tc : Thread nD τ) ∗ scopedBufs (c.tc : Thread nD τ))) :
    iprop(X ∗ scopedBufs (c.tc : Thread nD τ) ∗ owes (c.tc : Thread nD τ) O₀ ∅)
      ⊢ wp frame (wpE (Pipeline.defs (fun p => (cfgs p).toPCfg) defs₀) (Variants.lift 𝒱₀) (c.tc : Thread nD τ) none) Set.univ
          (.op (.customCall (entry p) ()) fun _ => .ret ⟨⟩ :
            Prog (TpuEff nD τ sig Val (Pipeline.Sig Λ₀ P fun p => ((cfgs p).toPCfg (Val := Val)).Adm) .tc) PUnit)
          (fun _ => iprop(Y ∗ scopedSems0 (c.tc : Thread nD τ) ∗ ∃ W, owes (c.tc : Thread nD τ) (0 : CellTallies nD τ sig Unit) W)) := by
  haveI hE : IsEmpty (Fin (cfgs p).W) := by rw [hW]; infer_instance
  have hno (Ψ : Fin (cfgs p).W → sProp 𝕄) : bigSep Finset.univ Ψ = BI.emp := by
    rw [Finset.univ_eq_empty, BI.bigSep_empty]
  have hst : (Dat.staging (cfgs p) c : sProp 𝕄) = BI.emp := hno _
  have hrun := wp_customCall_entry_frame (fun p => (cfgs p).toPCfg) (fun p => (cfgs p).toPCfg_adm) dats () EP (fun _ => 0) hinj p
    defs₀ 𝒱₀ (fun k => nomatch k) c Set.univ (fun _ _ => Set.mem_univ _) hbody.loose (fun w => hE.elim w) none (fun u h => nomatch h)
    (X := X) (Y := Y) (R := scopedBufs (c.tc : Thread nD τ)) (I := iprop(emp))
    (by
      show _ ⊢ iprop((Dat.staging (cfgs p) c : sProp 𝕄) ∗ _)
      rw [hst]
      iintro H
      isplitr; · iempintro
      iexact H)
    (by
      iintro ⟨HX, -, HR⟩
      iapply hin
      isplitl [HX] <;> iassumption)
    (by
      iintro ⟨HΦ, -⟩
      iapply hout
      iexact HΦ)
    (α := PUnit) (k := fun _ => .ret PUnit.unit) (Q := fun _ => iprop(Y ∗ scopedSems0 (c.tc : Thread nD τ) ∗ ∃ W, owes (c.tc : Thread nD τ) (0 : CellTallies nD τ sig Unit) W))
  have hpre : (owes (c.tc : Thread nD τ) O₀ ∅ : sProp 𝕄) ⊢ EntryPre cfgs dats () EP (fun _ => 0) p c := by
    have h1 : (dats p c).arrays ((dats p c).arrAt · 0) = BI.emp := hno _
    have h2 : cellsWaits cfgs dats () p c = BI.emp := hno _
    have h3 : cellsInit cfgs dats EP (fun _ => 0) p c = BI.emp := hno _
    have h4 : (toksInit cfgs EP p c : sProp 𝕄) = BI.emp := hno _
    show _ ⊢ iprop((dats p c).arrays ((dats p c).arrAt · 0) ∗ (dats p c).owesAt () 0
      ∗ cellsWaits cfgs dats () p c ∗ cellsInit cfgs dats EP (fun _ => 0) p c ∗ toksInit cfgs EP p c)
    rw [h1, h2, h3, h4]
    unfold Dat.owesAt owesWithin
    rw [howed₀]
    iintro HL
    isplitr; · iempintro
    isplitl [HL]
    · iexists ∅; isplitr; · ipureintro; rw [Finset.coe_empty]; exact Set.empty_subset _
      iexact HL
    isplitr; · iempintro
    isplitr <;> iempintro
  have hpost : EntryPost cfgs dats () p c ⊢ (iprop(∃ W, owes (c.tc : Thread nD τ) (0 : CellTallies nD τ sig Unit) W) : sProp 𝕄) := by
    show iprop((dats p c).arrays ((dats p c).arrAt · (cfgs p).N) ∗ (dats p c).owesAt () (Fin.last (cfgs p).N)) ⊢ _
    unfold Dat.owesAt owesWithin
    rw [howedN]
    iintro ⟨-, ⟨%W, -, HW⟩⟩
    iexists W; iexact HW
  iintro ⟨HX, Hsc, HL⟩
  iapply hrun $$ [HX Hsc HL]
  · isplitl [HL]; · iapply hpre; iexact HL
    isplitr
    · iapply (show (BI.emp : sProp 𝕄) ⊢ prefHeld (Prefetch.none (sig := sig)) c (fun k => nomatch k) (Cfg.toPCfg_adm (Val := Val) (cfgs p)).1 from by
        unfold prefHeld
        rw [Finset.univ_eq_empty, BI.bigSep_empty])
      iempintro
    isplitl [HX]; · iexact HX
    isplitr; · iempintro
    iexact Hsc
  iintro ⟨Hpost, HY, Hss, -⟩
  rw [wp_ret]; imodintro
  isplitl [HY]; · iexact HY
  isplitl [Hss]; · iexact Hss
  iapply hpost; iexact Hpost

end Region

end Cert.Start

end
-- ==== Proof.Once.lean ====
/-
  Exchanges in which every semaphore is used for exactly one transfer.

  Each device has the same family of semaphores, indexed by a finite type `I`. Every semaphore counts one transfer of
  one fixed size and is waited for once, by the device it belongs to. `pay c i` is what the wait on semaphore `i` of
  device `c` hands to that device: the block that arrived, or the block whose reading has ended. Nothing in this module
  depends on which program uses it: the three exchanges of the certificate are instances.
-/
module

public import proofs.«01_k».proof.Proof.Start

@[expose] public section

noncomputable section

namespace Cert.Once

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {I : Type} [Fintype I] [DecidableEq I]

/-- The resources of the machine, with the rounds' ghost state as the user's part. -/
abbrev Mx (nD : Nat) (τ : Topo) (sig : RefSig) (Val : EltTy → Type) : Type := MT nD τ sig Unit Val ℕ (UR sig nD τ) ℕ

/-- The ghost state of the exchange is the whole of the user's algebra. -/
abbrev EO : Emb (UR sig nD τ) (MT nD τ sig Unit Val ℕ (UR sig nD τ) ℕ) := emb₁

/-- Semaphore `i` of device `c`. -/
abbrev cellAt (nD : Nat) (τ : Topo) (osem : I → SemLoc sig) (ck : Dev nD × I) : GSem nD τ sig := ((ck.1 : Thread nD τ), osem ck.2)

theorem cellAt_inj {osem : I → SemLoc sig} (hos : Function.Injective osem) : Function.Injective (cellAt nD τ osem) := by
  rintro ⟨a, i⟩ ⟨b, j⟩ h
  have h1 : a = b := Fin.ext (congrArg (fun g : GSem nD τ sig => g.1.1.val) h)
  have h2 : i = j := hos (congrArg (fun g : GSem nD τ sig => g.2) h)
  rw [h1, h2]

open Classical in
/-- The schedule: one round, one instalment of `N`, on every semaphore of the family. -/
def once (osem : I → SemLoc sig) (N : ℕ) (hN : 0 < N) (pay : Dev nD → I → sProp (Mx nD τ sig Val)) : Rounds.Schedule (GSem nD τ sig) Unit (Mx nD τ sig Val) where
  duties g r := if r = 0 ∧ g.1.2 = .tc ∧ ∃ i, g.2 = osem i then {()} else ∅
  unitless _ := False
  amount _ _ _ := N
  payload g _ _ := if h : ∃ i, g.2 = osem i then pay g.1.1 h.choose else iprop(emp)
  amount_pos _ _ _ _ := hN

section Facts
variable {osem : I → SemLoc sig} {N : ℕ} {hN : 0 < N} {pay : Dev nD → I → sProp (Mx nD τ sig Val)}

instance once_storable [∀ c i, BI.Storable (upEmb : UEmb _ (Mx nD τ sig Val)) (pay c i)] (g : GSem nD τ sig) (r : ℕ) (d : Unit) :
    BI.Storable (upEmb : UEmb _ (Mx nD τ sig Val)) ((once osem N hN pay).payload g r d) := by
  dsimp only [once]
  split <;> infer_instance

theorem once_duties (c : Dev nD) (i : I) : (once osem N hN pay).duties (cellAt nD τ osem (c, i)) 0 = {()} := by
  dsimp only [once]; exact if_pos ⟨rfl, rfl, i, rfl⟩
theorem once_later (g : GSem nD τ sig) : ∀ r, 1 ≤ r → (once osem N hN pay).duties g r = ∅ :=
  fun r hr => by dsimp only [once]; exact if_neg fun h => by omega
theorem once_expect (c : Dev nD) (i : I) : (once osem N hN pay).expect (cellAt nD τ osem (c, i)) 0 = N := by
  unfold Schedule.expect Schedule.amountOf; rw [once_duties, Finset.sum_singleton]; rfl
theorem once_payload (hos : Function.Injective osem) (c : Dev nD) (i : I) (r : ℕ) (u : Unit) :
    (once osem N hN pay).payload (cellAt nD τ osem (c, i)) r u = pay c i := by
  have h : ∃ i', osem i = osem i' := ⟨i, rfl⟩
  have hc : h.choose = i := (hos h.choose_spec).symm
  dsimp only [once]
  rw [dif_pos h, hc]
theorem once_rest (hos : Function.Injective osem) (c : Dev nD) (i : I) :
    bigSep ((once osem N hN pay).duties (cellAt nD τ osem (c, i)) 0 \ ∅) (fun u => (once osem N hN pay).payload (cellAt nD τ osem (c, i)) 0 u) = pay c i := by
  rw [Finset.sdiff_empty, once_duties, bigSep_singleton, once_payload hos]

end Facts

/-! ## What every device knows -/

section Records
variable (osem : I → SemLoc sig) (N : ℕ) (hN : 0 < N) (pay : Dev nD → I → sProp (Mx nD τ sig Val))

/-- Every semaphore of the machine is kept by its schedule, and its one round is open. -/
def records (K : Dev nD × I → ℕ) : sProp (Mx nD τ sig Val) :=
  iprop((bigSep Finset.univ fun ck => cellInv EO (once osem N hN pay) (K ck) (cellAt nD τ osem ck))
    ∗ (bigSep Finset.univ fun ck => reached EO (cellAt nD τ osem ck) 0))

instance records_persistent (K : Dev nD × I → ℕ) : BI.Persistent (records osem N hN pay K) := by unfold records; infer_instance

variable {osem N hN pay}

theorem records_inv (K : Dev nD × I → ℕ) (ck : Dev nD × I) :
    records osem N hN pay K ⊢ cellInv EO (once osem N hN pay) (K ck) (cellAt nD τ osem ck) := by
  unfold records
  have h : (bigSep Finset.univ fun ck => cellInv EO (once osem N hN pay) (K ck) (cellAt nD τ osem ck))
      ⊢ cellInv EO (once osem N hN pay) (K ck) (cellAt nD τ osem ck) := bigSep_elim (Finset.mem_univ ck)
  iintro ⟨H, -⟩
  iapply h
  iexact H
theorem records_reached (K : Dev nD × I → ℕ) (ck : Dev nD × I) :
    records osem N hN pay K ⊢ reached EO (cellAt nD τ osem ck) 0 := by
  unfold records
  have h : (bigSep Finset.univ fun ck => (reached EO (cellAt nD τ osem ck) 0 : sProp (Mx nD τ sig Val)))
      ⊢ reached EO (cellAt nD τ osem ck) 0 := bigSep_elim (Finset.mem_univ ck)
  iintro ⟨-, H⟩
  iapply h
  iexact H

end Records

/-! ## The three steps -/

section Steps
variable {osem : I → SemLoc sig} {N : ℕ} {hN : 0 < N} {pay : Dev nD → I → sProp (Mx nD τ sig Val)}
variable [∀ c i, BI.Storable (upEmb : UEmb _ (Mx nD τ sig Val)) (pay c i)]
variable {Λ : Labels} {defs : Defs nD τ sig Val Λ} {α : Type} {Q : α → sProp (Mx nD τ sig Val)}

/-- A copy on one device. -/
theorem wp_copy (𝒱 : Variants) (hos : Function.Injective osem) (K : Dev nD × I → ℕ) (c : Dev nD) (i : I) {sp sp' : Space} {s : Shape} {e : EltTy}
    {src : Memref sig .tc sp s e} {dst : Memref sig .tc sp' s e} {sem : SemLoc sig} (hsem : sem = osem i)
    {hsrc : src.view.WordExact} {hdst : dst.view.WordExact} {hty : DmaTarget.Typed (nD := nD) (τ := τ) (p := Proc.tc) sp sem (.here dst)}
    {k : PUnit → Prog (TpuEff nD τ sig Val Λ .tc) α}
    {q : PosShare TreeShare} {fs : Buf Val (src.view.loc (c : Thread nD τ))} {fd : Buf Val (dst.view.loc (c : Thread nD τ))}
    (hamt : dst.view.amount sem = N)
    (hpay : iprop((dst.view.loc (c : Thread nD τ) ↦[dst.view.set]{fullShare} (dst.view.write Val fd (src.view.read Val fs) Finset.univ))
              ∗ (src.view.loc (c : Thread nD τ) ↦[src.view.set]{q} fs)) ⊢ pay c i) :
    iprop(records osem N hN pay K ∗ (src.view.loc (c : Thread nD τ) ↦[src.view.set]{q} fs)
        ∗ (dst.view.loc (c : Thread nD τ) ↦[dst.view.set]{fullShare} fd) ∗ dutyTok EO (cellAt nD τ osem (c, i)) 0 ())
      ⊢ iprop((cred (tallyAt (cellAt nD τ osem (c, i)) () N) -∗ wp frame (wpE defs 𝒱 c.tc none) Set.univ (k ⟨⟩) Q)
          -∗ wp frame (wpE defs 𝒱 c.tc none) Set.univ (.op (.enqueueDma src (.here dst) sem hsrc hdst hty) k) Q) := by
  subst hsem
  refine BIBase.Entails.trans ?_ (Rounds.wp_copy_pointsTo 𝒱 EO (once osem N hN pay) (c : Thread nD τ) none (κ := K (c, i)) (r := 0) (d := ())
    (by rw [once_duties c i]; exact Finset.mem_singleton_self _) () N hamt rfl (hpay.trans (Entails.of_eq (once_payload hos c i 0 ()).symm)))
  iintro ⟨#HR, Hs, Hd, Ht⟩
  isplitr; · iapply (records_inv K (c, i)); iexact HR
  isplitl [Hs]; · iexact Hs
  isplitl [Hd]; · iexact Hd
  isplitl [Ht]; · iexact Ht
  iapply (records_reached K (c, i)); iexact HR

/-- A copy to another device: it frees the sender's semaphore `i` and fills the receiver's semaphore `j`. -/
theorem wp_send (𝒱 : Variants) (hos : Function.Injective osem) (K : Dev nD × I → ℕ) (c c' n : Dev nD) (hn : n = c') (i j : I) {sp sp' : Space} {s : Shape} {e : EltTy}
    {src : Memref sig .tc sp s e} {dst : Memref sig .tc sp' s e} {hsc : dst.view.ref.isScScratch = false}
    {sS sem : SemLoc sig} (hS : sS = osem i) (hV : sem = osem j)
    {hsrc : src.view.WordExact} {hdst : dst.view.WordExact} {hty : DmaTarget.Typed sp sem (.remote (n : Thread nD τ) dst sS hsc)}
    {k : PUnit → Prog (TpuEff nD τ sig Val Λ .tc) α}
    {q : PosShare TreeShare} {fs : Buf Val (src.view.loc (c : Thread nD τ))} {fd : Buf Val (dst.view.loc (c' : Thread nD τ))}
    (hamt : dst.view.amount sem = N) {O₀ : CellTallies nD τ sig Unit} (O : CellTallies nD τ sig Unit)
    (hO : O₀ = O + tallyAt (cellAt nD τ osem (c', j)) () N) {W : Waits sig Unit}
    (hpay₁ : (src.view.loc (c : Thread nD τ) ↦[src.view.set]{q} fs) ⊢ pay c i)
    (hpay₂ : (dst.view.loc (c' : Thread nD τ) ↦[dst.view.set]{fullShare} (dst.view.write Val fd (src.view.read Val fs) Finset.univ)) ⊢ pay c' j)
    (hr : τ.routes (c : Thread nD τ) (c' : Thread nD τ) = true) :
    iprop(records osem N hN pay K ∗ (src.view.loc (c : Thread nD τ) ↦[src.view.set]{q} fs)
        ∗ (dst.view.loc (c' : Thread nD τ) ↦[dst.view.set]{fullShare} fd) ∗ owes (c : Thread nD τ) O₀ W
        ∗ dutyTok EO (cellAt nD τ osem (c, i)) 0 () ∗ dutyTok EO (cellAt nD τ osem (c', j)) 0 ())
      ⊢ iprop(((cred (tallyAt (cellAt nD τ osem (c, i)) () N) ∗ owes (c : Thread nD τ) O W) -∗ wp frame (wpE defs 𝒱 c.tc none) Set.univ (k ⟨⟩) Q)
          -∗ wp frame (wpE defs 𝒱 c.tc none) Set.univ (.op (.enqueueDma src (.remote (n : Thread nD τ) dst sS hsc) sem hsrc hdst hty) k) Q) := by
  subst hn; subst hS; subst hV
  refine BIBase.Entails.trans ?_ (Rounds.wp_send_pointsTo 𝒱 EO (once osem N hN pay) (c : Thread nD τ) none (κ₁ := K (c, i)) (κ₂ := K (n, j))
    (r₁ := 0) (r₂ := 0) (d₁ := ()) (d₂ := ()) (by rw [once_duties c i]; exact Finset.mem_singleton_self _)
    (by rw [once_duties n j]; exact Finset.mem_singleton_self _) () () N hamt rfl rfl O hO (W := W)
    (hpay₁.trans (Entails.of_eq (once_payload hos c i 0 ()).symm)) (hpay₂.trans (Entails.of_eq (once_payload hos n j 0 ()).symm)) hr)
  iintro ⟨#HR, Hs, Hd, HO, Ht, Ht'⟩
  isplitr; · iapply (records_inv K (c, i)); iexact HR
  isplitr; · iapply (records_inv K (n, j)); iexact HR
  isplitl [Hs]; · iexact Hs
  isplitl [Hd]; · iexact Hd
  isplitl [HO]; · iexact HO
  isplitl [Ht]; · iexact Ht
  isplitr; · iapply (records_reached K (c, i)); iexact HR
  isplitl [Ht']; · iexact Ht'
  iapply (records_reached K (n, j)); iexact HR

/-- A wait: what the semaphore pays, and the semaphore back at zero. -/
theorem wp_await (𝒱 : Variants) (hos : Function.Injective osem) (K : Dev nD × I → ℕ) (c : Dev nD) (i : I) {sp sp' : Space} {s : Shape} {e : EltTy}
    {src : Memref sig .tc sp s e} {dst : Memref sig .tc sp' s e} {sem : DmaSem sig} (hsem : SemLoc.dma sem = osem i)
    {hsrc : src.view.WordExact} {hdst : dst.view.WordExact}
    {k : PUnit → Prog (TpuEff nD τ sig Val Λ .tc) α} (hamt : dst.view.dmaCredit = N) {O : CellTallies nD τ sig Unit} {W : Waits sig Unit} :
    iprop(records osem N hN pay K ∗ cred (tallyAt (cellAt nD τ osem (c, i)) () N) ∗ owes (c : Thread nD τ) O W
        ∗ MayWait (c : Thread nD τ) (osem i) () O ∗ atPos EO (cellAt nD τ osem (c, i)) 0 ∅ 0)
      ⊢ iprop(((owes (c : Thread nD τ) O (insert (osem i, ()) W) ∗ pay c i ∗ semVal (cellAt nD τ osem (c, i)) 0)
            -∗ wp frame (wpE defs 𝒱 c.tc none) Set.univ (k ⟨⟩) Q)
          -∗ wp frame (wpE defs 𝒱 c.tc none) Set.univ (.op (.waitDma2 sem src dst hsrc hdst) k) Q) := by
  have hw := Rounds.wp_wait_rest_token 𝒱 EO (once osem N hN pay) (c : Thread nD τ) none (κ := K (c, i)) (α := α) (Q := Q)
    (wpE_waitDma2_eq (defs := defs) 𝒱 (c : Thread nD τ) none Set.univ (sem := sem) (src := src) (dst := dst) (hsrc := hsrc) (hdst := hdst)) (Set.mem_univ _) (k := k) ()
    (O := O) (W := W) (R := 0) (m := 0) (T := ∅) (by rw [Nat.zero_add, hsem]; exact hamt.trans (once_expect c i).symm)
  rw [hsem, hamt] at hw
  rw [once_rest hos c i] at hw
  iintro ⟨#HR, Hc, HO, Hm, Hat⟩ Hk
  iapply hw $$ [Hc HO Hm Hat]
  · isplitr; · iapply (records_inv K (c, i)); iexact HR
    isplitl [Hc]; · iexact Hc
    isplitl [HO]; · iexact HO
    isplitl [Hm]; · iexact Hm
    iexact Hat
  iintro ⟨HO, Hat, -, Hp⟩
  imod (Rounds.cell_close EO (once osem N hN pay) (g := cellAt nD τ osem (c, i)) (Set.mem_univ (K (c, i))) (fun h => h) (R := 0 + 1) (once_later _)) $$ [Hat] with Hz
  · isplitr; · iapply (records_inv K (c, i)); iexact HR
    iexact Hat
  iapply Hk
  isplitl [HO]; · iexact HO
  isplitl [Hp]; · iexact Hp
  iexact Hz

end Steps

/-! ## The launch -/

section Launch
variable (osem : I → SemLoc sig) (hos : Function.Injective osem) (N : ℕ) (hN : 0 < N) (pay : Dev nD → I → sProp (Mx nD τ sig Val))

/-- The semaphores of the family, and one token for each. -/
def cells : Finset (GSem nD τ sig) := (Finset.univ : Finset (Dev nD × I)).map ⟨cellAt nD τ osem, cellAt_inj hos⟩
def toks : Finset (GSem nD τ sig × ℕ × Unit) :=
  (Finset.univ : Finset (Dev nD × I)).map ⟨fun ck => (cellAt nD τ osem ck, 0, ()), fun a b h => cellAt_inj hos (congrArg Prod.fst h)⟩

/-- The ghost state at launch. -/
def ghost (nD : Nat) (τ : Topo) (osem : I → SemLoc sig) (hos : Function.Injective osem) : UR sig nD τ := initOf (cells (nD := nD) (τ := τ) osem hos) (toks (nD := nD) (τ := τ) osem hos)

theorem scopedSems0_eq (hscoped : (Finset.univ.filter fun sm : SemLoc sig => sm.isScoped .tc = true) = Finset.univ.map ⟨osem, hos⟩) (c : Dev nD) :
    (scopedSems0 (c.tc : Thread nD τ) : sProp (Mx nD τ sig Val)) = bigSep Finset.univ fun i => semVal (cellAt nD τ osem (c, i)) 0 := by
  rw [scopedSems0_tc, hscoped, bigSep_map]; rfl

theorem with_persistent {J : Type} [DecidableEq J] {S : Finset J} {R : sProp (Mx nD τ sig Val)} [BI.Persistent R] {Φ Ψ : J → sProp (Mx nD τ sig Val)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable [∀ c i, BI.Storable (upEmb : UEmb _ (Mx nD τ sig Val)) (pay c i)]

/-- All semaphores of the machine at zero and the ghost state: the records of the exchange, every owner's position and
    every token. -/
theorem deal (hscoped : (Finset.univ.filter fun sm : SemLoc sig => sm.isScoped .tc = true) = Finset.univ.map ⟨osem, hos⟩) :
    iprop((bigSep Finset.univ fun c : Dev nD => scopedSems0 (c.tc : Thread nD τ)) ∗ ownU (ghost nD τ osem hos))
      ⊢ (|={Set.univ}=> iprop(∃ K : Dev nD × I → ℕ, records osem N hN pay K
          ∗ (bigSep Finset.univ fun c : Dev nD => bigSep Finset.univ fun i => atPos EO (cellAt nD τ osem (c, i)) 0 ∅ 0)
          ∗ (bigSep Finset.univ fun c : Dev nD => bigSep Finset.univ fun i => dutyTok EO (cellAt nD τ osem (c, i)) 0 ())) : sProp (Mx nD τ sig Val)) := by
  have hfund : (BI.own (EO (initOf (cells osem hos) (toks osem hos))) : sProp (Mx nD τ sig Val))
      ⊢ iprop(|==> ((bigSep Finset.univ fun ck : Dev nD × I => roundState EO (once osem N hN pay) (cellAt nD τ osem ck) 0)
          ∗ (bigSep Finset.univ fun ck : Dev nD × I => reached EO (cellAt nD τ osem ck) 0)
          ∗ (bigSep Finset.univ fun ck : Dev nD × I => atPos EO (cellAt nD τ osem ck) 0 ∅ 0)
          ∗ (bigSep Finset.univ fun ck : Dev nD × I => dutyTok EO (cellAt nD τ osem ck) 0 ()))) := by
    have h := Rounds.fund EO (once osem N hN pay) (cells osem hos) (toks osem hos)
    unfold cells toks at h
    rw [bigSep_map, bigSep_map, bigSep_map, bigSep_map] at h
    exact h
  rw [bigSep_congr (s := Finset.univ) fun c _ => scopedSems0_eq osem hos hscoped c,
    ← bigSep_univ_prod (fun ck : Dev nD × I => (atPos EO (cellAt nD τ osem ck) 0 ∅ 0 : sProp (Mx nD τ sig Val))),
    ← bigSep_univ_prod (fun ck : Dev nD × I => (dutyTok EO (cellAt nD τ osem ck) 0 () : sProp (Mx nD τ sig Val)))]
  iintro ⟨Hz, Hu⟩
  ihave Hu := (show ownU (ghost nD τ osem hos) ⊢ (BI.own (EO (initOf (cells osem hos) (toks osem hos))) : sProp (Mx nD τ sig Val)) from BI.Entails.refl _) $$ Hu
  imod hfund $$ Hu with ⟨Hst, Hr, Hat, Htok⟩
  have halloc : (iprop((bigSep Finset.univ fun c : Dev nD => bigSep Finset.univ fun i => semVal (cellAt nD τ osem (c, i)) 0)
        ∗ (bigSep Finset.univ fun ck : Dev nD × I => roundState EO (once osem N hN pay) (cellAt nD τ osem ck) 0)) : sProp (Mx nD τ sig Val))
      ⊢ (|={Set.univ}=> bigSep Finset.univ fun ck : Dev nD × I => iprop(∃ κ : ℕ, cellInv EO (once osem N hN pay) κ (cellAt nD τ osem ck)) : sProp (Mx nD τ sig Val)) := by
    rw [← bigSep_univ_prod (fun ck : Dev nD × I => (semVal (cellAt nD τ osem ck) 0 : sProp (Mx nD τ sig Val))), ← bigSep_sep']
    exact (bigSep_mono fun ck _ => (Rounds.body_intro EO (once osem N hN pay) (cellAt nD τ osem ck)).trans inv_alloc).trans (bigSep_fupd _ _)
  imod halloc $$ [Hz Hst] with HI
  · isplitl [Hz]; · iexact Hz
    iexact Hst
  ihave HK := (BI.bigSep_exists_pi Finset.univ (fun (ck : Dev nD × I) (κ : ℕ) => (cellInv EO (once osem N hN pay) κ (cellAt nD τ osem ck) : sProp (Mx nD τ sig Val)))) $$ HI
  icases HK with ⟨%K, HI⟩
  imodintro
  iexists K
  isplitl [HI Hr]
  · unfold records
    isplitl [HI]; · iexact HI
    iexact Hr
  isplitl [Hat]; · iexact Hat
  iexact Htok

end Launch

/-! ## What a device owes at launch -/

section Owed
variable {T : Type} [DecidableEq T] (N : ℕ)

/-- The credit still to be sent to the semaphores `f k`, `k` in the list; the head of the list is sent first. -/
def owed (f : T → GSem nD τ sig) : List T → CellTallies nD τ sig Unit
  | [] => 0
  | k :: ks => owed f ks + tallyAt (f k) () N

theorem owed_none (f : T → GSem nD τ sig) (g : GSem nD τ sig) (ks : List T) (h : ∀ k ∈ ks, f k ≠ g) : owed N f ks g () = 0 := by
  induction ks with
  | nil => rfl
  | cons k ks ih =>
    show (owed N f ks + tallyAt (f k) () N) g () = 0
    rw [Pi.add_apply, Finsupp.add_apply, ih fun k' hk' => h k' (List.mem_cons_of_mem _ hk'), tallyAt_ne_cell fun e => h k List.mem_cons_self e.symm]
    rfl

theorem owed_pos {f : T → GSem nD τ sig} {g : GSem nD τ sig} {u : Unit} {ks : List T} (h : 0 < owed N f ks g u) : ∃ k ∈ ks, g = f k := by
  by_contra hn
  have := owed_none N f g ks fun k hk e => hn ⟨k, hk, e.symm⟩
  cases u
  exact h.ne' this

theorem owed_apply (f : T → GSem nD τ sig) (g : GSem nD τ sig) (ks : List T) (hk : ks.Nodup) (k : T) (hmem : k ∈ ks) (hu : ∀ k', f k' = g → k' = k) :
    owed N f ks g () = if f k = g then N else 0 := by
  induction ks with
  | nil => exact absurd hmem List.not_mem_nil
  | cons k₀ ks ih =>
    show (owed N f ks + tallyAt (f k₀) () N) g () = _
    rw [Pi.add_apply, Finsupp.add_apply]
    rcases List.mem_cons.mp hmem with rfl | hm
    · rw [owed_none N f g ks fun k' hk' e => (List.nodup_cons.mp hk).1 (hu k' e ▸ hk'), Nat.zero_add, tallyAt_apply]
      by_cases h : f k = g
      · rw [if_pos ⟨h.symm, rfl⟩, if_pos h]
      · rw [if_neg fun e => h e.1.symm, if_neg h]
    · rw [ih (List.nodup_cons.mp hk).2 hm, tallyAt_ne_cell, Finsupp.zero_apply, Nat.add_zero]
      intro e
      exact (List.nodup_cons.mp hk).1 (hu k₀ e.symm ▸ hm)

/-- The launch hands a device the credit of each semaphore that exactly one device owes it. -/
theorem creds (osem : I → SemLoc sig) (hos : Function.Injective osem) (O₀ : Dev nD → CellTallies nD τ sig Unit) (c : Dev nD) {J : Type} [Fintype J] [DecidableEq J] (r : J ↪ I)
    (who : J → Dev nD) (h : ∀ j d, O₀ d (cellAt nD τ osem (c, r j)) () = if d = who j then N else 0) :
    (Pipeline.launchCred O₀ c : sProp (Mx nD τ sig Val)) ⊢ bigSep Finset.univ fun j => cred (tallyAt (cellAt nD τ osem (c, r j)) () N) := by
  have he (j : J) : tallyOn (cellAt nD τ osem (c, r j)) (launchCredit (Pipeline.owing O₀) 0 (cellAt nD τ osem (c, r j)))
      = (tallyAt (cellAt nD τ osem (c, r j)) () N : CellTallies nD τ sig Unit) := by
    unfold tallyAt; refine congrArg _ (Finsupp.ext fun u => ?_); cases u
    rw [Pipeline.launchCredit_owing, Finsupp.single_eq_same, Finset.sum_congr rfl fun d _ => h j d,
      Finset.sum_ite_eq' Finset.univ (who j) fun _ => N, if_pos (Finset.mem_univ _)]
  unfold Pipeline.launchCred
  rw [bigSep_congr (s := (Finset.univ : Finset J)) fun j _ => congrArg cred (he j).symm]
  refine (bigSep_subset (t := Finset.univ.map (r.trans ⟨osem, hos⟩)) (Finset.subset_univ _)).trans ?_
  rw [bigSep_map]
  exact Entails.refl _

end Owed

end Cert.Once

end
-- ==== Proof.Partners.lean ====
/-
  Who meets whom: in round `j` device `c` of eight is paired with device `c xor j`. And how resources indexed by two
  devices, or by a device and a round, are regrouped by these pairs.
-/
module

public import proofs.«01_k».proof.Proof.Once

@[expose] public section

noncomputable section

namespace Cert.Partners

open Idealize.ShloMosaic
open Idealize.SL Idealize.SL.RA Idealize.SL.BI
open scoped Idealize.SL.BI
open Idealize.SL.BI.BIBase Idealize.SL.BI.Laws Idealize.SL.ProofMode

/-- The partner of device `c` in round `j`. -/
def pr (c j : Fin 8) : Fin 8 := ⟨c.val ^^^ j.val, Nat.xor_lt_two_pow (n := 3) c.isLt j.isLt⟩

theorem pr_pr (c j : Fin 8) : pr (pr c j) j = c := Fin.ext (by show (c.val ^^^ j.val) ^^^ j.val = c.val; rw [Nat.xor_assoc, Nat.xor_self, Nat.xor_zero])
theorem pr_zero (c : Fin 8) : pr c 0 = c := Fin.ext (Nat.xor_zero _)

/-- In one round the partners are swapped; -/
def swap (j : Fin 8) : Fin 8 ≃ Fin 8 := ⟨fun c => pr c j, fun c => pr c j, fun c => pr_pr c j, fun c => pr_pr c j⟩
/-- over the rounds one device meets every device. -/
def meet (c : Fin 8) : Fin 8 ≃ Fin 8 :=
  ⟨fun j => pr c j, fun d => pr c d,
    fun j => Fin.ext (by show c.val ^^^ (c.val ^^^ j.val) = j.val; rw [← Nat.xor_assoc, Nat.xor_self, Nat.zero_xor]),
    fun j => Fin.ext (by show c.val ^^^ (c.val ^^^ j.val) = j.val; rw [← Nat.xor_assoc, Nat.xor_self, Nat.zero_xor])⟩

variable {nD : Nat} {τ : Topo} {sig : RefSig} {Val : EltTy → Type} [∀ e, Nonempty (Val e)]

/-- Eight things: the first, and the seven after it. -/
theorem first_rest (Φ : Fin 8 → sProp (Once.Mx nD τ sig Val)) :
    bigSep Finset.univ Φ = iprop(Φ 0 ∗ bigSep Finset.univ fun k : Fin 7 => Φ k.succ) := by
  rw [show (Finset.univ : Finset (Fin 8)) = insert 0 (Finset.univ.map ⟨Fin.succ, Fin.succ_injective 7⟩) from by decide,
    BI.bigSep_insert (by decide), BI.bigSep_map]
  rfl

/-- One thing for every device: that of device `c` itself, and those of its partners. -/
theorem around (c : Fin 8) (Φ : Fin 8 → sProp (Once.Mx nD τ sig Val)) :
    bigSep Finset.univ Φ = iprop(Φ c ∗ bigSep Finset.univ fun k : Fin 7 => Φ (pr c k.succ)) := by
  rw [BI.bigSep_univ_equiv (meet c) Φ, first_rest]
  show iprop(Φ (pr c 0) ∗ _) = _
  rw [pr_zero]
  rfl

/-- One thing for every device and round: regrouped so that a device has its partner's. -/
theorem turned (Φ : Fin 8 → Fin 7 → sProp (Once.Mx nD τ sig Val)) :
    (bigSep Finset.univ fun c => bigSep Finset.univ fun k => Φ c k) = bigSep Finset.univ fun c => bigSep Finset.univ fun k : Fin 7 => Φ (pr c k.succ) k := by
  rw [Pipeline.bigSep_univ_comm, Pipeline.bigSep_univ_comm (fun c (k : Fin 7) => Φ (pr c k.succ) k)]
  exact BI.bigSep_congr fun k _ => BI.bigSep_univ_equiv (swap k.succ) fun c => Φ c k

/-- One thing for every two devices `(c, d)`: its own diagonal for each device, and those at which it is the second and
    its partner the first. -/
theorem exchanged (Φ : Fin 8 → Fin 8 → sProp (Once.Mx nD τ sig Val)) :
    (bigSep Finset.univ fun c => bigSep Finset.univ fun d => Φ c d)
      = bigSep Finset.univ fun c => iprop(Φ c c ∗ bigSep Finset.univ fun k : Fin 7 => Φ (pr c k.succ) c) := by
  rw [Pipeline.bigSep_univ_comm]
  exact BI.bigSep_congr fun c _ => around c fun d => Φ d c

end Cert.Partners

end
-- ==== Proof.Blocks.lean ====
/-
  The eight blocks of an array `[8, R, C]`, as the kernels name them: the array sliced at one value of its leading
  axis, the unit axis squeezed away.
-/
module

public import proofs.«01_k».proof.Proof.Start
public import Idealize.ShloMosaic.Lib.ValueLayout
public import Idealize.ShloMosaic.Lib.ValueIdxCore
public import Idealize.ShloMosaic.Lib.Pipeline.ValueKit.Geometry

@[expose] public section

noncomputable section

namespace Cert.Blocks

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} [∀ e, Nonempty (Val e)]
variable {U : Type} [URA U] {R C : ℕ} {sp : Space} {e : EltTy}

abbrev Whole (R C : ℕ) : Shape := ⟨3, ![8, R, C]⟩
abbrev Slab (R C : ℕ) : Shape := ⟨3, ![1, R, C]⟩
abbrev Flat (R C : ℕ) : Shape := ⟨2, ![R, C]⟩

theorem inb (d : Fin 8) : ∀ a, (![d.val, 0, 0] : Fin 3 → ℕ) a + (Slab R C).size a ≤ (Whole R C).size a := by
  intro a
  match a with
  | ⟨0, _⟩ => show d.val + 1 ≤ 8; have := d.isLt; omega
  | ⟨1, _⟩ => show 0 + R ≤ R; omega
  | ⟨2, _⟩ => show 0 + C ≤ C; omega

/-- Block `d` of the array. -/
abbrev blk (hq : (Slab R C).Squeezes (Flat R C)) (M : Memref sig .tc sp (Whole R C) e) (d : Fin 8) : Memref sig .tc sp (Flat R C) e :=
  (M.slice (Rect.unit (s := Whole R C) ![d.val, 0, 0] (Slab R C).size (inb d)) (fun _ => rfl)).squeeze (Flat R C) hq

variable {hq : (Slab R C).Squeezes (Flat R C)} {M : Memref sig .tc sp (Whole R C) e}

/-- A slice the program takes at an offset that is `(d, 0, 0)` is block `d`. -/
theorem blk_of_off {off : Fin 3 → ℕ} {d : Fin 8} (h : off = ![d.val, 0, 0]) (p : ∀ a, off a + (Slab R C).size a ≤ (Whole R C).size a) :
    (M.slice (Rect.unit (s := Whole R C) off (Slab R C).size p) (fun _ => rfl)).squeeze (Flat R C) hq = blk hq M d := by
  subst h; rfl

/-- Where an element of block `d` sits. -/
theorem emb_eq (d : Fin 8) (x : Fin R) (y : Fin C) : (blk hq M d).view.emb (ix2 x y) = M.view.emb (ix3 d x y) := by
  have h : Shape.reshapeEquiv hq.numel_eq (ix2 x y) = (ix3 (⟨0, Nat.one_pos⟩ : Fin 1) x y : (Slab R C).Idx) := reshapeEquiv_ix2_1ab _ x y
  show M.view.emb ((Rect.unit (s := Whole R C) ![d.val, 0, 0] (Slab R C).size (inb d)).emb (Shape.reshapeEquiv hq.numel_eq (ix2 x y))) = _
  rw [h]
  congr 1
  funext a
  refine Fin.ext ?_
  refine (ValueKit.rect_emb_unit_val _ _ _ _ _).trans ?_
  match a with
  | ⟨0, _⟩ => show d.val + 0 = d.val; omega
  | ⟨1, _⟩ => exact Nat.zero_add _
  | ⟨2, _⟩ => exact Nat.zero_add _

theorem read_eq (d : Fin 8) (f : M.view.ty.Contents Val) (x : Fin R) (y : Fin C) :
    (blk hq M d).view.read Val f (ix2 x y) = M.view.read Val f (ix3 d x y) := by
  rw [View.read_apply, View.read_apply, emb_eq]

theorem mem_iff (d : Fin 8) (i : M.view.ty.Idx) : i ∈ (blk hq M d).view.set ↔ ∃ (x : Fin R) (y : Fin C), M.view.emb (ix3 d x y) = i := by
  constructor
  · intro h
    obtain ⟨j, -, hj⟩ := Finset.mem_map.mp h
    exact ⟨j 0, j 1, (emb_eq (hq := hq) d (j 0 : Fin R) (j 1 : Fin C)).symm.trans ((congrArg (blk hq M d).view.emb (eq_ix2 j).symm).trans hj)⟩
  · rintro ⟨x, y, rfl⟩
    rw [← emb_eq (hq := hq)]
    exact View.emb_mem_set _ _

theorem disjoint (a b : Fin 8) (h : a ≠ b) : Disjoint (blk hq M a).view.set (blk hq M b).view.set := by
  rw [Finset.disjoint_left]
  intro i ha hb
  obtain ⟨x, y, hx⟩ := (mem_iff (hq := hq) a i).mp ha
  obtain ⟨x', y', hy⟩ := (mem_iff (hq := hq) b i).mp hb
  exact h (congrFun (M.view.emb.injective (hx.trans hy.symm)) 0)

theorem cover : (Finset.univ : Finset (Fin 8)).biUnion (fun d => (blk hq M d).view.set) = M.view.set := by
  refine Finset.ext fun i => Iff.trans Finset.mem_biUnion ?_
  constructor
  · rintro ⟨d, -, hd⟩
    obtain ⟨x, y, rfl⟩ := (mem_iff (hq := hq) d i).mp hd
    exact View.emb_mem_set _ _
  · intro h
    obtain ⟨j, -, rfl⟩ := Finset.mem_map.mp h
    exact ⟨j 0, Finset.mem_univ _, (mem_iff (hq := hq) _ _).mpr ⟨j 1, j 2, congrArg M.view.emb (eq_ix3 j).symm⟩⟩

/-- The array as its blocks. -/
theorem split (M : Memref sig .tc sp (Whole R C) e) (c : Dev nD) (q : PosShare TreeShare)
    (f : Buf Val (M.view.loc (c : Thread nD τ))) :
    (M.view.loc (c : Thread nD τ) ↦[M.view.set]{q} f : sProp (MT nD τ sig Unit Val ℕ U ℕ))
      = bigSep Finset.univ fun d : Fin 8 => (M.view.loc (c : Thread nD τ) ↦[(blk hq M d).view.set]{q} f) := by
  rw [← cover (hq := hq) (M := M)]
  exact pointsTo_biUnion _ _ fun a _ b _ h => disjoint a b h

/-- Contents that read alike through a view own the same elements. -/
theorem same_of_read {s : Shape} {v : View sig .tc sp s e} {c : Dev nD} {q : PosShare TreeShare} {f g : Buf Val (v.loc (c : Thread nD τ))}
    (h : v.read Val f = v.read Val g) :
    (v.loc (c : Thread nD τ) ↦[v.set]{q} f : sProp (MT nD τ sig Unit Val ℕ U ℕ)) = (v.loc (c : Thread nD τ) ↦[v.set]{q} g) := by
  refine pointsTo_congr fun i hi => ?_
  obtain ⟨x, -, rfl⟩ := Finset.mem_map.mp hi
  have hx := congrFun h x
  rw [View.read_apply, View.read_apply] at hx
  exact (cast_inj _).mp hx

/-- Block contents are told by their elements. -/
theorem read_ext {f : M.view.ty.Contents Val} {d : Fin 8} {w : (Flat R C).Idx → Val e}
    (h : ∀ (x : Fin R) (y : Fin C), M.view.read Val f (ix3 d x y) = w (ix2 x y)) : (blk hq M d).view.read Val f = w := by
  funext j
  rw [show j = (ix2 (j 0 : Fin R) (j 1 : Fin C) : (Flat R C).Idx) from eq_ix2 j]
  exact (read_eq d f _ _).trans (h _ _)

/-- What a transfer leaves in a view is any contents that read as what was sent. -/
theorem landed {s : Shape} {v : View sig .tc sp s e} {c : Dev nD} {q : PosShare TreeShare} {f g : Buf Val (v.loc (c : Thread nD τ))} {w : s.Idx → Val e}
    (h : v.read Val g = w) :
    (v.loc (c : Thread nD τ) ↦[v.set]{q} (v.write Val f w Finset.univ) : sProp (MT nD τ sig Unit Val ℕ U ℕ)) = (v.loc (c : Thread nD τ) ↦[v.set]{q} g) :=
  same_of_read ((View.read_write_univ f w).trans h.symm)

end Cert.Blocks

end
-- ==== Proof.Swap.lean ====
/-
  The all-to-all of the gradients: device `c` sends block `p` of its array to device `p`, for each of the eight devices,
  where it becomes block `c` of the result. The devices send to each other at once, the partner of round `j` being
  `c xor j`. Each of the fifteen semaphores counts one transfer (`Once`).
-/
module

public import proofs.«01_k».proof.Proof.Partners
public import proofs.«01_k».proof.Proof.Blocks
public import proofs.«01_k».proof.Proof.Gen.KernelIdeal.Launch
public import proofs.«01_k».proof.Proof.Gen.KernelIdeal.Skeleton
public import Idealize.ShloMosaic.Lib.Ring

@[expose] public section

noncomputable section

namespace Cert.Swap

open Cert.KernelIdeal Cert.KernelIdeal.Gen
open Cert.Once Cert.Blocks Cert.Partners
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Partners -/

theorem off1_eq (c : Dev nD) : k0_off1 c = ![c.val, 0, 0] := by revert c; decide
theorem off2_eq (c : Dev nD) (r : Fin 7) : k0_off2 c (k0_off2_at r).1 (k0_off2_at r).2.1 (k0_off2_at r).2.2 = ![(pr c r.succ).val, 0, 0] := by
  revert c r; decide
theorem dev1_eq (c : Dev nD) : (⟨k0_dev1 c, k0_dev1_lt c⟩ : Dev nD) = pr c 1 := Fin.ext (by revert c; decide)
theorem dev2_eq (c : Dev nD) : (⟨k0_dev2 c, k0_dev2_lt c⟩ : Dev nD) = pr c 2 := Fin.ext (by revert c; decide)
theorem dev3_eq (c : Dev nD) : (⟨k0_dev3 c, k0_dev3_lt c⟩ : Dev nD) = pr c 3 := Fin.ext (by revert c; decide)
theorem dev4_eq (c : Dev nD) : (⟨k0_dev4 c, k0_dev4_lt c⟩ : Dev nD) = pr c 4 := Fin.ext (by revert c; decide)
theorem dev5_eq (c : Dev nD) : (⟨k0_dev5 c, k0_dev5_lt c⟩ : Dev nD) = pr c 5 := Fin.ext (by revert c; decide)
theorem dev6_eq (c : Dev nD) : (⟨k0_dev6 c, k0_dev6_lt c⟩ : Dev nD) = pr c 6 := Fin.ext (by revert c; decide)
theorem dev7_eq (c : Dev nD) : (⟨k0_dev7 c, k0_dev7_lt c⟩ : Dev nD) = pr c 7 := Fin.ext (by revert c; decide)

/-! ## The semaphores -/

/-- Seven for the sends, seven for the arrivals, one for the copy that stays. -/
abbrev Ixs : Type := Fin 7 ⊕ (Fin 7 ⊕ Unit)

def osem : Ixs → SemLoc sig
  | .inl k => .dma ⟨k.val, by have := k.isLt; show k.val < 15; omega⟩
  | .inr (.inl k) => .dma ⟨7 + k.val, by have := k.isLt; show 7 + k.val < 15; omega⟩
  | .inr (.inr _) => .dma ⟨14, by decide⟩

theorem osem_inj : Function.Injective osem := fun a b => by revert a b; decide
theorem scoped_eq : (Finset.univ.filter fun sm : SemLoc sig => sm.isScoped .tc = true) = Finset.univ.map ⟨osem, osem_inj⟩ := by decide

abbrev cell (c : Dev nD) (i : Ixs) : GSem nD τ sig := cellAt nD τ osem (c, i)

/-! ## The blocks -/

theorem hq : (Slab 7808 1024).Squeezes (Flat 7808 1024) := by decide

abbrev xM : Memref sig .tc .hbm (Blocks.Whole 7808 1024) .bf16 := Memref.whole main_arg0
abbrev yM : Memref sig .tc .hbm (Blocks.Whole 7808 1024) .bf16 := Memref.whole main_v1

def N : ℕ := (blk hq yM 0).view.dmaCredit
/-- Every transfer of the exchange counts the same. -/
theorem credit_eq (v : Memref sig .tc .hbm (Flat 7808 1024) .bf16) : v.view.dmaCredit = N := rfl
theorem N_pos : 0 < N := View.dmaCredit_pos _ (by decide)

/-- Device `c`'s argument, as an array. -/
def inp (c : Dev nD) : (Blocks.Whole 7808 1024).Idx → Elt F .bf16 := m ((c : Thread nD τ).loc main_arg0)

/-- What device `c` holds in the end: block `p` is the block that device `p` had for `c`. -/
def outA (c : Dev nD) : (Blocks.Whole 7808 1024).Idx → Elt F .bf16 := fun i => inp m (i 0) (ix3 (c : Fin 8) (i 1 : Fin 7808) (i 2 : Fin 1024))
def outF (c : Dev nD) : Buf (Elt F) ((c : Thread nD τ).loc main_v1) := outA m c

/-- Block `d` of device `c`'s argument, and of its result. -/
def xBlk (c d : Dev nD) : sProp 𝕄 := xM.view.loc (c : Thread nD τ) ↦[(blk hq xM d).view.set]{fullShare} m ((c : Thread nD τ).loc main_arg0)
def yBlk (c d : Dev nD) (f : Buf (Elt F) ((c : Thread nD τ).loc main_v1)) : sProp 𝕄 := yM.view.loc (c : Thread nD τ) ↦[(blk hq yM d).view.set]{fullShare} f

instance xBlk_storable (c d : Dev nD) : BI.Storable (upEmb : UEmb _ 𝕄) (xBlk m c d) := by unfold xBlk; infer_instance
instance yBlk_storable (c d : Dev nD) (f) : BI.Storable (upEmb : UEmb _ 𝕄) (yBlk (F := F) c d f) := by unfold yBlk; infer_instance

/-- What each wait hands out. -/
def pay (c : Dev nD) : Ixs → sProp 𝕄
  | .inl k => xBlk m c (pr c k.succ)
  | .inr (.inl k) => yBlk c (pr c k.succ) (outF m c)
  | .inr (.inr _) => iprop(yBlk c c (outF m c) ∗ xBlk m c c)

instance pay_storable (c : Dev nD) (i : Ixs) : BI.Storable (upEmb : UEmb _ 𝕄) (pay m c i) := by
  rcases i with k | k | u <;> unfold pay <;> infer_instance

/-- What lands is the block the sender had for the receiver. -/
theorem land_eq (a b : Dev nD) (f : Buf (Elt F) ((b : Thread nD τ).loc main_v1)) :
    (yM.view.loc (b : Thread nD τ) ↦[(blk hq yM a).view.set]{fullShare}
        ((blk hq yM a).view.write (Elt F) f ((blk hq xM b).view.read (Elt F) (m ((a : Thread nD τ).loc main_arg0))) Finset.univ) : sProp 𝕄)
      = yBlk b a (outF m b) :=
  Blocks.landed (v := (blk hq yM a).view) (Blocks.read_ext fun x y => (Blocks.read_eq (M := xM) b _ x y).symm)

/-! ## What a device starts with -/

/-- For the send of round `k + 1`: the block, the place on the partner, and the right to count it on both semaphores. -/
def sendRes (c : Dev nD) (k : Fin 7) : sProp 𝕄 :=
  iprop(xBlk m c (pr c k.succ) ∗ (∃ f, yBlk (pr c k.succ) c f)
    ∗ dutyTok EO (cell c (.inl k)) 0 () ∗ dutyTok EO (cell (pr c k.succ) (.inr (.inl k))) 0 ())

def stayRes (c : Dev nD) : sProp 𝕄 := iprop(xBlk m c c ∗ (∃ f, yBlk c c f) ∗ dutyTok EO (cell c (.inr (.inr ()))) 0 ())

abbrev recs (K : Dev nD × Ixs → ℕ) : sProp 𝕄 := records osem N N_pos (pay m) K

/-- The credit each device owes the others. -/
abbrev dueAt (c : Dev nD) (k : Fin 7) : GSem nD τ sig := cell (pr c k.succ) (.inr (.inl k))
def O₀ (c : Dev nD) : CellTallies nD τ sig Unit := owed N (dueAt c) [0, 1, 2, 3, 4, 5, 6]

/-! ## The steps of the body -/

section Steps
variable {Λ : Labels} {defs : Defs nD τ sig (Elt F) Λ} {α : Type} {Q : α → sProp (Mx nD τ sig (Elt F))}

theorem wp_stay (𝒱 : Variants) (K : Dev nD × Ixs → ℕ) (c : Dev nD) {src dst : Memref sig .tc .hbm (Flat 7808 1024) .bf16}
    (hs : src = blk hq xM c) (hd : dst = blk hq yM c) {sem : SemLoc sig} (hsem : sem = osem (.inr (.inr ())))
    {hsrc : src.view.WordExact} {hdst : dst.view.WordExact} {hty : DmaTarget.Typed (nD := nD) (τ := τ) (p := Proc.tc) .hbm sem (.here dst)}
    {k : PUnit → Prog (TpuEff nD τ sig (Elt F) Λ .tc) α} :
    iprop(recs m K ∗ stayRes m c)
      ⊢ iprop((cred (tallyAt (cell c (.inr (.inr ()))) () N) -∗ wp frame (wpE defs 𝒱 c.tc none) Set.univ (k ⟨⟩) Q)
          -∗ wp frame (wpE defs 𝒱 c.tc none) Set.univ (.op (.enqueueDma src (.here dst) sem hsrc hdst hty) k) Q) := by
  subst hs; subst hd
  unfold stayRes
  iintro ⟨HR, Hx, ⟨%f, Hy⟩, Ht⟩
  iapply (Once.wp_copy (hN := N_pos) (pay := pay m) 𝒱 osem_inj K c (.inr (.inr ())) (src := blk hq xM c) (dst := blk hq yM c) hsem (fs := m ((c : Thread nD τ).loc main_arg0)) (fd := f)
    (q := fullShare) (by subst hsem; rfl) (sep_mono_left (Entails.of_eq (land_eq m c c f))))
  isplitl [HR]; · iexact HR
  isplitl [Hx]; · unfold xBlk; iexact Hx
  isplitl [Hy]; · unfold yBlk; iexact Hy
  iexact Ht

theorem wp_give (𝒱 : Variants) (K : Dev nD × Ixs → ℕ) (c : Dev nD) (k : Fin 7) (ks : List (Fin 7)) {n : Dev nD} (hn : n = pr c k.succ)
    {src dst : Memref sig .tc .hbm (Flat 7808 1024) .bf16} (hs : src = blk hq xM (pr c k.succ)) (hd : dst = blk hq yM c)
    {sS sem : SemLoc sig} (hS : sS = osem (.inl k)) (hV : sem = osem (.inr (.inl k))) {hsc : dst.view.ref.isScScratch = false}
    {hsrc : src.view.WordExact} {hdst : dst.view.WordExact} {hty : DmaTarget.Typed .hbm sem (.remote (n : Thread nD τ) dst sS hsc)}
    {kk : PUnit → Prog (TpuEff nD τ sig (Elt F) Λ .tc) α} {W : Waits sig Unit} :
    iprop(recs m K ∗ sendRes m c k ∗ owes (c : Thread nD τ) (owed N (dueAt c) (k :: ks)) W)
      ⊢ iprop(((cred (tallyAt (cell c (.inl k)) () N) ∗ owes (c : Thread nD τ) (owed N (dueAt c) ks) W) -∗ wp frame (wpE defs 𝒱 c.tc none) Set.univ (kk ⟨⟩) Q)
          -∗ wp frame (wpE defs 𝒱 c.tc none) Set.univ (.op (.enqueueDma src (.remote (n : Thread nD τ) dst sS hsc) sem hsrc hdst hty) kk) Q) := by
  subst hs; subst hd
  unfold sendRes
  iintro ⟨HR, ⟨Hx, ⟨%f, Hy⟩, Ht, Ht'⟩, HO⟩
  iapply (Once.wp_send (hN := N_pos) (pay := pay m) 𝒱 osem_inj K c (pr c k.succ) n hn (.inl k) (.inr (.inl k)) (src := blk hq xM (pr c k.succ)) (dst := blk hq yM c) hS hV
    (fs := m ((c : Thread nD τ).loc main_arg0)) (fd := f) (q := fullShare) (by subst hV; rfl) (owed N (dueAt c) ks) (by rfl) (W := W)
    (Entails.refl _)
    (Entails.of_eq ((land_eq m c (pr c k.succ) f).trans (by show _ = yBlk _ (pr (pr c k.succ) k.succ) _; rw [pr_pr]))) (by routes))
  isplitl [HR]; · iexact HR
  isplitl [Hx]; · unfold xBlk; iexact Hx
  isplitl [Hy]; · unfold yBlk; iexact Hy
  isplitl [HO]; · iexact HO
  isplitl [Ht]; · iexact Ht
  iexact Ht'

theorem wp_take (𝒱 : Variants) (K : Dev nD × Ixs → ℕ) (c : Dev nD) (i : Ixs) {src dst : Memref sig .tc .hbm (Flat 7808 1024) .bf16}
    {sem : DmaSem sig} (hsem : SemLoc.dma sem = osem i)
    {hsrc : src.view.WordExact} {hdst : dst.view.WordExact} {k : PUnit → Prog (TpuEff nD τ sig (Elt F) Λ .tc) α} {W : Waits sig Unit} :
    iprop(recs m K ∗ cred (tallyAt (cell c i) () N) ∗ owes (c : Thread nD τ) 0 W ∗ atPos EO (cell c i) 0 ∅ 0)
      ⊢ iprop(((owes (c : Thread nD τ) 0 (insert (osem i, ()) W) ∗ pay m c i ∗ semVal (cell c i) 0) -∗ wp frame (wpE defs 𝒱 c.tc none) Set.univ (k ⟨⟩) Q)
          -∗ wp frame (wpE defs 𝒱 c.tc none) Set.univ (.op (.waitDma2 sem src dst hsrc hdst) k) Q) := by
  refine BIBase.Entails.trans ?_ (Once.wp_await (hN := N_pos) (pay := pay m) 𝒱 osem_inj K c i hsem (credit_eq dst))
  rw [MayWait_zero]
  iintro ⟨HR, Hc, HO, Ha⟩
  isplitl [HR]; · iexact HR
  isplitl [Hc]; · iexact Hc
  isplitl [HO]; · iexact HO
  isplitr; · iempintro
  iexact Ha

end Steps

end Cert.Swap

end
-- ==== Proof.SwapBody.lean ====
/-
  One device's run of the all-to-all: the copy that stays, seven sends, seven arrivals, the ends of the seven sends and of
  the copy. It starts from what the device was dealt and ends with both arrays in blocks and every semaphore at zero.
-/
module

public import proofs.«01_k».proof.Proof.Swap

@[expose] public section

noncomputable section

namespace Cert.Swap

open Cert.KernelIdeal Cert.KernelIdeal.Gen
open Cert.Once Cert.Blocks Cert.Partners
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No loop of the program is bounded by a variant. -/
abbrev 𝒱₀ : Variants := Variants.none

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What a device has for round `k + 1` before it, -/
def ready (c : Dev nD) (k : Fin 7) : sProp 𝕄 :=
  iprop(sendRes m c k ∗ atPos EO (cell c (.inl k)) 0 ∅ 0 ∗ atPos EO (cell c (.inr (.inl k))) 0 ∅ 0
    ∗ cred (tallyAt (cell c (.inr (.inl k))) () N))

/-- and after it: the block it sent, the block that came, both semaphores at zero. -/
def done (c : Dev nD) (k : Fin 7) : sProp 𝕄 :=
  iprop((pay m c (.inr (.inl k)) ∗ semVal (cell c (.inr (.inl k))) 0) ∗ (pay m c (.inl k) ∗ semVal (cell c (.inl k)) 0))

def stayReady (c : Dev nD) : sProp 𝕄 := iprop(stayRes m c ∗ atPos EO (cell c (.inr (.inr ()))) 0 ∅ 0)
def stayDone (c : Dev nD) : sProp 𝕄 := iprop(pay m c (.inr (.inr ())) ∗ semVal (cell c (.inr (.inr ()))) 0)

set_option maxRecDepth 65536 in
theorem body_run (c : Dev nD) (K : Dev nD × Ixs → ℕ) (W : Waits sig Unit) :
    iprop(recs m K ∗ bigSep Finset.univ (ready m c) ∗ stayReady m c ∗ owes (c : Thread nD τ) (O₀ c) W)
      ⊢ wp frame (wpE (defs₀ (F := F)) 𝒱₀ c none) Set.univ
          (cc0_scatter_weight_grads (Memref.whole main_arg0) (Memref.isWhole_whole _) (Memref.whole main_v1) (Memref.isWhole_whole _) cc0_scratch0 cc0_scratch1 cc0_scratch2)
          (fun _ => iprop(bigSep Finset.univ (done m c) ∗ stayDone m c ∗ ∃ W, owes (c : Thread nD τ) (0 : CellTallies nD τ sig Unit) W)) := by
  simp only [cc0_scatter_weight_grads_eq_skeleton]; unfold cc0_scatter_weight_grads_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  rw [seven, seven]
  unfold ready stayReady done stayDone O₀
  iintro ⟨#HR, ⟨⟨S0, P0, A0, C0⟩, ⟨S1, P1, A1, C1⟩, ⟨S2, P2, A2, C2⟩, ⟨S3, P3, A3, C3⟩, ⟨S4, P4, A4, C4⟩, ⟨S5, P5, A5, C5⟩, ⟨S6, P6, A6, C6⟩⟩, ⟨T, PT⟩, HO⟩
  iapply (wp_stay m 𝒱₀ K c (blk_of_off (off1_eq c) _) (blk_of_off (off1_eq c) _) rfl) $$ [T]
  · isplitr; · iexact HR
    iexact T
  iintro CT
  iapply (wp_give m 𝒱₀ K c 0 [1, 2, 3, 4, 5, 6] (dev1_eq c) (blk_of_off (off2_eq c 0) _) (blk_of_off (off1_eq c) _) rfl rfl) $$ [S0 HO]
  · isplitr; · iexact HR
    isplitl [S0] <;> iassumption
  iintro ⟨D0, HO⟩
  iapply (wp_give m 𝒱₀ K c 1 [2, 3, 4, 5, 6] (dev2_eq c) (blk_of_off (off2_eq c 1) _) (blk_of_off (off1_eq c) _) rfl rfl) $$ [S1 HO]
  · isplitr; · iexact HR
    isplitl [S1] <;> iassumption
  iintro ⟨D1, HO⟩
  iapply (wp_give m 𝒱₀ K c 2 [3, 4, 5, 6] (dev3_eq c) (blk_of_off (off2_eq c 2) _) (blk_of_off (off1_eq c) _) rfl rfl) $$ [S2 HO]
  · isplitr; · iexact HR
    isplitl [S2] <;> iassumption
  iintro ⟨D2, HO⟩
  iapply (wp_give m 𝒱₀ K c 3 [4, 5, 6] (dev4_eq c) (blk_of_off (off2_eq c 3) _) (blk_of_off (off1_eq c) _) rfl rfl) $$ [S3 HO]
  · isplitr; · iexact HR
    isplitl [S3] <;> iassumption
  iintro ⟨D3, HO⟩
  iapply (wp_give m 𝒱₀ K c 4 [5, 6] (dev5_eq c) (blk_of_off (off2_eq c 4) _) (blk_of_off (off1_eq c) _) rfl rfl) $$ [S4 HO]
  · isplitr; · iexact HR
    isplitl [S4] <;> iassumption
  iintro ⟨D4, HO⟩
  iapply (wp_give m 𝒱₀ K c 5 [6] (dev6_eq c) (blk_of_off (off2_eq c 5) _) (blk_of_off (off1_eq c) _) rfl rfl) $$ [S5 HO]
  · isplitr; · iexact HR
    isplitl [S5] <;> iassumption
  iintro ⟨D5, HO⟩
  iapply (wp_give m 𝒱₀ K c 6 [] (dev7_eq c) (blk_of_off (off2_eq c 6) _) (blk_of_off (off1_eq c) _) rfl rfl) $$ [S6 HO]
  · isplitr; · iexact HR
    isplitl [S6] <;> iassumption
  iintro ⟨D6, HO⟩
  ihave HO := (show (owes (c : Thread nD τ) (owed N (dueAt c) []) W : sProp 𝕄) ⊢ owes (c : Thread nD τ) 0 W from Entails.of_eq rfl) $$ HO
  iapply (wp_take m 𝒱₀ K c (.inr (.inl 0)) rfl) $$ [C0 HO A0]
  · isplitr; · iexact HR
    isplitl [C0]; · iexact C0
    isplitl [HO] <;> iassumption
  iintro ⟨HO, A0⟩
  iapply (wp_take m 𝒱₀ K c (.inr (.inl 1)) rfl) $$ [C1 HO A1]
  · isplitr; · iexact HR
    isplitl [C1]; · iexact C1
    isplitl [HO] <;> iassumption
  iintro ⟨HO, A1⟩
  iapply (wp_take m 𝒱₀ K c (.inr (.inl 2)) rfl) $$ [C2 HO A2]
  · isplitr; · iexact HR
    isplitl [C2]; · iexact C2
    isplitl [HO] <;> iassumption
  iintro ⟨HO, A2⟩
  iapply (wp_take m 𝒱₀ K c (.inr (.inl 3)) rfl) $$ [C3 HO A3]
  · isplitr; · iexact HR
    isplitl [C3]; · iexact C3
    isplitl [HO] <;> iassumption
  iintro ⟨HO, A3⟩
  iapply (wp_take m 𝒱₀ K c (.inr (.inl 4)) rfl) $$ [C4 HO A4]
  · isplitr; · iexact HR
    isplitl [C4]; · iexact C4
    isplitl [HO] <;> iassumption
  iintro ⟨HO, A4⟩
  iapply (wp_take m 𝒱₀ K c (.inr (.inl 5)) rfl) $$ [C5 HO A5]
  · isplitr; · iexact HR
    isplitl [C5]; · iexact C5
    isplitl [HO] <;> iassumption
  iintro ⟨HO, A5⟩
  iapply (wp_take m 𝒱₀ K c (.inr (.inl 6)) rfl) $$ [C6 HO A6]
  · isplitr; · iexact HR
    isplitl [C6]; · iexact C6
    isplitl [HO] <;> iassumption
  iintro ⟨HO, A6⟩
  iapply (wp_take m 𝒱₀ K c (.inl 0) rfl) $$ [D0 HO P0]
  · isplitr; · iexact HR
    isplitl [D0]; · iexact D0
    isplitl [HO] <;> iassumption
  iintro ⟨HO, P0⟩
  iapply (wp_take m 𝒱₀ K c (.inl 1) rfl) $$ [D1 HO P1]
  · isplitr; · iexact HR
    isplitl [D1]; · iexact D1
    isplitl [HO] <;> iassumption
  iintro ⟨HO, P1⟩
  iapply (wp_take m 𝒱₀ K c (.inl 2) rfl) $$ [D2 HO P2]
  · isplitr; · iexact HR
    isplitl [D2]; · iexact D2
    isplitl [HO] <;> iassumption
  iintro ⟨HO, P2⟩
  iapply (wp_take m 𝒱₀ K c (.inl 3) rfl) $$ [D3 HO P3]
  · isplitr; · iexact HR
    isplitl [D3]; · iexact D3
    isplitl [HO] <;> iassumption
  iintro ⟨HO, P3⟩
  iapply (wp_take m 𝒱₀ K c (.inl 4) rfl) $$ [D4 HO P4]
  · isplitr; · iexact HR
    isplitl [D4]; · iexact D4
    isplitl [HO] <;> iassumption
  iintro ⟨HO, P4⟩
  iapply (wp_take m 𝒱₀ K c (.inl 5) rfl) $$ [D5 HO P5]
  · isplitr; · iexact HR
    isplitl [D5]; · iexact D5
    isplitl [HO] <;> iassumption
  iintro ⟨HO, P5⟩
  iapply (wp_take m 𝒱₀ K c (.inl 6) rfl) $$ [D6 HO P6]
  · isplitr; · iexact HR
    isplitl [D6]; · iexact D6
    isplitl [HO] <;> iassumption
  iintro ⟨HO, P6⟩
  iapply (wp_take m 𝒱₀ K c (.inr (.inr ())) rfl) $$ [CT HO PT]
  · isplitr; · iexact HR
    isplitl [CT]; · iexact CT
    isplitl [HO] <;> iassumption
  iintro ⟨HO, T⟩
  rw [wp_ret]; imodintro
  isplitr [T HO]
  · isplitl [A0 P0]; · isplitl [A0] <;> iassumption
    isplitl [A1 P1]; · isplitl [A1] <;> iassumption
    isplitl [A2 P2]; · isplitl [A2] <;> iassumption
    isplitl [A3 P3]; · isplitl [A3] <;> iassumption
    isplitl [A4 P4]; · isplitl [A4] <;> iassumption
    isplitl [A5 P5]; · isplitl [A5] <;> iassumption
    isplitl [A6] <;> iassumption
  isplitl [T]; · iexact T
  iexists _; iexact HO

end Cert.Swap

end
-- ==== Proof.SwapRun.lean ====
/-
  The all-to-all as a program: what all devices hold is dealt out, each device is run, and the results are read off.
-/
module

public import proofs.«01_k».proof.Proof.SwapBody
public import proofs.«01_k».proof.Proof.Gen.KernelIdeal.Points

@[expose] public section

noncomputable section

namespace Cert.Swap

open Cert.KernelIdeal Cert.KernelIdeal.Gen
open Cert.Once Cert.Blocks Cert.Partners
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Arrays as blocks -/

/-- Device `c`'s argument in blocks, -/
theorem x_split (c : Dev nD) :
    (((c : Thread nD τ).loc main_arg0 ↦{fullShare} m ((c : Thread nD τ).loc main_arg0)) : sProp 𝕄) = bigSep Finset.univ fun d => xBlk m c d := by
  have h := Blocks.split (hq := hq) (U := UR sig nD τ) xM c fullShare (m ((c : Thread nD τ).loc main_arg0))
  rw [show xM.view.set = Finset.univ from View.set_whole _] at h
  exact h
/-- and its result. -/
theorem y_split (c : Dev nD) (f : Buf (Elt F) ((c : Thread nD τ).loc main_v1)) :
    (((c : Thread nD τ).loc main_v1 ↦{fullShare} f) : sProp 𝕄) = bigSep Finset.univ fun d => yBlk c d f := by
  have h := Blocks.split (hq := hq) (U := UR sig nD τ) yM c fullShare f
  rw [show yM.view.set = Finset.univ from View.set_whole _] at h
  exact h

theorem unscoped_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  rw [show (Finset.univ.filter fun b : Ref sig .tc => ¬ b.isScoped) = insert main_arg0 {main_v1} from by decide,
    BI.bigSep_insert (by decide), BI.bigSep_singleton]
  rfl

/-! ## The dealing -/

/-- What a device has for round `k + 1` without the credit of the arrival. -/
def dealt (c : Dev nD) (k : Fin 7) : sProp 𝕄 :=
  iprop(sendRes m c k ∗ atPos EO (cell c (.inl k)) 0 ∅ 0 ∗ atPos EO (cell c (.inr (.inl k))) 0 ∅ 0)

def holds (c : Dev nD) : sProp 𝕄 := iprop(∃ K, recs m K ∗ bigSep Finset.univ (dealt m c) ∗ stayReady m c)

theorem ixs_split (Φ : Ixs → sProp 𝕄) :
    bigSep Finset.univ Φ = iprop((bigSep Finset.univ fun k : Fin 7 => Φ (.inl k)) ∗ (bigSep Finset.univ fun k : Fin 7 => Φ (.inr (.inl k))) ∗ Φ (.inr (.inr ()))) := by
  rw [BI.bigSep_univ_sum, BI.bigSep_univ_sum, BI.bigSep_univ_of_subsingleton ()]
  rfl

/-- All blocks, positions and tokens of the machine, each to the device that uses it. -/
theorem spread :
    iprop((bigSep Finset.univ fun c : Dev nD => bigSep Finset.univ fun d => xBlk m c d)
        ∗ (bigSep Finset.univ fun c : Dev nD => bigSep Finset.univ fun d => iprop(∃ f, yBlk (F := F) c d f))
        ∗ (bigSep Finset.univ fun c : Dev nD => bigSep Finset.univ fun i => atPos EO (cell c i) 0 ∅ 0)
        ∗ (bigSep Finset.univ fun c : Dev nD => bigSep Finset.univ fun i => dutyTok EO (cell c i) 0 ()))
      ⊢ (bigSep Finset.univ fun c : Dev nD => iprop(bigSep Finset.univ (dealt m c) ∗ stayReady m c) : sProp 𝕄) := by
  have hx : (bigSep Finset.univ fun c : Dev nD => bigSep Finset.univ fun d => xBlk m c d)
      = iprop((bigSep Finset.univ fun c : Dev nD => xBlk m c c) ∗ bigSep Finset.univ fun c : Dev nD => bigSep Finset.univ fun k : Fin 7 => xBlk m c (pr c k.succ)) := by
    rw [← bigSep_sep']; exact BI.bigSep_congr fun c _ => around c fun d => xBlk m c d
  have hy : (bigSep Finset.univ fun c : Dev nD => bigSep Finset.univ fun d => iprop(∃ f, yBlk (F := F) c d f))
      = iprop((bigSep Finset.univ fun c : Dev nD => iprop(∃ f, yBlk (F := F) c c f))
        ∗ bigSep Finset.univ fun c : Dev nD => bigSep Finset.univ fun k : Fin 7 => iprop(∃ f, yBlk (F := F) (pr c k.succ) c f)) := by
    rw [← bigSep_sep']; exact exchanged fun c d => iprop(∃ f, yBlk (F := F) c d f)
  have hp : (bigSep Finset.univ fun c : Dev nD => bigSep Finset.univ fun i => (atPos EO (cell c i) 0 ∅ 0 : sProp 𝕄))
      = iprop((bigSep Finset.univ fun c : Dev nD => bigSep Finset.univ fun k : Fin 7 => atPos EO (cell c (.inl k)) 0 ∅ 0)
        ∗ (bigSep Finset.univ fun c : Dev nD => bigSep Finset.univ fun k : Fin 7 => atPos EO (cell c (.inr (.inl k))) 0 ∅ 0)
        ∗ bigSep Finset.univ fun c : Dev nD => atPos EO (cell c (.inr (.inr ()))) 0 ∅ 0) := by
    rw [← bigSep_sep', ← bigSep_sep']; exact BI.bigSep_congr fun c _ => ixs_split fun i => atPos EO (cell c i) 0 ∅ 0
  have ht : (bigSep Finset.univ fun c : Dev nD => bigSep Finset.univ fun i => (dutyTok EO (cell c i) 0 () : sProp 𝕄))
      = iprop((bigSep Finset.univ fun c : Dev nD => bigSep Finset.univ fun k : Fin 7 => dutyTok EO (cell c (.inl k)) 0 ())
        ∗ (bigSep Finset.univ fun c : Dev nD => bigSep Finset.univ fun k : Fin 7 => dutyTok EO (cell (pr c k.succ) (.inr (.inl k))) 0 ())
        ∗ bigSep Finset.univ fun c : Dev nD => dutyTok EO (cell c (.inr (.inr ()))) 0 ()) := by
    rw [← turned fun c (k : Fin 7) => (dutyTok EO (cell c (.inr (.inl k))) 0 () : sProp 𝕄)]
    rw [← bigSep_sep', ← bigSep_sep']; exact BI.bigSep_congr fun c _ => ixs_split fun i => dutyTok EO (cell c i) 0 ()
  rw [hx, hy, hp, ht]
  unfold dealt sendRes stayReady stayRes
  simp only [bigSep_sep']
  iintro ⟨⟨Hxc, Hx⟩, ⟨Hyc, Hy⟩, ⟨Hps, Hpr, Hpc⟩, ⟨Hts, Htr, Htc⟩⟩
  isplitl [Hx Hy Hts Htr Hps Hpr]
  · isplitl [Hx Hy Hts Htr]
    · isplitl [Hx]; · iexact Hx
      isplitl [Hy]; · iexact Hy
      isplitl [Hts] <;> iassumption
    isplitl [Hps] <;> iassumption
  isplitl [Hxc Hyc Htc]
  · isplitl [Hxc]; · iexact Hxc
    isplitl [Hyc] <;> iassumption
  iexact Hpc

theorem deal_all :
    iprop((bigSep Finset.univ fun c : Dev nD => Start.atLaunch m c) ∗ ownU (ghost nD τ osem osem_inj))
      ⊢ (|={Set.univ}=> bigSep Finset.univ fun c : Dev nD => iprop(scopedBufs (c.tc : Thread nD τ) ∗ holds m c) : sProp 𝕄) := by
  have hat : (bigSep Finset.univ fun c : Dev nD => (Start.atLaunch m c : sProp 𝕄))
      = iprop((bigSep Finset.univ fun c : Dev nD => scopedBufs (c.tc : Thread nD τ)) ∗ (bigSep Finset.univ fun c : Dev nD => scopedSems0 (c.tc : Thread nD τ))
        ∗ (bigSep Finset.univ fun c : Dev nD => bigSep Finset.univ fun d => xBlk m c d)
        ∗ bigSep Finset.univ fun c : Dev nD => bigSep Finset.univ fun d => yBlk c d (m ((c : Thread nD τ).loc main_v1))) := by
    rw [← bigSep_sep', ← bigSep_sep', ← bigSep_sep']
    refine BI.bigSep_congr fun c _ => ?_
    unfold Start.atLaunch
    rw [unscoped_eq, x_split, y_split]
  have hy : (bigSep Finset.univ fun c : Dev nD => bigSep Finset.univ fun d => yBlk c d (m ((c : Thread nD τ).loc main_v1)))
      ⊢ (bigSep Finset.univ fun c : Dev nD => bigSep Finset.univ fun d => iprop(∃ f, yBlk (F := F) c d f) : sProp 𝕄) :=
    bigSep_mono fun c _ => bigSep_mono fun d _ => (show (yBlk c d (m ((c : Thread nD τ).loc main_v1)) : sProp 𝕄) ⊢ iprop(∃ f, yBlk (F := F) c d f) from by iintro H; iexists _; iexact H)
  rw [hat]
  iintro ⟨⟨Hsc, Hss, Hx, Hy⟩, Hu⟩
  ihave Hy := hy $$ Hy
  imod (Once.deal osem osem_inj N N_pos (pay m) scoped_eq) $$ [Hss Hu] with ⟨%K, #HR, Hp, Ht⟩
  · isplitl [Hss] <;> iassumption
  ihave H := (spread m) $$ [Hx Hy Hp Ht]
  · isplitl [Hx]; · iexact Hx
    isplitl [Hy]; · iexact Hy
    isplitl [Hp] <;> iassumption
  imodintro
  have hall : iprop(recs m K ∗ bigSep Finset.univ fun c : Dev nD => iprop(scopedBufs (c.tc : Thread nD τ) ∗ bigSep Finset.univ (dealt m c) ∗ stayReady m c))
      ⊢ (bigSep Finset.univ fun c : Dev nD => iprop(scopedBufs (c.tc : Thread nD τ) ∗ holds m c) : sProp 𝕄) :=
    with_persistent fun c _ => by
      unfold holds
      iintro ⟨HR, Hs, H⟩
      isplitl [Hs]; · iexact Hs
      iexists K
      isplitl [HR]; · iexact HR
      iexact H
  rw [bigSep_sep' Finset.univ (fun c : Dev nD => (scopedBufs (c.tc : Thread nD τ) : sProp 𝕄)) fun c => iprop(bigSep Finset.univ (dealt m c) ∗ stayReady m c)] at hall
  iapply hall
  isplitr; · iexact HR
  isplitl [Hsc]; · iexact Hsc
  iexact H

/-! ## One device -/

theorem due_iff (c d : Dev nD) (k : Fin 7) : dueAt d k = cell c (.inr (.inl k)) ↔ d = pr c k.succ := by
  constructor
  · intro h
    have h1 : pr d k.succ = c := congrArg (fun g : GSem nD τ sig => g.1.1) h
    rw [← h1, pr_pr]
  · rintro rfl
    show cell (pr (pr c k.succ) k.succ) _ = _
    rw [pr_pr]

theorem due_apply (c d : Dev nD) (k : Fin 7) : O₀ d (cell c (.inr (.inl k))) () = if d = pr c k.succ then N else 0 := by
  unfold O₀
  rw [owed_apply N (dueAt d) (cell c (.inr (.inl k))) _ (by decide) k (by revert k; decide) fun k' h => ?_]
  · exact if_congr (due_iff c d k) rfl rfl
  · have h2 : osem (.inr (.inl k')) = osem (.inr (.inl k)) := congrArg Prod.snd h
    exact Sum.inl.inj (Sum.inr.inj (osem_inj h2))

/-- The credit of the seven arrivals. -/
theorem arrivals (c : Dev nD) :
    (Pipeline.launchCred O₀ c : sProp 𝕄) ⊢ bigSep Finset.univ fun k : Fin 7 => cred (tallyAt (cell c (.inr (.inl k))) () N) :=
  Once.creds N osem osem_inj O₀ c (J := Fin 7) ⟨fun k => .inr (.inl k), fun _ _ h => Sum.inl.inj (Sum.inr.inj h)⟩ (fun k => pr c k.succ) fun k d => due_apply c d k

def begins (c : Dev nD) : sProp 𝕄 := iprop(∃ K, recs m K ∗ bigSep Finset.univ (ready m c) ∗ stayReady m c)
def Φ₀ (c : Dev nD) : sProp 𝕄 := iprop(begins m c ∗ scopedBufs (c.tc : Thread nD τ))
def Φ₁ (c : Dev nD) : sProp 𝕄 := iprop((bigSep Finset.univ (done m c) ∗ stayDone m c) ∗ scopedBufs (c.tc : Thread nD τ))

theorem begin_of (c : Dev nD) : iprop(holds m c ∗ Pipeline.launchCred O₀ c) ⊢ begins m c := by
  unfold holds begins
  iintro ⟨⟨%K, HR, Hd, Hs⟩, Hc⟩
  ihave Hc := (arrivals (F := F) c) $$ Hc
  iexists K
  isplitl [HR]; · iexact HR
  isplitr [Hs]
  · have h : iprop(bigSep Finset.univ (dealt m c) ∗ bigSep Finset.univ fun k : Fin 7 => cred (tallyAt (cell c (.inr (.inl k))) () N))
        ⊢ bigSep Finset.univ (ready m c) := by
      rw [← bigSep_sep']
      refine bigSep_mono fun k _ => ?_
      show iprop(dealt m c k ∗ cred (tallyAt (cell c (.inr (.inl k))) () N)) ⊢ ready m c k
      unfold dealt ready
      iintro ⟨⟨H1, H2, H3⟩, H4⟩
      isplitl [H1]; · iexact H1
      isplitl [H2]; · iexact H2
      isplitl [H3] <;> iassumption
    iapply h
    isplitl [Hd] <;> iassumption
  · iexact Hs

def dats : (p : Fin 1) → (c : Dev nD) → Dat τ (Elt F) Unit ℕ (UR sig nD τ) ℕ (cfgs p) c := fun _ c =>
  { A := fun w => w.elim0
    after := fun w => w.elim0
    Φ := fun t => match t with | ⟨0, _⟩ => Φ₀ m c | ⟨_ + 1, _⟩ => Φ₁ m c
    q := fun w => w.elim0
    owed := fun t => match t with | ⟨0, _⟩ => O₀ c | ⟨_ + 1, _⟩ => 0 }

theorem body_obligation (c : Dev nD) : BodyObligation (dats (F := F) m 0 c) (defs₀ (F := F)) 𝒱₀ () Set.univ := fun t => by
  rw [fin_N0 t]
  show iprop(Φ₀ m c ∗ (dats (F := F) m 0 c).owesAt () t0_0.castSucc ∗ bigSep (Finset.univ : Finset (Fin 0)) _)
    ⊢ wp frame (wpE (defs₀ (F := F)) 𝒱₀ c none) Set.univ
        (cc0_scatter_weight_grads (Memref.whole main_arg0) (Memref.isWhole_whole _) (Memref.whole main_v1) (Memref.isWhole_whole _) cc0_scratch0 cc0_scratch1 cc0_scratch2)
        (fun _ => iprop(Φ₁ m c ∗ (dats (F := F) m 0 c).owesAt () t0_0.succ ∗ bigSep (Finset.univ : Finset (Fin 0)) _))
  rw [Finset.univ_eq_empty, BI.bigSep_empty, BI.bigSep_empty]
  unfold Φ₀ Φ₁ begins Dat.owesAt Pipeline.owesWithin
  iintro ⟨⟨⟨%K, HR, Hk, Hs⟩, Hb⟩, ⟨%W, %hW, HO⟩, -⟩
  iapply ((body_run m c K W).trans (wp_wand _ _ _)) $$ [HR Hk Hs HO]
  · isplitl [HR]; · iexact HR
    isplitl [Hk]; · iexact Hk
    isplitl [Hs]; · iexact Hs
    iexact HO
  iintro %u ⟨Hd, Hs, ⟨%W', HO⟩⟩
  isplitl [Hd Hs Hb]
  · isplitl [Hd Hs]
    · isplitl [Hd] <;> iassumption
    iexact Hb
  isplitl [HO]
  · iexists W'
    isplitr
    · ipureintro; exact fun _ _ => Or.inl trivial
    iexact HO
  iempintro

/-- What a device ends with: its argument as it was, and its result. -/
def ends (c : Dev nD) : sProp 𝕄 :=
  iprop(((c : Thread nD τ).loc main_arg0 ↦{fullShare} m ((c : Thread nD τ).loc main_arg0)) ∗ ((c : Thread nD τ).loc main_v1 ↦{fullShare} outF m c))

theorem end_of (c : Dev nD) : Φ₁ m c ⊢ iprop(ends m c ∗ scopedSems0 (c.tc : Thread nD τ) ∗ scopedBufs (c.tc : Thread nD τ)) := by
  unfold Φ₁ ends done stayDone
  rw [x_split, y_split, around c fun d => xBlk m c d, around c fun d => yBlk c d (outF m c), scopedSems0_eq osem osem_inj scoped_eq c, ixs_split]
  rw [show pay m c (.inr (.inr ())) = iprop(yBlk c c (outF m c) ∗ xBlk m c c) from rfl]
  simp only [bigSep_sep']
  iintro ⟨⟨⟨⟨Hy, Hzr⟩, Hx, Hzs⟩, ⟨Hyc, Hxc⟩, Hzc⟩, Hb⟩
  isplitl [Hx Hxc Hy Hyc]
  · isplitl [Hx Hxc]
    · isplitl [Hxc]; · iexact Hxc
      iexact Hx
    · isplitl [Hyc]; · iexact Hyc
      iexact Hy
  isplitr [Hb]
  · isplitl [Hzs]; · iexact Hzs
    isplitl [Hzr]; · iexact Hzr
    iexact Hzc
  iexact Hb

theorem device_run (c : Dev nD) :
    iprop(iprop(scopedBufs (c.tc : Thread nD τ) ∗ holds m c) ∗ owes (c.tc : Thread nD τ) (O₀ c) ∅ ∗ levAts (fun _ => ∅) (fun _ _ => 0) ∗ Pipeline.launchCred O₀ c)
      ⊢ wp frame (wpE (defs (F := F)) (Variants.lift 𝒱₀) (c.tc : Thread nD τ) none) Set.univ (main (F := F) c)
          (fun _ => iprop(ends m c ∗ scopedSems0 (c.tc : Thread nD τ) ∗ ∃ W, owes (c.tc : Thread nD τ) (0 : CellTallies nD τ sig Unit) W)) := by
  refine BIBase.Entails.trans ?_ (Start.region_wp cfgs (dats m) EO cellOf_inj 0 defs₀ 𝒱₀ rfl c (body_obligation m c) (O₀ c) rfl rfl
    (X := begins m c) (Y := ends m c) (BI.Entails.refl _) (end_of m c))
  iintro ⟨⟨Hb, Hh⟩, HO, -, Hc⟩
  isplitl [Hh Hc]
  · iapply (begin_of m c)
    isplitl [Hh] <;> iassumption
  isplitl [Hb] <;> iassumption

/-- The program: it ends, every device's result is made of the blocks the devices had for it, the arguments are as they
    were and every semaphore is at zero. -/
theorem run_main (ρ : Dev nD → PrngReg) :
    θ_run (defs (F := F)) (onTc (τ := τ) (main (F := F))) ⟨m, fun _ => 0, ρ⟩ (fun r =>
      (∀ c : Dev nD, r.2.mem ((c : Thread nD τ).loc main_v1) = outF m c ∧ r.2.mem ((c : Thread nD τ).loc main_arg0) = m ((c : Thread nD τ).loc main_arg0))
      ∧ r.2.sem = fun _ => 0) := by
  refine Start.run_dealt defs (Variants.lift 𝒱₀) m ρ main O₀ (fun _ => ∅) (fun _ _ => 0) (fun _ _ => rfl) (ghost nD τ osem osem_inj) _ (ends m)
    (deal_all m) (device_run m) (fun c s => s.mem ((c : Thread nD τ).loc main_v1) = outF m c ∧ s.mem ((c : Thread nD τ).loc main_arg0) = m ((c : Thread nD τ).loc main_arg0))
    (fun c s' => ?_) fun s h hs => ⟨h, sem_eq_zero_of_scoped (by decide) hs⟩
  unfold ends
  iintro ⟨⟨Hx, Hy⟩, HSI⟩
  ihave %hx := (Start.read_buf s') $$ [Hx HSI]
  · isplitl [Hx] <;> iassumption
  ihave %hy := (Start.read_buf s') $$ [Hy HSI]
  · isplitl [Hy] <;> iassumption
  imodintro
  isplitr
  · ipureintro; exact ⟨hy, hx⟩
  iexact HSI

end Cert.Swap

end
-- ==== Proof.SwapValue.lean ====
/-
  What the all-to-all computes: of the whole array in 8 x 8 blocks, cut by rows of blocks over the devices, the array with
  the two block axes exchanged.
-/
module

public import proofs.«01_k».proof.Proof.SwapRun
public import Idealize.ShloMosaic.Lib.Layout
public import Idealize.ShloMosaic.Lib.Pipeline.Value

@[expose] public section

noncomputable section

namespace Cert.Swap

open Cert.KernelIdeal Cert.KernelIdeal.Gen
open Idealize.ShloMosaic
open Idealize.ShloMosaic.TcCoe
open Idealize.ShloMosaic.ValueIdx

/-- The whole array, and the whole array in eight rows of eight blocks. -/
abbrev All : Shape := ⟨3, ![64, 7808, 1024]⟩
abbrev Grid : Shape := ⟨4, ![8, 8, 7808, 1024]⟩

/-- Block `8 a + b` of the whole array. -/
def at8 (a b : Fin 8) : Fin 64 := ⟨8 * a.val + b.val, by have := a.isLt; have := b.isLt; omega⟩

variable {α : Type}

theorem in_rows (X : All.Idx → α) (h : All.ShapeCasts Grid) (a b : Fin 8) (y : Fin 7808) (z : Fin 1024) :
    shapeCast Grid X h (ix4 a b y z) = X (ix3 (at8 a b) y z) := by
  refine shapeCast_apply X h _ _ ?_
  rw [Shape.rowMajor_val_three, Shape.rowMajor_val_four]
  show ((8 * a.val + b.val) * 7808 + y.val) * 1024 + z.val = ((a.val * 8 + b.val) * 7808 + y.val) * 1024 + z.val
  rw [Nat.mul_comm 8 a.val]

theorem back_rows (X : Grid.Idx → α) (h : Grid.ShapeCasts All) (a b : Fin 8) (y : Fin 7808) (z : Fin 1024) :
    shapeCast All X h (ix3 (at8 a b) y z) = X (ix4 a b y z) := by
  refine shapeCast_apply X h _ _ ?_
  rw [Shape.rowMajor_val_three, Shape.rowMajor_val_four]
  show ((a.val * 8 + b.val) * 7808 + y.val) * 1024 + z.val = ((8 * a.val + b.val) * 7808 + y.val) * 1024 + z.val
  rw [Nat.mul_comm 8 a.val]

theorem turn (X : Grid.Idx → α) (h : Grid.Transposes [1, 0, 2, 3] Grid) (a b : Fin 8) (y : Fin 7808) (z : Fin 1024) :
    transpose Grid [1, 0, 2, 3] X h (ix4 a b y z) = X (ix4 b a y z) := by
  refine transpose_apply _ X h _ _ fun q => ?_
  match q with
  | ⟨0, _⟩ => rfl
  | ⟨1, _⟩ => rfl
  | ⟨2, _⟩ => rfl
  | ⟨3, _⟩ => rfl

/-- A device's part of the whole array. -/
theorem part_eq (c : Fin 8) (X : All.Idx → α) (h : Layout.Tiles (Blocks.Whole 7808 1024) All 0 8) (p : Fin 8) (y : Fin 7808) (z : Fin 1024) :
    Layout.block (Blocks.Whole 7808 1024) All 0 8 c X h (ix3 p y z) = X (ix3 (at8 c p) y z) := by
  rw [Layout.block_apply]
  refine congrArg X (funext fun q => Fin.ext ?_)
  refine (Layout.Tiles.idx_val h c _ q).trans ?_
  match q with
  | ⟨0, _⟩ => show c.val * 8 + p.val = 8 * c.val + p.val; omega
  | ⟨1, _⟩ => rfl
  | ⟨2, _⟩ => rfl

/-- Every device's result is its part of the array with the block axes exchanged. -/
theorem out_eq {F : FTy → Type} [FloatOps F] (m : (ℓ : Loc nD τ sig) → Buf (Elt F) ℓ) (X : All.Idx → Elt F .bf16) (h : Layout.Tiles (Blocks.Whole 7808 1024) All 0 8)
    (h₁ : All.ShapeCasts Grid) (h₂ : Grid.Transposes [1, 0, 2, 3] Grid) (h₃ : Grid.ShapeCasts All)
    (hX : ∀ c : Dev nD, inp m c = Layout.block (Blocks.Whole 7808 1024) All 0 8 c X h) (c : Dev nD) :
    outA m c = Layout.block (Blocks.Whole 7808 1024) All 0 8 c (shapeCast All (transpose Grid [1, 0, 2, 3] (shapeCast Grid X h₁) h₂) h₃) h := by
  funext i
  obtain ⟨p, y, z, rfl⟩ : ∃ (p : Fin 8) (y : Fin 7808) (z : Fin 1024), i = ix3 p y z := ⟨i 0, i 1, i 2, eq_ix3 i⟩
  rw [part_eq, back_rows, turn, in_rows]
  show inp m p (ix3 c y z) = _
  rw [hX p, part_eq]

end Cert.Swap

end
-- ==== Proof.Collect.lean ====
/-
  The all-gather of eight devices, for arrays of any size and type: every device ends with the blocks of all devices.

  Device `c` copies its block into its own result and sends it in four directions: to its sibling `c xor 1`, and to
  `c xor 4`, `c xor 2`, `c xor 6`. Each block that comes from one of the last three it passes on to its sibling, so that
  the three blocks left come to it through the sibling. The block of the argument is read by five transfers at once,
  each of which holds a share of it. A block passed on is lent by the device that passes it until the end of that
  transfer. Each of the fifteen semaphores counts one transfer (`Once`). Nothing here depends on which of the two
  all-gathers of the certificate is meant: a `Place` names the buffers and semaphores of a program.
-/
module

public import proofs.«01_k».proof.Proof.Partners
public import proofs.«01_k».proof.Proof.Blocks
public import Idealize.ShloMosaic.Lib.Ring
public import Idealize.ShloMosaic.Lib.ShareLeaves

@[expose] public section

noncomputable section

namespace Cert.Collect

open Cert.Once Cert.Blocks Cert.Partners
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The lanes -/

/-- Four lanes carry the device's own block, three the blocks it passes on. -/
abbrev Lane : Type := Fin 4 ⊕ Fin 3

/-- The four directions, and the three places of the blocks that come through the sibling. -/
def dir : Fin 4 → Fin 8 := ![1, 4, 2, 6]
def far : Fin 3 → Fin 8 := ![5, 3, 7]

/-- Lane `t` leads from device `c` to `pr c (via t)`, -/
def via : Lane → Fin 8 := Sum.elim dir fun _ => 1
/-- brings device `c` block `pr c (got t)`, -/
def got : Lane → Fin 8 := Sum.elim dir far
/-- and carries away from it block `sent c t`. -/
def sent (c : Fin 8) : Lane → Fin 8
  | .inl _ => c
  | .inr j => pr c (dir j.succ)

theorem got_via (c : Fin 8) (t : Lane) : pr (pr c (via t)) (got t) = sent c t := by revert c t; decide
theorem got_inj (c : Fin 8) : Function.Injective fun t => pr c (got t) := by revert c; decide

/-- One semaphore for each end of each lane, one for the copy that stays. -/
abbrev Ixs : Type := Lane ⊕ (Lane ⊕ Unit)

/-- The buffers and semaphores of one program. -/
structure Place (sig : RefSig) (R C : ℕ) (e : EltTy) where
  hq : (Slab R C).Squeezes (Flat R C)
  x : Memref sig .tc .hbm (Flat R C) e
  y : Memref sig .tc .hbm (Blocks.Whole R C) e
  sem : Ixs → DmaSem sig
  inj : Function.Injective fun i => SemLoc.dma (sem i)
  N : ℕ
  pos : 0 < N
  credit : ∀ v : Memref sig .tc .hbm (Flat R C) e, v.view.dmaCredit = N

variable {sig : RefSig} {R C : ℕ} {e : EltTy} {Val : EltTy → Type} [∀ e, Nonempty (Val e)]

abbrev M (sig : RefSig) (Val : EltTy → Type) : Type := Mx 8 Topo.v7x sig Val

/-- What the devices have, and what they are to hold: everywhere the blocks of all. -/
structure Data (P : Place sig R C e) (Val : EltTy → Type) where
  X : (c : Dev 8) → Buf Val (P.x.view.loc (c : Thread 8 Topo.v7x))
  Y : (c : Dev 8) → Buf Val (P.y.view.loc (c : Thread 8 Topo.v7x))
  same : ∀ (c d : Dev 8) (i : Fin R) (j : Fin C), P.y.view.read Val (Y c) (ix3 (d : Fin 8) i j) = P.x.view.read Val (X d) (ix2 i j)

variable {P : Place sig R C e} (D : Data P Val)

abbrev osem (P : Place sig R C e) (i : Ixs) : SemLoc sig := .dma (P.sem i)
abbrev cell (P : Place sig R C e) (c : Dev 8) (i : Ixs) : GSem 8 Topo.v7x sig := cellAt 8 Topo.v7x (osem P) (c, i)

/-! ## Blocks -/

/-- Device `c`'s argument at a share, and block `d` of its result. -/
def xAt (c : Dev 8) (q : PosShare TreeShare) : sProp (M sig Val) := P.x.view.loc (c : Thread 8 Topo.v7x) ↦[P.x.view.set]{q} D.X c
def yBlk (P : Place sig R C e) (c d : Dev 8) (f : Buf Val (P.y.view.loc (c : Thread 8 Topo.v7x))) : sProp (M sig Val) :=
  P.y.view.loc (c : Thread 8 Topo.v7x) ↦[(blk P.hq P.y d).view.set]{fullShare} f

instance xAt_storable (c : Dev 8) (q) : BI.Storable (upEmb : UEmb _ (M sig Val)) (xAt D c q) := by unfold xAt; infer_instance
instance yBlk_storable (c d : Dev 8) (f) : BI.Storable (upEmb : UEmb _ (M sig Val)) (yBlk (Val := Val) P c d f) := by unfold yBlk; infer_instance

/-- The shares of the four sends, and of the copy that stays. -/
def quarter (k : Fin 4) : PosShare TreeShare := ShareLeaves.leaf 2 fullShare.left k
def half : PosShare TreeShare := fullShare.right

theorem x_shares (c : Dev 8) : xAt D c fullShare = iprop((bigSep Finset.univ fun k => xAt D c (quarter k)) ∗ xAt D c half) := by
  have h := pointsTo_share (Ix := Unit) (Name := ℕ) (U := UR sig 8 Topo.v7x) (Lvl := ℕ) (I := P.x.view.set) (f := D.X c) (PosShare.mem_left_op_right fullShare)
  refine (BI.Entails.antisymm h.1 h.2).trans ?_
  rw [ShareLeaves.pointsTo_leaves _ _ 2 fullShare.left]
  rfl

/-- What each wait hands out. -/
def pay (c : Dev 8) : Ixs → sProp (M sig Val)
  | .inl (.inl k) => xAt D c (quarter k)
  | .inl (.inr j) => yBlk P c (pr c (dir j.succ)) (D.Y c)
  | .inr (.inl t) => yBlk P c (pr c (got t)) (D.Y c)
  | .inr (.inr _) => iprop(yBlk P c c (D.Y c) ∗ xAt D c half)

instance pay_storable (c : Dev 8) (i : Ixs) : BI.Storable (upEmb : UEmb _ (M sig Val)) (pay D c i) := by
  rcases i with (k | j) | t | u <;> unfold pay <;> infer_instance

/-- What lands is the sender's block, -/
theorem land (a b : Dev 8) (f : Buf Val (P.y.view.loc (b : Thread 8 Topo.v7x))) :
    (P.y.view.loc (b : Thread 8 Topo.v7x) ↦[(blk P.hq P.y a).view.set]{fullShare}
        ((blk P.hq P.y a).view.write Val f (P.x.view.read Val (D.X a)) Finset.univ) : sProp (M sig Val)) = yBlk P b a (D.Y b) :=
  Blocks.landed (v := (blk P.hq P.y a).view) (Blocks.read_ext fun i j => D.same b a i j)
/-- or the block passed on. -/
theorem land_on (a b d : Dev 8) (f : Buf Val (P.y.view.loc (b : Thread 8 Topo.v7x))) :
    (P.y.view.loc (b : Thread 8 Topo.v7x) ↦[(blk P.hq P.y d).view.set]{fullShare}
        ((blk P.hq P.y d).view.write Val f ((blk P.hq P.y d).view.read Val (D.Y a)) Finset.univ) : sProp (M sig Val)) = yBlk P b d (D.Y b) :=
  Blocks.landed (v := (blk P.hq P.y d).view) (Blocks.read_ext fun i j => (D.same b d i j).trans ((D.same a d i j).symm.trans (Blocks.read_eq (M := P.y) d _ i j).symm))

/-! ## What a device owes and may wait for -/

abbrev dueAt (P : Place sig R C e) (c : Dev 8) (t : Lane) : GSem 8 Topo.v7x sig := cell P (pr c (via t)) (.inr (.inl t))
def O₀ (P : Place sig R C e) (c : Dev 8) : CellTallies 8 Topo.v7x sig Unit :=
  owed P.N (dueAt P c) [.inl 0, .inl 1, .inl 2, .inl 3, .inr 0, .inr 1, .inr 2]

/-- Every semaphore of a TensorCore has a level: the blocks passed on come after the others. -/
def L (g : GSem 8 Topo.v7x sig) : Finset Unit := if g.1.2 = .tc then {()} else ∅
open Classical in
def lv (P : Place sig R C e) (g : GSem 8 Topo.v7x sig) (_ : Unit) : ℕ := if ∃ j, g.2 = osem P (.inr (.inl (.inr j))) then 1 else 0

theorem lv_late (c : Dev 8) (j : Fin 3) : lv P (cell P c (.inr (.inl (.inr j)))) () = 1 := if_pos ⟨j, rfl⟩
theorem lv_early (c : Dev 8) (k : Fin 4) : lv P (cell P c (.inr (.inl (.inl k)))) () = 0 :=
  if_neg fun ⟨j, h⟩ => by
    have := P.inj h
    exact absurd (Sum.inl.inj (Sum.inr.inj this)) (fun h => nomatch h)

theorem may_zero (c : Dev 8) (i : Ixs) : (levAts L (lv P) : sProp (M sig Val)) ⊢ MayWait (c : Thread 8 Topo.v7x) (osem P i) () 0 := by
  rw [MayWait_zero]; iintro -; iempintro

/-- A block of the first kind may be waited for while blocks are still to be passed on. -/
theorem may_early (c : Dev 8) (k : Fin 4) (ts : List Lane) (ht : ∀ t ∈ ts, ∃ j, t = .inr j) :
    (levAts L (lv P) : sProp (M sig Val)) ⊢ MayWait (c : Thread 8 Topo.v7x) (osem P (.inr (.inl (.inl k)))) () (owed P.N (dueAt P c) ts) := by
  refine Pipeline.mayWait_of_levAts (by unfold L; rw [if_pos rfl]; exact Finset.mem_singleton_self _) fun g u h => ?_
  obtain ⟨t, hm, rfl⟩ := owed_pos P.N h
  obtain ⟨j, rfl⟩ := ht t hm
  cases u
  refine ⟨by unfold L; rw [if_pos rfl]; exact Finset.mem_singleton_self _, ?_⟩
  have h0 : lv P ((c : Thread 8 Topo.v7x), osem P (.inr (.inl (.inl k)))) () = 0 := lv_early c k
  rw [h0, lv_late]; exact Nat.one_pos

/-- What every device knows. -/
def know (K : Dev 8 × Ixs → ℕ) : sProp (M sig Val) := iprop(records (osem P) P.N P.pos (pay D) K ∗ levAts L (lv P))
instance know_persistent (K : Dev 8 × Ixs → ℕ) : BI.Persistent (know D K) := by unfold know; infer_instance

/-! ## The steps -/

section Steps
variable {Λ : Labels} {defs : Defs 8 Topo.v7x sig Val Λ} {α : Type} {Q : α → sProp (M sig Val)}

/-- For the copy that stays: -/
def stayRes (c : Dev 8) : sProp (M sig Val) := iprop(xAt D c half ∗ (∃ f, yBlk P c c f) ∗ dutyTok EO (cell P c (.inr (.inr ()))) 0 ())
/-- for lane `t`: the place on the other device, and the right to count on both semaphores. -/
def laneRes (Val : EltTy → Type) [∀ e, Nonempty (Val e)] (P : Place sig R C e) (c : Dev 8) (t : Lane) : sProp (M sig Val) :=
  iprop((∃ f, yBlk P (pr c (via t)) (sent c t) f) ∗ dutyTok EO (cell P c (.inl t)) 0 () ∗ dutyTok EO (dueAt P c t) 0 ())

theorem wp_stay (𝒱 : Variants) (K : Dev 8 × Ixs → ℕ) (c : Dev 8) {dst : Memref sig .tc .hbm (Flat R C) e} (hd : dst = blk P.hq P.y c)
    {hsrc : P.x.view.WordExact} {hdst : dst.view.WordExact}
    {hty : DmaTarget.Typed (nD := 8) (τ := Topo.v7x) (p := Proc.tc) .hbm (.dma (P.sem (.inr (.inr ())))) (.here dst)}
    {k : PUnit → Prog (TpuEff 8 Topo.v7x sig Val Λ .tc) α} :
    iprop(know D K ∗ stayRes D c)
      ⊢ iprop((cred (tallyAt (cell P c (.inr (.inr ()))) () P.N) -∗ wp frame (wpE defs 𝒱 c.tc none) Set.univ (k ⟨⟩) Q)
          -∗ wp frame (wpE defs 𝒱 c.tc none) Set.univ (.op (.enqueueDma P.x (.here dst) (.dma (P.sem (.inr (.inr ())))) hsrc hdst hty) k) Q) := by
  subst hd
  unfold stayRes know
  iintro ⟨⟨HR, -⟩, Hx, ⟨%f, Hy⟩, Ht⟩
  iapply (Once.wp_copy (hN := P.pos) (pay := pay D) 𝒱 P.inj K c (.inr (.inr ())) (src := P.x) (dst := blk P.hq P.y c) rfl (fs := D.X c) (fd := f)
    (q := half) (P.credit _) (sep_mono_left (Entails.of_eq (land D c c f))))
  isplitl [HR]; · iexact HR
  isplitl [Hx]; · unfold xAt; iexact Hx
  isplitl [Hy]; · unfold yBlk; iexact Hy
  iexact Ht

/-- The device's own block, in one of the four directions. -/
theorem wp_give (𝒱 : Variants) (K : Dev 8 × Ixs → ℕ) (c : Dev 8) (k : Fin 4) (ts : List Lane) {n : Dev 8} (hn : n = pr c (dir k))
    {dst : Memref sig .tc .hbm (Flat R C) e} (hd : dst = blk P.hq P.y c) {hsc : dst.view.ref.isScScratch = false}
    {hsrc : P.x.view.WordExact} {hdst : dst.view.WordExact}
    {hty : DmaTarget.Typed .hbm (.dma (P.sem (.inr (.inl (.inl k))))) (.remote (n : Thread 8 Topo.v7x) dst (.dma (P.sem (.inl (.inl k)))) hsc)}
    {kk : PUnit → Prog (TpuEff 8 Topo.v7x sig Val Λ .tc) α} {W : Waits sig Unit} :
    iprop(know D K ∗ xAt D c (quarter k) ∗ laneRes Val P c (.inl k) ∗ owes (c : Thread 8 Topo.v7x) (owed P.N (dueAt P c) (.inl k :: ts)) W)
      ⊢ iprop(((cred (tallyAt (cell P c (.inl (.inl k))) () P.N) ∗ owes (c : Thread 8 Topo.v7x) (owed P.N (dueAt P c) ts) W)
            -∗ wp frame (wpE defs 𝒱 c.tc none) Set.univ (kk ⟨⟩) Q)
          -∗ wp frame (wpE defs 𝒱 c.tc none) Set.univ
              (.op (.enqueueDma P.x (.remote (n : Thread 8 Topo.v7x) dst (.dma (P.sem (.inl (.inl k)))) hsc) (.dma (P.sem (.inr (.inl (.inl k))))) hsrc hdst hty) kk) Q) := by
  subst hd
  unfold laneRes know
  iintro ⟨⟨HR, -⟩, Hx, ⟨⟨%f, Hy⟩, Ht, Ht'⟩, HO⟩
  iapply (Once.wp_send (hN := P.pos) (pay := pay D) 𝒱 P.inj K c (pr c (dir k)) n hn (.inl (.inl k)) (.inr (.inl (.inl k))) (src := P.x) (dst := blk P.hq P.y c) rfl rfl
    (fs := D.X c) (fd := f) (q := quarter k) (P.credit _) (owed P.N (dueAt P c) ts) (by rfl) (W := W) (Entails.refl _)
    (Entails.of_eq ((land D c (pr c (dir k)) f).trans (by show _ = yBlk P _ (pr (pr c (dir k)) (dir k)) _; rw [pr_pr]))) (by routes))
  isplitl [HR]; · iexact HR
  isplitl [Hx]; · unfold xAt; iexact Hx
  isplitl [Hy]; · unfold yBlk; iexact Hy
  isplitl [HO]; · iexact HO
  isplitl [Ht]; · iexact Ht
  iexact Ht'

/-- A block passed on to the sibling. -/
theorem wp_pass (𝒱 : Variants) (K : Dev 8 × Ixs → ℕ) (c : Dev 8) (j : Fin 3) (ts : List Lane) {n : Dev 8} (hn : n = pr c 1)
    {src dst : Memref sig .tc .hbm (Flat R C) e} (hs : src = blk P.hq P.y (pr c (dir j.succ))) (hd : dst = blk P.hq P.y (pr c (dir j.succ)))
    {hsc : dst.view.ref.isScScratch = false} {hsrc : src.view.WordExact} {hdst : dst.view.WordExact}
    {hty : DmaTarget.Typed .hbm (.dma (P.sem (.inr (.inl (.inr j))))) (.remote (n : Thread 8 Topo.v7x) dst (.dma (P.sem (.inl (.inr j)))) hsc)}
    {kk : PUnit → Prog (TpuEff 8 Topo.v7x sig Val Λ .tc) α} {W : Waits sig Unit} :
    iprop(know D K ∗ pay D c (.inr (.inl (.inl j.succ))) ∗ laneRes Val P c (.inr j) ∗ owes (c : Thread 8 Topo.v7x) (owed P.N (dueAt P c) (.inr j :: ts)) W)
      ⊢ iprop(((cred (tallyAt (cell P c (.inl (.inr j))) () P.N) ∗ owes (c : Thread 8 Topo.v7x) (owed P.N (dueAt P c) ts) W)
            -∗ wp frame (wpE defs 𝒱 c.tc none) Set.univ (kk ⟨⟩) Q)
          -∗ wp frame (wpE defs 𝒱 c.tc none) Set.univ
              (.op (.enqueueDma src (.remote (n : Thread 8 Topo.v7x) dst (.dma (P.sem (.inl (.inr j)))) hsc) (.dma (P.sem (.inr (.inl (.inr j))))) hsrc hdst hty) kk) Q) := by
  subst hs; subst hd
  unfold laneRes know
  iintro ⟨⟨HR, -⟩, Hx, ⟨⟨%f, Hy⟩, Ht, Ht'⟩, HO⟩
  iapply (Once.wp_send (hN := P.pos) (pay := pay D) 𝒱 P.inj K c (pr c 1) n hn (.inl (.inr j)) (.inr (.inl (.inr j)))
    (src := blk P.hq P.y (pr c (dir j.succ))) (dst := blk P.hq P.y (pr c (dir j.succ))) rfl rfl
    (fs := D.Y c) (fd := f) (q := fullShare) (P.credit _) (owed P.N (dueAt P c) ts) (by rfl) (W := W) (Entails.refl _)
    (Entails.of_eq ((land_on D c (pr c 1) (pr c (dir j.succ)) f).trans (by rw [← show pr (pr c 1) (got (.inr j)) = pr c (dir j.succ) from got_via c (.inr j)]; rfl))) (by routes))
  isplitl [HR]; · iexact HR
  isplitl [Hx]; · unfold pay yBlk; iexact Hx
  isplitl [Hy]; · unfold yBlk; iexact Hy
  isplitl [HO]; · iexact HO
  isplitl [Ht]; · iexact Ht
  iexact Ht'

theorem wp_take (𝒱 : Variants) (K : Dev 8 × Ixs → ℕ) (c : Dev 8) (i : Ixs) {O : CellTallies 8 Topo.v7x sig Unit}
    (hm : (levAts L (lv P) : sProp (M sig Val)) ⊢ MayWait (c : Thread 8 Topo.v7x) (osem P i) () O)
    {src dst : Memref sig .tc .hbm (Flat R C) e} {hsrc : src.view.WordExact} {hdst : dst.view.WordExact}
    {k : PUnit → Prog (TpuEff 8 Topo.v7x sig Val Λ .tc) α} {W : Waits sig Unit} :
    iprop(know D K ∗ cred (tallyAt (cell P c i) () P.N) ∗ owes (c : Thread 8 Topo.v7x) O W ∗ atPos EO (cell P c i) 0 ∅ 0)
      ⊢ iprop(((owes (c : Thread 8 Topo.v7x) O (insert (osem P i, ()) W) ∗ pay D c i ∗ semVal (cell P c i) 0) -∗ wp frame (wpE defs 𝒱 c.tc none) Set.univ (k ⟨⟩) Q)
          -∗ wp frame (wpE defs 𝒱 c.tc none) Set.univ (.op (.waitDma2 (P.sem i) src dst hsrc hdst) k) Q) := by
  refine BIBase.Entails.trans ?_ (Once.wp_await (hN := P.pos) (pay := pay D) 𝒱 P.inj K c i rfl (P.credit dst))
  unfold know
  iintro ⟨⟨HR, HL⟩, Hc, HO, Ha⟩
  isplitl [HR]; · iexact HR
  isplitl [Hc]; · iexact Hc
  isplitl [HO]; · iexact HO
  isplitl [HL]; · iapply hm; iexact HL
  iexact Ha

end Steps

end Cert.Collect

end
-- ==== Proof.CollectBody.lean ====
/-
  One device's run of the all-gather: the copy that stays, the four sends, three arrivals each passed on at once, the four
  arrivals left, and the ends of all transfers.
-/
module

public import proofs.«01_k».proof.Proof.Collect

@[expose] public section

noncomputable section

namespace Cert.Collect

open Cert.Once Cert.Blocks Cert.Partners
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {R C : ℕ} {e : EltTy} {Val : EltTy → Type} [∀ e, Nonempty (Val e)]

/-- The program's transfers. The memrefs `s`, `a₁ a₂ a₃` and `b₀ .. b₃` are those it names: its own block, the three it
    passes on, and the four that stay with it; `n₁ .. n₇` are the devices it sends to. -/
abbrev transfers {Λ : Labels} (P : Place sig R C e) (s a₁ a₂ a₃ b₀ b₁ b₂ b₃ : Memref sig .tc .hbm (Flat R C) e)
    (hx : P.x.view.WordExact) (hs : s.view.WordExact) (h₁ : a₁.view.WordExact) (h₂ : a₂.view.WordExact) (h₃ : a₃.view.WordExact)
    (k₀ : b₀.view.WordExact) (k₁ : b₁.view.WordExact) (k₂ : b₂.view.WordExact) (k₃ : b₃.view.WordExact)
    (zs : s.view.ref.isScScratch = false) (z₁ : a₁.view.ref.isScScratch = false) (z₂ : a₂.view.ref.isScScratch = false) (z₃ : a₃.view.ref.isScScratch = false)
    (n₁ n₂ n₃ n₄ n₅ n₆ n₇ : Dev 8) : Prog (TpuEff 8 Topo.v7x sig Val Λ .tc) PUnit :=
  .op (.enqueueDma P.x (.here s) (.dma (P.sem (.inr (.inr ())))) hx hs ⟨Or.inl rfl, trivial⟩) fun _ =>
  .op (.enqueueDma P.x (.remote (Dev.tc n₁) s (.dma (P.sem (.inl (.inl 0)))) zs) (.dma (P.sem (.inr (.inl (.inl 0))))) hx hs ⟨⟨rfl, Or.inl rfl⟩, trivial⟩) fun _ =>
  .op (.enqueueDma P.x (.remote (Dev.tc n₂) s (.dma (P.sem (.inl (.inl 1)))) zs) (.dma (P.sem (.inr (.inl (.inl 1))))) hx hs ⟨⟨rfl, Or.inl rfl⟩, trivial⟩) fun _ =>
  .op (.enqueueDma P.x (.remote (Dev.tc n₃) s (.dma (P.sem (.inl (.inl 2)))) zs) (.dma (P.sem (.inr (.inl (.inl 2))))) hx hs ⟨⟨rfl, Or.inl rfl⟩, trivial⟩) fun _ =>
  .op (.enqueueDma P.x (.remote (Dev.tc n₄) s (.dma (P.sem (.inl (.inl 3)))) zs) (.dma (P.sem (.inr (.inl (.inl 3))))) hx hs ⟨⟨rfl, Or.inl rfl⟩, trivial⟩) fun _ =>
  .op (.waitDma2 (P.sem (.inr (.inl (.inl 1)))) a₁ a₁ h₁ h₁) fun _ =>
  .op (.enqueueDma a₁ (.remote (Dev.tc n₅) a₁ (.dma (P.sem (.inl (.inr 0)))) z₁) (.dma (P.sem (.inr (.inl (.inr 0))))) h₁ h₁ ⟨⟨rfl, Or.inl rfl⟩, trivial⟩) fun _ =>
  .op (.waitDma2 (P.sem (.inr (.inl (.inl 2)))) a₂ a₂ h₂ h₂) fun _ =>
  .op (.enqueueDma a₂ (.remote (Dev.tc n₆) a₂ (.dma (P.sem (.inl (.inr 1)))) z₂) (.dma (P.sem (.inr (.inl (.inr 1))))) h₂ h₂ ⟨⟨rfl, Or.inl rfl⟩, trivial⟩) fun _ =>
  .op (.waitDma2 (P.sem (.inr (.inl (.inl 3)))) a₃ a₃ h₃ h₃) fun _ =>
  .op (.enqueueDma a₃ (.remote (Dev.tc n₇) a₃ (.dma (P.sem (.inl (.inr 2)))) z₃) (.dma (P.sem (.inr (.inl (.inr 2))))) h₃ h₃ ⟨⟨rfl, Or.inl rfl⟩, trivial⟩) fun _ =>
  .op (.waitDma2 (P.sem (.inr (.inl (.inl 0)))) b₀ b₀ k₀ k₀) fun _ =>
  .op (.waitDma2 (P.sem (.inr (.inl (.inr 0)))) b₁ b₁ k₁ k₁) fun _ =>
  .op (.waitDma2 (P.sem (.inr (.inl (.inr 1)))) b₂ b₂ k₂ k₂) fun _ =>
  .op (.waitDma2 (P.sem (.inr (.inl (.inr 2)))) b₃ b₃ k₃ k₃) fun _ =>
  .op (.waitDma2 (P.sem (.inl (.inl 0))) s P.x hs hx) fun _ =>
  .op (.waitDma2 (P.sem (.inl (.inl 1))) s P.x hs hx) fun _ =>
  .op (.waitDma2 (P.sem (.inl (.inl 2))) s P.x hs hx) fun _ =>
  .op (.waitDma2 (P.sem (.inl (.inl 3))) s P.x hs hx) fun _ =>
  .op (.waitDma2 (P.sem (.inl (.inr 0))) a₁ a₁ h₁ h₁) fun _ =>
  .op (.waitDma2 (P.sem (.inl (.inr 1))) a₂ a₂ h₂ h₂) fun _ =>
  .op (.waitDma2 (P.sem (.inl (.inr 2))) a₃ a₃ h₃ h₃) fun _ =>
  .op (.waitDma2 (P.sem (.inr (.inr ()))) P.x s hx hs) fun _ =>
  .ret ⟨⟩

variable {P : Place sig R C e} (D : Data P Val)

theorem lanes (Φ : Lane → sProp (M sig Val)) :
    bigSep Finset.univ Φ = iprop(Φ (.inl 0) ∗ Φ (.inl 1) ∗ Φ (.inl 2) ∗ Φ (.inl 3) ∗ Φ (.inr 0) ∗ Φ (.inr 1) ∗ Φ (.inr 2)) :=
  bigSep_univ_eq_bigSepL ([.inl 0, .inl 1, .inl 2, .inl 3, .inr 0, .inr 1, .inr 2] : List Lane) (by decide) (by decide) Φ
theorem four (Φ : Fin 4 → sProp (M sig Val)) : bigSep Finset.univ Φ = iprop(Φ 0 ∗ Φ 1 ∗ Φ 2 ∗ Φ 3) :=
  bigSep_univ_eq_bigSepL [0, 1, 2, 3] (by decide) (by decide) Φ

/-- What a device has for lane `t` before it, without the credit of the arrival, -/
def dealt (Val : EltTy → Type) [∀ e, Nonempty (Val e)] (P : Place sig R C e) (c : Dev 8) (t : Lane) : sProp (M sig Val) :=
  iprop(laneRes Val P c t ∗ atPos EO (cell P c (.inl t)) 0 ∅ 0 ∗ atPos EO (cell P c (.inr (.inl t))) 0 ∅ 0)
/-- with it, -/
def ready (Val : EltTy → Type) [∀ e, Nonempty (Val e)] (P : Place sig R C e) (c : Dev 8) (t : Lane) : sProp (M sig Val) :=
  iprop(dealt Val P c t ∗ cred (tallyAt (cell P c (.inr (.inl t))) () P.N))
/-- and after it. -/
def done (c : Dev 8) (t : Lane) : sProp (M sig Val) :=
  iprop(yBlk P c (pr c (got t)) (D.Y c) ∗ semVal (cell P c (.inl t)) 0 ∗ semVal (cell P c (.inr (.inl t))) 0)

def stayReady (c : Dev 8) : sProp (M sig Val) := iprop(stayRes D c ∗ atPos EO (cell P c (.inr (.inr ()))) 0 ∅ 0)
def stayDone (c : Dev 8) : sProp (M sig Val) := iprop(pay D c (.inr (.inr ())) ∗ semVal (cell P c (.inr (.inr ()))) 0)

set_option maxRecDepth 65536 in
theorem body_run {Λ : Labels} {defs : Defs 8 Topo.v7x sig Val Λ} (𝒱 : Variants) (c : Dev 8) (K : Dev 8 × Ixs → ℕ) (W : Waits sig Unit)
    {s a₁ a₂ a₃ b₀ b₁ b₂ b₃ : Memref sig .tc .hbm (Flat R C) e} {hx hs h₁ h₂ h₃ k₀ k₁ k₂ k₃ zs z₁ z₂ z₃} {n₁ n₂ n₃ n₄ n₅ n₆ n₇ : Dev 8}
    (es : s = blk P.hq P.y c) (e₁ : a₁ = blk P.hq P.y (pr c 4)) (e₂ : a₂ = blk P.hq P.y (pr c 2)) (e₃ : a₃ = blk P.hq P.y (pr c 6))
    (m₁ : n₁ = pr c 1) (m₂ : n₂ = pr c 4) (m₃ : n₃ = pr c 2) (m₄ : n₄ = pr c 6) (m₅ : n₅ = pr c 1) (m₆ : n₆ = pr c 1) (m₇ : n₇ = pr c 1) :
    iprop(know D K ∗ (bigSep Finset.univ fun k => xAt D c (quarter k)) ∗ bigSep Finset.univ (ready Val P c) ∗ stayReady D c
        ∗ owes (c : Thread 8 Topo.v7x) (O₀ P c) W)
      ⊢ wp frame (wpE defs 𝒱 c.tc none) Set.univ (transfers P s a₁ a₂ a₃ b₀ b₁ b₂ b₃ hx hs h₁ h₂ h₃ k₀ k₁ k₂ k₃ zs z₁ z₂ z₃ n₁ n₂ n₃ n₄ n₅ n₆ n₇)
          (fun _ => iprop((bigSep Finset.univ fun k => xAt D c (quarter k)) ∗ bigSep Finset.univ (done D c) ∗ stayDone D c
            ∗ ∃ W, owes (c : Thread 8 Topo.v7x) (0 : CellTallies 8 Topo.v7x sig Unit) W)) := by
  rw [four, lanes, lanes]
  unfold ready dealt stayReady done stayDone O₀
  iintro ⟨#HR, ⟨X0, X1, X2, X3⟩, ⟨⟨⟨S0, P0, A0⟩, C0⟩, ⟨⟨S1, P1, A1⟩, C1⟩, ⟨⟨S2, P2, A2⟩, C2⟩, ⟨⟨S3, P3, A3⟩, C3⟩, ⟨⟨S4, P4, A4⟩, C4⟩, ⟨⟨S5, P5, A5⟩, C5⟩, ⟨⟨S6, P6, A6⟩, C6⟩⟩, ⟨T, PT⟩, HO⟩
  iapply (wp_stay D 𝒱 K c es) $$ [T]
  · isplitr; · iexact HR
    iexact T
  iintro CT
  iapply (wp_give D 𝒱 K c 0 [.inl 1, .inl 2, .inl 3, .inr 0, .inr 1, .inr 2] m₁ es) $$ [X0 S0 HO]
  · isplitr; · iexact HR
    isplitl [X0]; · iexact X0
    isplitl [S0] <;> iassumption
  iintro ⟨D0, HO⟩
  iapply (wp_give D 𝒱 K c 1 [.inl 2, .inl 3, .inr 0, .inr 1, .inr 2] m₂ es) $$ [X1 S1 HO]
  · isplitr; · iexact HR
    isplitl [X1]; · iexact X1
    isplitl [S1] <;> iassumption
  iintro ⟨D1, HO⟩
  iapply (wp_give D 𝒱 K c 2 [.inl 3, .inr 0, .inr 1, .inr 2] m₃ es) $$ [X2 S2 HO]
  · isplitr; · iexact HR
    isplitl [X2]; · iexact X2
    isplitl [S2] <;> iassumption
  iintro ⟨D2, HO⟩
  iapply (wp_give D 𝒱 K c 3 [.inr 0, .inr 1, .inr 2] m₄ es) $$ [X3 S3 HO]
  · isplitr; · iexact HR
    isplitl [X3]; · iexact X3
    isplitl [S3] <;> iassumption
  iintro ⟨D3, HO⟩
  iapply (wp_take D 𝒱 K c (.inr (.inl (.inl 1))) (may_early c 1 [.inr 0, .inr 1, .inr 2] (by simp))) $$ [C1 HO A1]
  · isplitr; · iexact HR
    isplitl [C1]; · iexact C1
    isplitl [HO] <;> iassumption
  iintro ⟨HO, B1, Z1⟩
  iapply (wp_pass D 𝒱 K c 0 [.inr 1, .inr 2] m₅ e₁ e₁) $$ [B1 S4 HO]
  · isplitr; · iexact HR
    isplitl [B1]; · iexact B1
    isplitl [S4] <;> iassumption
  iintro ⟨D4, HO⟩
  iapply (wp_take D 𝒱 K c (.inr (.inl (.inl 2))) (may_early c 2 [.inr 1, .inr 2] (by simp))) $$ [C2 HO A2]
  · isplitr; · iexact HR
    isplitl [C2]; · iexact C2
    isplitl [HO] <;> iassumption
  iintro ⟨HO, B2, Z2⟩
  iapply (wp_pass D 𝒱 K c 1 [.inr 2] m₆ e₂ e₂) $$ [B2 S5 HO]
  · isplitr; · iexact HR
    isplitl [B2]; · iexact B2
    isplitl [S5] <;> iassumption
  iintro ⟨D5, HO⟩
  iapply (wp_take D 𝒱 K c (.inr (.inl (.inl 3))) (may_early c 3 [.inr 2] (by simp))) $$ [C3 HO A3]
  · isplitr; · iexact HR
    isplitl [C3]; · iexact C3
    isplitl [HO] <;> iassumption
  iintro ⟨HO, B3, Z3⟩
  iapply (wp_pass D 𝒱 K c 2 [] m₇ e₃ e₃) $$ [B3 S6 HO]
  · isplitr; · iexact HR
    isplitl [B3]; · iexact B3
    isplitl [S6] <;> iassumption
  iintro ⟨D6, HO⟩
  ihave HO := (show (owes (c : Thread 8 Topo.v7x) (owed P.N (dueAt P c) []) _ : sProp (M sig Val)) ⊢ owes (c : Thread 8 Topo.v7x) 0 _ from Entails.of_eq rfl) $$ HO
  iapply (wp_take D 𝒱 K c (.inr (.inl (.inl 0))) (may_zero c _)) $$ [C0 HO A0]
  · isplitr; · iexact HR
    isplitl [C0]; · iexact C0
    isplitl [HO] <;> iassumption
  iintro ⟨HO, B0, Z0⟩
  ihave B0 := (show (pay D c (.inr (.inl (.inl 0))) : sProp (M sig Val)) ⊢ yBlk P c (pr c (got (.inl 0))) (D.Y c) from Entails.of_eq rfl) $$ B0
  iapply (wp_take D 𝒱 K c (.inr (.inl (.inr 0))) (may_zero c _)) $$ [C4 HO A4]
  · isplitr; · iexact HR
    isplitl [C4]; · iexact C4
    isplitl [HO] <;> iassumption
  iintro ⟨HO, B4, Z4⟩
  ihave B4 := (show (pay D c (.inr (.inl (.inr 0))) : sProp (M sig Val)) ⊢ yBlk P c (pr c (got (.inr 0))) (D.Y c) from Entails.of_eq rfl) $$ B4
  iapply (wp_take D 𝒱 K c (.inr (.inl (.inr 1))) (may_zero c _)) $$ [C5 HO A5]
  · isplitr; · iexact HR
    isplitl [C5]; · iexact C5
    isplitl [HO] <;> iassumption
  iintro ⟨HO, B5, Z5⟩
  ihave B5 := (show (pay D c (.inr (.inl (.inr 1))) : sProp (M sig Val)) ⊢ yBlk P c (pr c (got (.inr 1))) (D.Y c) from Entails.of_eq rfl) $$ B5
  iapply (wp_take D 𝒱 K c (.inr (.inl (.inr 2))) (may_zero c _)) $$ [C6 HO A6]
  · isplitr; · iexact HR
    isplitl [C6]; · iexact C6
    isplitl [HO] <;> iassumption
  iintro ⟨HO, B6, Z6⟩
  ihave B6 := (show (pay D c (.inr (.inl (.inr 2))) : sProp (M sig Val)) ⊢ yBlk P c (pr c (got (.inr 2))) (D.Y c) from Entails.of_eq rfl) $$ B6
  iapply (wp_take D 𝒱 K c (.inl (.inl 0)) (may_zero c _)) $$ [D0 HO P0]
  · isplitr; · iexact HR
    isplitl [D0]; · iexact D0
    isplitl [HO] <;> iassumption
  iintro ⟨HO, X0, Y0⟩
  ihave X0 := (show (pay D c (.inl (.inl 0)) : sProp (M sig Val)) ⊢ xAt D c (quarter 0) from Entails.of_eq rfl) $$ X0
  iapply (wp_take D 𝒱 K c (.inl (.inl 1)) (may_zero c _)) $$ [D1 HO P1]
  · isplitr; · iexact HR
    isplitl [D1]; · iexact D1
    isplitl [HO] <;> iassumption
  iintro ⟨HO, X1, Y1⟩
  ihave X1 := (show (pay D c (.inl (.inl 1)) : sProp (M sig Val)) ⊢ xAt D c (quarter 1) from Entails.of_eq rfl) $$ X1
  iapply (wp_take D 𝒱 K c (.inl (.inl 2)) (may_zero c _)) $$ [D2 HO P2]
  · isplitr; · iexact HR
    isplitl [D2]; · iexact D2
    isplitl [HO] <;> iassumption
  iintro ⟨HO, X2, Y2⟩
  ihave X2 := (show (pay D c (.inl (.inl 2)) : sProp (M sig Val)) ⊢ xAt D c (quarter 2) from Entails.of_eq rfl) $$ X2
  iapply (wp_take D 𝒱 K c (.inl (.inl 3)) (may_zero c _)) $$ [D3 HO P3]
  · isplitr; · iexact HR
    isplitl [D3]; · iexact D3
    isplitl [HO] <;> iassumption
  iintro ⟨HO, X3, Y3⟩
  ihave X3 := (show (pay D c (.inl (.inl 3)) : sProp (M sig Val)) ⊢ xAt D c (quarter 3) from Entails.of_eq rfl) $$ X3
  iapply (wp_take D 𝒱 K c (.inl (.inr 0)) (may_zero c _)) $$ [D4 HO P4]
  · isplitr; · iexact HR
    isplitl [D4]; · iexact D4
    isplitl [HO] <;> iassumption
  iintro ⟨HO, B1, Y4⟩
  ihave B1 := (show (pay D c (.inl (.inr 0)) : sProp (M sig Val)) ⊢ yBlk P c (pr c (got (.inl 1))) (D.Y c) from Entails.of_eq rfl) $$ B1
  iapply (wp_take D 𝒱 K c (.inl (.inr 1)) (may_zero c _)) $$ [D5 HO P5]
  · isplitr; · iexact HR
    isplitl [D5]; · iexact D5
    isplitl [HO] <;> iassumption
  iintro ⟨HO, B2, Y5⟩
  ihave B2 := (show (pay D c (.inl (.inr 1)) : sProp (M sig Val)) ⊢ yBlk P c (pr c (got (.inl 2))) (D.Y c) from Entails.of_eq rfl) $$ B2
  iapply (wp_take D 𝒱 K c (.inl (.inr 2)) (may_zero c _)) $$ [D6 HO P6]
  · isplitr; · iexact HR
    isplitl [D6]; · iexact D6
    isplitl [HO] <;> iassumption
  iintro ⟨HO, B3, Y6⟩
  ihave B3 := (show (pay D c (.inl (.inr 2)) : sProp (M sig Val)) ⊢ yBlk P c (pr c (got (.inl 3))) (D.Y c) from Entails.of_eq rfl) $$ B3
  iapply (wp_take D 𝒱 K c (.inr (.inr ())) (may_zero c _)) $$ [CT HO PT]
  · isplitr; · iexact HR
    isplitl [CT]; · iexact CT
    isplitl [HO] <;> iassumption
  iintro ⟨HO, T⟩
  rw [wp_ret]; imodintro
  isplitl [X0 X1 X2 X3]
  · isplitl [X0]; · iexact X0
    isplitl [X1]; · iexact X1
    isplitl [X2] <;> iassumption
  isplitr [T HO]
  · isplitl [B0 Y0 Z0]
    · isplitl [B0]; · iexact B0
      isplitl [Y0] <;> iassumption
    isplitl [B1 Y1 Z1]
    · isplitl [B1]; · iexact B1
      isplitl [Y1] <;> iassumption
    isplitl [B2 Y2 Z2]
    · isplitl [B2]; · iexact B2
      isplitl [Y2] <;> iassumption
    isplitl [B3 Y3 Z3]
    · isplitl [B3]; · iexact B3
      isplitl [Y3] <;> iassumption
    isplitl [B4 Y4 Z4]
    · isplitl [B4]; · iexact B4
      isplitl [Y4] <;> iassumption
    isplitl [B5 Y5 Z5]
    · isplitl [B5]; · iexact B5
      isplitl [Y5] <;> iassumption
    isplitl [B6]; · iexact B6
    isplitl [Y6] <;> iassumption
  isplitl [T]; · iexact T
  iexists _; iexact HO

end Cert.Collect

end
-- ==== Proof.CollectDeal.lean ====
/-
  The dealing of the all-gather: what all devices hold at launch is regrouped so that each has what its run uses, and what
  a device ends with is put together again.
-/
module

public import proofs.«01_k».proof.Proof.CollectBody

@[expose] public section

noncomputable section

namespace Cert.Collect

open Cert.Once Cert.Blocks Cert.Partners
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {R C : ℕ} {e : EltTy} {Val : EltTy → Type} [∀ e, Nonempty (Val e)]
variable {P : Place sig R C e} (D : Data P Val)

/-! ## Regrouping -/

/-- One thing for every device: that of device `c` itself, and those its lanes bring. -/
theorem brought (c : Fin 8) (Φ : Fin 8 → sProp (M sig Val)) :
    bigSep Finset.univ Φ = iprop(Φ c ∗ bigSep Finset.univ fun t : Lane => Φ (pr c (got t))) := by
  rw [show (Finset.univ : Finset (Fin 8)) = insert c (Finset.univ.map ⟨fun t => pr c (got t), got_inj c⟩) from by revert c; decide,
    BI.bigSep_insert (by revert c; decide), BI.bigSep_map]
  rfl

/-- One thing for every device and lane: regrouped by the device at the other end. -/
theorem turned (Φ : Fin 8 → Lane → sProp (M sig Val)) :
    (bigSep Finset.univ fun c => bigSep Finset.univ fun t => Φ c t) = bigSep Finset.univ fun c => bigSep Finset.univ fun t : Lane => Φ (pr c (via t)) t := by
  rw [Pipeline.bigSep_univ_comm, Pipeline.bigSep_univ_comm (fun c (t : Lane) => Φ (pr c (via t)) t)]
  exact BI.bigSep_congr fun t _ => BI.bigSep_univ_equiv (swap (via t)) fun c => Φ c t

/-- One thing for every device and block: for each device its own block, and the places its lanes lead to. -/
theorem placed (Φ : Fin 8 → Fin 8 → sProp (M sig Val)) :
    (bigSep Finset.univ fun c => bigSep Finset.univ fun d => Φ c d)
      = iprop((bigSep Finset.univ fun c => Φ c c) ∗ bigSep Finset.univ fun c => bigSep Finset.univ fun t : Lane => Φ (pr c (via t)) (sent c t)) := by
  rw [BI.bigSep_congr (s := Finset.univ) fun c _ => brought c (Φ c), bigSep_sep', turned fun c t => Φ c (pr c (got t))]
  simp only [got_via]

theorem ixs_split (Φ : Ixs → sProp (M sig Val)) :
    bigSep Finset.univ Φ = iprop((bigSep Finset.univ fun t : Lane => Φ (.inl t)) ∗ (bigSep Finset.univ fun t : Lane => Φ (.inr (.inl t))) ∗ Φ (.inr (.inr ()))) := by
  rw [BI.bigSep_univ_sum Φ, BI.bigSep_univ_sum fun b : Lane ⊕ Unit => Φ (.inr b), BI.bigSep_univ_of_subsingleton ()]
  rfl

/-! ## The dealing -/

/-- What a device has before its run, without what all know and the credit of the arrivals. -/
def share (c : Dev 8) : sProp (M sig Val) :=
  iprop((bigSep Finset.univ fun k => xAt D c (quarter k)) ∗ bigSep Finset.univ (dealt Val P c) ∗ stayReady D c)

theorem spread :
    iprop((bigSep Finset.univ fun c : Dev 8 => xAt D c fullShare)
        ∗ (bigSep Finset.univ fun c : Dev 8 => bigSep Finset.univ fun d => iprop(∃ f, yBlk (Val := Val) P c d f))
        ∗ (bigSep Finset.univ fun c : Dev 8 => bigSep Finset.univ fun i => atPos EO (cell P c i) 0 ∅ 0)
        ∗ (bigSep Finset.univ fun c : Dev 8 => bigSep Finset.univ fun i => dutyTok EO (cell P c i) 0 ()))
      ⊢ (bigSep Finset.univ fun c : Dev 8 => share D c : sProp (M sig Val)) := by
  have hp : (bigSep Finset.univ fun c : Dev 8 => bigSep Finset.univ fun i => (atPos EO (cell P c i) 0 ∅ 0 : sProp (M sig Val)))
      = iprop((bigSep Finset.univ fun c : Dev 8 => bigSep Finset.univ fun t : Lane => atPos EO (cell P c (.inl t)) 0 ∅ 0)
        ∗ (bigSep Finset.univ fun c : Dev 8 => bigSep Finset.univ fun t : Lane => atPos EO (cell P c (.inr (.inl t))) 0 ∅ 0)
        ∗ bigSep Finset.univ fun c : Dev 8 => atPos EO (cell P c (.inr (.inr ()))) 0 ∅ 0) := by
    rw [← bigSep_sep', ← bigSep_sep']; exact BI.bigSep_congr fun c _ => ixs_split fun i => atPos EO (cell P c i) 0 ∅ 0
  have ht : (bigSep Finset.univ fun c : Dev 8 => bigSep Finset.univ fun i => (dutyTok EO (cell P c i) 0 () : sProp (M sig Val)))
      = iprop((bigSep Finset.univ fun c : Dev 8 => bigSep Finset.univ fun t : Lane => dutyTok EO (cell P c (.inl t)) 0 ())
        ∗ (bigSep Finset.univ fun c : Dev 8 => bigSep Finset.univ fun t : Lane => dutyTok EO (dueAt P c t) 0 ())
        ∗ bigSep Finset.univ fun c : Dev 8 => dutyTok EO (cell P c (.inr (.inr ()))) 0 ()) := by
    rw [← turned fun c (t : Lane) => (dutyTok EO (cell P c (.inr (.inl t))) 0 () : sProp (M sig Val))]
    rw [← bigSep_sep', ← bigSep_sep']; exact BI.bigSep_congr fun c _ => ixs_split fun i => dutyTok EO (cell P c i) 0 ()
  rw [placed (fun c d => iprop(∃ f, yBlk (Val := Val) P c d f)), hp, ht, BI.bigSep_congr (s := Finset.univ) fun c _ => x_shares D c]
  unfold share dealt laneRes stayReady stayRes
  simp only [bigSep_sep']
  iintro ⟨⟨Hx, Hxc⟩, ⟨Hyc, Hy⟩, ⟨Hps, Hpr, Hpc⟩, ⟨Hts, Htr, Htc⟩⟩
  isplitl [Hx]; · iexact Hx
  isplitl [Hy Hts Htr Hps Hpr]
  · isplitl [Hy Hts Htr]
    · isplitl [Hy]; · iexact Hy
      isplitl [Hts] <;> iassumption
    isplitl [Hps] <;> iassumption
  isplitl [Hxc Hyc Htc]
  · isplitl [Hxc]; · iexact Hxc
    isplitl [Hyc] <;> iassumption
  iexact Hpc

def holds (c : Dev 8) : sProp (M sig Val) := iprop(∃ K, records (osem P) P.N P.pos (pay D) K ∗ share D c)

/-- The whole result, of any contents. -/
def yAll (P : Place sig R C e) (c : Dev 8) (f : Buf Val (P.y.view.loc (c : Thread 8 Topo.v7x))) : sProp (M sig Val) :=
  P.y.view.loc (c : Thread 8 Topo.v7x) ↦[P.y.view.set]{fullShare} f
theorem y_split (c : Dev 8) (f : Buf Val (P.y.view.loc (c : Thread 8 Topo.v7x))) : yAll P c f = bigSep Finset.univ fun d => yBlk P c d f :=
  Blocks.split (hq := P.hq) (U := UR sig 8 Topo.v7x) P.y c fullShare f

theorem deal_all (hscoped : (Finset.univ.filter fun sm : SemLoc sig => sm.isScoped .tc = true) = Finset.univ.map ⟨osem P, P.inj⟩)
    (m : (ℓ : Loc 8 Topo.v7x sig) → Buf Val ℓ) (f : (c : Dev 8) → Buf Val (P.y.view.loc (c : Thread 8 Topo.v7x)))
    (hat : ∀ c : Dev 8, (unscopedBufs c (fun b => m ((c : Thread 8 Topo.v7x).loc b)) : sProp (M sig Val)) = iprop(xAt D c fullShare ∗ yAll P c (f c))) :
    iprop((bigSep Finset.univ fun c : Dev 8 => Start.atLaunch m c) ∗ ownU (ghost 8 Topo.v7x (osem P) P.inj))
      ⊢ (|={Set.univ}=> bigSep Finset.univ fun c : Dev 8 => iprop(scopedBufs (c.tc : Thread 8 Topo.v7x) ∗ holds D c) : sProp (M sig Val)) := by
  have hat' : (bigSep Finset.univ fun c : Dev 8 => (Start.atLaunch m c : sProp (M sig Val)))
      = iprop((bigSep Finset.univ fun c : Dev 8 => scopedBufs (c.tc : Thread 8 Topo.v7x)) ∗ (bigSep Finset.univ fun c : Dev 8 => scopedSems0 (c.tc : Thread 8 Topo.v7x))
        ∗ (bigSep Finset.univ fun c : Dev 8 => xAt D c fullShare) ∗ bigSep Finset.univ fun c : Dev 8 => bigSep Finset.univ fun d => yBlk P c d (f c)) := by
    rw [← bigSep_sep', ← bigSep_sep', ← bigSep_sep']
    refine BI.bigSep_congr fun c _ => ?_
    unfold Start.atLaunch
    rw [← y_split, ← hat]
  have hy : (bigSep Finset.univ fun c : Dev 8 => bigSep Finset.univ fun d => yBlk P c d (f c))
      ⊢ (bigSep Finset.univ fun c : Dev 8 => bigSep Finset.univ fun d => iprop(∃ f, yBlk (Val := Val) P c d f) : sProp (M sig Val)) :=
    bigSep_mono fun c _ => bigSep_mono fun d _ => (show (yBlk P c d (f c) : sProp (M sig Val)) ⊢ iprop(∃ f, yBlk (Val := Val) P c d f) from by iintro H; iexists _; iexact H)
  rw [hat']
  iintro ⟨⟨Hsc, Hss, Hx, Hy⟩, Hu⟩
  ihave Hy := hy $$ Hy
  imod (Once.deal (osem P) P.inj P.N P.pos (pay D) hscoped) $$ [Hss Hu] with ⟨%K, #HR, Hp, Ht⟩
  · isplitl [Hss] <;> iassumption
  ihave H := (spread D) $$ [Hx Hy Hp Ht]
  · isplitl [Hx]; · iexact Hx
    isplitl [Hy]; · iexact Hy
    isplitl [Hp] <;> iassumption
  imodintro
  have hall : iprop(records (osem P) P.N P.pos (pay D) K ∗ bigSep Finset.univ fun c : Dev 8 => iprop(scopedBufs (c.tc : Thread 8 Topo.v7x) ∗ share D c))
      ⊢ (bigSep Finset.univ fun c : Dev 8 => iprop(scopedBufs (c.tc : Thread 8 Topo.v7x) ∗ holds D c) : sProp (M sig Val)) :=
    with_persistent fun c _ => by
      unfold holds
      iintro ⟨HR, Hs, H⟩
      isplitl [Hs]; · iexact Hs
      iexists K
      isplitl [HR]; · iexact HR
      iexact H
  rw [bigSep_sep' Finset.univ (fun c : Dev 8 => (scopedBufs (c.tc : Thread 8 Topo.v7x) : sProp (M sig Val))) fun c => share D c] at hall
  iapply hall
  isplitr; · iexact HR
  isplitl [Hsc]; · iexact Hsc
  iexact H

/-! ## The two ends of a run -/

theorem due_iff (c d : Dev 8) (t : Lane) : dueAt P d t = cell P c (.inr (.inl t)) ↔ d = pr c (via t) := by
  constructor
  · intro h
    have h1 : pr d (via t) = c := congrArg (fun g : GSem 8 Topo.v7x sig => g.1.1) h
    rw [← h1, pr_pr]
  · rintro rfl
    show cell P (pr (pr c (via t)) (via t)) _ = _
    rw [pr_pr]

theorem every (t : Lane) : t ∈ ([.inl 0, .inl 1, .inl 2, .inl 3, .inr 0, .inr 1, .inr 2] : List Lane) := by
  rcases t with k | j
  · fin_cases k <;> simp
  · fin_cases j <;> simp

theorem due_apply (c d : Dev 8) (t : Lane) : O₀ P d (cell P c (.inr (.inl t))) () = if d = pr c (via t) then P.N else 0 := by
  unfold O₀
  rw [owed_apply P.N (dueAt P d) (cell P c (.inr (.inl t))) _ (by decide) t (every t) fun t' h => ?_]
  · exact if_congr (due_iff c d t) rfl rfl
  · have h2 : osem P (.inr (.inl t')) = osem P (.inr (.inl t)) := congrArg Prod.snd h
    exact Sum.inl.inj (Sum.inr.inj (P.inj h2))

/-- The credit of the seven arrivals. -/
theorem arrivals (c : Dev 8) :
    (Pipeline.launchCred (O₀ P) c : sProp (M sig Val)) ⊢ bigSep Finset.univ fun t : Lane => cred (tallyAt (cell P c (.inr (.inl t))) () P.N) :=
  Once.creds P.N (osem P) P.inj (O₀ P) c (J := Lane) ⟨fun t => .inr (.inl t), fun _ _ h => Sum.inl.inj (Sum.inr.inj h)⟩ (fun t => pr c (via t)) fun t d => due_apply c d t

def begins (c : Dev 8) : sProp (M sig Val) :=
  iprop(∃ K, know D K ∗ (bigSep Finset.univ fun k => xAt D c (quarter k)) ∗ bigSep Finset.univ (ready Val P c) ∗ stayReady D c)
def Φ₀ (c : Dev 8) : sProp (M sig Val) := iprop(begins D c ∗ scopedBufs (c.tc : Thread 8 Topo.v7x))
def Φ₁ (c : Dev 8) : sProp (M sig Val) :=
  iprop(((bigSep Finset.univ fun k => xAt D c (quarter k)) ∗ bigSep Finset.univ (done D c) ∗ stayDone D c) ∗ scopedBufs (c.tc : Thread 8 Topo.v7x))
/-- What a device ends with: its argument as it was, and its result. -/
def ends (c : Dev 8) : sProp (M sig Val) := iprop(xAt D c fullShare ∗ yAll P c (D.Y c))

theorem begin_of (c : Dev 8) : iprop(holds D c ∗ levAts L (lv P) ∗ Pipeline.launchCred (O₀ P) c) ⊢ begins D c := by
  unfold holds begins know share ready
  rw [bigSep_sep']
  iintro ⟨⟨%K, HR, Hx, Hd, Hs⟩, HL, Hc⟩
  ihave Hc := (arrivals (Val := Val) c) $$ Hc
  iexists K
  isplitl [HR HL]
  · isplitl [HR] <;> iassumption
  isplitl [Hx]; · iexact Hx
  isplitr [Hs]
  · isplitl [Hd] <;> iassumption
  · iexact Hs

theorem end_of (hscoped : (Finset.univ.filter fun sm : SemLoc sig => sm.isScoped .tc = true) = Finset.univ.map ⟨osem P, P.inj⟩) (c : Dev 8) :
    Φ₁ D c ⊢ iprop(ends D c ∗ scopedSems0 (c.tc : Thread 8 Topo.v7x) ∗ scopedBufs (c.tc : Thread 8 Topo.v7x)) := by
  unfold Φ₁ ends done stayDone
  rw [x_shares, y_split, brought c fun d => yBlk P c d (D.Y c), scopedSems0_eq (osem P) P.inj hscoped c, ixs_split]
  rw [show pay D c (.inr (.inr ())) = iprop(yBlk P c c (D.Y c) ∗ xAt D c half) from rfl]
  simp only [bigSep_sep']
  iintro ⟨⟨Hx, ⟨Hy, Hzs, Hzr⟩, ⟨Hyc, Hxc⟩, Hzc⟩, Hb⟩
  isplitl [Hx Hxc Hy Hyc]
  · isplitl [Hx Hxc]
    · isplitl [Hx]; · iexact Hx
      iexact Hxc
    · isplitl [Hyc]; · iexact Hyc
      iexact Hy
  isplitr [Hb]
  · isplitl [Hzs]; · iexact Hzs
    isplitl [Hzr]; · iexact Hzr
    iexact Hzc
  iexact Hb

/-- A run between its two ends. -/
theorem run_of {Λ : Labels} {defs : Defs 8 Topo.v7x sig Val Λ} (𝒱 : Variants) (c : Dev 8) {p : Prog (TpuEff 8 Topo.v7x sig Val Λ .tc) PUnit}
    (h : ∀ (K : Dev 8 × Ixs → ℕ) (W : Waits sig Unit),
      iprop(know D K ∗ (bigSep Finset.univ fun k => xAt D c (quarter k)) ∗ bigSep Finset.univ (ready Val P c) ∗ stayReady D c
          ∗ owes (c : Thread 8 Topo.v7x) (O₀ P c) W)
        ⊢ wp frame (wpE defs 𝒱 c.tc none) Set.univ p
          (fun _ => iprop((bigSep Finset.univ fun k => xAt D c (quarter k)) ∗ bigSep Finset.univ (done D c) ∗ stayDone D c
            ∗ ∃ W, owes (c : Thread 8 Topo.v7x) (0 : CellTallies 8 Topo.v7x sig Unit) W))) :
    iprop(Φ₀ D c ∗ ∃ W, owes (c : Thread 8 Topo.v7x) (O₀ P c) W)
      ⊢ wp frame (wpE defs 𝒱 c.tc none) Set.univ p
          (fun _ => iprop(Φ₁ D c ∗ ∃ W, owes (c : Thread 8 Topo.v7x) (0 : CellTallies 8 Topo.v7x sig Unit) W)) := by
  unfold Φ₀ Φ₁ begins
  iintro ⟨⟨⟨%K, HR, Hx, Hk, Hs⟩, Hb⟩, ⟨%W, HO⟩⟩
  iapply ((h K W).trans (wp_wand _ _ _)) $$ [HR Hx Hk Hs HO]
  · isplitl [HR]; · iexact HR
    isplitl [Hx]; · iexact Hx
    isplitl [Hk]; · iexact Hk
    isplitl [Hs]; · iexact Hs
    iexact HO
  iintro %u ⟨Hx, Hd, Hs, HO⟩
  isplitr [HO]
  · isplitr [Hb]
    · isplitl [Hx]; · iexact Hx
      isplitl [Hd] <;> iassumption
    iexact Hb
  iexact HO

end Cert.Collect

end
-- ==== Proof.WeightsRun.lean ====
/-
  The all-gather of the packed weights as a program: its buffers, semaphores and transfers are those of `Collect`.
-/
module

public import proofs.«01_k».proof.Proof.CollectDeal
public import proofs.«01_k».proof.Proof.Gen.GatherIdeal.Launch
public import proofs.«01_k».proof.Proof.Gen.GatherIdeal.Skeleton
public import proofs.«01_k».proof.Proof.Gen.GatherIdeal.Points

@[expose] public section

noncomputable section

namespace Cert.Weights

open Cert.GatherIdeal Cert.GatherIdeal.Gen
open Cert.Once Cert.Blocks Cert.Partners Cert.Collect
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem off1_eq (c : Dev nD) : k0_off1 c = ![c.val, 0, 0] := by revert c; decide
theorem off2_eq (c : Dev nD) : k0_off2 c = ![(pr c 4).val, 0, 0] := by revert c; decide
theorem off3_eq (c : Dev nD) : k0_off3 c = ![(pr c 2).val, 0, 0] := by revert c; decide
theorem off4_eq (c : Dev nD) : k0_off4 c = ![(pr c 6).val, 0, 0] := by revert c; decide
theorem dev1_eq (c : Dev nD) : (⟨k0_dev1 c, k0_dev1_lt c⟩ : Dev nD) = pr c 1 := Fin.ext (by revert c; decide)
theorem dev2_eq (c : Dev nD) : (⟨k0_dev2 c, k0_dev2_lt c⟩ : Dev nD) = pr c 4 := Fin.ext (by revert c; decide)
theorem dev3_eq (c : Dev nD) : (⟨k0_dev3 c, k0_dev3_lt c⟩ : Dev nD) = pr c 2 := Fin.ext (by revert c; decide)
theorem dev4_eq (c : Dev nD) : (⟨k0_dev4 c, k0_dev4_lt c⟩ : Dev nD) = pr c 6 := Fin.ext (by revert c; decide)
theorem dev5_eq (c : Dev nD) : (⟨k0_dev5 c, k0_dev5_lt c⟩ : Dev nD) = pr c 1 := Fin.ext (by revert c; decide)
theorem dev6_eq (c : Dev nD) : (⟨k0_dev6 c, k0_dev6_lt c⟩ : Dev nD) = pr c 1 := Fin.ext (by revert c; decide)
theorem dev7_eq (c : Dev nD) : (⟨k0_dev7 c, k0_dev7_lt c⟩ : Dev nD) = pr c 1 := Fin.ext (by revert c; decide)

def sem : Ixs → DmaSem sig
  | .inl (.inl k) => ⟨k.val, by have := k.isLt; show k.val < 15; omega⟩
  | .inl (.inr j) => ⟨4 + j.val, by have := j.isLt; show 4 + j.val < 15; omega⟩
  | .inr (.inl (.inl k)) => ⟨7 + k.val, by have := k.isLt; show 7 + k.val < 15; omega⟩
  | .inr (.inl (.inr j)) => ⟨11 + j.val, by have := j.isLt; show 11 + j.val < 15; omega⟩
  | .inr (.inr _) => ⟨14, by decide⟩

/-- The program's buffers and semaphores. -/
def at_ : Place sig 7808 1024 .bf16 where
  hq := by decide
  x := Memref.whole main_arg0
  y := Memref.whole main_v1
  sem := sem
  inj := fun a b => by revert a b; decide
  N := (Memref.whole main_arg0 : Memref sig .tc .hbm (Flat 7808 1024) .bf16).view.dmaCredit
  pos := View.dmaCredit_pos _ (by decide)
  credit := fun _ => rfl

theorem scoped_eq : (Finset.univ.filter fun sm : SemLoc sig => sm.isScoped .tc = true) = Finset.univ.map ⟨osem at_, at_.inj⟩ := by decide

/-- Device `c`'s argument, as an array, and what every device ends with. -/
def inp (c : Dev nD) : (Flat 7808 1024).Idx → Elt F .bf16 := m ((c : Thread nD τ).loc main_arg0)
def out : (Blocks.Whole 7808 1024).Idx → Elt F .bf16 := fun i => inp m (i 0) (ix2 (i 1 : Fin 7808) (i 2 : Fin 1024))

def data : Data at_ (Elt F) where
  X := fun c => m ((c : Thread nD τ).loc main_arg0)
  Y := fun c => out m
  same := fun _ _ _ _ => rfl

theorem unscoped_eq (c : Dev nD) :
    (unscopedBufs c (fun b => m ((c : Thread nD τ).loc b)) : sProp (M sig (Elt F))) = iprop(xAt (data m) c fullShare ∗ yAll at_ c (m ((c : Thread nD τ).loc main_v1))) := by
  unfold unscopedBufs xAt yAll
  rw [show (Finset.univ.filter fun b : Ref sig .tc => ¬ b.isScoped) = insert main_arg0 {main_v1} from by decide,
    BI.bigSep_insert (by decide), BI.bigSep_singleton,
    show at_.x.view.set = Finset.univ from View.set_whole _, show at_.y.view.set = Finset.univ from View.set_whole _]
  rfl

/-! ## One device -/

/-- No loop of the program is bounded by a variant. -/
abbrev 𝒱₀ : Variants := Variants.none

set_option maxRecDepth 65536 in
theorem body_obligation₀ (c : Dev nD) :
    iprop(Φ₀ (data m) c ∗ ∃ W, owes (c : Thread nD τ) (O₀ at_ c) W)
      ⊢ wp frame (wpE (defs₀ (F := F)) 𝒱₀ c none) Set.univ (bodyAt0 t0_0)
          (fun _ => iprop(Φ₁ (data m) c ∗ ∃ W, owes (c : Thread nD τ) (0 : CellTallies nD τ sig Unit) W)) := by
  refine run_of (data m) 𝒱₀ c fun K W => ?_
  unfold bodyAt0
  simp only [cc0_gather_weights_eq_skeleton]; unfold cc0_gather_weights_skel
  rw [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact body_run (data m) 𝒱₀ c K W (blk_of_off (off1_eq c) _) (blk_of_off (off2_eq c) _) (blk_of_off (off3_eq c) _) (blk_of_off (off4_eq c) _)
    (dev1_eq c) (dev2_eq c) (dev3_eq c) (dev4_eq c) (dev5_eq c) (dev6_eq c) (dev7_eq c)

def dats : (p : Fin 1) → (c : Dev nD) → Dat τ (Elt F) Unit ℕ (UR sig nD τ) ℕ (cfgs p) c := fun _ c =>
  { A := fun w => w.elim0
    after := fun w => w.elim0
    Φ := fun t => match t with | ⟨0, _⟩ => Φ₀ (data m) c | ⟨_ + 1, _⟩ => Φ₁ (data m) c
    q := fun w => w.elim0
    owed := fun t => match t with | ⟨0, _⟩ => O₀ at_ c | ⟨_ + 1, _⟩ => 0 }

theorem body_obligation (c : Dev nD) : BodyObligation (dats (F := F) m 0 c) (defs₀ (F := F)) 𝒱₀ () Set.univ := fun t => by
  rw [fin_N0 t]
  show iprop(Φ₀ (data m) c ∗ (dats (F := F) m 0 c).owesAt () t0_0.castSucc ∗ bigSep (Finset.univ : Finset (Fin 0)) _)
    ⊢ wp frame (wpE (defs₀ (F := F)) 𝒱₀ c none) Set.univ (bodyAt0 t0_0)
        (fun _ => iprop(Φ₁ (data m) c ∗ (dats (F := F) m 0 c).owesAt () t0_0.succ ∗ bigSep (Finset.univ : Finset (Fin 0)) _))
  rw [Finset.univ_eq_empty, BI.bigSep_empty, BI.bigSep_empty]
  unfold Dat.owesAt Pipeline.owesWithin
  iintro ⟨HΦ, ⟨%W, %hW, HO⟩, -⟩
  iapply ((body_obligation₀ m c).trans (wp_wand _ _ _)) $$ [HΦ HO]
  · isplitl [HΦ]; · iexact HΦ
    iexists W; iexact HO
  iintro %u ⟨HΦ, ⟨%W', HO⟩⟩
  isplitl [HΦ]; · iexact HΦ
  isplitl [HO]
  · iexists W'
    isplitr
    · ipureintro; exact fun _ _ => Or.inl trivial
    iexact HO
  iempintro

theorem device_run (c : Dev nD) :
    iprop(iprop(scopedBufs (c.tc : Thread nD τ) ∗ holds (data m) c) ∗ owes (c.tc : Thread nD τ) (O₀ at_ c) ∅ ∗ levAts L (lv at_) ∗ Pipeline.launchCred (O₀ at_) c)
      ⊢ wp frame (wpE (defs (F := F)) (Variants.lift 𝒱₀) (c.tc : Thread nD τ) none) Set.univ (main (F := F) c)
          (fun _ => iprop(ends (data m) c ∗ scopedSems0 (c.tc : Thread nD τ) ∗ ∃ W, owes (c.tc : Thread nD τ) (0 : CellTallies nD τ sig Unit) W)) := by
  refine BIBase.Entails.trans ?_ (Start.region_wp cfgs (dats m) EO cellOf_inj 0 defs₀ 𝒱₀ rfl c (body_obligation m c) (O₀ at_ c) rfl rfl
    (X := begins (data m) c) (Y := ends (data m) c) (BI.Entails.refl _) (end_of (data m) scoped_eq c))
  iintro ⟨⟨Hb, Hh⟩, HO, HL, Hc⟩
  isplitl [Hh HL Hc]
  · iapply (begin_of (data m) c)
    isplitl [Hh]; · iexact Hh
    isplitl [HL] <;> iassumption
  isplitl [Hb] <;> iassumption

/-- The program: it ends, every device holds the blocks of all, the arguments are as they were and every semaphore is at
    zero. -/
theorem run_main (ρ : Dev nD → PrngReg) :
    θ_run (defs (F := F)) (onTc (τ := τ) (main (F := F))) ⟨m, fun _ => 0, ρ⟩ (fun r =>
      (∀ c : Dev nD, r.2.mem ((c : Thread nD τ).loc main_v1) = out m ∧ r.2.mem ((c : Thread nD τ).loc main_arg0) = m ((c : Thread nD τ).loc main_arg0))
      ∧ r.2.sem = fun _ => 0) := by
  refine Start.run_dealt defs (Variants.lift 𝒱₀) m ρ main (O₀ at_) L (lv at_) (fun g h => if_neg h) (ghost nD τ (osem at_) at_.inj) _ (ends (data m))
    (deal_all (data m) scoped_eq m _ (unscoped_eq m)) (device_run m)
    (fun c s => s.mem ((c : Thread nD τ).loc main_v1) = out m ∧ s.mem ((c : Thread nD τ).loc main_arg0) = m ((c : Thread nD τ).loc main_arg0))
    (fun c s' => ?_) fun s h hs => ⟨h, sem_eq_zero_of_scoped (by decide) hs⟩
  unfold ends xAt yAll
  rw [show at_.x.view.set = Finset.univ from View.set_whole _, show at_.y.view.set = Finset.univ from View.set_whole _]
  iintro ⟨⟨Hx, Hy⟩, HSI⟩
  ihave %hx := (Start.read_buf s') $$ [Hx HSI]
  · isplitl [Hx] <;> iassumption
  ihave %hy := (Start.read_buf s') $$ [Hy HSI]
  · isplitl [Hy] <;> iassumption
  imodintro
  isplitr
  · ipureintro; exact ⟨hy, hx⟩
  iexact HSI

end Cert.Weights

end
-- ==== Proof.SmallsRun.lean ====
/-
  The all-gather of the packed small gradients as a program: its buffers, semaphores and transfers are those of `Collect`.
-/
module

public import proofs.«01_k».proof.Proof.CollectDeal
public import proofs.«01_k».proof.Proof.Gen.SmallIdeal.Launch
public import proofs.«01_k».proof.Proof.Gen.SmallIdeal.Skeleton
public import proofs.«01_k».proof.Proof.Gen.SmallIdeal.Points

@[expose] public section

noncomputable section

namespace Cert.Smalls

open Cert.SmallIdeal Cert.SmallIdeal.Gen
open Cert.Once Cert.Blocks Cert.Partners Cert.Collect
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem off1_eq (c : Dev nD) : k0_off1 c = ![c.val, 0, 0] := by revert c; decide
theorem off2_eq (c : Dev nD) : k0_off2 c = ![(pr c 4).val, 0, 0] := by revert c; decide
theorem off3_eq (c : Dev nD) : k0_off3 c = ![(pr c 2).val, 0, 0] := by revert c; decide
theorem off4_eq (c : Dev nD) : k0_off4 c = ![(pr c 6).val, 0, 0] := by revert c; decide
theorem dev1_eq (c : Dev nD) : (⟨k0_dev1 c, k0_dev1_lt c⟩ : Dev nD) = pr c 1 := Fin.ext (by revert c; decide)
theorem dev2_eq (c : Dev nD) : (⟨k0_dev2 c, k0_dev2_lt c⟩ : Dev nD) = pr c 4 := Fin.ext (by revert c; decide)
theorem dev3_eq (c : Dev nD) : (⟨k0_dev3 c, k0_dev3_lt c⟩ : Dev nD) = pr c 2 := Fin.ext (by revert c; decide)
theorem dev4_eq (c : Dev nD) : (⟨k0_dev4 c, k0_dev4_lt c⟩ : Dev nD) = pr c 6 := Fin.ext (by revert c; decide)
theorem dev5_eq (c : Dev nD) : (⟨k0_dev5 c, k0_dev5_lt c⟩ : Dev nD) = pr c 1 := Fin.ext (by revert c; decide)
theorem dev6_eq (c : Dev nD) : (⟨k0_dev6 c, k0_dev6_lt c⟩ : Dev nD) = pr c 1 := Fin.ext (by revert c; decide)
theorem dev7_eq (c : Dev nD) : (⟨k0_dev7 c, k0_dev7_lt c⟩ : Dev nD) = pr c 1 := Fin.ext (by revert c; decide)

def sem : Ixs → DmaSem sig
  | .inl (.inl k) => ⟨k.val, by have := k.isLt; show k.val < 15; omega⟩
  | .inl (.inr j) => ⟨4 + j.val, by have := j.isLt; show 4 + j.val < 15; omega⟩
  | .inr (.inl (.inl k)) => ⟨7 + k.val, by have := k.isLt; show 7 + k.val < 15; omega⟩
  | .inr (.inl (.inr j)) => ⟨11 + j.val, by have := j.isLt; show 11 + j.val < 15; omega⟩
  | .inr (.inr _) => ⟨14, by decide⟩

/-- The program's buffers and semaphores. -/
def at_ : Place sig 320 1024 .f32 where
  hq := by decide
  x := Memref.whole main_arg0
  y := Memref.whole main_v1
  sem := sem
  inj := fun a b => by revert a b; decide
  N := (Memref.whole main_arg0 : Memref sig .tc .hbm (Flat 320 1024) .f32).view.dmaCredit
  pos := View.dmaCredit_pos _ (by decide)
  credit := fun _ => rfl

theorem scoped_eq : (Finset.univ.filter fun sm : SemLoc sig => sm.isScoped .tc = true) = Finset.univ.map ⟨osem at_, at_.inj⟩ := by decide

/-- Device `c`'s argument, as an array, and what every device ends with. -/
def inp (c : Dev nD) : (Flat 320 1024).Idx → Elt F .f32 := m ((c : Thread nD τ).loc main_arg0)
def out : (Blocks.Whole 320 1024).Idx → Elt F .f32 := fun i => inp m (i 0) (ix2 (i 1 : Fin 320) (i 2 : Fin 1024))

def data : Data at_ (Elt F) where
  X := fun c => m ((c : Thread nD τ).loc main_arg0)
  Y := fun c => out m
  same := fun _ _ _ _ => rfl

theorem unscoped_eq (c : Dev nD) :
    (unscopedBufs c (fun b => m ((c : Thread nD τ).loc b)) : sProp (M sig (Elt F))) = iprop(xAt (data m) c fullShare ∗ yAll at_ c (m ((c : Thread nD τ).loc main_v1))) := by
  unfold unscopedBufs xAt yAll
  rw [show (Finset.univ.filter fun b : Ref sig .tc => ¬ b.isScoped) = insert main_arg0 {main_v1} from by decide,
    BI.bigSep_insert (by decide), BI.bigSep_singleton,
    show at_.x.view.set = Finset.univ from View.set_whole _, show at_.y.view.set = Finset.univ from View.set_whole _]
  rfl

/-! ## One device -/

/-- No loop of the program is bounded by a variant. -/
abbrev 𝒱₀ : Variants := Variants.none

set_option maxRecDepth 65536 in
theorem body_obligation₀ (c : Dev nD) :
    iprop(Φ₀ (data m) c ∗ ∃ W, owes (c : Thread nD τ) (O₀ at_ c) W)
      ⊢ wp frame (wpE (defs₀ (F := F)) 𝒱₀ c none) Set.univ (bodyAt0 t0_0)
          (fun _ => iprop(Φ₁ (data m) c ∗ ∃ W, owes (c : Thread nD τ) (0 : CellTallies nD τ sig Unit) W)) := by
  refine run_of (data m) 𝒱₀ c fun K W => ?_
  unfold bodyAt0
  simp only [cc0_gather_small_grads_eq_skeleton]; unfold cc0_gather_small_grads_skel
  rw [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact body_run (data m) 𝒱₀ c K W (blk_of_off (off1_eq c) _) (blk_of_off (off2_eq c) _) (blk_of_off (off3_eq c) _) (blk_of_off (off4_eq c) _)
    (dev1_eq c) (dev2_eq c) (dev3_eq c) (dev4_eq c) (dev5_eq c) (dev6_eq c) (dev7_eq c)

def dats : (p : Fin 1) → (c : Dev nD) → Dat τ (Elt F) Unit ℕ (UR sig nD τ) ℕ (cfgs p) c := fun _ c =>
  { A := fun w => w.elim0
    after := fun w => w.elim0
    Φ := fun t => match t with | ⟨0, _⟩ => Φ₀ (data m) c | ⟨_ + 1, _⟩ => Φ₁ (data m) c
    q := fun w => w.elim0
    owed := fun t => match t with | ⟨0, _⟩ => O₀ at_ c | ⟨_ + 1, _⟩ => 0 }

theorem body_obligation (c : Dev nD) : BodyObligation (dats (F := F) m 0 c) (defs₀ (F := F)) 𝒱₀ () Set.univ := fun t => by
  rw [fin_N0 t]
  show iprop(Φ₀ (data m) c ∗ (dats (F := F) m 0 c).owesAt () t0_0.castSucc ∗ bigSep (Finset.univ : Finset (Fin 0)) _)
    ⊢ wp frame (wpE (defs₀ (F := F)) 𝒱₀ c none) Set.univ (bodyAt0 t0_0)
        (fun _ => iprop(Φ₁ (data m) c ∗ (dats (F := F) m 0 c).owesAt () t0_0.succ ∗ bigSep (Finset.univ : Finset (Fin 0)) _))
  rw [Finset.univ_eq_empty, BI.bigSep_empty, BI.bigSep_empty]
  unfold Dat.owesAt Pipeline.owesWithin
  iintro ⟨HΦ, ⟨%W, %hW, HO⟩, -⟩
  iapply ((body_obligation₀ m c).trans (wp_wand _ _ _)) $$ [HΦ HO]
  · isplitl [HΦ]; · iexact HΦ
    iexists W; iexact HO
  iintro %u ⟨HΦ, ⟨%W', HO⟩⟩
  isplitl [HΦ]; · iexact HΦ
  isplitl [HO]
  · iexists W'
    isplitr
    · ipureintro; exact fun _ _ => Or.inl trivial
    iexact HO
  iempintro

theorem device_run (c : Dev nD) :
    iprop(iprop(scopedBufs (c.tc : Thread nD τ) ∗ holds (data m) c) ∗ owes (c.tc : Thread nD τ) (O₀ at_ c) ∅ ∗ levAts L (lv at_) ∗ Pipeline.launchCred (O₀ at_) c)
      ⊢ wp frame (wpE (defs (F := F)) (Variants.lift 𝒱₀) (c.tc : Thread nD τ) none) Set.univ (main (F := F) c)
          (fun _ => iprop(ends (data m) c ∗ scopedSems0 (c.tc : Thread nD τ) ∗ ∃ W, owes (c.tc : Thread nD τ) (0 : CellTallies nD τ sig Unit) W)) := by
  refine BIBase.Entails.trans ?_ (Start.region_wp cfgs (dats m) EO cellOf_inj 0 defs₀ 𝒱₀ rfl c (body_obligation m c) (O₀ at_ c) rfl rfl
    (X := begins (data m) c) (Y := ends (data m) c) (BI.Entails.refl _) (end_of (data m) scoped_eq c))
  iintro ⟨⟨Hb, Hh⟩, HO, HL, Hc⟩
  isplitl [Hh HL Hc]
  · iapply (begin_of (data m) c)
    isplitl [Hh]; · iexact Hh
    isplitl [HL] <;> iassumption
  isplitl [Hb] <;> iassumption

/-- The program: it ends, every device holds the blocks of all, the arguments are as they were and every semaphore is at
    zero. -/
theorem run_main (ρ : Dev nD → PrngReg) :
    θ_run (defs (F := F)) (onTc (τ := τ) (main (F := F))) ⟨m, fun _ => 0, ρ⟩ (fun r =>
      (∀ c : Dev nD, r.2.mem ((c : Thread nD τ).loc main_v1) = out m ∧ r.2.mem ((c : Thread nD τ).loc main_arg0) = m ((c : Thread nD τ).loc main_arg0))
      ∧ r.2.sem = fun _ => 0) := by
  refine Start.run_dealt defs (Variants.lift 𝒱₀) m ρ main (O₀ at_) L (lv at_) (fun g h => if_neg h) (ghost nD τ (osem at_) at_.inj) _ (ends (data m))
    (deal_all (data m) scoped_eq m _ (unscoped_eq m)) (device_run m)
    (fun c s => s.mem ((c : Thread nD τ).loc main_v1) = out m ∧ s.mem ((c : Thread nD τ).loc main_arg0) = m ((c : Thread nD τ).loc main_arg0))
    (fun c s' => ?_) fun s h hs => ⟨h, sem_eq_zero_of_scoped (by decide) hs⟩
  unfold ends xAt yAll
  rw [show at_.x.view.set = Finset.univ from View.set_whole _, show at_.y.view.set = Finset.univ from View.set_whole _]
  iintro ⟨⟨Hx, Hy⟩, HSI⟩
  ihave %hx := (Start.read_buf s') $$ [Hx HSI]
  · isplitl [Hx] <;> iassumption
  ihave %hy := (Start.read_buf s') $$ [Hy HSI]
  · isplitl [Hy] <;> iassumption
  imodintro
  isplitr
  · ipureintro; exact ⟨hy, hx⟩
  iexact HSI

end Cert.Smalls

end
-- ==== Proof.CollectValue.lean ====
/-
  What an all-gather computes: the rows of the whole array, in eight blocks.
-/
module

public import proofs.«01_k».proof.Proof.WeightsRun
public import proofs.«01_k».proof.Proof.SmallsRun
public import Idealize.ShloMosaic.Lib.Layout
public import Idealize.ShloMosaic.Lib.Pipeline.Value

@[expose] public section

noncomputable section

namespace Cert.Collect

open Idealize.ShloMosaic
open Idealize.ShloMosaic.TcCoe
open Idealize.ShloMosaic.ValueIdx
open Cert.Blocks

variable {α : Type} {R C T : ℕ}

/-- Row `x` of block `p`, in the whole array. -/
def row (hT : 8 * R = T) (p : Fin 8) (x : Fin R) : Fin T := ⟨p.val * R + x.val, by have := p.isLt; have := x.isLt; have := Nat.mul_le_mul_right R (show p.val ≤ 7 by omega); omega⟩

theorem in_blocks (hT : 8 * R = T) (X : (Flat T C).Idx → α) (h : (Flat T C).ShapeCasts (Whole R C)) (p : Fin 8) (x : Fin R) (y : Fin C) :
    shapeCast (Whole R C) X h (ix3 p x y) = X (ix2 (row hT p x) y) := by
  refine shapeCast_apply X h _ _ ?_
  rw [Shape.rowMajor_val_three, Shape.rowMajor_val_two]
  rfl

theorem part_eq (hT : 8 * R = T) (X : (Flat T C).Idx → α) (h : Layout.Tiles (Flat R C) (Flat T C) 0 8) (p : Fin 8) (x : Fin R) (y : Fin C) :
    Layout.block (Flat R C) (Flat T C) 0 8 p X h (ix2 x y) = X (ix2 (row hT p x) y) := by
  rw [Layout.block_apply]
  refine congrArg X (funext fun q => Fin.ext ?_)
  refine (Layout.Tiles.idx_val h p _ q).trans ?_
  match q with
  | ⟨0, _⟩ => rfl
  | ⟨1, _⟩ => rfl

/-- The blocks of all devices together are the whole array in eight blocks. -/
theorem all_eq (hT : 8 * R = T) (X : (Flat T C).Idx → α) (h : Layout.Tiles (Flat R C) (Flat T C) 0 8) (h₁ : (Flat T C).ShapeCasts (Whole R C))
    (x : Fin 8 → (Flat R C).Idx → α) (hx : ∀ c, x c = Layout.block (Flat R C) (Flat T C) 0 8 c X h) :
    (fun i : (Whole R C).Idx => x (i 0) (ix2 (i 1 : Fin R) (i 2 : Fin C))) = shapeCast (Whole R C) X h₁ := by
  funext i
  obtain ⟨p, a, b, rfl⟩ : ∃ (p : Fin 8) (a : Fin R) (b : Fin C), i = ix3 p a b := ⟨i 0, i 1, i 2, eq_ix3 i⟩
  rw [in_blocks hT]
  show x p (ix2 a b) = _
  rw [hx p, part_eq hT]

end Cert.Collect

end
-- ==== Proof.AdamMath.lean ====
/-
  One AdamW step on the extended reals, as one function of whole arrays: the gradient is the sum of the eight devices'
  parts, and the step is taken element by element. The kernel multiplies by the reciprocals of the bias corrections and the
  reference divides by them: the same function.
-/
module

public import proofs.«01_k».proof.Proof.Blocks
public import Idealize.ShloMosaic.PureOps.Ideal
public import Idealize.ShloMosaic.PureOps.IdealRules
public import Idealize.ShloMosaic.Lib.IdealHost
public import Idealize.ShloMosaic.Lib.Pointwise.Reduce
public import Idealize.ShloMosaic.Lib.Pipeline.Value
public import Idealize.ShloMosaic.Lib.Pipeline.ValueKit.Tiles

@[expose] public section

noncomputable section

namespace Cert.Adam

open Idealize.ShloMosaic hiding ix1 ix2 ix3
open Idealize.ShloMosaic.TcCoe
open Idealize.ShloMosaic.ValueIdx
open Cert.Blocks

/-- The two divisors' words, as real numbers. -/
theorem divisor_1 : Ideal.ofBits .f32 0x3F26BD02#32 = ((5463681 / 8388608 : ℝ) : EReal) := by
  simp [Ideal.ofBits, Ideal.ieee, -EReal.coe_mul]; norm_num

theorem divisor_2 : Ideal.ofBits .f32 0x3C231ACC#32 = ((2672307 / 268435456 : ℝ) : EReal) := by
  simp [Ideal.ofBits, Ideal.ieee, -EReal.coe_mul]; norm_num

variable {R C : ℕ}

/-- The gradient: the sum of the devices' parts. -/
def grad (p : (Whole R C).Idx → EReal) : (Flat R C).Idx → EReal := fun i => ∑ k : Fin 8, p (ix3 k (i 0 : Fin R) (i 1 : Fin C))

/-- The first moment's update. -/
def first (g m : (Flat R C).Idx → EReal) : (Flat R C).Idx → EReal := fun i => Ideal.ofBits .f32 0x3F666666#32 * m i + Ideal.ofBits .f32 0x3DCCCCCD#32 * g i

/-- The second moment's update. -/
def second (g v : (Flat R C).Idx → EReal) : (Flat R C).Idx → EReal :=
  fun i => Ideal.ofBits .f32 0x3F7FBE77#32 * v i + Ideal.ofBits .f32 0x3A83126F#32 * (g i * g i)

/-- The step taken from the new moments, as the reference has it. -/
def delta (mn vn w : (Flat R C).Idx → EReal) : (Flat R C).Idx → EReal := fun i =>
  Ideal.ofBits .f32 0xBA83126F#32 *
    (Ideal.div (Ideal.div (mn i) (Ideal.ofBits .f32 0x3F26BD02#32))
        (Ideal.sqrt (Ideal.div (vn i) (Ideal.ofBits .f32 0x3C231ACC#32)) + Ideal.ofBits .f32 0x322BCC77#32)
      + Ideal.ofBits .f32 0x3C23D70A#32 * w i)

/-- The new moments and the step, as functions of the parts, the weights and the moments. -/
def newFirst (p : (Whole R C).Idx → EReal) (m : (Flat R C).Idx → EReal) : (Flat R C).Idx → EReal := first (grad p) m

def newSecond (p : (Whole R C).Idx → EReal) (v : (Flat R C).Idx → EReal) : (Flat R C).Idx → EReal := second (grad p) v

def newStep (p : (Whole R C).Idx → EReal) (w m v : (Flat R C).Idx → EReal) : (Flat R C).Idx → EReal := delta (newFirst p m) (newSecond p v) w

/-- Dividing by a bias correction is multiplying by its reciprocal. -/
theorem by_1 (x : EReal) : x * ((8388608 / 5463681 : ℝ) : EReal) = Ideal.div x (Ideal.ofBits .f32 0x3F26BD02#32) := by
  rw [divisor_1, Ideal.div_coe (by norm_num), one_div_div]

theorem by_2 (x : EReal) : x * ((268435456 / 2672307 : ℝ) : EReal) = Ideal.div x (Ideal.ofBits .f32 0x3C231ACC#32) := by
  rw [divisor_2, Ideal.div_coe (by norm_num), one_div_div]

/-! ## The kernel's block -/

variable {φ : FTy}

/-- One device's part of a block, read by a load of one slab with the unit axis dropped. -/
theorem slab (x : (Whole R C).Idx → EReal) (k : Fin 8) (inb : ∀ a, (![k.val, 0, 0] : Fin 3 → ℕ) a + (Slab R C).size a ≤ (Whole R C).size a)
    (h : (Slab R C).ShapeCasts (Flat R C)) (i : (Flat R C).Idx) :
    shapeCast (Flat R C) (fun j : (Slab R C).Idx => x ((Rect.unit (s := Whole R C) ![k.val, 0, 0] (Slab R C).size inb).idx j)) h i
      = x (ix3 k (i 0 : Fin R) (i 1 : Fin C)) := by
  rw [shapeCast_apply _ h i (ix3 (⟨0, Nat.one_pos⟩ : Fin 1) (i 0 : Fin R) (i 1 : Fin C)) (by
    rw [Shape.rowMajor_val_three, Shape.rowMajor_val_two]
    show (0 * R + (i 0).val) * C + (i 1).val = _
    rw [Nat.zero_mul, Nat.zero_add]; rfl)]
  refine congrArg x (funext fun a => Fin.ext ?_)
  refine (Rect.idx_unit_val _ _ _ _ a).trans ?_
  match a with
  | ⟨0, _⟩ => show k.val + 0 = k.val; omega
  | ⟨1, _⟩ => exact Nat.zero_add _
  | ⟨2, _⟩ => exact Nat.zero_add _

/-- The eight slabs of a block, added one after another, as the kernel adds them. -/
theorem slabs (x : (Whole R C).Idx → EReal) (s : Fin 8 → (Flat R C).Idx → EReal)
    (hs : ∀ k i, s k i = x (ix3 k (i 0 : Fin R) (i 1 : Fin C))) (i : (Flat R C).Idx) :
    s 0 i + s 1 i + s 2 i + s 3 i + s 4 i + s 5 i + s 6 i + s 7 i = grad x i := by
  simp only [hs]
  exact (Fin.sum_univ_eight fun k : Fin 8 => x (ix3 k (i 0 : Fin R) (i 1 : Fin C))).symm

/-- A block's slab, loaded and laid flat. -/
abbrev slabOf (x : (Whole R C).Idx → EReal) (h : (Slab R C).ShapeCasts (Flat R C)) (k : Fin 8) : (Flat R C).Idx → EReal :=
  shapeCast (Flat R C) (fun j : (Slab R C).Idx => x ((Rect.unit (s := Whole R C) ![k.val, 0, 0] (Slab R C).size (inb k)).idx j)) h

/-- The eight slabs added up. -/
def added (x : (Whole R C).Idx → EReal) (h : (Slab R C).ShapeCasts (Flat R C)) : (Flat R C).Idx → EReal := fun i =>
  slabOf x h 0 i + slabOf x h 1 i + slabOf x h 2 i + slabOf x h 3 i + slabOf x h 4 i + slabOf x h 5 i + slabOf x h 6 i + slabOf x h 7 i

theorem added_eq (x : (Whole R C).Idx → EReal) (h : (Slab R C).ShapeCasts (Flat R C)) : added x h = grad x :=
  funext fun i => slabs x (slabOf x h) (fun k i => slab x k (inb k) h i) i

/-- The step with two given factors in the place of the reciprocals. -/
def scaled (c₁ c₂ : EReal) (mn vn w : (Flat R C).Idx → EReal) : (Flat R C).Idx → EReal := fun i =>
  Ideal.ofBits .f32 0xBA83126F#32 *
    (Ideal.div (mn i * c₁) (Ideal.sqrt (vn i * c₂) + Ideal.ofBits .f32 0x322BCC77#32) + Ideal.ofBits .f32 0x3C23D70A#32 * w i)

/-- The step taken from the new moments, as the kernel has it. -/
theorem scaled_eq (mn vn w : (Flat R C).Idx → EReal) {c₁ c₂ : EReal} (h₁ : c₁ = ((8388608 / 5463681 : ℝ) : EReal))
    (h₂ : c₂ = ((268435456 / 2672307 : ℝ) : EReal)) : scaled c₁ c₂ mn vn w = delta mn vn w := by
  subst h₁ h₂
  funext i
  show _ * (Ideal.div _ (Ideal.sqrt _ + _) + _) = _
  rw [by_1, by_2]
  rfl

/-- The kernel's new moments and step, from its sum of slabs and its loads of whole blocks. -/
theorem kernel_first (x : (Whole R C).Idx → EReal) (h : (Slab R C).ShapeCasts (Flat R C)) {l m : (Flat R C).Idx → EReal} (hm : l = m) :
    first (added x h) l = newFirst x m := by
  rw [added_eq, hm]; rfl

theorem kernel_second (x : (Whole R C).Idx → EReal) (h : (Slab R C).ShapeCasts (Flat R C)) {l v : (Flat R C).Idx → EReal} (hv : l = v) :
    second (added x h) l = newSecond x v := by
  rw [added_eq, hv]; rfl

theorem kernel_step (x : (Whole R C).Idx → EReal) (h : (Slab R C).ShapeCasts (Flat R C)) {l₁ l₂ l₃ w m v : (Flat R C).Idx → EReal} {c₁ c₂ : EReal}
    (hw : l₁ = w) (hm : l₂ = m) (hv : l₃ = v) (h₁ : c₁ = ((8388608 / 5463681 : ℝ) : EReal)) (h₂ : c₂ = ((268435456 / 2672307 : ℝ) : EReal)) :
    scaled c₁ c₂ (first (added x h) l₂) (second (added x h) l₃) l₁ = newStep x w m v := by
  rw [kernel_first x h hm, kernel_second x h hv, hw, scaled_eq _ _ _ h₁ h₂]; rfl

theorem hz : (![0, 0] : Fin 2 → Nat) = fun _ => 0 := funext fun a => by fin_cases a <;> rfl

/-! ## Blocks of rows -/

/-- A block of the step is the step of the blocks. -/
theorem grad_block {tr : ℕ} (p : (Whole R C).Idx → EReal) (e : (Flat tr C).Idx → (Flat R C).Idx) (e₀ : (Whole tr C).Idx → (Whole R C).Idx)
    (h : ∀ (k : Fin 8) (y : (Flat tr C).Idx), e₀ (ix3 k (y 0 : Fin tr) (y 1 : Fin C)) = ix3 k (e y 0 : Fin R) (e y 1 : Fin C)) :
    grad (fun y => p (e₀ y)) = fun y => grad p (e y) := by
  funext y
  exact Finset.sum_congr rfl fun k _ => congrArg p (h k y)

/-- So are the blocks of the new moments and of the step. -/
theorem first_block {tr : ℕ} {p : (Whole R C).Idx → EReal} {q : (Whole tr C).Idx → EReal} {e : (Flat tr C).Idx → (Flat R C).Idx}
    (h : grad q = fun y => grad p (e y)) (m : (Flat R C).Idx → EReal) : newFirst q (fun y => m (e y)) = fun y => newFirst p m (e y) := by
  unfold newFirst; rw [h]; rfl

theorem second_block {tr : ℕ} {p : (Whole R C).Idx → EReal} {q : (Whole tr C).Idx → EReal} {e : (Flat tr C).Idx → (Flat R C).Idx}
    (h : grad q = fun y => grad p (e y)) (v : (Flat R C).Idx → EReal) : newSecond q (fun y => v (e y)) = fun y => newSecond p v (e y) := by
  unfold newSecond; rw [h]; rfl

theorem step_block {tr : ℕ} {p : (Whole R C).Idx → EReal} {q : (Whole tr C).Idx → EReal} {e : (Flat tr C).Idx → (Flat R C).Idx}
    (h : grad q = fun y => grad p (e y)) (w m v : (Flat R C).Idx → EReal) :
    newStep q (fun y => w (e y)) (fun y => m (e y)) (fun y => v (e y)) = fun y => newStep p w m v (e y) := by
  unfold newStep; rw [first_block h, second_block h]; rfl

/-- A block of rows of the eight parts and a block of rows of a flat array, taken at the same offsets, hold the same places. -/
theorem rows_agree {tr : ℕ} (o₀ : Fin 3 → ℕ) (o : Fin 2 → ℕ) (b₀ : ∀ a, o₀ a + (Whole tr C).size a ≤ (Whole R C).size a)
    (b : ∀ a, o a + (Flat tr C).size a ≤ (Flat R C).size a) (h₀ : o₀ 0 = 0) (h₁ : o₀ 1 = o 0) (h₂ : o₀ 2 = o 1) (k : Fin 8) (y : (Flat tr C).Idx) :
    (Rect.unit (s := Whole R C) o₀ (Whole tr C).size b₀).emb (ix3 k (y 0 : Fin tr) (y 1 : Fin C))
      = ix3 k ((Rect.unit (s := Flat R C) o (Flat tr C).size b).emb y 0 : Fin R) ((Rect.unit (s := Flat R C) o (Flat tr C).size b).emb y 1 : Fin C) := by
  refine funext fun a => Fin.ext ((ValueKit.rect_emb_unit_val (s := Whole R C) o₀ (Whole tr C).size b₀ (ix3 k (y 0 : Fin tr) (y 1 : Fin C)) a).trans ?_)
  match a with
  | ⟨0, _⟩ => show o₀ 0 + k.val = k.val; omega
  | ⟨1, _⟩ =>
    refine Eq.trans ?_ (ValueKit.rect_emb_unit_val (s := Flat R C) o (Flat tr C).size b y 0).symm
    show o₀ 1 + (y 0).val = o 0 + (y 0).val; omega
  | ⟨2, _⟩ =>
    refine Eq.trans ?_ (ValueKit.rect_emb_unit_val (s := Flat R C) o (Flat tr C).size b y 1).symm
    show o₀ 2 + (y 1).val = o 1 + (y 1).val; omega

/-- A row is in the block that starts at the block size times the row divided by it. -/
theorem row_mem {tr : ℕ} (o : Fin 2 → ℕ) (b : ∀ a, o a + (Flat tr C).size a ≤ (Flat R C).size a) (i : (Flat R C).Idx) (htr : 0 < tr)
    (h₀ : o 0 = (i 0).val / tr * tr) (h₁ : o 1 = 0) : i ∈ (Rect.unit (s := Flat R C) o (Flat tr C).size b).set := by
  rw [Rect.mem_set_unit]
  intro a
  match a with
  | ⟨0, _⟩ =>
    have h := Nat.div_add_mod (i 0).val tr
    have h' := Nat.mod_lt (i 0).val htr
    have h'' := Nat.mul_comm ((i 0).val / tr) tr
    show o 0 ≤ (i 0).val ∧ (i 0).val < o 0 + tr
    omega
  | ⟨1, _⟩ =>
    have h : (i 1).val < C := (i 1).isLt
    show o 1 ≤ (i 1).val ∧ (i 1).val < o 1 + C
    omega

/-! ## The reference -/

/-- The host's sum over the devices. -/
theorem host_sum (x : FVec Ideal (Whole R C) .f32) (h : (Whole R C).ReducesTo [0] (Flat R C)) {u : Shape} (hu : 0 < u.numel) :
    Host.reduceAdd x (constant u .f32 0x00000000#32) h hu = grad x := by
  funext i
  rw [Host.reduceAdd_apply, Ideal.hostReduceAdd_def, Ideal.hostReduceAdd_r3_a0]
  show Ideal.ofBits .f32 0x00000000#32 + _ = _
  rw [Ideal.ofBits_zero_f32, zero_add]
  refine Finset.sum_congr rfl fun k _ => congrArg x (funext fun a => ?_)
  match a with
  | ⟨0, _⟩ => rfl
  | ⟨1, _⟩ => rfl
  | ⟨2, _⟩ => rfl

/-- The two reciprocals are named as the table has them. -/
theorem reciprocals {κ : String → Option EReal} (h₁ : κ "c1" = some ((8388608 / 5463681 : ℝ) : EReal)) (h₂ : κ "c2" = some ((268435456 / 2672307 : ℝ) : EReal)) :
    IdealRules.named_const.Statement κ "c1" .f32 0x3FC48605#32 ((8388608 / 5463681 : ℝ) : EReal)
      ∧ IdealRules.named_const.Statement κ "c2" .f32 0x42C8E6D3#32 ((268435456 / 2672307 : ℝ) : EReal) :=
  ⟨IdealRules.named_const.statement _ _ _ _ _ h₁, IdealRules.named_const.statement _ _ _ _ _ h₂⟩

/-- A place in a rectangle of a whole buffer is in the block that is cut out there. -/
theorem covered {sig : RefSig} {b : Ref sig .tc} (r : Rect b.ty.shape) (i : b.ty.shape.Idx) (h : i ∈ r.set) : i ∈ ((View.whole b).slice r).set := by
  rw [View.set_slice_whole]
  exact h

end Cert.Adam

end
-- ==== Proof.AdamRuns.lean ====
module
public import proofs.«01_k».proof.Proof.Gen.AdamSmall.Frame
public import proofs.«01_k».proof.Proof.Gen.AdamSmallIdeal.Frame
public import proofs.«01_k».proof.Proof.Gen.AdamSmallReferenceIdeal.Run
public import proofs.«01_k».proof.Proof.Gen.AdamIn.Frame
public import proofs.«01_k».proof.Proof.Gen.AdamInIdeal.Frame
public import proofs.«01_k».proof.Proof.Gen.AdamInReferenceIdeal.Run
public import proofs.«01_k».proof.Proof.Gen.AdamUp.Frame
public import proofs.«01_k».proof.Proof.Gen.AdamUpIdeal.Frame
public import proofs.«01_k».proof.Proof.Gen.AdamUpReferenceIdeal.Run
public import proofs.«01_k».proof.Proof.Gen.AdamGlu.Frame
public import proofs.«01_k».proof.Proof.Gen.AdamGluIdeal.Frame
public import proofs.«01_k».proof.Proof.Gen.AdamGluReferenceIdeal.Run
public import proofs.«01_k».proof.Proof.Gen.AdamOut.Frame
public import proofs.«01_k».proof.Proof.Gen.AdamOutIdeal.Frame
public import proofs.«01_k».proof.Proof.Gen.AdamOutReferenceIdeal.Run
public import proofs.«01_k».proof.Proof.Gen.AdamGate.Frame
public import proofs.«01_k».proof.Proof.Gen.AdamGateIdeal.Frame
public import proofs.«01_k».proof.Proof.Gen.AdamGateReferenceIdeal.Run
public import proofs.«01_k».proof.Proof.Gen.AdamDown.Frame
public import proofs.«01_k».proof.Proof.Gen.AdamDownIdeal.Frame
public import proofs.«01_k».proof.Proof.Gen.AdamDownReferenceIdeal.Run
-- ==== Proof.AdamSmallValue.lean ====
/-
  The AdamW call on the packed small weights: every block of rows it writes is the step of its blocks, so its four results
  are the step of its arguments.
-/
module

public import proofs.«01_k».proof.Defs
public import proofs.«01_k».proof.Proof.AdamMath
public import proofs.«01_k».proof.Proof.AdamRuns

@[expose] public section

noncomputable section

namespace Cert.Adam.SmallCall

open Idealize.ShloMosaic hiding ix1 ix2 ix3
open Idealize.ShloMosaic.TcCoe Idealize.SL.Sem
open Idealize.ShloMosaic.Pipeline (Dat)
open Cert.Blocks Cert.AdamSmallIdeal Cert.AdamSmallIdeal.Gen

/-- One block: what the body leaves of its blocks is their step. -/
theorem body (x0 : Vec Ideal S8x160x1024 .f32) (x1 x2 x3 : Vec Ideal S160x1024 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S160x1024 .f32, View.ld x r0_8 = x := fun x => View.ld_unit_zero hz _ x
  refine ⟨(View.canon_unit_zero hz _ _).trans (added_eq _ shapeCasts_S1x160x1024_S160x1024),
    (View.canon_unit_zero hz _ _).trans (kernel_step _ shapeCasts_S1x160x1024_S160x1024 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x160x1024_S160x1024 (l x2)),
    (View.canon_unit_zero hz _ _).trans (kernel_second _ shapeCasts_S1x160x1024_S160x1024 (l x3))⟩

variable (m : (ℓ : Loc nD τ sig) → Buf (Elt Ideal) ℓ) (c : Dev nD)

/-- The arguments. -/
abbrev p : (Whole 320 1024).Idx → EReal := m ((c : Thread nD τ).loc main_arg0)
abbrev w : (Flat 320 1024).Idx → EReal := m ((c : Thread nD τ).loc main_arg1)
abbrev m₁ : (Flat 320 1024).Idx → EReal := m ((c : Thread nD τ).loc main_arg2)
abbrev m₂ : (Flat 320 1024).Idx → EReal := m ((c : Thread nD τ).loc main_arg3)

/-- The gradient of a point's block is the gradient's block. -/
theorem block (t : Fin cfg0.N) : grad (R := 160) (C := 1024) (iblk m c 0 t) = fun y => grad (p m c) ((win0_4.rect t).emb y) :=
  grad_block (tr := 160) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 320 1024).Idx) : ∃ t : Fin cfg0.N, i ∈ (win0_4.rect t).set := by
  have h : (i 0).val < 320 := (i 0).isLt
  have hN : cfg0.N = 2 := N_0
  exact ⟨⟨(i 0).val / 160, by omega⟩, row_mem _ _ i (by decide) (congrArg (· * 160) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamSmallIdeal_AdamSmallReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamSmallReferenceIdeal.defs _ _).mono (fun _ h c => ?_) (Cert.AdamSmallReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]
    · rw [s0, s1, s2, s3]; rfl
    · rw [s0, s2]; rfl
    · rw [s0, s3]; rfl

end Cert.Adam.SmallCall

end
-- ==== Proof.AdamInValue.lean ====
/-
  The AdamW call on a device's part of the input projection: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.InCall

open Idealize.ShloMosaic hiding ix1 ix2 ix3
open Idealize.ShloMosaic.TcCoe Idealize.SL.Sem
open Idealize.ShloMosaic.Pipeline (Dat)
open Cert.Blocks Cert.AdamInIdeal Cert.AdamInIdeal.Gen

/-- One block: what the body leaves of its blocks is their step. -/
theorem body (x0 : Vec Ideal S8x128x1216 .bf16) (x1 x2 x3 : Vec Ideal S128x1216 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S128x1216 .f32, View.ld x r0_8 = x := fun x => View.ld_unit_zero hz _ x
  refine ⟨(View.canon_unit_zero hz _ _).trans (added_eq _ shapeCasts_S1x128x1216_S128x1216),
    (View.canon_unit_zero hz _ _).trans (kernel_step _ shapeCasts_S1x128x1216_S128x1216 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x128x1216_S128x1216 (l x2)),
    (View.canon_unit_zero hz _ _).trans (kernel_second _ shapeCasts_S1x128x1216_S128x1216 (l x3))⟩

variable (m : (ℓ : Loc nD τ sig) → Buf (Elt Ideal) ℓ) (c : Dev nD)

/-- The arguments. -/
abbrev p : (Whole 2048 1216).Idx → EReal := m ((c : Thread nD τ).loc main_arg0)
abbrev w : (Flat 2048 1216).Idx → EReal := m ((c : Thread nD τ).loc main_arg1)
abbrev m₁ : (Flat 2048 1216).Idx → EReal := m ((c : Thread nD τ).loc main_arg2)
abbrev m₂ : (Flat 2048 1216).Idx → EReal := m ((c : Thread nD τ).loc main_arg3)

/-- The gradient of a point's block is the gradient's block. -/
theorem block (t : Fin cfg0.N) : grad (R := 128) (C := 1216) (iblk m c 0 t) = fun y => grad (p m c) ((win0_4.rect t).emb y) :=
  grad_block (tr := 128) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 2048 1216).Idx) : ∃ t : Fin cfg0.N, i ∈ (win0_4.rect t).set := by
  have h : (i 0).val < 2048 := (i 0).isLt
  have hN : cfg0.N = 16 := N_0
  exact ⟨⟨(i 0).val / 128, by omega⟩, row_mem _ _ i (by decide) (congrArg (· * 128) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamInIdeal_AdamInReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamInReferenceIdeal.defs _ _).mono (fun _ h c => ?_) (Cert.AdamInReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.InCall

end
-- ==== Proof.AdamUpValue.lean ====
/-
  The AdamW call on a device's part of the attention up-projection: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.UpCall

open Idealize.ShloMosaic hiding ix1 ix2 ix3
open Idealize.ShloMosaic.TcCoe Idealize.SL.Sem
open Idealize.ShloMosaic.Pipeline (Dat)
open Cert.Blocks Cert.AdamUpIdeal Cert.AdamUpIdeal.Gen

/-- One block: what the body leaves of its blocks is their step. -/
theorem body (x0 : Vec Ideal S8x512x256 .bf16) (x1 x2 x3 : Vec Ideal S512x256 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S512x256 .f32, View.ld x r0_8 = x := fun x => View.ld_unit_zero hz _ x
  refine ⟨(View.canon_unit_zero hz _ _).trans (added_eq _ shapeCasts_S1x512x256_S512x256),
    (View.canon_unit_zero hz _ _).trans (kernel_step _ shapeCasts_S1x512x256_S512x256 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x512x256_S512x256 (l x2)),
    (View.canon_unit_zero hz _ _).trans (kernel_second _ shapeCasts_S1x512x256_S512x256 (l x3))⟩

variable (m : (ℓ : Loc nD τ sig) → Buf (Elt Ideal) ℓ) (c : Dev nD)

/-- The arguments. -/
abbrev p : (Whole 512 256).Idx → EReal := m ((c : Thread nD τ).loc main_arg0)
abbrev w : (Flat 512 256).Idx → EReal := m ((c : Thread nD τ).loc main_arg1)
abbrev m₁ : (Flat 512 256).Idx → EReal := m ((c : Thread nD τ).loc main_arg2)
abbrev m₂ : (Flat 512 256).Idx → EReal := m ((c : Thread nD τ).loc main_arg3)

/-- The gradient of a point's block is the gradient's block. -/
theorem block (t : Fin cfg0.N) : grad (R := 512) (C := 256) (iblk m c 0 t) = fun y => grad (p m c) ((win0_4.rect t).emb y) :=
  grad_block (tr := 512) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 512 256).Idx) : ∃ t : Fin cfg0.N, i ∈ (win0_4.rect t).set := by
  have h : (i 0).val < 512 := (i 0).isLt
  have hN : cfg0.N = 1 := N_0
  exact ⟨⟨(i 0).val / 512, by omega⟩, row_mem _ _ i (by decide) (congrArg (· * 512) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamUpIdeal_AdamUpReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamUpReferenceIdeal.defs _ _).mono (fun _ h c => ?_) (Cert.AdamUpReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.UpCall

end
-- ==== Proof.AdamGluValue.lean ====
/-
  The AdamW call on a device's part of the gated unit's value or gate matrix: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.GluCall

open Idealize.ShloMosaic hiding ix1 ix2 ix3
open Idealize.ShloMosaic.TcCoe Idealize.SL.Sem
open Idealize.ShloMosaic.Pipeline (Dat)
open Cert.Blocks Cert.AdamGluIdeal Cert.AdamGluIdeal.Gen

/-- One block: what the body leaves of its blocks is their step. -/
theorem body (x0 : Vec Ideal S8x1024x256 .bf16) (x1 x2 x3 : Vec Ideal S1024x256 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S1024x256 .f32, View.ld x r0_8 = x := fun x => View.ld_unit_zero hz _ x
  refine ⟨(View.canon_unit_zero hz _ _).trans (added_eq _ shapeCasts_S1x1024x256_S1024x256),
    (View.canon_unit_zero hz _ _).trans (kernel_step _ shapeCasts_S1x1024x256_S1024x256 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x1024x256_S1024x256 (l x2)),
    (View.canon_unit_zero hz _ _).trans (kernel_second _ shapeCasts_S1x1024x256_S1024x256 (l x3))⟩

variable (m : (ℓ : Loc nD τ sig) → Buf (Elt Ideal) ℓ) (c : Dev nD)

/-- The arguments. -/
abbrev p : (Whole 1024 256).Idx → EReal := m ((c : Thread nD τ).loc main_arg0)
abbrev w : (Flat 1024 256).Idx → EReal := m ((c : Thread nD τ).loc main_arg1)
abbrev m₁ : (Flat 1024 256).Idx → EReal := m ((c : Thread nD τ).loc main_arg2)
abbrev m₂ : (Flat 1024 256).Idx → EReal := m ((c : Thread nD τ).loc main_arg3)

/-- The gradient of a point's block is the gradient's block. -/
theorem block (t : Fin cfg0.N) : grad (R := 1024) (C := 256) (iblk m c 0 t) = fun y => grad (p m c) ((win0_4.rect t).emb y) :=
  grad_block (tr := 1024) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 1024 256).Idx) : ∃ t : Fin cfg0.N, i ∈ (win0_4.rect t).set := by
  have h : (i 0).val < 1024 := (i 0).isLt
  have hN : cfg0.N = 1 := N_0
  exact ⟨⟨(i 0).val / 1024, by omega⟩, row_mem _ _ i (by decide) (congrArg (· * 1024) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamGluIdeal_AdamGluReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamGluReferenceIdeal.defs _ _).mono (fun _ h c => ?_) (Cert.AdamGluReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.GluCall

end
-- ==== Proof.AdamOutValue.lean ====
/-
  The AdamW call on a device's part of the output projection: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.OutCall

open Idealize.ShloMosaic hiding ix1 ix2 ix3
open Idealize.ShloMosaic.TcCoe Idealize.SL.Sem
open Idealize.ShloMosaic.Pipeline (Dat)
open Cert.Blocks Cert.AdamOutIdeal Cert.AdamOutIdeal.Gen

/-- One block: what the body leaves of its blocks is their step. -/
theorem body (x0 : Vec Ideal S8x128x2048 .bf16) (x1 x2 x3 : Vec Ideal S128x2048 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S128x2048 .f32, View.ld x r0_8 = x := fun x => View.ld_unit_zero hz _ x
  refine ⟨(View.canon_unit_zero hz _ _).trans (added_eq _ shapeCasts_S1x128x2048_S128x2048),
    (View.canon_unit_zero hz _ _).trans (kernel_step _ shapeCasts_S1x128x2048_S128x2048 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x128x2048_S128x2048 (l x2)),
    (View.canon_unit_zero hz _ _).trans (kernel_second _ shapeCasts_S1x128x2048_S128x2048 (l x3))⟩

variable (m : (ℓ : Loc nD τ sig) → Buf (Elt Ideal) ℓ) (c : Dev nD)

/-- The arguments. -/
abbrev p : (Whole 256 2048).Idx → EReal := m ((c : Thread nD τ).loc main_arg0)
abbrev w : (Flat 256 2048).Idx → EReal := m ((c : Thread nD τ).loc main_arg1)
abbrev m₁ : (Flat 256 2048).Idx → EReal := m ((c : Thread nD τ).loc main_arg2)
abbrev m₂ : (Flat 256 2048).Idx → EReal := m ((c : Thread nD τ).loc main_arg3)

/-- The gradient of a point's block is the gradient's block. -/
theorem block (t : Fin cfg0.N) : grad (R := 128) (C := 2048) (iblk m c 0 t) = fun y => grad (p m c) ((win0_4.rect t).emb y) :=
  grad_block (tr := 128) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 256 2048).Idx) : ∃ t : Fin cfg0.N, i ∈ (win0_4.rect t).set := by
  have h : (i 0).val < 256 := (i 0).isLt
  have hN : cfg0.N = 2 := N_0
  exact ⟨⟨(i 0).val / 128, by omega⟩, row_mem _ _ i (by decide) (congrArg (· * 128) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamOutIdeal_AdamOutReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamOutReferenceIdeal.defs _ _).mono (fun _ h c => ?_) (Cert.AdamOutReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.OutCall

end
-- ==== Proof.AdamGateValue.lean ====
/-
  The AdamW call on a device's part of the feed-forward gate or up matrix: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.GateCall

open Idealize.ShloMosaic hiding ix1 ix2 ix3
open Idealize.ShloMosaic.TcCoe Idealize.SL.Sem
open Idealize.ShloMosaic.Pipeline (Dat)
open Cert.Blocks Cert.AdamGateIdeal Cert.AdamGateIdeal.Gen

/-- One block: what the body leaves of its blocks is their step. -/
theorem body (x0 : Vec Ideal S8x256x704 .bf16) (x1 x2 x3 : Vec Ideal S256x704 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S256x704 .f32, View.ld x r0_8 = x := fun x => View.ld_unit_zero hz _ x
  refine ⟨(View.canon_unit_zero hz _ _).trans (added_eq _ shapeCasts_S1x256x704_S256x704),
    (View.canon_unit_zero hz _ _).trans (kernel_step _ shapeCasts_S1x256x704_S256x704 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x256x704_S256x704 (l x2)),
    (View.canon_unit_zero hz _ _).trans (kernel_second _ shapeCasts_S1x256x704_S256x704 (l x3))⟩

variable (m : (ℓ : Loc nD τ sig) → Buf (Elt Ideal) ℓ) (c : Dev nD)

/-- The arguments. -/
abbrev p : (Whole 2048 704).Idx → EReal := m ((c : Thread nD τ).loc main_arg0)
abbrev w : (Flat 2048 704).Idx → EReal := m ((c : Thread nD τ).loc main_arg1)
abbrev m₁ : (Flat 2048 704).Idx → EReal := m ((c : Thread nD τ).loc main_arg2)
abbrev m₂ : (Flat 2048 704).Idx → EReal := m ((c : Thread nD τ).loc main_arg3)

/-- The gradient of a point's block is the gradient's block. -/
theorem block (t : Fin cfg0.N) : grad (R := 256) (C := 704) (iblk m c 0 t) = fun y => grad (p m c) ((win0_4.rect t).emb y) :=
  grad_block (tr := 256) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 2048 704).Idx) : ∃ t : Fin cfg0.N, i ∈ (win0_4.rect t).set := by
  have h : (i 0).val < 2048 := (i 0).isLt
  have hN : cfg0.N = 8 := N_0
  exact ⟨⟨(i 0).val / 256, by omega⟩, row_mem _ _ i (by decide) (congrArg (· * 256) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamGateIdeal_AdamGateReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamGateReferenceIdeal.defs _ _).mono (fun _ h c => ?_) (Cert.AdamGateReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.GateCall

end
-- ==== Proof.AdamDownValue.lean ====
/-
  The AdamW call on a device's part of the feed-forward down matrix: every block of rows it writes is the step of its blocks, so its
  four results are the step of its arguments.
-/
module

public import proofs.«01_k».proof.Defs
public import proofs.«01_k».proof.Proof.AdamMath
public import proofs.«01_k».proof.Proof.AdamRuns

@[expose] public section

noncomputable section

namespace Cert.Adam.DownCall

open Idealize.ShloMosaic hiding ix1 ix2 ix3
open Idealize.ShloMosaic.TcCoe Idealize.SL.Sem
open Idealize.ShloMosaic.Pipeline (Dat)
open Cert.Blocks Cert.AdamDownIdeal Cert.AdamDownIdeal.Gen

/-- One block: what the body leaves of its blocks is their step. -/
theorem body (x0 : Vec Ideal S8x88x2048 .bf16) (x1 x2 x3 : Vec Ideal S88x2048 .f32) :
    out0_4 x0 x1 x2 x3 = grad x0 ∧ out0_5 x0 x1 x2 x3 = newStep x0 x1 x2 x3
      ∧ out0_6 x0 x1 x2 x3 = newFirst x0 x2 ∧ out0_7 x0 x1 x2 x3 = newSecond x0 x3 := by
  have l : ∀ x : Vec Ideal S88x2048 .f32, View.ld x r0_8 = x := fun x => View.ld_unit_zero hz _ x
  refine ⟨(View.canon_unit_zero hz _ _).trans (added_eq _ shapeCasts_S1x88x2048_S88x2048),
    (View.canon_unit_zero hz _ _).trans (kernel_step _ shapeCasts_S1x88x2048_S88x2048 (l x1) (l x2) (l x3)
      (IdealRules.named_const.ideal_named_scalar κ "c1" (φ := .f32) 0x3FC48605#32 _ rfl)
      (IdealRules.named_const.ideal_named_scalar κ "c2" (φ := .f32) 0x42C8E6D3#32 _ rfl)),
    (View.canon_unit_zero hz _ _).trans (kernel_first _ shapeCasts_S1x88x2048_S88x2048 (l x2)),
    (View.canon_unit_zero hz _ _).trans (kernel_second _ shapeCasts_S1x88x2048_S88x2048 (l x3))⟩

variable (m : (ℓ : Loc nD τ sig) → Buf (Elt Ideal) ℓ) (c : Dev nD)

/-- The arguments. -/
abbrev p : (Whole 704 2048).Idx → EReal := m ((c : Thread nD τ).loc main_arg0)
abbrev w : (Flat 704 2048).Idx → EReal := m ((c : Thread nD τ).loc main_arg1)
abbrev m₁ : (Flat 704 2048).Idx → EReal := m ((c : Thread nD τ).loc main_arg2)
abbrev m₂ : (Flat 704 2048).Idx → EReal := m ((c : Thread nD τ).loc main_arg3)

/-- The gradient of a point's block is the gradient's block. -/
theorem block (t : Fin cfg0.N) : grad (R := 88) (C := 2048) (iblk m c 0 t) = fun y => grad (p m c) ((win0_4.rect t).emb y) :=
  grad_block (tr := 88) (p m c) (fun y => (win0_4.rect t).emb y) (fun y => (win0_0.rect t).emb y)
    fun k y => rows_agree _ _ _ _ (Nat.zero_mul _) rfl rfl k y

theorem starts : ∀ t : Fin cfg0.N, cc0_transform_4 (grid0.coords t) 0 = t.val := by decide

/-- Every place lies in a point's block. -/
theorem rows (i : (Flat 704 2048).Idx) : ∃ t : Fin cfg0.N, i ∈ (win0_4.rect t).set := by
  have h : (i 0).val < 704 := (i 0).isLt
  have hN : cfg0.N = 8 := N_0
  exact ⟨⟨(i 0).val / 88, by omega⟩, row_mem _ _ i (by decide) (congrArg (· * 88) (starts _)) (Nat.zero_mul _)⟩

/-- The four results after the last point. -/
theorem arrays : (dats m 0 c).arrAt 4 cfg0.N = grad (p m c) ∧ (dats m 0 c).arrAt 5 cfg0.N = newStep (p m c) (w m c) (m₁ m c) (m₂ m c)
    ∧ (dats m 0 c).arrAt 6 cfg0.N = newFirst (p m c) (m₁ m c) ∧ (dats m 0 c).arrAt 7 cfg0.N = newSecond (p m c) (m₂ m c) :=
  ⟨(dats m 0 c).arrAt_eq_of_cover 4 (grad (p m c)) (fun t _ => (after0_4 m c t).trans ((body _ _ _ _).1.trans (block m c t)))
      fun i => (rows i).imp fun t h => ⟨flush0_4 t, covered (b := main_v0_0) (win0_4.rect t) i h⟩,
    (dats m 0 c).arrAt_eq_of_cover 5 (newStep (p m c) (w m c) (m₁ m c) (m₂ m c))
      (fun t _ => (after0_5 m c t).trans ((body _ _ _ _).2.1.trans (step_block (block m c t) (w m c) (m₁ m c) (m₂ m c))))
      fun i => (rows i).imp fun t h => ⟨flush0_5 t, covered (b := main_v0_1) (win0_5.rect t) i h⟩,
    (dats m 0 c).arrAt_eq_of_cover 6 (newFirst (p m c) (m₁ m c))
      (fun t _ => (after0_6 m c t).trans ((body _ _ _ _).2.2.1.trans (first_block (block m c t) (m₁ m c))))
      fun i => (rows i).imp fun t h => ⟨flush0_6 t, covered (b := main_v0_2) (win0_6.rect t) i h⟩,
    (dats m 0 c).arrAt_eq_of_cover 7 (newSecond (p m c) (m₂ m c))
      (fun t _ => (after0_7 m c t).trans ((body _ _ _ _).2.2.2.trans (second_block (block m c t) (m₂ m c))))
      fun i => (rows i).imp fun t h => ⟨flush0_7 t, covered (b := main_v0_3) (win0_7.rect t) i h⟩⟩

/-- The kernel's four results are the step of its arguments, and so are the reference's. -/
theorem algebraic : Cert.algebraic_AdamDownIdeal_AdamDownReferenceIdeal := by
  intro m g m' g' _ same
  refine ⟨fun c => grad (p m c), fun c => newStep (p m c) (w m c) (m₁ m c) (m₂ m c), fun c => newFirst (p m c) (m₁ m c),
    fun c => newSecond (p m c) (m₂ m c), (θ_run defs _ _).mono (fun _ h c => ?_) (run_main m g),
    (θ_run Cert.AdamDownReferenceIdeal.defs _ _).mono (fun _ h c => ?_) (Cert.AdamDownReferenceIdeal.Value.run m' g')⟩
  · have a := arrays m c
    have i := (dats m 0 c).arrAt_in
    exact ⟨((h c).1 4).trans a.1, ((h c).1 5).trans a.2.1, ((h c).1 6).trans a.2.2.1, ((h c).1 7).trans a.2.2.2,
      ((h c).1 0).trans (i 0 rfl _), ((h c).1 1).trans (i 1 rfl _), ((h c).1 2).trans (i 2 rfl _), ((h c).1 3).trans (i 3 rfl _)⟩
  · have h := h c
    rw [host_sum] at h
    obtain ⟨s0, s1, s2, s3⟩ := same c
    refine ⟨h.1.trans ?_, h.2.1.trans ?_, h.2.2.1.trans ?_, h.2.2.2.1.trans ?_, h.2.2.2.2⟩
    · rw [s0]; rfl
    · rw [s0, s1, s2, s3]; rfl
    · rw [s0, s2]; rfl
    · rw [s0, s3]; rfl

end Cert.Adam.DownCall

end
-- ==== Proof.RowMath.lean ====
/-
  The arithmetic of one row of root-mean-square normalisation, on the extended reals: what the kernel has for the slope of a
  row, and what differentiating the reference gives, are one function. The row's mean square is either an infinity, and both
  are zero, or a real number, and then its reciprocal root moves through the sums.
-/
module

public import proofs.«01_k».proof.Proof.Blocks
public import Idealize.ShloMosaic.PureOps.Ideal
public import Idealize.ShloMosaic.PureOps.IdealRules
public import Idealize.ShloMosaic.Lib.Pointwise
public import Idealize.ShloMosaic.Lib.Pipeline.Value
public import Idealize.ShloMosaic.Lib.Pipeline.ValueKit.Acc

@[expose] public section

noncomputable section

namespace Cert.Rows

open Idealize.ShloMosaic hiding ix1 ix2 ix3
open Idealize.ShloMosaic.ValueIdx
open Cert.Blocks

/-! ## The constants -/

theorem width_eq : Ideal.ofBits .f32 0x45000000#32 = ((2048 : ℝ) : EReal) := by
  simp [Ideal.ofBits, Ideal.ieee, -EReal.coe_mul]; norm_num

theorem inv_width_eq : Ideal.ofBits .f32 0x3A000000#32 = ((1 / 2048 : ℝ) : EReal) := by
  simp [Ideal.ofBits, Ideal.ieee, -EReal.coe_mul]; norm_num

theorem eps_eq : Ideal.ofBits .f32 0x358637BD#32 = ((8796093 / 8796093022208 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem by_width (x : EReal) : Ideal.div x (Ideal.ofBits .f32 0x45000000#32) = x * ((1 / 2048 : ℝ) : EReal) := by
  rw [width_eq, Ideal.div_coe (by norm_num)]

/-! ## Sums -/

/-- A nonnegative real factor moves out of a sum, whatever is summed. -/
theorem scale_sum {ι : Type*} (s : Finset ι) {ρ : ℝ} (h : 0 ≤ ρ) (f : ι → EReal) : ∑ k ∈ s, (ρ : EReal) * f k = (ρ : EReal) * ∑ k ∈ s, f k := by
  classical
  induction s using Finset.induction_on with
  | empty => simp
  | insert a s ha ih =>
    rw [Finset.sum_insert ha, Finset.sum_insert ha, ih]
    exact (EReal.left_distrib_of_nonneg_of_ne_top (EReal.coe_nonneg.mpr h) (EReal.coe_ne_top ρ) _ _).symm

/-- Adding a multiple to itself doubles the factor. -/
theorem twice (y : EReal) (k : ℝ) : y * (k : EReal) + y * (k : EReal) = y * ((k + k : ℝ) : EReal) := by
  have h := EReal.right_distrib_of_nonneg (a := 1) (b := 1) (c := y * (k : EReal)) zero_le_one zero_le_one
  rw [one_mul] at h
  rw [← h, mul_left_comm]
  congr 1
  rw [← two_mul, EReal.coe_mul]
  congr 1
  rw [show (2 : ℝ) = 1 + 1 by norm_num, EReal.coe_add]
  rfl

/-! ## A row -/

variable {n : ℕ}

/-- The row's mean square plus the small constant, and its reciprocal root. -/
def den (x : Fin n → EReal) : EReal := Ideal.div (∑ k, x k * x k) (Ideal.ofBits .f32 0x45000000#32) + Ideal.ofBits .f32 0x358637BD#32

def rs (x : Fin n → EReal) : EReal := Ideal.rsqrt (den x)

theorem square_nonneg (x : EReal) : 0 ≤ x * x := by
  rcases le_total 0 x with h | h
  · exact EReal.mul_nonneg h h
  · rw [← neg_mul_neg]
    have h' : 0 ≤ -x := EReal.neg_nonneg.mpr h
    exact EReal.mul_nonneg h' h'

theorem den_pos (x : Fin n → EReal) : 0 < den x := by
  unfold den
  rw [by_width, eps_eq]
  exact lt_of_lt_of_le (EReal.coe_pos.mpr (by norm_num))
    (le_add_of_nonneg_left (EReal.mul_nonneg (Finset.sum_nonneg fun k _ => square_nonneg _) (EReal.coe_nonneg.mpr (by norm_num))))

/-- The slope of the normalisation at a row, as the kernel has it. -/
def slopeK (x d : Fin n → EReal) (j : Fin n) : EReal :=
  rs x * (d j - x j * rs x * Ideal.div (∑ k, d k * (x k * rs x)) (Ideal.ofBits .f32 0x45000000#32))

/-- The factor of the row in the slope that differentiating gives. -/
def pull (x d : Fin n → EReal) : EReal :=
  Ideal.div ((∑ k, x k * d k) * (Ideal.ofBits .f32 0xBF000000#32 * Ideal.div (rs x) (den x))) (Ideal.ofBits .f32 0x45000000#32)

/-- The slope as differentiating the reference gives it. -/
def slope (x d : Fin n → EReal) (j : Fin n) : EReal := d j * rs x + x j * pull x d + pull x d * x j

theorem slope_eq (x d : Fin n → EReal) (j : Fin n) : slopeK x d j = slope x d j := by
  have hp := den_pos x
  unfold slopeK slope pull
  simp only [by_width]
  unfold rs
  induction h : den x using EReal.rec with
  | bot => rw [h] at hp; exact absurd hp (by simp)
  | top => simp [Ideal.div]
  | coe u =>
    rw [h] at hp
    have hu : 0 < u := EReal.coe_pos.mp hp
    have hs : 0 < Real.sqrt u := Real.sqrt_pos.mpr hu
    rw [Ideal.rsqrt_coe, if_neg (not_lt.mpr hu.le), if_neg hu.ne', Ideal.div_coe hu.ne', neg_half_eq]
    set ρ : ℝ := (Real.sqrt u)⁻¹ with hρ
    have r0 : 0 ≤ ρ := (inv_pos.mpr hs).le
    have ru : 1 / u = ρ * ρ := by
      rw [hρ, ← mul_inv, Real.mul_self_sqrt hu.le, one_div]
    have e : ∑ k, d k * (x k * (ρ : EReal)) = (ρ : EReal) * ∑ k, x k * d k := by
      rw [← scale_sum _ r0]
      exact Finset.sum_congr rfl fun k _ => by rw [← mul_assoc, mul_comm (d k), mul_comm]
    rw [e, ru, sub_eq_add_neg, EReal.left_distrib_of_nonneg_of_ne_top (EReal.coe_nonneg.mpr r0) (EReal.coe_ne_top ρ), add_assoc, mul_comm (d j)]
    congr 1
    generalize ∑ k, x k * d k = S
    have a : (ρ : EReal) * -(x j * (ρ : EReal) * ((ρ : EReal) * S * ((1 / 2048 : ℝ) : EReal))) = x j * S * ((-(ρ * ρ * ρ * (1 / 2048)) : ℝ) : EReal) := by
      rw [EReal.coe_neg, mul_neg, mul_neg]
      simp only [EReal.coe_mul]
      congr 1
      ac_rfl
    have b : x j * (S * (((-(1 / 2) : ℝ) : EReal) * ((ρ : EReal) * ((ρ * ρ : ℝ) : EReal))) * ((1 / 2048 : ℝ) : EReal))
        = x j * S * ((-(1 / 2) * (ρ * (ρ * ρ)) * (1 / 2048) : ℝ) : EReal) := by
      simp only [EReal.coe_mul]
      ac_rfl
    rw [a, mul_comm _ (x j), b, twice]
    congr 2
    ring

end Cert.Rows

end
-- ==== Proof.RowRuns.lean ====
module
public import proofs.«01_k».proof.Proof.Gen.Loss.Frame
public import proofs.«01_k».proof.Proof.Gen.LossIdeal.Frame
public import proofs.«01_k».proof.Proof.Gen.LossReferenceIdeal.Run
public import proofs.«01_k».proof.Proof.Gen.GradX.Frame
public import proofs.«01_k».proof.Proof.Gen.GradXIdeal.Frame
public import proofs.«01_k».proof.Proof.Gen.GradXReferenceIdeal.Run
-- ==== Proof.LossValue.lean ====
/-
  The call that begins the backward pass on a device, with its loss: every block of rows it writes is the error's slope and the
  slope of the last normalisation at those rows, and the gradient of the gain and the loss gather over the blocks to sums over
  all rows.
-/
module

public import proofs.«01_k».proof.Defs
public import proofs.«01_k».proof.Proof.AdamMath
public import proofs.«01_k».proof.Proof.RowMath
public import proofs.«01_k».proof.Proof.RowRuns
public import Idealize.ShloMosaic.Lib.Pipeline.ValueKit.Point

@[expose] public section

noncomputable section

namespace Cert.Rows.LossCall

open Idealize.ShloMosaic
open Idealize.ShloMosaic.TcCoe Idealize.SL.Sem
open Idealize.ShloMosaic.Pipeline (Dat)
open Cert.Blocks Cert.Adam Cert.Rows Cert.LossIdeal Cert.LossIdeal.Gen

/-! ## The four results as functions of the four arguments, on any number of rows -/

section

variable {R : ℕ} (x1 f target : (Flat R 2048).Idx → EReal) (gain : (Flat 1 2048).Idx → EReal)

/-- A row of an array. -/
def row (y : (Flat R 2048).Idx → EReal) (r : Fin R) (k : Fin 2048) : EReal := y (ix2 r k)

/-- The error: the residual and the normalised branch, less the target. -/
def err (r : Fin R) (k : Fin 2048) : EReal := x1 (ix2 r k) + f (ix2 r k) * rs (row f r) * gain (ix2 0 k) - target (ix2 r k)

/-- The slope of the loss at the output, as the kernel has it. -/
def dout (r : Fin R) (k : Fin 2048) : EReal := err x1 f target gain r k * Ideal.ofBits .f32 0x3A000000#32

/-- The same, as differentiating half a mean of squares gives it. -/
def doutHost (r : Fin R) (k : Fin 2048) : EReal :=
  Ideal.div (Ideal.ofBits .f32 0x3F000000#32) (Ideal.ofBits .f32 0x45000000#32)
    * (Ideal.ofBits .f32 0x40000000#32 * err x1 f target gain r k)

theorem dout_eq : dout x1 f target gain = doutHost x1 f target gain := by
  funext r k
  unfold dout doutHost
  rw [by_width, half_eq, two_eq, inv_width_eq, ← EReal.coe_mul, ← mul_assoc, ← EReal.coe_mul, mul_comm]
  norm_num

/-- The slope at the branch. -/
def dfAt (r : Fin R) (l : Fin 2048) : EReal := slope (row f r) (fun k => dout x1 f target gain r k * gain (ix2 0 k)) l

theorem dfAt_host (r : Fin R) (l : Fin 2048) :
    dfAt x1 f target gain r l = slope (row f r) (fun k => doutHost x1 f target gain r k * gain (ix2 0 k)) l := by
  unfold dfAt
  rw [dout_eq]

/-- A row's term of the gradient of the gain. -/
def gainTerm (r : Fin R) (k : Fin 2048) : EReal := dout x1 f target gain r k * (f (ix2 r k) * rs (row f r))

/-- The gradient of the gain, at a column. -/
def gradGainAt (l : Fin 2048) : EReal := ∑ r, gainTerm x1 f target gain r l

theorem gradGainAt_host (l : Fin 2048) :
    gradGainAt x1 f target gain l = ∑ r, f (ix2 r l) * rs (row f r) * doutHost x1 f target gain r l := by
  unfold gradGainAt gainTerm
  rw [dout_eq]
  exact Finset.sum_congr rfl fun r _ => mul_comm _ _

/-- A row's mean square error. -/
def lossTerm (r : Fin R) : EReal := (∑ k, err x1 f target gain r k * err x1 f target gain r k) * Ideal.ofBits .f32 0x3A000000#32

/-- The loss: half the sum of the rows' mean square errors. -/
def lossSum : EReal := Ideal.ofBits .f32 0x3F000000#32 * ∑ r, lossTerm x1 f target gain r

theorem lossSum_host : lossSum x1 f target gain = Ideal.ofBits .f32 0x3F000000#32
    * ∑ r, Ideal.div (∑ k, err x1 f target gain r k * err x1 f target gain r k) (Ideal.ofBits .f32 0x45000000#32) := by
  unfold lossSum lossTerm
  simp only [by_width, inv_width_eq]

end

section

variable (x1 f target : Vec Ideal S256x2048 .f32) (gain : Vec Ideal S1x2048 .f32)

/-- What the body stores of a block's rows. -/
theorem body (r : Fin 256) (l : Fin 2048) :
    k0_pay2 (F := Ideal) (k0_pay9 x1 f target gain) (ix2 r l) = dfAt (R := 256) x1 f target gain r l := by
  unfold dfAt
  rw [← slope_eq]
  pointwise [k0_pay2, k0_pay9, k0_pay8, k0_pay7, k0_pay6, k0_pay5]
  rfl

theorem body_out (r : Fin 256) (l : Fin 2048) : k0_pay8 (F := Ideal) x1 f target gain (ix2 r l) = dout (R := 256) x1 f target gain r l := by
  unfold dout
  pointwise [k0_pay8, k0_pay7, k0_pay6, k0_pay5]
  rfl

/-- What a block adds to the gradient of the gain and to the loss. -/
theorem part (l : Fin 2048) : k0_pay10 (F := Ideal) x1 f target gain (ix2 0 l) = gradGainAt (R := 256) x1 f target gain l := by
  unfold gradGainAt gainTerm
  pointwise [k0_pay10, k0_pay8, k0_pay7, k0_pay6, k0_pay5]
  rfl

theorem part_loss : k0_pay1 (F := Ideal) (k0_pay11 x1 f target gain) (ix2 0 0) = lossSum (R := 256) x1 f target gain := by
  unfold lossSum lossTerm
  pointwise [k0_pay1, k0_pay11, k0_pay7, k0_pay6, k0_pay5]
  rfl

theorem added (v acc : Vec Ideal S1x2048 .f32) (j : S1x2048.Idx) : k0_pay3 (F := Ideal) v acc j = acc j + v j := by
  pointwise [k0_pay3]

theorem added_loss (v : Vec Ideal S1 .f32) (acc : Vec Ideal S1x1 .f32) (j : S1x1.Idx) :
    k0_pay4 (F := Ideal) v acc j = acc j + k0_pay1 (F := Ideal) v j := by
  pointwise [k0_pay4]

end

variable (m : (ℓ : Loc nD τ sig) → Buf (Elt Ideal) ℓ) (c : Dev nD)

/-- The arguments. -/
abbrev a0 : (Flat 8192 2048).Idx → EReal := m ((c : Thread nD τ).loc main_arg0)
abbrev a1 : (Flat 8192 2048).Idx → EReal := m ((c : Thread nD τ).loc main_arg1)
abbrev a2 : (Flat 8192 2048).Idx → EReal := m ((c : Thread nD τ).loc main_arg2)
abbrev a3 : (Flat 1 2048).Idx → EReal := m ((c : Thread nD τ).loc main_arg3)

theorem index_0 : ∀ t : Fin cfg0.N, win0_0.index t = ![t.val, 0] := by decide
theorem index_1 : ∀ t : Fin cfg0.N, win0_1.index t = ![t.val, 0] := by decide
theorem index_2 : ∀ t : Fin cfg0.N, win0_2.index t = ![t.val, 0] := by decide
theorem index_3 : ∀ t : Fin cfg0.N, win0_3.index t = ![0, 0] := by decide
theorem index_4 : ∀ t : Fin cfg0.N, win0_4.index t = ![t.val, 0] := by decide
theorem index_5 : ∀ t : Fin cfg0.N, win0_5.index t = ![t.val, 0] := by decide

/-- The row of the array at a row of a point's block. -/
def at_ (t : Fin cfg0.N) (r : Fin 256) : Fin 8192 := ⟨t.val * 256 + r.val, by have h : t.val < 32 := N_0 ▸ t.isLt; omega⟩

/-- Every block of rows is read at its place. -/
theorem reads (t : Fin cfg0.N) (r : Fin 256) (l : Fin 2048) :
    iblk m c 0 t (ix2 r l) = a0 m c (ix2 (at_ t r) l) ∧ iblk m c 1 t (ix2 r l) = a1 m c (ix2 (at_ t r) l)
      ∧ iblk m c 2 t (ix2 r l) = a2 m c (ix2 (at_ t r) l) ∧ iblk m c 3 t (ix2 0 l) = a3 m c (ix2 0 l) := by
  unfold at_
  refine ⟨?_, ?_, ?_, ?_⟩ <;> blk_ext [iblk, V, index_0, index_1, index_2, index_3]

/-- The four results as arrays. -/
def dfs (j : (Flat 8192 2048).Idx) : EReal := dfAt (a0 m c) (a1 m c) (a2 m c) (a3 m c) (j 0) (j 1)
def douts (j : (Flat 8192 2048).Idx) : EReal := dout (a0 m c) (a1 m c) (a2 m c) (a3 m c) (j 0) (j 1)
def gradGain (j : (Flat 1 2048).Idx) : EReal := gradGainAt (a0 m c) (a1 m c) (a2 m c) (a3 m c) (j 1)
def loss (j : (Flat 1 1).Idx) : EReal := lossSum (a0 m c) (a1 m c) (a2 m c) (a3 m c)

/-- The functions of a block's rows are those of the arrays' rows. -/
theorem block (t : Fin cfg0.N) (r : Fin 256) (l : Fin 2048) :
    dfAt (R := 256) (iblk m c 0 t) (iblk m c 1 t) (iblk m c 2 t) (iblk m c 3 t) r l = dfAt (a0 m c) (a1 m c) (a2 m c) (a3 m c) (at_ t r) l
      ∧ dout (R := 256) (iblk m c 0 t) (iblk m c 1 t) (iblk m c 2 t) (iblk m c 3 t) r l = dout (a0 m c) (a1 m c) (a2 m c) (a3 m c) (at_ t r) l
      ∧ gainTerm (R := 256) (iblk m c 0 t) (iblk m c 1 t) (iblk m c 2 t) (iblk m c 3 t) r l = gainTerm (a0 m c) (a1 m c) (a2 m c) (a3 m c) (at_ t r) l
      ∧ lossTerm (R := 256) (iblk m c 0 t) (iblk m c 1 t) (iblk m c 2 t) (iblk m c 3 t) r = lossTerm (a0 m c) (a1 m c) (a2 m c) (a3 m c) (at_ t r) := by
  have e0 := fun r l => (reads m c t r l).1
  have e1 := fun r l => (reads m c t r l).2.1
  have e2 := fun r l => (reads m c t r l).2.2.1
  have e3 := fun l => (reads m c t 0 l).2.2.2
  unfold dfAt gainTerm lossTerm dout err row
  simp only [e0, e1, e2, e3, and_self]

/-- What a point leaves of the two arrays of slopes, whether it is the first or a later one. -/
theorem leaves (t : Fin cfg0.N) (r : Fin 256) (l : Fin 2048) :
    (outsAt0 m c t.val t.isLt).1 (ix2 r l) = dfs m c (ix2 (at_ t r) l) ∧ (outsAt0 m c t.val t.isLt).2.1 (ix2 r l) = douts m c (ix2 (at_ t r) l) := by
  have hN : t.val < 32 := N_0 ▸ t.isLt
  by_cases h : t.val % 32 = 0
  · rw [outsAt0_A m c t h (by omega) h (by omega)]
    constructor
    · frame_out
      exact (body _ _ _ _ r l).trans (block m c t r l).1
    · frame_out
      exact (body_out _ _ _ _ r l).trans (block m c t r l).2.1
  · rw [outsAt0_B m c t h (by omega) h (by omega)]
    constructor
    · frame_out
      exact (body _ _ _ _ r l).trans (block m c t r l).1
    · frame_out
      exact (body_out _ _ _ _ r l).trans (block m c t r l).2.1

/-- The last point. -/
abbrev last : Fin cfg0.N := ⟨31, by decide⟩

/-- What the last point leaves of the gradient of the gain: the sum over every row. -/
theorem gathers (l : Fin 2048) : (outsAt0 m c last.val last.isLt).2.2.1 (ix2 0 l) = gradGain m c (ix2 0 l) := by
  rw [Pipeline.eq_sum_fin_of_reset_step_apply_last (fun n h => (outsAt0 m c n h).2.2.1) 32 (fun _ => 0)
    (fun t j => k0_pay10 (F := Ideal) (iblk m c 0 t) (iblk m c 1 t) (iblk m c 2 t) (iblk m c 3 t) j)
    (fun t h j => by
      have hN : t.val < 32 := N_0 ▸ t.isLt
      rw [outsAt0_A m c t h (by omega) h (by omega)]; frame_out; rw [zero_add])
    (fun t h j => by
      have hN : t.val < 32 := N_0 ▸ t.isLt
      rw [outsAt0_B m c t h (by omega) h (by omega)]; frame_out; rw [added])
    (le_of_eq N_0) last rfl (ix2 0 l), zero_add]
  simp only [part]
  exact Fin.sum_mul_add_congr fun t r hl => (block m c t r l).2.2.1

/-- What the last point leaves of the loss: half the sum over every row. -/
theorem gathers_loss : (outsAt0 m c last.val last.isLt).2.2.2 (ix2 0 0) = loss m c (ix2 0 0) := by
  rw [Pipeline.eq_sum_fin_of_reset_step_apply_last (fun n h => (outsAt0 m c n h).2.2.2) 32 (fun _ => 0)
    (fun t j => k0_pay1 (F := Ideal) (k0_pay11 (iblk m c 0 t) (iblk m c 1 t) (iblk m c 2 t) (iblk m c 3 t)) j)
    (fun t h j => by
      have hN : t.val < 32 := N_0 ▸ t.isLt
      rw [outsAt0_A m c t h (by omega) h (by omega)]; frame_out; rw [zero_add])
    (fun t h j => by
      have hN : t.val < 32 := N_0 ▸ t.isLt
      rw [outsAt0_B m c t h (by omega) h (by omega)]; frame_out; rw [added_loss])
    (le_of_eq N_0) last rfl (ix2 0 0), zero_add]
  simp only [part_loss]
  unfold loss lossSum
  rw [half_eq, scale_sum _ (by norm_num)]
  exact congrArg _ (Fin.sum_mul_add_congr fun t r hl => (block m c t r 0).2.2.2)

/-- The four results after the last point. -/
theorem cover (i : (Flat 8192 2048).Idx) : ∃ t : Fin cfg0.N, i ∈ (win0_4.rect t).set ∧ i ∈ (win0_5.rect t).set := by
  have h : (i 0).val < 8192 := (i 0).isLt
  have hN : cfg0.N = 32 := N_0
  exact ⟨⟨(i 0).val / 256, by omega⟩,
    row_mem _ _ i (by decide) (congrArg (· * 256) (congrFun (index_4 _) 0)) (congrArg (· * 2048) (congrFun (index_4 _) 1)),
    row_mem _ _ i (by decide) (congrArg (· * 256) (congrFun (index_5 _) 0)) (congrArg (· * 2048) (congrFun (index_5 _) 1))⟩

theorem array_df : (dats m 0 c).arrAt 4 cfg0.N = dfs m c := by
  refine (dats m 0 c).arrAt_eq_of_cover 4 (dfs m c) (fun t _ => (after0_4 m c t).trans (funext fun y => ?_))
    fun i => (cover i).imp fun t h => ⟨flush0_4 t, covered (b := main_v0_0) (win0_4.rect t) i h.1⟩
  obtain ⟨r, l, rfl⟩ : ∃ (r : Fin 256) (l : Fin 2048), y = ix2 r l := ⟨y 0, y 1, ValueIdx.eq_ix2 y⟩
  refine (leaves m c t r l).1.trans (congrArg (dfs m c) ?_)
  unfold at_
  blk_ext [index_4]

theorem array_dout : (dats m 0 c).arrAt 5 cfg0.N = douts m c := by
  refine (dats m 0 c).arrAt_eq_of_cover 5 (douts m c) (fun t _ => (after0_5 m c t).trans (funext fun y => ?_))
    fun i => (cover i).imp fun t h => ⟨flush0_5 t, covered (b := main_v0_1) (win0_5.rect t) i h.2⟩
  obtain ⟨r, l, rfl⟩ : ∃ (r : Fin 256) (l : Fin 2048), y = ix2 r l := ⟨y 0, y 1, ValueIdx.eq_ix2 y⟩
  refine (leaves m c t r l).2.trans (congrArg (douts m c) ?_)
  unfold at_
  blk_ext [index_5]

theorem array_gain : (dats m 0 c).arrAt 6 cfg0.N = gradGain m c := by
  refine (dats m 0 c).arrAt_eq_of_after_last 6 last (by decide +kernel) (gradGain m c) fun j => ?_
  obtain ⟨z, l, rfl⟩ : ∃ (z : Fin 1) (l : Fin 2048), j = ix2 z l := ⟨j 0, j 1, ValueIdx.eq_ix2 j⟩
  obtain rfl : z = 0 := Subsingleton.elim _ _
  exact (congrFun (after0_6 m c last) _).trans (gathers m c l)

theorem array_loss : (dats m 0 c).arrAt 7 cfg0.N = loss m c := by
  refine (dats m 0 c).arrAt_eq_of_after_last 7 last (by decide +kernel) (loss m c) fun j => ?_
  obtain ⟨z, l, rfl⟩ : ∃ (z l : Fin 1), j = ix2 z l := ⟨j 0, j 1, ValueIdx.eq_ix2 j⟩
  obtain rfl : z = 0 := Subsingleton.elim _ _
  obtain rfl : l = 0 := Subsingleton.elim _ _
  exact (congrFun (after0_7 m c last) _).trans (gathers_loss m c)

/-- The kernel's four results are the slopes, the gradient and the loss of its arguments, and so are the reference's. -/
theorem algebraic : Cert.algebraic_LossIdeal_LossReferenceIdeal := by
  intro m g m' g' _ same
  refine ⟨fun c => dfs m c, fun c => douts m c, fun c => gradGain m c, fun c => loss m c, (θ_run defs _ _).mono (fun _ h c => ?_) (run_main m g),
    (θ_run Cert.LossReferenceIdeal.defs _ _).mono (fun _ h c => ?_) (Cert.LossReferenceIdeal.Value.run m' g')⟩
  · have i := (dats m 0 c).arrAt_in
    exact ⟨((h c).1 4).trans (array_df m c), ((h c).1 5).trans (array_dout m c), ((h c).1 6).trans (array_gain m c), ((h c).1 7).trans (array_loss m c),
      ((h c).1 0).trans (i 0 rfl _), ((h c).1 1).trans (i 1 rfl _), ((h c).1 2).trans (i 2 rfl _), ((h c).1 3).trans (i 3 rfl _)⟩
  · have h := h c
    obtain ⟨s0, s1, s2, s3⟩ := same c
    refine ⟨h.1.trans (funext fun y => ?_), h.2.1.trans (funext fun y => ?_), h.2.2.1.trans (funext fun y => ?_),
      h.2.2.2.1.trans (funext fun y => ?_), h.2.2.2.2⟩
    · obtain ⟨r, l, rfl⟩ : ∃ (r : Fin 8192) (l : Fin 2048), y = ix2 r l := ⟨y 0, y 1, ValueIdx.eq_ix2 y⟩
      unfold Cert.LossReferenceIdeal.Value.res_main_v50
      rw [s0, s1, s2, s3]
      pointwise
      simp only [Finset.univ_unique, Finset.sum_singleton]
      exact (dfAt_host (a0 m c) (a1 m c) (a2 m c) (a3 m c) r l).symm
    · obtain ⟨r, l, rfl⟩ : ∃ (r : Fin 8192) (l : Fin 2048), y = ix2 r l := ⟨y 0, y 1, ValueIdx.eq_ix2 y⟩
      rw [s0, s1, s2, s3]
      pointwise
      exact (congrFun (congrFun (dout_eq (a0 m c) (a1 m c) (a2 m c) (a3 m c)) r) l).symm
    · obtain ⟨z, l, rfl⟩ : ∃ (z : Fin 1) (l : Fin 2048), y = ix2 z l := ⟨y 0, y 1, ValueIdx.eq_ix2 y⟩
      rw [s0, s1, s2, s3]
      pointwise
      show _ = gradGainAt (a0 m c) (a1 m c) (a2 m c) (a3 m c) l
      rw [gradGainAt_host]
      rfl
    · rw [s0, s1, s2, s3]
      obtain ⟨z, l, rfl⟩ : ∃ (z l : Fin 1), y = ix2 z l := ⟨y 0, y 1, ValueIdx.eq_ix2 y⟩
      pointwise
      show _ = lossSum (a0 m c) (a1 m c) (a2 m c) (a3 m c)
      rw [lossSum_host]
      rfl

end Cert.Rows.LossCall

end
-- ==== Proof.GradXValue.lean ====
/-
  The call that ends the backward pass on a device: every block of rows it writes is the slope of the input normalisation at
  those rows, with the residual's slope added, and the gradient of the gain gathers over the blocks to the sum over all rows.
-/
module

public import proofs.«01_k».proof.Defs
public import proofs.«01_k».proof.Proof.AdamMath
public import proofs.«01_k».proof.Proof.RowMath
public import proofs.«01_k».proof.Proof.RowRuns
public import Idealize.ShloMosaic.Lib.Pipeline.ValueKit.Point

@[expose] public section

noncomputable section

namespace Cert.Rows.GradXCall

open Idealize.ShloMosaic
open Idealize.ShloMosaic.TcCoe Idealize.SL.Sem
open Idealize.ShloMosaic.Pipeline (Dat)
open Cert.Blocks Cert.Adam Cert.Rows Cert.GradXIdeal Cert.GradXIdeal.Gen

/-! ## The two results as functions of the eight arguments, on any number of rows -/

section

variable {R : ℕ} (d0 d1 d2 d3 d4 dx1 x : (Flat R 2048).Idx → EReal) (gain : (Flat 1 2048).Idx → EReal)

/-- The slopes of the five projections of the normalised input, added. -/
def dy (r : Fin R) (k : Fin 2048) : EReal := d0 (ix2 r k) + d1 (ix2 r k) + d2 (ix2 r k) + d3 (ix2 r k) + d4 (ix2 r k)

/-- A row of an array. -/
def row (y : (Flat R 2048).Idx → EReal) (r : Fin R) (k : Fin 2048) : EReal := y (ix2 r k)

/-- The gradient of the input, at a row and a column. -/
def gradXAt (r : Fin R) (l : Fin 2048) : EReal := slope (row x r) (fun k => dy d0 d1 d2 d3 d4 r k * gain (ix2 0 k)) l + dx1 (ix2 r l)

/-- A row's term of the gradient of the gain. -/
def gainTerm (r : Fin R) (k : Fin 2048) : EReal := dy d0 d1 d2 d3 d4 r k * (x (ix2 r k) * rs (row x r))

/-- The gradient of the gain, at a column. -/
def gradGainAt (l : Fin 2048) : EReal := ∑ r, gainTerm d0 d1 d2 d3 d4 x r l

/-- The gradient of the gain with the factors the other way round. -/
theorem gain_comm (l : Fin 2048) : gradGainAt d0 d1 d2 d3 d4 x l = ∑ r, x (ix2 r l) * rs (row x r) * dy d0 d1 d2 d3 d4 r l :=
  Finset.sum_congr rfl fun r _ => mul_comm _ _

end

section

variable (d0 d1 d2 d3 d4 dx1 x : Vec Ideal S128x2048 .f32) (gain : Vec Ideal S1x2048 .f32)

/-- What the body stores of a block's rows. -/
theorem body (r : Fin 128) (l : Fin 2048) :
    k0_pay1 (F := Ideal) dx1 (k0_pay6 d0 d1 d2 d3 d4 x gain) (ix2 r l) = gradXAt (R := 128) d0 d1 d2 d3 d4 dx1 x gain r l := by
  unfold gradXAt
  rw [← slope_eq]
  pointwise [k0_pay1, k0_pay6, k0_pay3, k0_pay4, k0_pay5]
  rfl

/-- What a block adds to the gradient of the gain. -/
theorem part (l : Fin 2048) : k0_pay7 (F := Ideal) d0 d1 d2 d3 d4 x (ix2 0 l) = gradGainAt (R := 128) d0 d1 d2 d3 d4 x l := by
  unfold gradGainAt gainTerm
  pointwise [k0_pay7, k0_pay3, k0_pay4, k0_pay5]
  rfl

theorem added (v acc : Vec Ideal S1x2048 .f32) (j : S1x2048.Idx) : k0_pay2 (F := Ideal) v acc j = acc j + v j := by
  pointwise [k0_pay2]

end

variable (m : (ℓ : Loc nD τ sig) → Buf (Elt Ideal) ℓ) (c : Dev nD)

/-- The arguments. -/
abbrev a0 : (Flat 8192 2048).Idx → EReal := m ((c : Thread nD τ).loc main_arg0)
abbrev a1 : (Flat 8192 2048).Idx → EReal := m ((c : Thread nD τ).loc main_arg1)
abbrev a2 : (Flat 8192 2048).Idx → EReal := m ((c : Thread nD τ).loc main_arg2)
abbrev a3 : (Flat 8192 2048).Idx → EReal := m ((c : Thread nD τ).loc main_arg3)
abbrev a4 : (Flat 8192 2048).Idx → EReal := m ((c : Thread nD τ).loc main_arg4)
abbrev a5 : (Flat 8192 2048).Idx → EReal := m ((c : Thread nD τ).loc main_arg5)
abbrev a6 : (Flat 8192 2048).Idx → EReal := m ((c : Thread nD τ).loc main_arg6)
abbrev a7 : (Flat 1 2048).Idx → EReal := m ((c : Thread nD τ).loc main_arg7)

theorem index_0 : ∀ t : Fin cfg0.N, win0_0.index t = ![t.val, 0] := by decide
theorem index_1 : ∀ t : Fin cfg0.N, win0_1.index t = ![t.val, 0] := by decide
theorem index_2 : ∀ t : Fin cfg0.N, win0_2.index t = ![t.val, 0] := by decide
theorem index_3 : ∀ t : Fin cfg0.N, win0_3.index t = ![t.val, 0] := by decide
theorem index_4 : ∀ t : Fin cfg0.N, win0_4.index t = ![t.val, 0] := by decide
theorem index_5 : ∀ t : Fin cfg0.N, win0_5.index t = ![t.val, 0] := by decide
theorem index_6 : ∀ t : Fin cfg0.N, win0_6.index t = ![t.val, 0] := by decide
theorem index_7 : ∀ t : Fin cfg0.N, win0_7.index t = ![0, 0] := by decide
theorem index_8 : ∀ t : Fin cfg0.N, win0_8.index t = ![t.val, 0] := by decide

/-- The row of the array at a row of a point's block. -/
def at_ (t : Fin cfg0.N) (r : Fin 128) : Fin 8192 := ⟨t.val * 128 + r.val, by have h : t.val < 64 := N_0 ▸ t.isLt; omega⟩

/-- Every block of rows is read at its place. -/
theorem reads (t : Fin cfg0.N) (r : Fin 128) (l : Fin 2048) :
    iblk m c 0 t (ix2 r l) = a0 m c (ix2 (at_ t r) l) ∧ iblk m c 1 t (ix2 r l) = a1 m c (ix2 (at_ t r) l)
      ∧ iblk m c 2 t (ix2 r l) = a2 m c (ix2 (at_ t r) l) ∧ iblk m c 3 t (ix2 r l) = a3 m c (ix2 (at_ t r) l)
      ∧ iblk m c 4 t (ix2 r l) = a4 m c (ix2 (at_ t r) l) ∧ iblk m c 5 t (ix2 r l) = a5 m c (ix2 (at_ t r) l)
      ∧ iblk m c 6 t (ix2 r l) = a6 m c (ix2 (at_ t r) l) ∧ iblk m c 7 t (ix2 0 l) = a7 m c (ix2 0 l) := by
  unfold at_
  refine ⟨?_, ?_, ?_, ?_, ?_, ?_, ?_, ?_⟩ <;>
    blk_ext [iblk, V, index_0, index_1, index_2, index_3, index_4, index_5, index_6, index_7]

/-- The gradient of the input, as an array, and the gradient of the gain. -/
def gradX (j : (Flat 8192 2048).Idx) : EReal := gradXAt (a0 m c) (a1 m c) (a2 m c) (a3 m c) (a4 m c) (a5 m c) (a6 m c) (a7 m c) (j 0) (j 1)
def gradGain (j : (Flat 1 2048).Idx) : EReal := gradGainAt (a0 m c) (a1 m c) (a2 m c) (a3 m c) (a4 m c) (a6 m c) (j 1)

theorem slopes_block (t : Fin cfg0.N) (r : Fin 128) (l : Fin 2048) :
    gradXAt (R := 128) (iblk m c 0 t) (iblk m c 1 t) (iblk m c 2 t) (iblk m c 3 t) (iblk m c 4 t) (iblk m c 5 t) (iblk m c 6 t) (iblk m c 7 t) r l
      = gradXAt (a0 m c) (a1 m c) (a2 m c) (a3 m c) (a4 m c) (a5 m c) (a6 m c) (a7 m c) (at_ t r) l := by
  have e0 := fun r l => (reads m c t r l).1
  have e1 := fun r l => (reads m c t r l).2.1
  have e2 := fun r l => (reads m c t r l).2.2.1
  have e3 := fun r l => (reads m c t r l).2.2.2.1
  have e4 := fun r l => (reads m c t r l).2.2.2.2.1
  have e5 := fun r l => (reads m c t r l).2.2.2.2.2.1
  have e6 := fun r l => (reads m c t r l).2.2.2.2.2.2.1
  have e7 := fun l => (reads m c t 0 l).2.2.2.2.2.2.2
  unfold gradXAt row dy
  simp only [e0, e1, e2, e3, e4, e5, e6, e7]

theorem term_block (t : Fin cfg0.N) (r : Fin 128) (l : Fin 2048) :
    gainTerm (R := 128) (iblk m c 0 t) (iblk m c 1 t) (iblk m c 2 t) (iblk m c 3 t) (iblk m c 4 t) (iblk m c 6 t) r l
      = gainTerm (a0 m c) (a1 m c) (a2 m c) (a3 m c) (a4 m c) (a6 m c) (at_ t r) l := by
  have e0 := fun r l => (reads m c t r l).1
  have e1 := fun r l => (reads m c t r l).2.1
  have e2 := fun r l => (reads m c t r l).2.2.1
  have e3 := fun r l => (reads m c t r l).2.2.2.1
  have e4 := fun r l => (reads m c t r l).2.2.2.2.1
  have e6 := fun r l => (reads m c t r l).2.2.2.2.2.2.1
  unfold gainTerm row dy
  simp only [e0, e1, e2, e3, e4, e6]

/-- What a point leaves of the gradient of the input, whether it is the first or a later one. -/
theorem leaves (t : Fin cfg0.N) (r : Fin 128) (l : Fin 2048) : (outsAt0 m c t.val t.isLt).1 (ix2 r l) = gradX m c (ix2 (at_ t r) l) := by
  have hN : t.val < 64 := N_0 ▸ t.isLt
  by_cases h : t.val % 64 = 0
  · rw [outsAt0_A m c t h (by omega)]
    frame_out
    exact (body _ _ _ _ _ _ _ _ r l).trans (slopes_block m c t r l)
  · rw [outsAt0_B m c t h (by omega)]
    frame_out
    exact (body _ _ _ _ _ _ _ _ r l).trans (slopes_block m c t r l)

/-- The last point. -/
abbrev last : Fin cfg0.N := ⟨63, by decide⟩

/-- What the last point leaves of the gradient of the gain: the sum over every row. -/
theorem gathers (l : Fin 2048) : (outsAt0 m c last.val last.isLt).2 (ix2 0 l) = gradGain m c (ix2 0 l) := by
  rw [Pipeline.eq_sum_fin_of_reset_step_apply_last (fun n h => (outsAt0 m c n h).2) 64 (fun _ => 0)
    (fun t j => k0_pay7 (F := Ideal) (iblk m c 0 t) (iblk m c 1 t) (iblk m c 2 t) (iblk m c 3 t) (iblk m c 4 t) (iblk m c 6 t) j)
    (fun t h j => by
      have hN : t.val < 64 := N_0 ▸ t.isLt
      rw [outsAt0_A m c t h (by omega)]; frame_out; rw [zero_add])
    (fun t h j => by
      have hN : t.val < 64 := N_0 ▸ t.isLt
      rw [outsAt0_B m c t h (by omega)]; frame_out; rw [added])
    (le_of_eq N_0) last rfl (ix2 0 l), zero_add]
  simp only [part]
  exact Fin.sum_mul_add_congr fun t r hl => term_block m c t r l

/-- The two results after the last point. -/
theorem array_x : (dats m 0 c).arrAt 8 cfg0.N = gradX m c := by
  refine (dats m 0 c).arrAt_eq_of_cover 8 (gradX m c) (fun t _ => (after0_8 m c t).trans (funext fun y => ?_)) fun i => ?_
  · obtain ⟨r, l, rfl⟩ : ∃ (r : Fin 128) (l : Fin 2048), y = ix2 r l := ⟨y 0, y 1, ValueIdx.eq_ix2 y⟩
    refine (leaves m c t r l).trans (congrArg (gradX m c) ?_)
    unfold at_
    blk_ext [index_8]
  · have h : (i 0).val < 8192 := (i 0).isLt
    have hN : cfg0.N = 64 := N_0
    exact ⟨⟨(i 0).val / 128, by omega⟩, flush0_8 _, covered (b := main_v0_0) (win0_8.rect _) i
      (row_mem _ _ i (by decide) (congrArg (· * 128) (congrFun (index_8 _) 0)) (congrArg (· * 2048) (congrFun (index_8 _) 1)))⟩

theorem array_gain : (dats m 0 c).arrAt 9 cfg0.N = gradGain m c := by
  refine (dats m 0 c).arrAt_eq_of_after_last 9 last (by decide +kernel) (gradGain m c) fun j => ?_
  obtain ⟨z, l, rfl⟩ : ∃ (z : Fin 1) (l : Fin 2048), j = ix2 z l := ⟨j 0, j 1, ValueIdx.eq_ix2 j⟩
  obtain rfl : z = 0 := Subsingleton.elim _ _
  exact (congrFun (after0_9 m c last) _).trans (gathers m c l)

/-- The kernel's two results are the gradients of its arguments, and so are the reference's. -/
theorem algebraic : Cert.algebraic_GradXIdeal_GradXReferenceIdeal := by
  intro m g m' g' _ same
  refine ⟨fun c => gradX m c, fun c => gradGain m c, (θ_run defs _ _).mono (fun _ h c => ?_) (run_main m g),
    (θ_run Cert.GradXReferenceIdeal.defs _ _).mono (fun _ h c => ?_) (Cert.GradXReferenceIdeal.Value.run m' g')⟩
  · have i := (dats m 0 c).arrAt_in
    exact ⟨((h c).1 8).trans (array_x m c), ((h c).1 9).trans (array_gain m c), ((h c).1 0).trans (i 0 rfl _), ((h c).1 1).trans (i 1 rfl _),
      ((h c).1 2).trans (i 2 rfl _), ((h c).1 3).trans (i 3 rfl _), ((h c).1 4).trans (i 4 rfl _), ((h c).1 5).trans (i 5 rfl _),
      ((h c).1 6).trans (i 6 rfl _), ((h c).1 7).trans (i 7 rfl _)⟩
  · have h := h c
    obtain ⟨s0, s1, s2, s3, s4, s5, s6, s7⟩ := same c
    refine ⟨h.1.trans (funext fun y => ?_), h.2.1.trans (funext fun y => ?_), h.2.2⟩
    · obtain ⟨r, l, rfl⟩ : ∃ (r : Fin 8192) (l : Fin 2048), y = ix2 r l := ⟨y 0, y 1, ValueIdx.eq_ix2 y⟩
      unfold Cert.GradXReferenceIdeal.Value.res_main_v38
      rw [s0, s1, s2, s3, s4, s5, s6, s7]
      pointwise
      simp only [Finset.univ_unique, Finset.sum_singleton]
      rfl
    · obtain ⟨z, l, rfl⟩ : ∃ (z : Fin 1) (l : Fin 2048), y = ix2 z l := ⟨y 0, y 1, ValueIdx.eq_ix2 y⟩
      rw [s0, s1, s2, s3, s4, s6]
      pointwise
      show _ = gradGainAt (a0 m c) (a1 m c) (a2 m c) (a3 m c) (a4 m c) (a6 m c) l
      rw [gain_comm]
      rfl

end Cert.Rows.GradXCall

end
-- ==== Proof.WiseRuns.lean ====
module
public import proofs.«01_k».proof.Proof.Gen.RmsIn.Frame
public import proofs.«01_k».proof.Proof.Gen.RmsInIdeal.Frame
public import proofs.«01_k».proof.Proof.Gen.RmsInReferenceIdeal.Run
public import proofs.«01_k».proof.Proof.Gen.RmsMid.Frame
public import proofs.«01_k».proof.Proof.Gen.RmsMidIdeal.Frame
public import proofs.«01_k».proof.Proof.Gen.RmsMidReferenceIdeal.Run
public import proofs.«01_k».proof.Proof.Gen.RmsMidBwd.Frame
public import proofs.«01_k».proof.Proof.Gen.RmsMidBwdIdeal.Frame
public import proofs.«01_k».proof.Proof.Gen.RmsMidBwdReferenceIdeal.Run
public import proofs.«01_k».proof.Proof.Gen.SsmGelu.Frame
public import proofs.«01_k».proof.Proof.Gen.SsmGeluIdeal.Frame
public import proofs.«01_k».proof.Proof.Gen.SsmGeluReferenceIdeal.Run
public import proofs.«01_k».proof.Proof.Gen.GateMerge.Frame
public import proofs.«01_k».proof.Proof.Gen.GateMergeIdeal.Frame
public import proofs.«01_k».proof.Proof.Gen.GateMergeReferenceIdeal.Run
public import proofs.«01_k».proof.Proof.Gen.GateBwd.Frame
public import proofs.«01_k».proof.Proof.Gen.GateBwdIdeal.Frame
public import proofs.«01_k».proof.Proof.Gen.GateBwdReferenceIdeal.Run
public import proofs.«01_k».proof.Proof.Gen.Swiglu.Frame
public import proofs.«01_k».proof.Proof.Gen.SwigluIdeal.Frame
public import proofs.«01_k».proof.Proof.Gen.SwigluReferenceIdeal.Run
public import proofs.«01_k».proof.Proof.Gen.SwigluBwd.Frame
public import proofs.«01_k».proof.Proof.Gen.SwigluBwdIdeal.Frame
public import proofs.«01_k».proof.Proof.Gen.SwigluBwdReferenceIdeal.Run
public import proofs.«01_k».proof.Proof.Gen.DlFold.Frame
public import proofs.«01_k».proof.Proof.Gen.DlFoldIdeal.Frame
public import proofs.«01_k».proof.Proof.Gen.DlFoldReferenceIdeal.Run
-- ==== Proof.MatRuns.lean ====
module
public import proofs.«01_k».proof.Proof.Gen.FwdQkv.Frame
public import proofs.«01_k».proof.Proof.Gen.FwdU.Frame
public import proofs.«01_k».proof.Proof.Gen.FwdGates.Frame
public import proofs.«01_k».proof.Proof.Gen.FwdUp.Frame
public import proofs.«01_k».proof.Proof.Gen.FwdGlu.Frame
public import proofs.«01_k».proof.Proof.Gen.FwdOut.Frame
public import proofs.«01_k».proof.Proof.Gen.FwdFfn.Frame
public import proofs.«01_k».proof.Proof.Gen.FwdDown.Frame
public import proofs.«01_k».proof.Proof.Gen.BwdDown.Frame
public import proofs.«01_k».proof.Proof.Gen.BwdOut.Frame
public import proofs.«01_k».proof.Proof.Gen.BwdUp.Frame
public import proofs.«01_k».proof.Proof.Gen.BwdQkv.Frame
public import proofs.«01_k».proof.Proof.Gen.BwdU.Frame
public import proofs.«01_k».proof.Proof.Gen.BwdGates.Frame
public import proofs.«01_k».proof.Proof.Gen.BwdFfn.Frame
public import proofs.«01_k».proof.Proof.Gen.BwdGlu.Frame
public import proofs.«01_k».proof.Proof.Gen.DwDown.Frame
public import proofs.«01_k».proof.Proof.Gen.DwFfn.Frame
public import proofs.«01_k».proof.Proof.Gen.DwOut.Frame
public import proofs.«01_k».proof.Proof.Gen.DwUp.Frame
public import proofs.«01_k».proof.Proof.Gen.DwGlu.Frame
public import proofs.«01_k».proof.Proof.Gen.DwQkv.Frame
public import proofs.«01_k».proof.Proof.Gen.DwU.Frame
public import proofs.«01_k».proof.Proof.Gen.DwGates.Frame
-- ==== Proof.MatMath.lean ====
/-
  The products of matrices, once for all calls: the three ways in which a call reads its two matrices; what one step adds to the block
  kept aside; what the steps of a run leave in the block written; and what the references' products are.
-/
module

public import proofs.«01_k».proof.Proof.Blocks
public import Idealize.ShloMosaic.Lib.Pipeline.ValueKit
public import Idealize.ShloMosaic.Lib.Pipeline.ReadBack
public import Idealize.ShloMosaic.Lib.MatmulPlain
public import Idealize.ShloMosaic.Lib.StackMember
public import Idealize.ShloMosaic.Lib.Quiescent

@[expose] public section

noncomputable section

namespace Cert.Mats

open Idealize.ShloMosaic
open Cert.Blocks
open Idealize.SL.Sem

section

variable {M K N : ℕ}

/-- The terms of an element of a product: of two matrices, -/
abbrev fwdTerm (a : (Flat M K).Idx → EReal) (b : (Flat K N).Idx → EReal) (j : (Flat M N).Idx) (k : Fin K) : EReal :=
  a (ix2 (j 0) k) * b (ix2 k (j 1))

/-- of a matrix and the transpose of another, -/
abbrev bwdTerm (a : (Flat M K).Idx → EReal) (b : (Flat N K).Idx → EReal) (j : (Flat M N).Idx) (k : Fin K) : EReal :=
  a (ix2 (j 0) k) * b (ix2 (j 1) k)

/-- and of the transpose of a matrix and another. -/
abbrev wgtTerm (a : (Flat K M).Idx → EReal) (b : (Flat K N).Idx → EReal) (j : (Flat M N).Idx) (k : Fin K) : EReal :=
  a (ix2 k (j 0)) * b (ix2 k (j 1))

/-- The product of two matrices. -/
def fwd (a : (Flat M K).Idx → EReal) (b : (Flat K N).Idx → EReal) (j : (Flat M N).Idx) : EReal := ∑ k, fwdTerm a b j k

/-- The product of a matrix and the transpose of another: the slope in the left factor. -/
def bwd (a : (Flat M K).Idx → EReal) (b : (Flat N K).Idx → EReal) (j : (Flat M N).Idx) : EReal := ∑ k, bwdTerm a b j k

/-- The product of the transpose of a matrix and another: the slope in the right factor. -/
def wgt (a : (Flat K M).Idx → EReal) (b : (Flat K N).Idx → EReal) (j : (Flat M N).Idx) : EReal := ∑ k, wgtTerm a b j k

end

section

variable {M K N : ℕ}

/-- The terms of an element of the sum of two products with transposes. -/
abbrev bothTerm (a a' : (Flat M K).Idx → EReal) (b b' : (Flat N K).Idx → EReal) (j : (Flat M N).Idx) (k : Fin K) : EReal :=
  bwdTerm a b j k + bwdTerm a' b' j k

/-- The slope in a left factor that two products share. -/
def both (a a' : (Flat M K).Idx → EReal) (b b' : (Flat N K).Idx → EReal) (j : (Flat M N).Idx) : EReal := ∑ k, bothTerm a a' b b' j k

theorem both_eq (a a' : (Flat M K).Idx → EReal) (b b' : (Flat N K).Idx → EReal) (j : (Flat M N).Idx) :
    both a a' b b' j = bwd a b j + bwd a' b' j := Finset.sum_add_distrib

end

/-- A sum kept aside over a run of points, cleared at the run's first and written out at its last: what is written is the sum of the
    run's terms. -/
theorem runs {N : ℕ} {ι : Type} (f : (n : ℕ) → n < N → (ι → EReal) × (ι → EReal)) (J : ℕ) [NeZero J] (term : Fin N → ι → EReal)
    (first : ∀ t : Fin N, t.val % J = 0 → ∀ j, (f t.val t.isLt).2 j = 0 + term t j)
    (later : ∀ t : Fin N, ¬t.val % J = 0 → ∀ j,
      (f t.val t.isLt).2 j = (f (t.val - 1) (Nat.lt_of_le_of_lt (Nat.sub_le _ _) t.isLt)).2 j + term t j)
    (t : Fin N) (h : t.val % J = J - 1) (last : ∀ j, (f t.val t.isLt).1 j = (f t.val t.isLt).2 j) (j : ι) :
    (f t.val t.isLt).1 j = ∑ s : Fin J, term ⟨J * (t.val / J) + s.val, Pipeline.run_point_lt_of_flush t h s⟩ j := by
  rw [last, Pipeline.eq_sum_fin_of_reset_step_apply_of_flush (fun n h => (f n h).2) J (fun _ => 0) term first later t h j, zero_add]

/-! ## One step

What a point stores in the block kept aside, as the kernel's operations on its two blocks and on what it read there. -/

abbrev Sq : Shape := ⟨2, ![512, 512]⟩

/-- The three ways in which a step contracts its two blocks. -/
abbrev dimsFwd (wf : DotDims.WF Sq Sq Sq [1] [0] [0] [1] [] []) : DotDims Sq Sq Sq := ⟨[1], [0], [0], [1], [], [], wf⟩
abbrev dimsBwd (wf : DotDims.WF Sq Sq Sq [1] [1] [0] [0] [] []) : DotDims Sq Sq Sq := ⟨[1], [1], [0], [0], [], [], wf⟩
abbrev dimsWgt (wf : DotDims.WF Sq Sq Sq [0] [0] [1] [1] [] []) : DotDims Sq Sq Sq := ⟨[0], [0], [1], [1], [], [], wf⟩

variable {φ ψ : FTy} (h : Sq.ShapeCasts Sq)

/-- The block of zeros that a run's first point finds. -/
abbrev zeros : FVec Ideal Sq .f32 := shapeCast Sq (broadcast Sq (Scalar.ofBits .f32 0x00000000#32 : Ideal .f32)) h

/-- The product of two blocks. -/
abbrev times (D : DotDims Sq Sq Sq) (a : FVec Ideal Sq φ) (b : FVec Ideal Sq ψ) : FVec Ideal Sq .f32 :=
  matmul D none a b (constant Sq .f32 0x00000000#32)

/-- A step: a block added to the one kept aside. -/
abbrev step (p acc : FVec Ideal Sq .f32) : FVec Ideal Sq .f32 := shapeCast Sq (addf acc p) h

theorem step_apply (p acc : FVec Ideal Sq .f32) (j : Sq.Idx) : step h p acc j = acc j + p j := by
  pointwise

/-- A run's first step, after the block has been cleared. -/
theorem step_zeros (p : FVec Ideal Sq .f32) (j : Sq.Idx) : step h p (zeros h) j = 0 + p j := by
  rw [step_apply]
  pointwise

theorem times_fwd (wf) (a : FVec Ideal Sq φ) (b : FVec Ideal Sq ψ) (j : Sq.Idx) : times (dimsFwd wf) a b j = fwd a b j := by
  pointwise
  rfl

theorem times_bwd (wf) (a : FVec Ideal Sq φ) (b : FVec Ideal Sq ψ) (j : Sq.Idx) : times (dimsBwd wf) a b j = bwd a b j := by
  pointwise
  rfl

theorem times_both (wf) (a a' : FVec Ideal Sq φ) (b b' : FVec Ideal Sq ψ) (j : Sq.Idx) :
    addf (times (dimsBwd wf) a b) (times (dimsBwd wf) a' b') j = both a a' b b' j := by
  rw [both_eq, ← times_bwd wf, ← times_bwd wf]
  rfl

theorem times_wgt (wf) (a : FVec Ideal Sq φ) (b : FVec Ideal Sq ψ) (j : Sq.Idx) : times (dimsWgt wf) a b j = wgt a b j := by
  pointwise
  rfl

/-- The block that a run of steps writes: what each step adds is a sum over the rows and columns of its two blocks, and its terms are
    the next 512 of the whole arrays' row and column. -/
theorem block {N L : ℕ} (f : (n : ℕ) → n < N → (Sq.Idx → EReal) × (Sq.Idx → EReal)) (J : ℕ) [NeZero J] (long : L = J * 512)
    (p : Fin N → FVec Ideal Sq .f32) (q : Fin N → Sq.Idx → Fin 512 → EReal) (g : Fin L → EReal) (sums : ∀ t j, p t j = ∑ k, q t j k)
    (first : ∀ t : Fin N, t.val % J = 0 → (f t.val t.isLt).2 = step h (p t) (zeros h))
    (later : ∀ t : Fin N, ¬t.val % J = 0 →
      (f t.val t.isLt).2 = step h (p t) (f (t.val - 1) (Nat.lt_of_le_of_lt (Nat.sub_le _ _) t.isLt)).2)
    (last : ∀ t : Fin N, t.val % J = J - 1 → (f t.val t.isLt).1 = (f t.val t.isLt).2)
    (t : Fin N) (ht : t.val % J = J - 1) (j : Sq.Idx)
    (reads : ∀ (s : Fin J) (k : Fin 512) (hl : s.val * 512 + k.val < L),
      q ⟨J * (t.val / J) + s.val, Pipeline.run_point_lt_of_flush t ht s⟩ j k = g ⟨s.val * 512 + k.val, hl⟩) :
    (f t.val t.isLt).1 j = ∑ l, g l := by
  refine (runs f J (fun t j => ∑ k, q t j k) (fun t ht j => ?_) (fun t ht j => ?_) t ht (congrFun (last t ht)) j).trans
    (Fin.sum_mul_add_congr reads long)
  · rw [first t ht, step_zeros, sums]
  · rw [later t ht, step_apply, sums]

/-! ## The references -/

section

variable {M K N : ℕ}

theorem host_fwd (a : FVec Ideal (Flat M K) φ) (b : FVec Ideal (Flat K N) ψ) :
    Host.dotGeneral (DotDims.plain M K N) none a b = fwd a b := by
  funext j
  rw [eq_ix2 j]
  exact StackMember.dotGeneral_plain_apply none a b (j 0) (j 1)

theorem host_bwd (a : FVec Ideal (Flat M K) φ) (b : FVec Ideal (Flat N K) ψ) (t : (Flat N K).Transposes [1, 0] (Flat K N)) :
    Host.dotGeneral (DotDims.plain M K N) none a (transpose (Flat K N) [1, 0] b t) = bwd a b := by
  rw [host_fwd]
  funext j
  exact Finset.sum_congr rfl fun k _ => congrArg (a (ix2 (j 0) k) * ·) (ValueIdx.transpose_ix2_apply b t k (j 1))

theorem host_both (a a' : FVec Ideal (Flat M K) φ) (b b' : FVec Ideal (Flat N K) ψ) (t : (Flat N K).Transposes [1, 0] (Flat K N)) :
    addf (Host.dotGeneral (DotDims.plain M K N) none a (transpose (Flat K N) [1, 0] b t))
      (Host.dotGeneral (DotDims.plain M K N) none a' (transpose (Flat K N) [1, 0] b' t)) = both a a' b b' := by
  rw [host_bwd, host_bwd]
  funext j
  exact (both_eq a a' b b' j).symm

theorem host_wgt (a : FVec Ideal (Flat K M) φ) (b : FVec Ideal (Flat K N) ψ) (t : (Flat K M).Transposes [1, 0] (Flat M K)) :
    Host.dotGeneral (DotDims.plain M K N) none (transpose (Flat M K) [1, 0] a t) b = wgt a b := by
  rw [host_fwd]
  funext j
  exact Finset.sum_congr rfl fun k _ => congrArg (· * b (ix2 k (j 1))) (ValueIdx.transpose_ix2_apply a t (j 0) k)

end

/-- A reference has no semaphores, so they are at rest when it ends. -/
theorem quiet {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {P Q : Dev nD → PUnit × MemSt nD τ sig Val → Prop} (none : sig.nSem + sig.nDmaSem = 0)
    (run : θ_run defs p s fun r => ∀ c, P c r ∧ Q c r) : θ_run defs p s fun r => (∀ c, Q c r) ∧ r.2.sem = fun _ => 0 :=
  (θ_run defs _ _).mono (fun r h => ⟨fun c => (h c).2, sem_eq_zero_of_no_sems none r.2⟩) run

end Cert.Mats

end
-- ==== Proof.MatForward.lean ====
/-
  The matrix products of the forward pass: the array that each call writes is the product of its two arguments.
-/
module

public import proofs.«01_k».proof.Defs
public import proofs.«01_k».proof.Proof.MatMath
public import proofs.«01_k».proof.Proof.Gen.FwdQkvIdeal.Frame
public import proofs.«01_k».proof.Proof.Gen.FwdQkvReferenceIdeal.Run
public import proofs.«01_k».proof.Proof.Gen.FwdUIdeal.Frame
public import proofs.«01_k».proof.Proof.Gen.FwdUReferenceIdeal.Run
public import proofs.«01_k».proof.Proof.Gen.FwdGatesIdeal.Frame
public import proofs.«01_k».proof.Proof.Gen.FwdGatesReferenceIdeal.Run
public import proofs.«01_k».proof.Proof.Gen.FwdUpIdeal.Frame
public import proofs.«01_k».proof.Proof.Gen.FwdUpReferenceIdeal.Run
public import proofs.«01_k».proof.Proof.Gen.FwdGluIdeal.Frame
public import proofs.«01_k».proof.Proof.Gen.FwdGluReferenceIdeal.Run
public import proofs.«01_k».proof.Proof.Gen.FwdOutIdeal.Frame
public import proofs.«01_k».proof.Proof.Gen.FwdOutReferenceIdeal.Run
public import proofs.«01_k».proof.Proof.Gen.FwdFfnIdeal.Frame
public import proofs.«01_k».proof.Proof.Gen.FwdFfnReferenceIdeal.Run
public import proofs.«01_k».proof.Proof.Gen.FwdDownIdeal.Frame
public import proofs.«01_k».proof.Proof.Gen.FwdDownReferenceIdeal.Run

@[expose] public section

set_option maxRecDepth 16384

noncomputable section

open Idealize.ShloMosaic Idealize.ShloMosaic.TcCoe Idealize.SL.Sem
open Cert.Blocks

/-! ## A group's queries, keys and values -/

namespace Cert.Mats.FwdQkv

open Cert.FwdQkvIdeal Cert.FwdQkvIdeal.Gen

variable (m : (ℓ : Loc nD τ sig) → Buf (Elt Ideal) ℓ) (c : Dev nD)

abbrev a0 : (Flat 8192 2048).Idx → EReal := m ((c : Thread nD τ).loc main_arg0)
abbrev a1 : (Flat 2048 1536).Idx → EReal := m ((c : Thread nD τ).loc main_arg1)

/-- Where each block of a point lies. -/
theorem places : ∀ t : Fin cfg0.N, win0_0.index t = ![t.val / 12, t.val % 4]
    ∧ win0_1.index t = ![t.val % 4, t.val / 4 % 3]
    ∧ win0_2.index t = ![t.val / 12, t.val / 4 % 3] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdQkvIdeal_FwdQkvReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdQkvReferenceIdeal.defs _ _).mono (fun _ h c => ⟨(h c).1.trans ((host_fwd _ _).trans (congrArg₂ fwd (same c).1 (same c).2)), (h c).2⟩)
      (Cert.FwdQkvReferenceIdeal.Value.run m' g')⟩

theorem frame_reference : Cert.quiescent_FwdQkvReferenceIdeal := fun m ρ _ => quiet rfl (Cert.FwdQkvReferenceIdeal.Value.run m ρ)

end Cert.Mats.FwdQkv

/-! ## The input of the state space -/

namespace Cert.Mats.FwdU

open Cert.FwdUIdeal Cert.FwdUIdeal.Gen

variable (m : (ℓ : Loc nD τ sig) → Buf (Elt Ideal) ℓ) (c : Dev nD)

abbrev a0 : (Flat 8192 2048).Idx → EReal := m ((c : Thread nD τ).loc main_arg0)
abbrev a1 : (Flat 2048 1024).Idx → EReal := m ((c : Thread nD τ).loc main_arg1)

/-- Where each block of a point lies. -/
theorem places : ∀ t : Fin cfg0.N, win0_0.index t = ![t.val / 8, t.val % 4]
    ∧ win0_1.index t = ![t.val % 4, t.val / 4 % 2]
    ∧ win0_2.index t = ![t.val / 8, t.val / 4 % 2] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdUIdeal_FwdUReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdUReferenceIdeal.defs _ _).mono (fun _ h c => ⟨(h c).1.trans ((host_fwd _ _).trans (congrArg₂ fwd (same c).1 (same c).2)), (h c).2⟩)
      (Cert.FwdUReferenceIdeal.Value.run m' g')⟩

theorem frame_reference : Cert.quiescent_FwdUReferenceIdeal := fun m ρ _ => quiet rfl (Cert.FwdUReferenceIdeal.Value.run m ρ)

end Cert.Mats.FwdU

/-! ## The gates -/

namespace Cert.Mats.FwdGates

open Cert.FwdGatesIdeal Cert.FwdGatesIdeal.Gen

variable (m : (ℓ : Loc nD τ sig) → Buf (Elt Ideal) ℓ) (c : Dev nD)

abbrev a0 : (Flat 8192 2048).Idx → EReal := m ((c : Thread nD τ).loc main_arg0)
abbrev a1 : (Flat 2048 4096).Idx → EReal := m ((c : Thread nD τ).loc main_arg1)

/-- Where each block of a point lies. -/
theorem places : ∀ t : Fin cfg0.N, win0_0.index t = ![t.val / 32, t.val % 4]
    ∧ win0_1.index t = ![t.val % 4, t.val / 4 % 8]
    ∧ win0_2.index t = ![t.val / 32, t.val / 4 % 8] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdGatesIdeal_FwdGatesReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdGatesReferenceIdeal.defs _ _).mono (fun _ h c => ⟨(h c).1.trans ((host_fwd _ _).trans (congrArg₂ fwd (same c).1 (same c).2)), (h c).2⟩)
      (Cert.FwdGatesReferenceIdeal.Value.run m' g')⟩

theorem frame_reference : Cert.quiescent_FwdGatesReferenceIdeal := fun m ρ _ => quiet rfl (Cert.FwdGatesReferenceIdeal.Value.run m ρ)

end Cert.Mats.FwdGates

/-! ## The attention branch -/

namespace Cert.Mats.FwdUp

open Cert.FwdUpIdeal Cert.FwdUpIdeal.Gen

variable (m : (ℓ : Loc nD τ sig) → Buf (Elt Ideal) ℓ) (c : Dev nD)

abbrev a0 : (Flat 8192 512).Idx → EReal := m ((c : Thread nD τ).loc main_arg0)
abbrev a1 : (Flat 512 2048).Idx → EReal := m ((c : Thread nD τ).loc main_arg1)

/-- Where each block of a point lies. -/
theorem places : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  blk_simp
  refine (congrFun (after0_2 m c t) y).trans ?_
  unfold outsAt0
  frame_out
  refine (step_zeros shapeCasts_S512x512_S512x512 _ y).trans ((zero_add _).trans ((times_fwd _ _ _ y).trans ?_))
  exact Finset.sum_congr rfl fun k _ => congrArg₂ (· * ·) (by blk_point [iblk, V, places t]) (by blk_point [iblk, V, places t])

theorem algebraic : Cert.algebraic_FwdUpIdeal_FwdUpReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdUpReferenceIdeal.defs _ _).mono (fun _ h c => ⟨(h c).1.trans ((host_fwd _ _).trans (congrArg₂ fwd (same c).1 (same c).2)), (h c).2⟩)
      (Cert.FwdUpReferenceIdeal.Value.run m' g')⟩

theorem frame_reference : Cert.quiescent_FwdUpReferenceIdeal := fun m ρ _ => quiet rfl (Cert.FwdUpReferenceIdeal.Value.run m ρ)

end Cert.Mats.FwdUp

/-! ## The value and the gate of the state-space branch -/

namespace Cert.Mats.FwdGlu

open Cert.FwdGluIdeal Cert.FwdGluIdeal.Gen

variable (m : (ℓ : Loc nD τ sig) → Buf (Elt Ideal) ℓ) (c : Dev nD)

abbrev a0 : (Flat 8192 1024).Idx → EReal := m ((c : Thread nD τ).loc main_arg0)
abbrev a1 : (Flat 1024 2048).Idx → EReal := m ((c : Thread nD τ).loc main_arg1)

/-- Where each block of a point lies. -/
theorem places : ∀ t : Fin cfg0.N, win0_0.index t = ![t.val / 8, t.val % 2]
    ∧ win0_1.index t = ![t.val % 2, t.val / 2 % 4]
    ∧ win0_2.index t = ![t.val / 8, t.val / 2 % 4] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 2 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by rw [outsAt0_B m c t h (by omega)]; frame_out; rw [read_unread_whole]; rfl)
    (fun t h => by rw [outsAt0_B m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdGluIdeal_FwdGluReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdGluReferenceIdeal.defs _ _).mono (fun _ h c => ⟨(h c).1.trans ((host_fwd _ _).trans (congrArg₂ fwd (same c).1 (same c).2)), (h c).2⟩)
      (Cert.FwdGluReferenceIdeal.Value.run m' g')⟩

theorem frame_reference : Cert.quiescent_FwdGluReferenceIdeal := fun m ρ _ => quiet rfl (Cert.FwdGluReferenceIdeal.Value.run m ρ)

end Cert.Mats.FwdGlu

/-! ## The mixing output -/

namespace Cert.Mats.FwdOut

open Cert.FwdOutIdeal Cert.FwdOutIdeal.Gen

variable (m : (ℓ : Loc nD τ sig) → Buf (Elt Ideal) ℓ) (c : Dev nD)

abbrev a0 : (Flat 8192 2048).Idx → EReal := m ((c : Thread nD τ).loc main_arg0)
abbrev a1 : (Flat 2048 2048).Idx → EReal := m ((c : Thread nD τ).loc main_arg1)

/-- Where each block of a point lies. -/
theorem places : ∀ t : Fin cfg0.N, win0_0.index t = ![t.val / 16, t.val % 4]
    ∧ win0_1.index t = ![t.val % 4, t.val / 4 % 4]
    ∧ win0_2.index t = ![t.val / 16, t.val / 4 % 4] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdOutIdeal_FwdOutReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdOutReferenceIdeal.defs _ _).mono (fun _ h c => ⟨(h c).1.trans ((host_fwd _ _).trans (congrArg₂ fwd (same c).1 (same c).2)), (h c).2⟩)
      (Cert.FwdOutReferenceIdeal.Value.run m' g')⟩

theorem frame_reference : Cert.quiescent_FwdOutReferenceIdeal := fun m ρ _ => quiet rfl (Cert.FwdOutReferenceIdeal.Value.run m ρ)

end Cert.Mats.FwdOut

/-! ## The gate and the value of the feed-forward layer -/

namespace Cert.Mats.FwdFfn

open Cert.FwdFfnIdeal Cert.FwdFfnIdeal.Gen

variable (m : (ℓ : Loc nD τ sig) → Buf (Elt Ideal) ℓ) (c : Dev nD)

abbrev a0 : (Flat 8192 2048).Idx → EReal := m ((c : Thread nD τ).loc main_arg0)
abbrev a1 : (Flat 2048 5632).Idx → EReal := m ((c : Thread nD τ).loc main_arg1)

/-- Where each block of a point lies. -/
theorem places : ∀ t : Fin cfg0.N, win0_0.index t = ![t.val / 44, t.val % 4]
    ∧ win0_1.index t = ![t.val % 4, t.val / 4 % 11]
    ∧ win0_2.index t = ![t.val / 44, t.val / 4 % 11] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdFfnIdeal_FwdFfnReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdFfnReferenceIdeal.defs _ _).mono (fun _ h c => ⟨(h c).1.trans ((host_fwd _ _).trans (congrArg₂ fwd (same c).1 (same c).2)), (h c).2⟩)
      (Cert.FwdFfnReferenceIdeal.Value.run m' g')⟩

theorem frame_reference : Cert.quiescent_FwdFfnReferenceIdeal := fun m ρ _ => quiet rfl (Cert.FwdFfnReferenceIdeal.Value.run m ρ)

end Cert.Mats.FwdFfn

/-! ## The feed-forward output -/

namespace Cert.Mats.FwdDown

open Cert.FwdDownIdeal Cert.FwdDownIdeal.Gen

variable (m : (ℓ : Loc nD τ sig) → Buf (Elt Ideal) ℓ) (c : Dev nD)

abbrev a0 : (Flat 8192 5632).Idx → EReal := m ((c : Thread nD τ).loc main_arg0)
abbrev a1 : (Flat 5632 2048).Idx → EReal := m ((c : Thread nD τ).loc main_arg1)

/-- Where each block of a point lies. -/
theorem places : ∀ t : Fin cfg0.N, win0_0.index t = ![t.val / 44, t.val % 11]
    ∧ win0_1.index t = ![t.val % 11, t.val / 11 % 4]
    ∧ win0_2.index t = ![t.val / 44, t.val / 11 % 4] :=
  (by decide +kernel : ∀ t : Fin grid0.N, _)

theorem array : (dats m 0 c).arrAt 2 cfg0.N = fwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 11 rfl
    (fun t => times (dimsFwd dot_S512x512_S512x512_S512x512_1_0_0_1_n_n_wf) (iblk m c 0 t) (iblk m c 1 t)) _ _ (fun t j => times_fwd _ _ _ j)
    (fun t h => by rw [outsAt0_A m c t h (by omega)]; frame_out; rfl)
    (fun t h => by
      by_cases h1 : t.val % 11 = 10
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_FwdDownIdeal_FwdDownReferenceIdeal := fun m g m' g' _ same =>
  ⟨fun c => fwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.FwdDownReferenceIdeal.defs _ _).mono (fun _ h c => ⟨(h c).1.trans ((host_fwd _ _).trans (congrArg₂ fwd (same c).1 (same c).2)), (h c).2⟩)
      (Cert.FwdDownReferenceIdeal.Value.run m' g')⟩

theorem frame_reference : Cert.quiescent_FwdDownReferenceIdeal := fun m ρ _ => quiet rfl (Cert.FwdDownReferenceIdeal.Value.run m ρ)

end Cert.Mats.FwdDown

end
-- ==== Proof.MatBackward.lean ====
/-
  The slopes of the matrix products in their left factors: each call writes the product of the slope and the transposed weight, and
  two of them the sum of two such products.
-/
module

public import proofs.«01_k».proof.Defs
public import proofs.«01_k».proof.Proof.MatMath
public import proofs.«01_k».proof.Proof.Gen.BwdDownIdeal.Frame
public import proofs.«01_k».proof.Proof.Gen.BwdDownReferenceIdeal.Run
public import proofs.«01_k».proof.Proof.Gen.BwdOutIdeal.Frame
public import proofs.«01_k».proof.Proof.Gen.BwdOutReferenceIdeal.Run
public import proofs.«01_k».proof.Proof.Gen.BwdUpIdeal.Frame
public import proofs.«01_k».proof.Proof.Gen.BwdUpReferenceIdeal.Run
public import proofs.«01_k».proof.Proof.Gen.BwdQkvIdeal.Frame
public import proofs.«01_k».proof.Proof.Gen.BwdQkvReferenceIdeal.Run
public import proofs.«01_k».proof.Proof.Gen.BwdUIdeal.Frame
public import proofs.«01_k».proof.Proof.Gen.BwdUReferenceIdeal.Run
public import proofs.«01_k».proof.Proof.Gen.BwdGatesIdeal.Frame
public import proofs.«01_k».proof.Proof.Gen.BwdGatesReferenceIdeal.Run
public import proofs.«01_k».proof.Proof.Gen.BwdFfnIdeal.Frame
public import proofs.«01_k».proof.Proof.Gen.BwdFfnReferenceIdeal.Run
public import proofs.«01_k».proof.Proof.Gen.BwdGluIdeal.Frame
public import proofs.«01_k».proof.Proof.Gen.BwdGluReferenceIdeal.Run

@[expose] public section

set_option maxRecDepth 16384

noncomputable section

open Idealize.ShloMosaic Idealize.ShloMosaic.TcCoe Idealize.SL.Sem
open Cert.Blocks

/-! ## The slope at the feed-forward layer's inner values -/

namespace Cert.Mats.BwdDown

open Cert.BwdDownIdeal Cert.BwdDownIdeal.Gen

variable (m : (ℓ : Loc nD τ sig) → Buf (Elt Ideal) ℓ) (c : Dev nD)

abbrev a0 : (Flat 8192 2048).Idx → EReal := m ((c : Thread nD τ).loc main_arg0)
abbrev a1 : (Flat 5632 2048).Idx → EReal := m ((c : Thread nD τ).loc main_arg1)

/-- Where each block of a point lies. -/
theorem places : ∀ t : Fin cfg0.N, win0_0.index t = ![t.val / 44, t.val % 4]
    ∧ win0_1.index t = ![t.val / 4 % 11, t.val % 4]
    ∧ win0_2.index t = ![t.val / 44, t.val / 4 % 11] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsBwd dot_S512x512_S512x512_S512x512_1_1_0_0_n_n_wf) (iblk m c 0 t) (iblk m c 1 t)) _ _ (fun t j => times_bwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdDownIdeal_BwdDownReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdDownReferenceIdeal.defs _ _).mono (fun _ h c => ⟨(h c).1.trans ((host_bwd _ _ _).trans (congrArg₂ bwd (same c).1 (same c).2)), (h c).2⟩)
      (Cert.BwdDownReferenceIdeal.Value.run m' g')⟩

theorem frame_reference : Cert.quiescent_BwdDownReferenceIdeal := fun m ρ _ => quiet rfl (Cert.BwdDownReferenceIdeal.Value.run m ρ)

end Cert.Mats.BwdDown

/-! ## The slope at the merged branches -/

namespace Cert.Mats.BwdOut

open Cert.BwdOutIdeal Cert.BwdOutIdeal.Gen

variable (m : (ℓ : Loc nD τ sig) → Buf (Elt Ideal) ℓ) (c : Dev nD)

abbrev a0 : (Flat 8192 2048).Idx → EReal := m ((c : Thread nD τ).loc main_arg0)
abbrev a1 : (Flat 2048 2048).Idx → EReal := m ((c : Thread nD τ).loc main_arg1)

/-- Where each block of a point lies. -/
theorem places : ∀ t : Fin cfg0.N, win0_0.index t = ![t.val / 16, t.val % 4]
    ∧ win0_1.index t = ![t.val / 4 % 4, t.val % 4]
    ∧ win0_2.index t = ![t.val / 16, t.val / 4 % 4] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsBwd dot_S512x512_S512x512_S512x512_1_1_0_0_n_n_wf) (iblk m c 0 t) (iblk m c 1 t)) _ _ (fun t j => times_bwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdOutIdeal_BwdOutReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdOutReferenceIdeal.defs _ _).mono (fun _ h c => ⟨(h c).1.trans ((host_bwd _ _ _).trans (congrArg₂ bwd (same c).1 (same c).2)), (h c).2⟩)
      (Cert.BwdOutReferenceIdeal.Value.run m' g')⟩

theorem frame_reference : Cert.quiescent_BwdOutReferenceIdeal := fun m ρ _ => quiet rfl (Cert.BwdOutReferenceIdeal.Value.run m ρ)

end Cert.Mats.BwdOut

/-! ## The slope at the attention's output -/

namespace Cert.Mats.BwdUp

open Cert.BwdUpIdeal Cert.BwdUpIdeal.Gen

variable (m : (ℓ : Loc nD τ sig) → Buf (Elt Ideal) ℓ) (c : Dev nD)

abbrev a0 : (Flat 8192 2048).Idx → EReal := m ((c : Thread nD τ).loc main_arg0)
abbrev a1 : (Flat 512 2048).Idx → EReal := m ((c : Thread nD τ).loc main_arg1)

/-- Where each block of a point lies. -/
theorem places : ∀ t : Fin cfg0.N, win0_0.index t = ![t.val / 4, t.val % 4]
    ∧ win0_1.index t = ![0, t.val % 4]
    ∧ win0_2.index t = ![t.val / 4, 0] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 4 rfl
    (fun t => times (dimsBwd dot_S512x512_S512x512_S512x512_1_1_0_0_n_n_wf) (iblk m c 0 t) (iblk m c 1 t)) _ _ (fun t j => times_bwd _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdUpIdeal_BwdUpReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdUpReferenceIdeal.defs _ _).mono (fun _ h c => ⟨(h c).1.trans ((host_bwd _ _ _).trans (congrArg₂ bwd (same c).1 (same c).2)), (h c).2⟩)
      (Cert.BwdUpReferenceIdeal.Value.run m' g')⟩

theorem frame_reference : Cert.quiescent_BwdUpReferenceIdeal := fun m ρ _ => quiet rfl (Cert.BwdUpReferenceIdeal.Value.run m ρ)

end Cert.Mats.BwdUp

/-! ## The slope at the input, from a group's queries, keys and values -/

namespace Cert.Mats.BwdQkv

open Cert.BwdQkvIdeal Cert.BwdQkvIdeal.Gen

variable (m : (ℓ : Loc nD τ sig) → Buf (Elt Ideal) ℓ) (c : Dev nD)

abbrev a0 : (Flat 8192 1536).Idx → EReal := m ((c : Thread nD τ).loc main_arg0)
abbrev a1 : (Flat 2048 1536).Idx → EReal := m ((c : Thread nD τ).loc main_arg1)

/-- Where each block of a point lies. -/
theorem places : ∀ t : Fin cfg0.N, win0_0.index t = ![t.val / 12, t.val % 3]
    ∧ win0_1.index t = ![t.val / 3 % 4, t.val % 3]
    ∧ win0_2.index t = ![t.val / 12, t.val / 3 % 4] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 3 rfl
    (fun t => times (dimsBwd dot_S512x512_S512x512_S512x512_1_1_0_0_n_n_wf) (iblk m c 0 t) (iblk m c 1 t)) _ _ (fun t j => times_bwd _ _ _ j)
    (fun t h => by rw [outsAt0_A m c t h (by omega)]; frame_out; rfl)
    (fun t h => by
      by_cases h1 : t.val % 3 = 2
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdQkvIdeal_BwdQkvReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdQkvReferenceIdeal.defs _ _).mono (fun _ h c => ⟨(h c).1.trans ((host_bwd _ _ _).trans (congrArg₂ bwd (same c).1 (same c).2)), (h c).2⟩)
      (Cert.BwdQkvReferenceIdeal.Value.run m' g')⟩

theorem frame_reference : Cert.quiescent_BwdQkvReferenceIdeal := fun m ρ _ => quiet rfl (Cert.BwdQkvReferenceIdeal.Value.run m ρ)

end Cert.Mats.BwdQkv

/-! ## The slope at the input, from the state space -/

namespace Cert.Mats.BwdU

open Cert.BwdUIdeal Cert.BwdUIdeal.Gen

variable (m : (ℓ : Loc nD τ sig) → Buf (Elt Ideal) ℓ) (c : Dev nD)

abbrev a0 : (Flat 8192 1024).Idx → EReal := m ((c : Thread nD τ).loc main_arg0)
abbrev a1 : (Flat 2048 1024).Idx → EReal := m ((c : Thread nD τ).loc main_arg1)

/-- Where each block of a point lies. -/
theorem places : ∀ t : Fin cfg0.N, win0_0.index t = ![t.val / 8, t.val % 2]
    ∧ win0_1.index t = ![t.val / 2 % 4, t.val % 2]
    ∧ win0_2.index t = ![t.val / 8, t.val / 2 % 4] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 2 rfl
    (fun t => times (dimsBwd dot_S512x512_S512x512_S512x512_1_1_0_0_n_n_wf) (truncf .bf16 (iblk m c 0 t) bitsLt_bf16_f32) (iblk m c 1 t)) _ _ (fun t j => times_bwd _ _ _ j)
    (fun t h => by rw [outsAt0_A m c t h (by omega)]; frame_out; rfl)
    (fun t h => by rw [outsAt0_B m c t h (by omega)]; frame_out; rw [read_unread_whole]; rfl)
    (fun t h => by rw [outsAt0_B m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdUIdeal_BwdUReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdUReferenceIdeal.defs _ _).mono (fun _ h c => ⟨(h c).1.trans ((host_bwd (φ := .f32) _ _ _).trans (congrArg₂ bwd (same c).1 (same c).2)), (h c).2⟩)
      (Cert.BwdUReferenceIdeal.Value.run m' g')⟩

theorem frame_reference : Cert.quiescent_BwdUReferenceIdeal := fun m ρ _ => quiet rfl (Cert.BwdUReferenceIdeal.Value.run m ρ)

end Cert.Mats.BwdU

/-! ## The slope at the input, from the gates -/

namespace Cert.Mats.BwdGates

open Cert.BwdGatesIdeal Cert.BwdGatesIdeal.Gen

variable (m : (ℓ : Loc nD τ sig) → Buf (Elt Ideal) ℓ) (c : Dev nD)

abbrev a0 : (Flat 8192 4096).Idx → EReal := m ((c : Thread nD τ).loc main_arg0)
abbrev a1 : (Flat 2048 4096).Idx → EReal := m ((c : Thread nD τ).loc main_arg1)

/-- Where each block of a point lies. -/
theorem places : ∀ t : Fin cfg0.N, win0_0.index t = ![t.val / 32, t.val % 8]
    ∧ win0_1.index t = ![t.val / 8 % 4, t.val % 8]
    ∧ win0_2.index t = ![t.val / 32, t.val / 8 % 4] :=
  (by decide +kernel : ∀ t : Fin grid0.N, _)

theorem array : (dats m 0 c).arrAt 2 cfg0.N = bwd (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 8 rfl
    (fun t => times (dimsBwd dot_S512x512_S512x512_S512x512_1_1_0_0_n_n_wf) (iblk m c 0 t) (iblk m c 1 t)) _ _ (fun t j => times_bwd _ _ _ j)
    (fun t h => by rw [outsAt0_A m c t h (by omega)]; frame_out; rfl)
    (fun t h => by
      by_cases h1 : t.val % 8 = 7
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_BwdGatesIdeal_BwdGatesReferenceIdeal := fun m g m' g' _ same =>
  ⟨fun c => bwd (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.BwdGatesReferenceIdeal.defs _ _).mono (fun _ h c => ⟨(h c).1.trans ((host_bwd _ _ _).trans (congrArg₂ bwd (same c).1 (same c).2)), (h c).2⟩)
      (Cert.BwdGatesReferenceIdeal.Value.run m' g')⟩

theorem frame_reference : Cert.quiescent_BwdGatesReferenceIdeal := fun m ρ _ => quiet rfl (Cert.BwdGatesReferenceIdeal.Value.run m ρ)

end Cert.Mats.BwdGates

/-! ## The slope at the feed-forward layer's input -/

namespace Cert.Mats.BwdFfn

open Cert.BwdFfnIdeal Cert.BwdFfnIdeal.Gen

variable (m : (ℓ : Loc nD τ sig) → Buf (Elt Ideal) ℓ) (c : Dev nD)

abbrev a0 : (Flat 8192 5632).Idx → EReal := m ((c : Thread nD τ).loc main_arg0)
abbrev a1 : (Flat 2048 5632).Idx → EReal := m ((c : Thread nD τ).loc main_arg1)
abbrev a2 : (Flat 8192 5632).Idx → EReal := m ((c : Thread nD τ).loc main_arg2)
abbrev a3 : (Flat 2048 5632).Idx → EReal := m ((c : Thread nD τ).loc main_arg3)

/-- Where each block of a point lies. -/
theorem places : ∀ t : Fin cfg0.N, win0_0.index t = ![t.val / 44, t.val % 11]
    ∧ win0_1.index t = ![t.val / 11 % 4, t.val % 11]
    ∧ win0_2.index t = ![t.val / 44, t.val % 11]
    ∧ win0_3.index t = ![t.val / 11 % 4, t.val % 11]
    ∧ win0_4.index t = ![t.val / 44, t.val / 11 % 4] :=
  (by decide +kernel : ∀ t : Fin grid0.N, _)

theorem array : (dats m 0 c).arrAt 4 cfg0.N = both (a0 m c) (a2 m c) (a1 m c) (a3 m c) := by
  refine (dats m 0 c).arrAt_eq_of_covers 4 _ (by decide +kernel) fun t hf y => ?_
  have h := (flush0_4 t).mp hf
  blk_simp
  refine (congrFun (after0_4 m c t) y).trans (block shapeCasts_S512x512_S512x512 (fun n h => outsAt0 m c n h) 11 rfl
    (fun t => addf (times (dimsBwd dot_S512x512_S512x512_S512x512_1_1_0_0_n_n_wf) (iblk m c 0 t) (iblk m c 1 t)) (times (dimsBwd dot_S512x512_S512x512_S512x512_1_1_0_0_n_n_wf) (iblk m c 2 t) (iblk m c 3 t))) _ _ (fun t j => times_both _ _ _ _ _ j)
    (fun t h => by rw [outsAt0_A m c t h (by omega)]; frame_out; rfl)
    (fun t h => by
      by_cases h1 : t.val % 11 = 10
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  refine congrArg₂ (· + ·) (congrArg₂ (· * ·) ?_ ?_) (congrArg₂ (· * ·) ?_ ?_)
  all_goals blk_point [iblk, V, places t, places ⟨_, Pipeline.run_point_lt_of_flush t h s⟩]

theorem algebraic : Cert.algebraic_BwdFfnIdeal_BwdFfnReferenceIdeal := fun m g m' g' _ same =>
  ⟨fun c => both (a0 m c) (a2 m c) (a1 m c) (a3 m c),
    (θ_run defs _ _).mono (fun _ h c => ⟨((h c).1 4).trans (array m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _)⟩) (run_main m g),
    (θ_run Cert.BwdFfnReferenceIdeal.defs _ _).mono (fun _ h c => ⟨(h c).1.trans ((host_both _ _ _ _ _).trans (by rw [(same c).1, (same c).2.1, (same c).2.2.1, (same c).2.2.2]; rfl)), (h c).2⟩)
      (Cert.BwdFfnReferenceIdeal.Value.run m' g')⟩

theorem frame_reference : Cert.quiescent_BwdFfnReferenceIdeal := fun m ρ _ => quiet rfl (Cert.BwdFfnReferenceIdeal.Value.run m ρ)

end Cert.Mats.BwdFfn

/-! ## The slope at the state space's output -/

namespace Cert.Mats.BwdGlu

open Cert.BwdGluIdeal Cert.BwdGluIdeal.Gen

variable (m : (ℓ : Loc nD τ sig) → Buf (Elt Ideal) ℓ) (c : Dev nD)

abbrev a0 : (Flat 8192 2048).Idx → EReal := m ((c : Thread nD τ).loc main_arg0)
abbrev a1 : (Flat 1024 2048).Idx → EReal := m ((c : Thread nD τ).loc main_arg1)
abbrev a2 : (Flat 8192 2048).Idx → EReal := m ((c : Thread nD τ).loc main_arg2)
abbrev a3 : (Flat 1024 2048).Idx → EReal := m ((c : Thread nD τ).loc main_arg3)

/-- Where each block of a point lies. -/
theorem places : ∀ t : Fin cfg0.N, win0_0.index t = ![t.val / 8, t.val % 4]
    ∧ win0_1.index t = ![t.val / 4 % 2, t.val % 4]
    ∧ win0_2.index t = ![t.val / 8, t.val % 4]
    ∧ win0_3.index t = ![t.val / 4 % 2, t.val % 4]
    ∧ win0_4.index t = ![t.val / 8, t.val / 4 % 2] :=
  (by decide +kernel : ∀ t : Fin grid0.N, _)

theorem array : (dats m 0 c).arrAt 4 cfg0.N = both (a0 m c) (a2 m c) (a1 m c) (a3 m c) := by
  refine (dats m 0 c).arrAt_eq_of_covers 4 _ (by decide +kernel) fun t hf y => ?_
  have h := (flush0_4 t).mp hf
  blk_simp
  refine (congrFun (after0_4 m c t) y).trans (block shapeCasts_S512x512_S512x512 (fun n h => outsAt0 m c n h) 4 rfl
    (fun t => addf (times (dimsBwd dot_S512x512_S512x512_S512x512_1_1_0_0_n_n_wf) (iblk m c 0 t) (iblk m c 1 t)) (times (dimsBwd dot_S512x512_S512x512_S512x512_1_1_0_0_n_n_wf) (iblk m c 2 t) (iblk m c 3 t))) _ _ (fun t j => times_both _ _ _ _ _ j)
    (fun t h => by rw [outsAt0_A m c t h (by omega)]; frame_out; rfl)
    (fun t h => by
      by_cases h1 : t.val % 4 = 3
      · rw [outsAt0_C m c t h h1]; frame_out; rw [read_unread_whole]; rfl
      · rw [outsAt0_B m c t h h1]; frame_out; rw [read_unread_whole]; rfl)
    (fun t h => by rw [outsAt0_C m c t (by omega) h]; frame_out) t h y fun s k hl => ?_)
  refine congrArg₂ (· + ·) (congrArg₂ (· * ·) ?_ ?_) (congrArg₂ (· * ·) ?_ ?_)
  all_goals blk_point [iblk, V, places t, places ⟨_, Pipeline.run_point_lt_of_flush t h s⟩]

theorem algebraic : Cert.algebraic_BwdGluIdeal_BwdGluReferenceIdeal := fun m g m' g' _ same =>
  ⟨fun c => both (a0 m c) (a2 m c) (a1 m c) (a3 m c),
    (θ_run defs _ _).mono (fun _ h c => ⟨((h c).1 4).trans (array m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _)⟩) (run_main m g),
    (θ_run Cert.BwdGluReferenceIdeal.defs _ _).mono (fun _ h c => ⟨(h c).1.trans ((host_both _ _ _ _ _).trans (by rw [(same c).1, (same c).2.1, (same c).2.2.1, (same c).2.2.2]; rfl)), (h c).2⟩)
      (Cert.BwdGluReferenceIdeal.Value.run m' g')⟩

theorem frame_reference : Cert.quiescent_BwdGluReferenceIdeal := fun m ρ _ => quiet rfl (Cert.BwdGluReferenceIdeal.Value.run m ρ)

end Cert.Mats.BwdGlu

end
-- ==== Proof.MatWeights.lean ====
/-
  The slopes of the matrix products in the weights: each call writes the product of the transposed left factor and the slope.
-/
module

public import proofs.«01_k».proof.Defs
public import proofs.«01_k».proof.Proof.MatMath
public import proofs.«01_k».proof.Proof.Gen.DwDownIdeal.Frame
public import proofs.«01_k».proof.Proof.Gen.DwDownReferenceIdeal.Run
public import proofs.«01_k».proof.Proof.Gen.DwFfnIdeal.Frame
public import proofs.«01_k».proof.Proof.Gen.DwFfnReferenceIdeal.Run
public import proofs.«01_k».proof.Proof.Gen.DwOutIdeal.Frame
public import proofs.«01_k».proof.Proof.Gen.DwOutReferenceIdeal.Run
public import proofs.«01_k».proof.Proof.Gen.DwUpIdeal.Frame
public import proofs.«01_k».proof.Proof.Gen.DwUpReferenceIdeal.Run
public import proofs.«01_k».proof.Proof.Gen.DwGluIdeal.Frame
public import proofs.«01_k».proof.Proof.Gen.DwGluReferenceIdeal.Run
public import proofs.«01_k».proof.Proof.Gen.DwQkvIdeal.Frame
public import proofs.«01_k».proof.Proof.Gen.DwQkvReferenceIdeal.Run
public import proofs.«01_k».proof.Proof.Gen.DwUIdeal.Frame
public import proofs.«01_k».proof.Proof.Gen.DwUReferenceIdeal.Run
public import proofs.«01_k».proof.Proof.Gen.DwGatesIdeal.Frame
public import proofs.«01_k».proof.Proof.Gen.DwGatesReferenceIdeal.Run

@[expose] public section

set_option maxRecDepth 16384

noncomputable section

open Idealize.ShloMosaic Idealize.ShloMosaic.TcCoe Idealize.SL.Sem
open Cert.Blocks

/-! ## The feed-forward down matrix -/

namespace Cert.Mats.DwDown

open Cert.DwDownIdeal Cert.DwDownIdeal.Gen

variable (m : (ℓ : Loc nD τ sig) → Buf (Elt Ideal) ℓ) (c : Dev nD)

abbrev a0 : (Flat 8192 5632).Idx → EReal := m ((c : Thread nD τ).loc main_arg0)
abbrev a1 : (Flat 8192 2048).Idx → EReal := m ((c : Thread nD τ).loc main_arg1)

/-- Where each block of a point lies. -/
theorem places : ∀ t : Fin cfg0.N, win0_0.index t = ![t.val % 16, t.val / 64]
    ∧ win0_1.index t = ![t.val % 16, t.val / 16 % 4]
    ∧ win0_2.index t = ![t.val / 64, t.val / 16 % 4] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwDownIdeal_DwDownReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwDownReferenceIdeal.defs _ _).mono (fun _ h c => ⟨(h c).1.trans ((host_wgt _ _ _).trans (congrArg₂ wgt (same c).1 (same c).2)), (h c).2⟩)
      (Cert.DwDownReferenceIdeal.Value.run m' g')⟩

theorem frame_reference : Cert.quiescent_DwDownReferenceIdeal := fun m ρ _ => quiet rfl (Cert.DwDownReferenceIdeal.Value.run m ρ)

end Cert.Mats.DwDown

/-! ## The feed-forward gate or up matrix -/

namespace Cert.Mats.DwFfn

open Cert.DwFfnIdeal Cert.DwFfnIdeal.Gen

variable (m : (ℓ : Loc nD τ sig) → Buf (Elt Ideal) ℓ) (c : Dev nD)

abbrev a0 : (Flat 8192 2048).Idx → EReal := m ((c : Thread nD τ).loc main_arg0)
abbrev a1 : (Flat 8192 5632).Idx → EReal := m ((c : Thread nD τ).loc main_arg1)

/-- Where each block of a point lies. -/
theorem places : ∀ t : Fin cfg0.N, win0_0.index t = ![t.val % 16, t.val / 176]
    ∧ win0_1.index t = ![t.val % 16, t.val / 16 % 11]
    ∧ win0_2.index t = ![t.val / 176, t.val / 16 % 11] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwFfnIdeal_DwFfnReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwFfnReferenceIdeal.defs _ _).mono (fun _ h c => ⟨(h c).1.trans ((host_wgt _ _ _).trans (congrArg₂ wgt (same c).1 (same c).2)), (h c).2⟩)
      (Cert.DwFfnReferenceIdeal.Value.run m' g')⟩

theorem frame_reference : Cert.quiescent_DwFfnReferenceIdeal := fun m ρ _ => quiet rfl (Cert.DwFfnReferenceIdeal.Value.run m ρ)

end Cert.Mats.DwFfn

/-! ## The mixing output matrix -/

namespace Cert.Mats.DwOut

open Cert.DwOutIdeal Cert.DwOutIdeal.Gen

variable (m : (ℓ : Loc nD τ sig) → Buf (Elt Ideal) ℓ) (c : Dev nD)

abbrev a0 : (Flat 8192 2048).Idx → EReal := m ((c : Thread nD τ).loc main_arg0)
abbrev a1 : (Flat 8192 2048).Idx → EReal := m ((c : Thread nD τ).loc main_arg1)

/-- Where each block of a point lies. -/
theorem places : ∀ t : Fin cfg0.N, win0_0.index t = ![t.val % 16, t.val / 64]
    ∧ win0_1.index t = ![t.val % 16, t.val / 16 % 4]
    ∧ win0_2.index t = ![t.val / 64, t.val / 16 % 4] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwOutIdeal_DwOutReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwOutReferenceIdeal.defs _ _).mono (fun _ h c => ⟨(h c).1.trans ((host_wgt _ _ _).trans (congrArg₂ wgt (same c).1 (same c).2)), (h c).2⟩)
      (Cert.DwOutReferenceIdeal.Value.run m' g')⟩

theorem frame_reference : Cert.quiescent_DwOutReferenceIdeal := fun m ρ _ => quiet rfl (Cert.DwOutReferenceIdeal.Value.run m ρ)

end Cert.Mats.DwOut

/-! ## The attention up matrix -/

namespace Cert.Mats.DwUp

open Cert.DwUpIdeal Cert.DwUpIdeal.Gen

variable (m : (ℓ : Loc nD τ sig) → Buf (Elt Ideal) ℓ) (c : Dev nD)

abbrev a0 : (Flat 8192 512).Idx → EReal := m ((c : Thread nD τ).loc main_arg0)
abbrev a1 : (Flat 8192 2048).Idx → EReal := m ((c : Thread nD τ).loc main_arg1)

/-- Where each block of a point lies. -/
theorem places : ∀ t : Fin cfg0.N, win0_0.index t = ![t.val % 16, 0]
    ∧ win0_1.index t = ![t.val % 16, t.val / 16 % 4]
    ∧ win0_2.index t = ![0, t.val / 16 % 4] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwUpIdeal_DwUpReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwUpReferenceIdeal.defs _ _).mono (fun _ h c => ⟨(h c).1.trans ((host_wgt _ _ _).trans (congrArg₂ wgt (same c).1 (same c).2)), (h c).2⟩)
      (Cert.DwUpReferenceIdeal.Value.run m' g')⟩

theorem frame_reference : Cert.quiescent_DwUpReferenceIdeal := fun m ρ _ => quiet rfl (Cert.DwUpReferenceIdeal.Value.run m ρ)

end Cert.Mats.DwUp

/-! ## The state-space branch's value or gate matrix -/

namespace Cert.Mats.DwGlu

open Cert.DwGluIdeal Cert.DwGluIdeal.Gen

variable (m : (ℓ : Loc nD τ sig) → Buf (Elt Ideal) ℓ) (c : Dev nD)

abbrev a0 : (Flat 8192 1024).Idx → EReal := m ((c : Thread nD τ).loc main_arg0)
abbrev a1 : (Flat 8192 2048).Idx → EReal := m ((c : Thread nD τ).loc main_arg1)

/-- Where each block of a point lies. -/
theorem places : ∀ t : Fin cfg0.N, win0_0.index t = ![t.val % 16, t.val / 64]
    ∧ win0_1.index t = ![t.val % 16, t.val / 16 % 4]
    ∧ win0_2.index t = ![t.val / 64, t.val / 16 % 4] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwGluIdeal_DwGluReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwGluReferenceIdeal.defs _ _).mono (fun _ h c => ⟨(h c).1.trans ((host_wgt _ _ _).trans (congrArg₂ wgt (same c).1 (same c).2)), (h c).2⟩)
      (Cert.DwGluReferenceIdeal.Value.run m' g')⟩

theorem frame_reference : Cert.quiescent_DwGluReferenceIdeal := fun m ρ _ => quiet rfl (Cert.DwGluReferenceIdeal.Value.run m ρ)

end Cert.Mats.DwGlu

/-! ## A group's part of the input matrix -/

namespace Cert.Mats.DwQkv

open Cert.DwQkvIdeal Cert.DwQkvIdeal.Gen

variable (m : (ℓ : Loc nD τ sig) → Buf (Elt Ideal) ℓ) (c : Dev nD)

abbrev a0 : (Flat 8192 2048).Idx → EReal := m ((c : Thread nD τ).loc main_arg0)
abbrev a1 : (Flat 8192 1536).Idx → EReal := m ((c : Thread nD τ).loc main_arg1)

/-- Where each block of a point lies. -/
theorem places : ∀ t : Fin cfg0.N, win0_0.index t = ![t.val % 16, t.val / 48]
    ∧ win0_1.index t = ![t.val % 16, t.val / 16 % 3]
    ∧ win0_2.index t = ![t.val / 48, t.val / 16 % 3] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwQkvIdeal_DwQkvReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwQkvReferenceIdeal.defs _ _).mono (fun _ h c => ⟨(h c).1.trans ((host_wgt _ _ _).trans (congrArg₂ wgt (same c).1 (same c).2)), (h c).2⟩)
      (Cert.DwQkvReferenceIdeal.Value.run m' g')⟩

theorem frame_reference : Cert.quiescent_DwQkvReferenceIdeal := fun m ρ _ => quiet rfl (Cert.DwQkvReferenceIdeal.Value.run m ρ)

end Cert.Mats.DwQkv

/-! ## The state space's part of the input matrix -/

namespace Cert.Mats.DwU

open Cert.DwUIdeal Cert.DwUIdeal.Gen

variable (m : (ℓ : Loc nD τ sig) → Buf (Elt Ideal) ℓ) (c : Dev nD)

abbrev a0 : (Flat 8192 2048).Idx → EReal := m ((c : Thread nD τ).loc main_arg0)
abbrev a1 : (Flat 8192 1024).Idx → EReal := m ((c : Thread nD τ).loc main_arg1)

/-- Where each block of a point lies. -/
theorem places : ∀ t : Fin cfg0.N, win0_0.index t = ![t.val % 16, t.val / 32]
    ∧ win0_1.index t = ![t.val % 16, t.val / 16 % 2]
    ∧ win0_2.index t = ![t.val / 32, t.val / 16 % 2] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (truncf .bf16 (iblk m c 1 t) bitsLt_bf16_f32)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwUIdeal_DwUReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwUReferenceIdeal.defs _ _).mono (fun _ h c => ⟨(h c).1.trans ((host_wgt (ψ := .f32) _ _ _).trans (congrArg₂ wgt (same c).1 (same c).2)), (h c).2⟩)
      (Cert.DwUReferenceIdeal.Value.run m' g')⟩

theorem frame_reference : Cert.quiescent_DwUReferenceIdeal := fun m ρ _ => quiet rfl (Cert.DwUReferenceIdeal.Value.run m ρ)

end Cert.Mats.DwU

/-! ## The gates' part of the input matrix -/

namespace Cert.Mats.DwGates

open Cert.DwGatesIdeal Cert.DwGatesIdeal.Gen

variable (m : (ℓ : Loc nD τ sig) → Buf (Elt Ideal) ℓ) (c : Dev nD)

abbrev a0 : (Flat 8192 2048).Idx → EReal := m ((c : Thread nD τ).loc main_arg0)
abbrev a1 : (Flat 8192 4096).Idx → EReal := m ((c : Thread nD τ).loc main_arg1)

/-- Where each block of a point lies. -/
theorem places : ∀ t : Fin cfg0.N, win0_0.index t = ![t.val % 16, t.val / 128]
    ∧ win0_1.index t = ![t.val % 16, t.val / 16 % 8]
    ∧ win0_2.index t = ![t.val / 128, t.val / 16 % 8] :=
  (by decide +kernel : ∀ t : Fin grid0.N, _)

theorem array : (dats m 0 c).arrAt 2 cfg0.N = wgt (a0 m c) (a1 m c) := by
  refine (dats m 0 c).arrAt_eq_of_covers 2 _ (by decide +kernel) fun t hf y => ?_
  have h := (flush0_2 t).mp hf
  blk_simp
  refine (congrFun (after0_2 m c t) y).trans (block shapeCasts_S512x512_S512x512 (fun n h => outsAt0 m c n h) 16 rfl
    (fun t => times (dimsWgt dot_S512x512_S512x512_S512x512_0_0_1_1_n_n_wf) (iblk m c 0 t) (iblk m c 1 t)) _ _ (fun t j => times_wgt _ _ _ j)
    (fun t h => by rw [outsAt0_A m c t h (by omega)]; frame_out; rfl)
    (fun t h => by
      by_cases h1 : t.val % 16 = 15
      · rw [outsAt0_C m c t h h1]; frame_out; rw [read_unread_whole]; rfl
      · rw [outsAt0_B m c t h h1]; frame_out; rw [read_unread_whole]; rfl)
    (fun t h => by rw [outsAt0_C m c t (by omega) h]; frame_out; rfl) t h y fun s k hl => ?_)
  exact congrArg₂ (· * ·) (by blk_point [iblk, V, places t, places ⟨_, Pipeline.run_point_lt_of_flush t h s⟩])
    (by blk_point [iblk, V, places t, places ⟨_, Pipeline.run_point_lt_of_flush t h s⟩])

theorem algebraic : Cert.algebraic_DwGatesIdeal_DwGatesReferenceIdeal := fun m g m' g' _ same =>
  ⟨fun c => wgt (a0 m c) (a1 m c),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.DwGatesReferenceIdeal.defs _ _).mono (fun _ h c => ⟨(h c).1.trans ((host_wgt _ _ _).trans (congrArg₂ wgt (same c).1 (same c).2)), (h c).2⟩)
      (Cert.DwGatesReferenceIdeal.Value.run m' g')⟩

theorem frame_reference : Cert.quiescent_DwGatesReferenceIdeal := fun m ρ _ => quiet rfl (Cert.DwGatesReferenceIdeal.Value.run m ρ)

end Cert.Mats.DwGates

end
-- ==== Proof.NormValue.lean ====
/-
  The calls of the root-mean-square norms: the norm of the input, the two norms in the middle of the layer, and the slopes of
  these two. Every row of a result is a function of that row of the arguments; the gradients of the gains gather over the rows.
-/
module

public import proofs.«01_k».proof.Defs
public import proofs.«01_k».proof.Proof.MatMath
public import proofs.«01_k».proof.Proof.RowMath
public import proofs.«01_k».proof.Proof.WiseRuns
public import Idealize.ShloMosaic.Lib.Pipeline.ValueKit.Point

@[expose] public section

set_option maxRecDepth 16384

noncomputable section

open Idealize.ShloMosaic Idealize.ShloMosaic.TcCoe Idealize.SL.Sem
open Cert.Blocks Cert.Mats Cert.Rows

namespace Cert.Norms

/-! ## The results as functions of the arguments, on any number of rows -/

section

variable {R S : ℕ}

/-- A row of an array. -/
def row (x : (Flat R 2048).Idx → EReal) (r : Fin R) (k : Fin 2048) : EReal := x (ix2 r k)

/-- The norm of an array's rows, with a gain for every column. -/
def normedAt (x : (Flat R 2048).Idx → EReal) (g : (Flat 1 2048).Idx → EReal) (r : Fin R) (l : Fin 2048) : EReal :=
  x (ix2 r l) * rs (row x r) * g (ix2 0 l)

def normed (x : (Flat R 2048).Idx → EReal) (g : (Flat 1 2048).Idx → EReal) (j : (Flat R 2048).Idx) : EReal := normedAt x g (j 0) (j 1)

/-- An array with the norm of another added. -/
def carried (x o : (Flat R 2048).Idx → EReal) (g : (Flat 1 2048).Idx → EReal) (j : (Flat R 2048).Idx) : EReal := x j + normed o g j

/-- The slope of the norm: `d` is the slope of its result. -/
def slopesAt (d x : (Flat R 2048).Idx → EReal) (g : (Flat 1 2048).Idx → EReal) (r : Fin R) (l : Fin 2048) : EReal :=
  slope (row x r) (fun k => d (ix2 r k) * g (ix2 0 k)) l

def slopes (d x : (Flat R 2048).Idx → EReal) (g : (Flat 1 2048).Idx → EReal) (j : (Flat R 2048).Idx) : EReal := slopesAt d x g (j 0) (j 1)

/-- The slope of the norm with a slope that passes it by. -/
def through (d e x : (Flat R 2048).Idx → EReal) (g : (Flat 1 2048).Idx → EReal) (j : (Flat R 2048).Idx) : EReal := slopes d x g j + e j

/-- The gradient of the gain: its term at a row, and the sum. -/
def gainTerm (d x : (Flat R 2048).Idx → EReal) (r : Fin R) (l : Fin 2048) : EReal := d (ix2 r l) * (x (ix2 r l) * rs (row x r))

def gains (d x : (Flat R 2048).Idx → EReal) (j : (Flat 1 2048).Idx) : EReal := ∑ r, gainTerm d x r (j 1)

/-! A row of a result, where the rows of a block are rows of an array. -/

variable {at_ : Fin S → Fin R} {d e x o : (Flat R 2048).Idx → EReal} {d' e' x' o' : (Flat S 2048).Idx → EReal} {g g' : (Flat 1 2048).Idx → EReal}

theorem normed_rows (hx : ∀ r l, x' (ix2 r l) = x (ix2 (at_ r) l)) (hg : ∀ l, g' (ix2 0 l) = g (ix2 0 l)) (r : Fin S) (l : Fin 2048) :
    normed x' g' (ix2 r l) = normed x g (ix2 (at_ r) l) := by
  show normedAt x' g' r l = normedAt x g (at_ r) l
  unfold normedAt row
  simp only [hx, hg]

theorem carried_rows (hx : ∀ r l, x' (ix2 r l) = x (ix2 (at_ r) l)) (ho : ∀ r l, o' (ix2 r l) = o (ix2 (at_ r) l))
    (hg : ∀ l, g' (ix2 0 l) = g (ix2 0 l)) (r : Fin S) (l : Fin 2048) : carried x' o' g' (ix2 r l) = carried x o g (ix2 (at_ r) l) := by
  unfold carried
  rw [hx, normed_rows ho hg]

theorem slopes_rows (hd : ∀ r l, d' (ix2 r l) = d (ix2 (at_ r) l)) (hx : ∀ r l, x' (ix2 r l) = x (ix2 (at_ r) l))
    (hg : ∀ l, g' (ix2 0 l) = g (ix2 0 l)) (r : Fin S) (l : Fin 2048) : slopes d' x' g' (ix2 r l) = slopes d x g (ix2 (at_ r) l) := by
  show slopesAt d' x' g' r l = slopesAt d x g (at_ r) l
  unfold slopesAt row
  simp only [hd, hx, hg]

theorem through_rows (hd : ∀ r l, d' (ix2 r l) = d (ix2 (at_ r) l)) (he : ∀ r l, e' (ix2 r l) = e (ix2 (at_ r) l))
    (hx : ∀ r l, x' (ix2 r l) = x (ix2 (at_ r) l)) (hg : ∀ l, g' (ix2 0 l) = g (ix2 0 l)) (r : Fin S) (l : Fin 2048) :
    through d' e' x' g' (ix2 r l) = through d e x g (ix2 (at_ r) l) := by
  unfold through
  rw [he, slopes_rows hd hx hg]

theorem gainTerm_rows (hd : ∀ r l, d' (ix2 r l) = d (ix2 (at_ r) l)) (hx : ∀ r l, x' (ix2 r l) = x (ix2 (at_ r) l)) (r : Fin S) (l : Fin 2048) :
    gainTerm d' x' r l = gainTerm d x (at_ r) l := by
  unfold gainTerm row
  simp only [hd, hx]

end

/-! ## The reference's terms -/

section

open Cert.RmsMidBwdReferenceIdeal Cert.RmsMidBwdReferenceIdeal.Gen

variable (d x : FVec Ideal S8192x2048 .f32) (g : FVec Ideal S1x2048 .f32)

/-- The reciprocal root of every row's mean square, on the columns. -/
def hostDen : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

def hostScaled : FVec Ideal S8192x2048 .f32 := mulf x (broadcastInDim S8192x2048 ![0, 1] bcast_S8192x1_S8192x2048_0_1 (Host.rsqrt (hostDen x)))

/-- The norm. -/
def hostNorm : FVec Ideal S8192x2048 .f32 := mulf (hostScaled x) (broadcastInDim S8192x2048 ![0, 1] bcast_S1x2048_S8192x2048_0_1 g)

/-- The slope of a row's mean square, spread over the columns. -/
def hostPull : FVec Ideal S8192x2048 .f32 :=
  broadcastInDim S8192x2048 ![0] bcast_S8192_S8192x2048_0 (Host.reduceAdd (Host.divf (mulf (shapeCast S8192x1 (Host.reduceAdd (mulf x d) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (hostDen x)) (hostDen x)))) (broadcastInDim S8192x1 ![] bcast_S_S8192x1 (constant S_ .f32 0x45000000#32))) (constant S_ .f32 0x00000000#32) reducesTo_S8192x1_S8192_d1 h_S_)

/-- The slope of the norm. -/
def hostSlopes : FVec Ideal S8192x2048 .f32 :=
  let dg := mulf d (broadcastInDim S8192x2048 ![0, 1] bcast_S1x2048_S8192x2048_0_1 g)
  addf (addf (mulf dg (broadcastInDim S8192x2048 ![0, 1] bcast_S8192x1_S8192x2048_0_1 (Host.rsqrt (hostDen x)))) (mulf x (hostPull dg x))) (mulf (hostPull dg x) x)

/-- The gradient of the gain. -/
def hostGains : FVec Ideal S1x2048 .f32 :=
  shapeCast S1x2048 (Host.reduceAdd (mulf (hostScaled x) d) (constant S_ .f32 0x00000000#32) reducesTo_S8192x2048_S2048_d0 h_S_) shapeCasts_S2048_S1x2048

theorem hostNorm_eq : hostNorm x g = normed x g := by
  funext y
  obtain ⟨r, l, rfl⟩ : ∃ (r : Fin 8192) (l : Fin 2048), y = ix2 r l := ⟨y 0, y 1, ValueIdx.eq_ix2 y⟩
  unfold hostNorm hostScaled hostDen
  pointwise
  rfl

theorem hostSlopes_eq : hostSlopes d x g = slopes d x g := by
  funext y
  obtain ⟨r, l, rfl⟩ : ∃ (r : Fin 8192) (l : Fin 2048), y = ix2 r l := ⟨y 0, y 1, ValueIdx.eq_ix2 y⟩
  unfold hostSlopes hostPull hostDen
  pointwise
  simp only [Finset.univ_unique, Finset.sum_singleton]
  rfl

theorem hostGains_eq : hostGains d x = gains d x := by
  funext y
  obtain ⟨z, l, rfl⟩ : ∃ (z : Fin 1) (l : Fin 2048), y = ix2 z l := ⟨y 0, y 1, ValueIdx.eq_ix2 y⟩
  show _ = ∑ r, gainTerm d x r l
  unfold hostGains hostScaled hostDen gainTerm
  simp only [mul_comm (d _)]
  pointwise
  rfl

end

end Cert.Norms

/-! ## The norm of the input -/

namespace Cert.Norms.RmsInCall

open Cert.RmsInIdeal Cert.RmsInIdeal.Gen

variable (m : (ℓ : Loc nD τ sig) → Buf (Elt Ideal) ℓ) (c : Dev nD)

abbrev a0 : (Flat 8192 2048).Idx → EReal := m ((c : Thread nD τ).loc main_arg0)
abbrev a1 : (Flat 1 2048).Idx → EReal := m ((c : Thread nD τ).loc main_arg1)

/-- Where each block of a point lies. -/
theorem places : ∀ t : Fin cfg0.N, win0_0.index t = ![t.val, 0] ∧ win0_1.index t = ![0, 0] ∧ win0_2.index t = ![t.val, 0] :=
  (by decide +kernel : ∀ t : Fin grid0.N, _)

/-- The row of the array at a row of a point's block. -/
def at_ (t : Fin cfg0.N) (r : Fin 512) : Fin 8192 := ⟨t.val * 512 + r.val, by have h : t.val < 16 := N_0 ▸ t.isLt; omega⟩

theorem body (x : Vec Ideal S512x2048 .f32) (g : Vec Ideal S1x2048 .f32) (r : Fin 512) (l : Fin 2048) :
    k0_pay1 (F := Ideal) x g (ix2 r l) = normed (R := 512) x g (ix2 r l) := by
  show _ = normedAt (R := 512) x g r l
  pointwise [k0_pay1]
  rfl

theorem read_0 (t : Fin cfg0.N) (r : Fin 512) (l : Fin 2048) : iblk m c 0 t (ix2 r l) = a0 m c (ix2 (at_ t r) l) := by
  unfold at_; blk_ext [iblk, V, places t]
theorem read_1 (t : Fin cfg0.N) (l : Fin 2048) : iblk m c 1 t (ix2 0 l) = a1 m c (ix2 0 l) := by blk_ext [iblk, V, places t]

theorem array : (dats m 0 c).arrAt 2 cfg0.N = normed (a0 m c) (a1 m c) := by
  refine (dats m 0 c).arrAt_eq_of_covers 2 _ (by decide +kernel) fun t hf y => ?_
  obtain ⟨r, l, rfl⟩ : ∃ (r : Fin 512) (l : Fin 2048), y = ix2 r l := ⟨y 0, y 1, ValueIdx.eq_ix2 y⟩
  refine (congrFun (after0_2 m c t) _).trans ?_
  unfold out0_2
  frame_out
  refine (body _ _ r l).trans ((normed_rows (read_0 m c t) (read_1 m c t) r l).trans (congrArg (normed (a0 m c) (a1 m c)) ?_))
  unfold at_
  blk_ext [places t]

theorem algebraic : Cert.algebraic_RmsInIdeal_RmsInReferenceIdeal := by
  intro m g m' g' _ same
  refine ⟨fun c => normed (a0 m c) (a1 m c), (θ_run defs _ _).mono (fun _ h c => ?_) (run_main m g),
    (θ_run Cert.RmsInReferenceIdeal.defs _ _).mono (fun _ h c => ?_) (Cert.RmsInReferenceIdeal.Value.run m' g')⟩
  · have i := (dats m 0 c).arrAt_in
    exact ⟨((h c).1 2).trans (array m c), ((h c).1 0).trans (i 0 rfl _), ((h c).1 1).trans (i 1 rfl _)⟩
  · obtain ⟨s0, s1⟩ := same c
    exact ⟨(h c).1.trans (by rw [s0, s1]; exact hostNorm_eq (a0 m c) (a1 m c)), (h c).2⟩

theorem frame_reference : Cert.quiescent_RmsInReferenceIdeal := fun m ρ _ => quiet rfl (Cert.RmsInReferenceIdeal.Value.run m ρ)

end Cert.Norms.RmsInCall

/-! ## The norms in the middle -/

namespace Cert.Norms.RmsMidCall

open Cert.RmsMidIdeal Cert.RmsMidIdeal.Gen

variable (m : (ℓ : Loc nD τ sig) → Buf (Elt Ideal) ℓ) (c : Dev nD)

abbrev a0 : (Flat 8192 2048).Idx → EReal := m ((c : Thread nD τ).loc main_arg0)
abbrev a1 : (Flat 8192 2048).Idx → EReal := m ((c : Thread nD τ).loc main_arg1)
abbrev a2 : (Flat 1 2048).Idx → EReal := m ((c : Thread nD τ).loc main_arg2)
abbrev a3 : (Flat 1 2048).Idx → EReal := m ((c : Thread nD τ).loc main_arg3)

/-- Where each block of a point lies. -/
theorem places : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The row of the array at a row of a point's block. -/
def at_ (t : Fin cfg0.N) (r : Fin 256) : Fin 8192 := ⟨t.val * 256 + r.val, by have h : t.val < 32 := N_0 ▸ t.isLt; omega⟩

section

variable (x o : Vec Ideal S256x2048 .f32) (g g' : Vec Ideal S1x2048 .f32) (r : Fin 256) (l : Fin 2048)

theorem body_x : k0_pay1 (F := Ideal) x o g (ix2 r l) = carried (R := 256) x o g (ix2 r l) := by
  show _ = x (ix2 r l) + normedAt (R := 256) o g r l
  pointwise [k0_pay1]
  rfl

theorem body_n : k0_pay2 (F := Ideal) x o g g' (ix2 r l) = normed (R := 256) (k0_pay1 (F := Ideal) x o g) g' (ix2 r l) := by
  show _ = normedAt (R := 256) (k0_pay1 (F := Ideal) x o g) g' r l
  unfold k0_pay2
  generalize k0_pay1 (F := Ideal) x o g = z
  pointwise
  rfl

end

theorem read_0 (t : Fin cfg0.N) (r : Fin 256) (l : Fin 2048) : iblk m c 0 t (ix2 r l) = a0 m c (ix2 (at_ t r) l) := by
  unfold at_; blk_ext [iblk, V, places t]
theorem read_1 (t : Fin cfg0.N) (r : Fin 256) (l : Fin 2048) : iblk m c 1 t (ix2 r l) = a1 m c (ix2 (at_ t r) l) := by
  unfold at_; blk_ext [iblk, V, places t]
theorem read_2 (t : Fin cfg0.N) (l : Fin 2048) : iblk m c 2 t (ix2 0 l) = a2 m c (ix2 0 l) := by blk_ext [iblk, V, places t]
theorem read_3 (t : Fin cfg0.N) (l : Fin 2048) : iblk m c 3 t (ix2 0 l) = a3 m c (ix2 0 l) := by blk_ext [iblk, V, places t]

theorem leaves_x (t : Fin cfg0.N) (r : Fin 256) (l : Fin 2048) :
    k0_pay1 (F := Ideal) (iblk m c 0 t) (iblk m c 1 t) (iblk m c 2 t) (ix2 r l) = carried (a0 m c) (a1 m c) (a2 m c) (ix2 (at_ t r) l) :=
  (body_x _ _ _ r l).trans (carried_rows (read_0 m c t) (read_1 m c t) (read_2 m c t) r l)

theorem array_x : (dats m 0 c).arrAt 4 cfg0.N = carried (a0 m c) (a1 m c) (a2 m c) := by
  refine (dats m 0 c).arrAt_eq_of_covers 4 _ (by decide +kernel) fun t hf y => ?_
  obtain ⟨r, l, rfl⟩ : ∃ (r : Fin 256) (l : Fin 2048), y = ix2 r l := ⟨y 0, y 1, ValueIdx.eq_ix2 y⟩
  refine (congrFun (after0_4 m c t) _).trans ?_
  unfold out0_4
  frame_out
  refine (leaves_x m c t r l).trans (congrArg (carried (a0 m c) (a1 m c) (a2 m c)) ?_)
  unfold at_
  blk_ext [places t]

theorem array_n : (dats m 0 c).arrAt 5 cfg0.N = normed (carried (a0 m c) (a1 m c) (a2 m c)) (a3 m c) := by
  refine (dats m 0 c).arrAt_eq_of_covers 5 _ (by decide +kernel) fun t hf y => ?_
  obtain ⟨r, l, rfl⟩ : ∃ (r : Fin 256) (l : Fin 2048), y = ix2 r l := ⟨y 0, y 1, ValueIdx.eq_ix2 y⟩
  refine (congrFun (after0_5 m c t) _).trans ?_
  unfold out0_5
  frame_out
  refine (body_n _ _ _ _ r l).trans ((normed_rows (leaves_x m c t) (read_3 m c t) r l).trans
    (congrArg (normed (carried (a0 m c) (a1 m c) (a2 m c)) (a3 m c)) ?_))
  unfold at_
  blk_ext [places t]

theorem algebraic : Cert.algebraic_RmsMidIdeal_RmsMidReferenceIdeal := by
  intro m g m' g' _ same
  refine ⟨fun c => carried (a0 m c) (a1 m c) (a2 m c), fun c => normed (carried (a0 m c) (a1 m c) (a2 m c)) (a3 m c),
    (θ_run defs _ _).mono (fun _ h c => ?_) (run_main m g),
    (θ_run Cert.RmsMidReferenceIdeal.defs _ _).mono (fun _ h c => ?_) (Cert.RmsMidReferenceIdeal.Value.run m' g')⟩
  · have i := (dats m 0 c).arrAt_in
    exact ⟨((h c).1 4).trans (array_x m c), ((h c).1 5).trans (array_n m c), ((h c).1 0).trans (i 0 rfl _), ((h c).1 1).trans (i 1 rfl _),
      ((h c).1 2).trans (i 2 rfl _), ((h c).1 3).trans (i 3 rfl _)⟩
  · obtain ⟨s0, s1, s2, s3⟩ := same c
    have e : addf (F := Ideal) (a0 m c) (hostNorm (a1 m c) (a2 m c)) = carried (a0 m c) (a1 m c) (a2 m c) := by rw [hostNorm_eq]; rfl
    exact ⟨(h c).1.trans (by rw [s0, s1, s2]; exact e),
      (h c).2.1.trans (by rw [s0, s1, s2, s3]; exact (congrArg (hostNorm · (a3 m c)) e).trans (hostNorm_eq _ _)), (h c).2.2⟩

theorem frame_reference : Cert.quiescent_RmsMidReferenceIdeal := fun m ρ _ =>
  (θ_run _ _ _).mono (fun r h => ⟨fun c => (h c).2.2, sem_eq_zero_of_no_sems (by decide) r.2⟩) (Cert.RmsMidReferenceIdeal.Value.run m ρ)

end Cert.Norms.RmsMidCall

/-! ## The slopes of the norms in the middle -/

namespace Cert.Norms.RmsMidBwdCall

open Cert.RmsMidBwdIdeal Cert.RmsMidBwdIdeal.Gen

section

variable (d e x : Vec Ideal S128x2048 .f32) (g : Vec Ideal S1x2048 .f32) (r : Fin 128) (l : Fin 2048)

theorem body_x : k0_pay10 (F := Ideal) d e x g (ix2 r l) = through (R := 128) d e x g (ix2 r l) := by
  show _ = slopesAt (R := 128) d x g r l + e (ix2 r l)
  unfold slopesAt
  rw [← slope_eq]
  pointwise [k0_pay10, k0_pay8, k0_pay7]
  rfl

theorem body_o : k0_pay4 (F := Ideal) x g d (k0_pay11 x) k0_pay12 (ix2 r l) = slopes (R := 128) d x g (ix2 r l) := by
  show _ = slopesAt (R := 128) d x g r l
  unfold slopesAt
  rw [← slope_eq]
  pointwise [k0_pay4, k0_pay2, k0_pay1, k0_pay11, k0_pay12]
  rfl

theorem part_o : k0_pay3 (F := Ideal) x d (k0_pay11 x) k0_pay12 (ix2 0 l) = gains (R := 128) d x (ix2 0 l) := by
  show _ = ∑ r, gainTerm (R := 128) d x r l
  unfold gainTerm
  pointwise [k0_pay3, k0_pay2, k0_pay1, k0_pay11, k0_pay12]
  rfl

theorem part_x : k0_pay9 (F := Ideal) d x (ix2 0 l) = gains (R := 128) d x (ix2 0 l) := by
  show _ = ∑ r, gainTerm (R := 128) d x r l
  unfold gainTerm
  pointwise [k0_pay9, k0_pay8, k0_pay7]
  rfl

theorem added_o (u v : FVec Ideal S128x1 .f32) (acc : Vec Ideal S1x2048 .f32) (j : S1x2048.Idx) :
    k0_pay5 (F := Ideal) x d u v acc j = acc j + k0_pay3 (F := Ideal) x d u v j := by
  unfold k0_pay5
  generalize k0_pay3 (F := Ideal) x d u v = w
  pointwise

theorem added_x (v : FVec Ideal S1x2048 .f32) (acc : Vec Ideal S1x2048 .f32) (j : S1x2048.Idx) : k0_pay6 (F := Ideal) v acc j = acc j + v j := by
  pointwise [k0_pay6]

end

variable (m : (ℓ : Loc nD τ sig) → Buf (Elt Ideal) ℓ) (c : Dev nD)

abbrev a0 : (Flat 8192 2048).Idx → EReal := m ((c : Thread nD τ).loc main_arg0)
abbrev a1 : (Flat 8192 2048).Idx → EReal := m ((c : Thread nD τ).loc main_arg1)
abbrev a2 : (Flat 8192 2048).Idx → EReal := m ((c : Thread nD τ).loc main_arg2)
abbrev a3 : (Flat 8192 2048).Idx → EReal := m ((c : Thread nD τ).loc main_arg3)
abbrev a4 : (Flat 1 2048).Idx → EReal := m ((c : Thread nD τ).loc main_arg4)
abbrev a5 : (Flat 1 2048).Idx → EReal := m ((c : Thread nD τ).loc main_arg5)

/-- Where each block of a point lies. -/
theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

/-- The row of the array at a row of a point's block. -/
def at_ (t : Fin cfg0.N) (r : Fin 128) : Fin 8192 := ⟨t.val * 128 + r.val, by have h : t.val < 64 := N_0 ▸ t.isLt; omega⟩

theorem read_0 (t : Fin cfg0.N) (r : Fin 128) (l : Fin 2048) : iblk m c 0 t (ix2 r l) = a0 m c (ix2 (at_ t r) l) := by
  unfold at_; blk_ext [iblk, V, places t]
theorem read_1 (t : Fin cfg0.N) (r : Fin 128) (l : Fin 2048) : iblk m c 1 t (ix2 r l) = a1 m c (ix2 (at_ t r) l) := by
  unfold at_; blk_ext [iblk, V, places t]
theorem read_2 (t : Fin cfg0.N) (r : Fin 128) (l : Fin 2048) : iblk m c 2 t (ix2 r l) = a2 m c (ix2 (at_ t r) l) := by
  unfold at_; blk_ext [iblk, V, places t]
theorem read_3 (t : Fin cfg0.N) (r : Fin 128) (l : Fin 2048) : iblk m c 3 t (ix2 r l) = a3 m c (ix2 (at_ t r) l) := by
  unfold at_; blk_ext [iblk, V, places t]
theorem read_4 (t : Fin cfg0.N) (l : Fin 2048) : iblk m c 4 t (ix2 0 l) = a4 m c (ix2 0 l) := by blk_ext [iblk, V, places t]
theorem read_5 (t : Fin cfg0.N) (l : Fin 2048) : iblk m c 5 t (ix2 0 l) = a5 m c (ix2 0 l) := by blk_ext [iblk, V, places t]

/-- The slope of the middle of the layer. -/
def middle : (Flat 8192 2048).Idx → EReal := through (a0 m c) (a1 m c) (a2 m c) (a5 m c)

/-- What the body has of it at a point's rows. -/
abbrev block (t : Fin cfg0.N) : FVec Ideal S128x2048 .f32 := k0_pay10 (F := Ideal) (iblk m c 0 t) (iblk m c 1 t) (iblk m c 2 t) (iblk m c 5 t)

theorem block_rows (t : Fin cfg0.N) (r : Fin 128) (l : Fin 2048) : block m c t (ix2 r l) = middle m c (ix2 (at_ t r) l) :=
  (body_x _ _ _ _ r l).trans (through_rows (read_0 m c t) (read_1 m c t) (read_2 m c t) (read_5 m c t) r l)

/-- What a point leaves of the two slopes, whether it is the first or a later one. -/
theorem leaves_x (t : Fin cfg0.N) (r : Fin 128) (l : Fin 2048) : (outsAt0 m c t.val t.isLt).1 (ix2 r l) = middle m c (ix2 (at_ t r) l) := by
  have hN : t.val < 64 := N_0 ▸ t.isLt
  by_cases h : t.val % 64 = 0
  · rw [outsAt0_A m c t h (by omega) h (by omega)]
    frame_out
    exact block_rows m c t r l
  · rw [outsAt0_B m c t h (by omega) h (by omega)]
    frame_out
    exact block_rows m c t r l

theorem leaves_o (t : Fin cfg0.N) (r : Fin 128) (l : Fin 2048) :
    (outsAt0 m c t.val t.isLt).2.1 (ix2 r l) = slopes (middle m c) (a3 m c) (a4 m c) (ix2 (at_ t r) l) := by
  have hN : t.val < 64 := N_0 ▸ t.isLt
  by_cases h : t.val % 64 = 0
  · rw [outsAt0_A m c t h (by omega) h (by omega)]
    frame_out
    exact (body_o _ _ _ r l).trans (slopes_rows (block_rows m c t) (read_3 m c t) (read_4 m c t) r l)
  · rw [outsAt0_B m c t h (by omega) h (by omega)]
    frame_out
    exact (body_o _ _ _ r l).trans (slopes_rows (block_rows m c t) (read_3 m c t) (read_4 m c t) r l)

/-- The last point. -/
abbrev last : Fin cfg0.N := ⟨63, by decide⟩

/-- What the last point leaves of the gradients of the gains: the sums over every row. -/
theorem gathers_o (l : Fin 2048) : (outsAt0 m c last.val last.isLt).2.2.1 (ix2 0 l) = gains (middle m c) (a3 m c) (ix2 0 l) := by
  rw [Pipeline.eq_sum_fin_of_reset_step_apply_last (fun n h => (outsAt0 m c n h).2.2.1) 64 (fun _ => 0)
    (fun t j => k0_pay3 (F := Ideal) (iblk m c 3 t) (block m c t) (k0_pay11 (iblk m c 3 t)) k0_pay12 j)
    (fun t h j => by
      have hN : t.val < 64 := N_0 ▸ t.isLt
      rw [outsAt0_A m c t h (by omega) h (by omega)]; frame_out; rw [zero_add])
    (fun t h j => by
      have hN : t.val < 64 := N_0 ▸ t.isLt
      rw [outsAt0_B m c t h (by omega) h (by omega)]; frame_out; rw [added_o])
    (le_of_eq N_0) last rfl (ix2 0 l), zero_add]
  simp only [part_o]
  exact Fin.sum_mul_add_congr fun t r hl => gainTerm_rows (block_rows m c t) (read_3 m c t) r l

theorem gathers_x (l : Fin 2048) : (outsAt0 m c last.val last.isLt).2.2.2 (ix2 0 l) = gains (a0 m c) (a2 m c) (ix2 0 l) := by
  rw [Pipeline.eq_sum_fin_of_reset_step_apply_last (fun n h => (outsAt0 m c n h).2.2.2) 64 (fun _ => 0)
    (fun t j => k0_pay9 (F := Ideal) (iblk m c 0 t) (iblk m c 2 t) j)
    (fun t h j => by
      have hN : t.val < 64 := N_0 ▸ t.isLt
      rw [outsAt0_A m c t h (by omega) h (by omega)]; frame_out; rw [zero_add])
    (fun t h j => by
      have hN : t.val < 64 := N_0 ▸ t.isLt
      rw [outsAt0_B m c t h (by omega) h (by omega)]; frame_out; rw [added_x])
    (le_of_eq N_0) last rfl (ix2 0 l), zero_add]
  simp only [part_x]
  exact Fin.sum_mul_add_congr fun t r hl => gainTerm_rows (read_0 m c t) (read_2 m c t) r l

/-- The four results after the last point. -/
theorem array_x : (dats m 0 c).arrAt 6 cfg0.N = middle m c := by
  refine (dats m 0 c).arrAt_eq_of_covers 6 _ (by decide +kernel) fun t hf y => ?_
  obtain ⟨r, l, rfl⟩ : ∃ (r : Fin 128) (l : Fin 2048), y = ix2 r l := ⟨y 0, y 1, ValueIdx.eq_ix2 y⟩
  refine (congrFun (after0_6 m c t) _).trans ((leaves_x m c t r l).trans (congrArg (middle m c) ?_))
  unfold at_
  blk_ext [places t]

theorem array_o : (dats m 0 c).arrAt 7 cfg0.N = slopes (middle m c) (a3 m c) (a4 m c) := by
  refine (dats m 0 c).arrAt_eq_of_covers 7 _ (by decide +kernel) fun t hf y => ?_
  obtain ⟨r, l, rfl⟩ : ∃ (r : Fin 128) (l : Fin 2048), y = ix2 r l := ⟨y 0, y 1, ValueIdx.eq_ix2 y⟩
  refine (congrFun (after0_7 m c t) _).trans ((leaves_o m c t r l).trans (congrArg (slopes (middle m c) (a3 m c) (a4 m c)) ?_))
  unfold at_
  blk_ext [places t]

theorem array_gain_o : (dats m 0 c).arrAt 8 cfg0.N = gains (middle m c) (a3 m c) := by
  refine (dats m 0 c).arrAt_eq_of_after_last 8 last (by decide +kernel) _ fun j => ?_
  obtain ⟨z, l, rfl⟩ : ∃ (z : Fin 1) (l : Fin 2048), j = ix2 z l := ⟨j 0, j 1, ValueIdx.eq_ix2 j⟩
  obtain rfl : z = 0 := Subsingleton.elim _ _
  exact (congrFun (after0_8 m c last) _).trans (gathers_o m c l)

theorem array_gain_x : (dats m 0 c).arrAt 9 cfg0.N = gains (a0 m c) (a2 m c) := by
  refine (dats m 0 c).arrAt_eq_of_after_last 9 last (by decide +kernel) _ fun j => ?_
  obtain ⟨z, l, rfl⟩ : ∃ (z : Fin 1) (l : Fin 2048), j = ix2 z l := ⟨j 0, j 1, ValueIdx.eq_ix2 j⟩
  obtain rfl : z = 0 := Subsingleton.elim _ _
  exact (congrFun (after0_9 m c last) _).trans (gathers_x m c l)

theorem algebraic : Cert.algebraic_RmsMidBwdIdeal_RmsMidBwdReferenceIdeal := by
  intro m g m' g' _ same
  refine ⟨fun c => middle m c, fun c => slopes (middle m c) (a3 m c) (a4 m c), fun c => gains (middle m c) (a3 m c), fun c => gains (a0 m c) (a2 m c),
    (θ_run defs _ _).mono (fun _ h c => ?_) (run_main m g),
    (θ_run Cert.RmsMidBwdReferenceIdeal.defs _ _).mono (fun _ h c => ?_) (Cert.RmsMidBwdReferenceIdeal.Value.run m' g')⟩
  · have i := (dats m 0 c).arrAt_in
    exact ⟨((h c).1 6).trans (array_x m c), ((h c).1 7).trans (array_o m c), ((h c).1 8).trans (array_gain_o m c), ((h c).1 9).trans (array_gain_x m c),
      ((h c).1 0).trans (i 0 rfl _), ((h c).1 1).trans (i 1 rfl _), ((h c).1 2).trans (i 2 rfl _), ((h c).1 3).trans (i 3 rfl _),
      ((h c).1 4).trans (i 4 rfl _), ((h c).1 5).trans (i 5 rfl _)⟩
  · obtain ⟨s0, s1, s2, s3, s4, s5⟩ := same c
    have e : addf (F := Ideal) (hostSlopes (a0 m c) (a2 m c) (a5 m c)) (a1 m c) = middle m c := by rw [hostSlopes_eq]; rfl
    refine ⟨(h c).1.trans ?_, (h c).2.1.trans ?_, (h c).2.2.1.trans ?_, (h c).2.2.2.1.trans ?_, (h c).2.2.2.2⟩
    · rw [s0, s1, s2, s5]
      exact e
    · unfold Cert.RmsMidBwdReferenceIdeal.Value.res_main_v69
      rw [s0, s1, s2, s3, s4, s5]
      exact (congrArg (hostSlopes · (a3 m c) (a4 m c)) e).trans (hostSlopes_eq _ _ _)
    · unfold Cert.RmsMidBwdReferenceIdeal.Value.res_main_v52
      rw [s0, s1, s2, s3, s5]
      exact (congrArg (hostGains · (a3 m c)) e).trans (hostGains_eq _ _)
    · rw [s0, s2]
      exact hostGains_eq (a0 m c) (a2 m c)

theorem frame_reference : Cert.quiescent_RmsMidBwdReferenceIdeal := fun m ρ _ =>
  (θ_run _ _ _).mono (fun r h => ⟨fun c => (h c).2.2.2.2, sem_eq_zero_of_no_sems (by decide) r.2⟩) (Cert.RmsMidBwdReferenceIdeal.Value.run m ρ)

end Cert.Norms.RmsMidBwdCall

end
-- ==== Proof.WiseMath.lean ====
/-
  What the calls that work element by element compute at one element, on the extended reals: the sigmoid, the gates, the activations
  and the mixture of the attention groups. Where the kernel and the reference write an element differently, they are shown equal.
-/
module

public import proofs.«01_k».proof.Proof.Blocks
public import Idealize.ShloMosaic.PureOps.Ideal
public import Idealize.ShloMosaic.PureOps.IdealRules
public import Idealize.ShloMosaic.Lib.Pipeline.ValueKit

@[expose] public section

noncomputable section

namespace Cert.Wise

open Idealize.ShloMosaic
open Cert.Blocks

/-- The words of zero and one. -/
abbrev zero : EReal := Ideal.ofBits .f32 0x00000000#32
abbrev one : EReal := Ideal.ofBits .f32 0x3F800000#32

theorem zero_eq : zero = 0 := by
  simp [Ideal.ofBits, Ideal.ieee, -EReal.coe_mul]

theorem one_eq : one = ((1 : ℝ) : EReal) := by
  simp [Ideal.ofBits, Ideal.ieee, -EReal.coe_mul]

/-- The sigmoid, as the references have it. -/
def sigmoid (x : EReal) : EReal := Ideal.div one (one + Ideal.exp (-x))

/-- The kernel takes the negative as a difference from zero. -/
theorem sigmoid_eq (x : EReal) : Ideal.div one (one + Ideal.exp (zero - x)) = sigmoid x := by
  rw [zero_eq, zero_sub]; rfl

/-- The sigmoid is a real number, and nought or one at the infinities. -/
theorem sigmoid_top : sigmoid ⊤ = one := by
  unfold sigmoid
  rw [one_eq, EReal.neg_top, Ideal.exp_bot, add_zero, Ideal.div_coe one_ne_zero, one_div_one, EReal.coe_one, mul_one]

theorem sigmoid_bot : sigmoid ⊥ = 0 := by
  unfold sigmoid
  rw [one_eq, EReal.neg_bot, Ideal.exp_top, EReal.coe_add_top]
  simp [Ideal.div]

theorem sigmoid_coe (x : ℝ) : sigmoid (x : EReal) = ((1 / (1 + Real.exp (-x)) : ℝ) : EReal) := by
  unfold sigmoid
  have h : (1 + Real.exp (-x)) ≠ 0 := by positivity
  rw [one_eq, ← EReal.coe_neg, Ideal.exp_coe, ← EReal.coe_add, Ideal.div_coe h, ← EReal.coe_mul, one_mul]

/-- The slope of `x * sigmoid x`: as the kernel has it, and as differentiating the reference gives it. -/
def siluK (x : EReal) : EReal := sigmoid x * (one + x * (one - sigmoid x))

def silu (x : EReal) : EReal := one * sigmoid x + x * one * (sigmoid x * (one - sigmoid x))

theorem silu_eq (x : EReal) : siluK x = silu x := by
  unfold siluK silu
  induction x using EReal.rec with
  | bot => rw [sigmoid_bot, one_eq]; simp
  | top => rw [sigmoid_top, one_eq]; simp [← EReal.coe_sub]
  | coe x =>
    rw [sigmoid_coe, one_eq]
    generalize 1 / (1 + Real.exp (-x)) = s
    norm_cast
    ring

/-- An element of the hidden layer. -/
def hidden (a b : EReal) : EReal := a * sigmoid a * b

/-- The state space's output with its skip, and the activation of it: as the kernel has it, and as the reference has it. -/
def skip (y d u : EReal) : EReal := y + d * u

abbrev half : EReal := Ideal.ofBits .f32 0x3F000000#32

def geluK (y : EReal) : EReal :=
  half * y * (one + Ideal.tanh (Ideal.ofBits .f32 0x3F4C422A#32 * (y + Ideal.ofBits .f32 0x3D372713#32 * y * y * y)))

def gelu (y : EReal) : EReal :=
  y * (half * (one + Ideal.tanh (Ideal.ofBits .f32 0x3F4C422A#32 * (y + Ideal.ofBits .f32 0x3D372713#32 * (y * y * y)))))

theorem gelu_eq (y : EReal) : geluK y = gelu y := by
  unfold geluK gelu
  rw [mul_assoc (Ideal.ofBits .f32 0x3D372713#32 * y) y y, mul_assoc (Ideal.ofBits .f32 0x3D372713#32) y (y * y), ← mul_assoc y y y,
    mul_comm half y, mul_assoc]

/-- The gated sum of the two branches. -/
def merged (ga gs ab gv gg : EReal) : EReal := sigmoid ga * ab + sigmoid gs * (gv * sigmoid gg)

/-- The two halves of an array's columns, and an array from its two halves. -/
def left {R : ℕ} (g : (Flat R 4096).Idx → EReal) (j : (Flat R 2048).Idx) : EReal :=
  g (ix2 (j 0) ⟨(j 1).val, by have h : (j 1).val < 2048 := (j 1).isLt; omega⟩)

def right {R : ℕ} (g : (Flat R 4096).Idx → EReal) (j : (Flat R 2048).Idx) : EReal :=
  g (ix2 (j 0) ⟨2048 + (j 1).val, by have h : (j 1).val < 2048 := (j 1).isLt; omega⟩)

def paired {R : ℕ} (u v : (Flat R 2048).Idx → EReal) (j : (Flat R 4096).Idx) : EReal :=
  if h : (j 1).val < 2048 then u (ix2 (j 0) ⟨(j 1).val, h⟩)
  else v (ix2 (j 0) ⟨(j 1).val - 2048, by have h : (j 1).val < 4096 := (j 1).isLt; omega⟩)

/-- The slope of the sigmoid, and the slopes of the gated sum in its five arguments. -/
def gateSlope (x : EReal) : EReal := sigmoid x * (one - sigmoid x)

def slopeA (d ga ab : EReal) : EReal := d * ab * gateSlope ga

def slopeS (d gs gv gg : EReal) : EReal := d * (gv * sigmoid gg) * gateSlope gs

def slopeBranch (d ga : EReal) : EReal := sigmoid ga * d

def slopeV (d gs gg : EReal) : EReal := sigmoid gs * d * sigmoid gg

def slopeG (d gs gv gg : EReal) : EReal := gv * (sigmoid gs * d) * gateSlope gg

/-- The slope of a hidden element in its first factor, with the slope of the activation, and in its second. -/
def hiddenA (d a b : EReal) : EReal := d * b * silu a

def hiddenB (d a : EReal) : EReal := d * (a * sigmoid a)

end Cert.Wise

end
-- ==== Proof.WiseValue.lean ====
/-
  The calls that work element by element: the array that each call writes has at every place its function of the arguments there.
-/
module

public import proofs.«01_k».proof.Defs
public import proofs.«01_k».proof.Proof.MatMath
public import proofs.«01_k».proof.Proof.WiseMath
public import proofs.«01_k».proof.Proof.WiseRuns
public import Idealize.ShloMosaic.Lib.Pointwise
public import Idealize.ShloMosaic.Lib.Pipeline.ValueKit.Point

@[expose] public section

set_option maxRecDepth 16384

noncomputable section

open Idealize.ShloMosaic Idealize.ShloMosaic.TcCoe Idealize.SL.Sem
open Cert.Blocks Cert.Mats

/-! ## The hidden layer -/

namespace Cert.Wise.SwigluCall

open Cert.SwigluIdeal Cert.SwigluIdeal.Gen

variable (m : (ℓ : Loc nD τ sig) → Buf (Elt Ideal) ℓ) (c : Dev nD)

abbrev a0 : (Flat 8192 5632).Idx → EReal := m ((c : Thread nD τ).loc main_arg0)
abbrev a1 : (Flat 8192 5632).Idx → EReal := m ((c : Thread nD τ).loc main_arg1)

/-- Where each block of a point lies. -/
theorem places : ∀ t : Fin cfg0.N, win0_0.index t = ![t.val, 0] ∧ win0_1.index t = ![t.val, 0] ∧ win0_2.index t = ![t.val, 0] :=
  (by decide +kernel : ∀ t : Fin grid0.N, _)

theorem body (a b : Vec Ideal S128x5632 .f32) (j : S128x5632.Idx) : k0_pay1 (F := Ideal) a b j = hidden (a j) (b j) := by
  unfold hidden
  rw [← sigmoid_eq]
  pointwise [k0_pay1]

theorem array : (dats m 0 c).arrAt 2 cfg0.N = fun j => hidden (a0 m c j) (a1 m c j) := by
  refine (dats m 0 c).arrAt_eq_of_covers 2 _ (by decide +kernel) fun t hf y => ?_
  blk_simp
  refine (congrFun (after0_2 m c t) y).trans ?_
  unfold out0_2
  frame_out
  exact (body _ _ y).trans (congrArg₂ hidden (by blk_point [iblk, V, places t]) (by blk_point [iblk, V, places t]))

theorem algebraic : Cert.algebraic_SwigluIdeal_SwigluReferenceIdeal := fun m g m' g' _ same =>
  ⟨fun c j => hidden (a0 m c j) (a1 m c j),
    (θ_run defs _ _).mono (fun _ h c => ⟨((h c).1 2).trans (array m c), ((h c).1 0).trans ((dats m 0 c).arrAt_in 0 rfl _), ((h c).1 1).trans ((dats m 0 c).arrAt_in 1 rfl _)⟩) (run_main m g),
    (θ_run Cert.SwigluReferenceIdeal.defs _ _).mono (fun _ h c => ⟨(h c).1.trans (by rw [(same c).1, (same c).2]; rfl), (h c).2⟩)
      (Cert.SwigluReferenceIdeal.Value.run m' g')⟩

theorem frame_reference : Cert.quiescent_SwigluReferenceIdeal := fun m ρ _ => quiet rfl (Cert.SwigluReferenceIdeal.Value.run m ρ)

end Cert.Wise.SwigluCall

/-! ## The slopes of the hidden layer -/

namespace Cert.Wise.SwigluBwdCall

open Cert.SwigluBwdIdeal Cert.SwigluBwdIdeal.Gen

variable (m : (ℓ : Loc nD τ sig) → Buf (Elt Ideal) ℓ) (c : Dev nD)

abbrev a0 : (Flat 8192 5632).Idx → EReal := m ((c : Thread nD τ).loc main_arg0)
abbrev a1 : (Flat 8192 5632).Idx → EReal := m ((c : Thread nD τ).loc main_arg1)
abbrev a2 : (Flat 8192 5632).Idx → EReal := m ((c : Thread nD τ).loc main_arg2)

/-- Where each block of a point lies. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

theorem body_a (d a b : Vec Ideal S64x5632 .f32) (j : S64x5632.Idx) : k0_pay2 (F := Ideal) d a b j = hiddenA (d j) (a j) (b j) := by
  unfold hiddenA
  rw [← silu_eq]
  unfold siluK
  rw [← sigmoid_eq]
  pointwise [k0_pay2, k0_pay1]

theorem body_b (d a : Vec Ideal S64x5632 .f32) (j : S64x5632.Idx) : k0_pay3 (F := Ideal) d a j = hiddenB (d j) (a j) := by
  unfold hiddenB
  rw [← sigmoid_eq, ← mul_assoc]
  pointwise [k0_pay3, k0_pay1]

theorem array_a : (dats m 0 c).arrAt 3 cfg0.N = fun j => hiddenA (a0 m c j) (a1 m c j) (a2 m c j) := by
  refine (dats m 0 c).arrAt_eq_of_covers 3 _ (by decide +kernel) fun t hf y => ?_
  blk_simp
  refine (congrFun (after0_3 m c t) y).trans ?_
  unfold out0_3
  frame_out
  exact (body_a _ _ _ y).trans (congr (congrArg₂ hiddenA (by blk_point [iblk, V, places t]) (by blk_point [iblk, V, places t]))
    (by blk_point [iblk, V, places t]))

theorem array_b : (dats m 0 c).arrAt 4 cfg0.N = fun j => hiddenB (a0 m c j) (a1 m c j) := by
  refine (dats m 0 c).arrAt_eq_of_covers 4 _ (by decide +kernel) fun t hf y => ?_
  blk_simp
  refine (congrFun (after0_4 m c t) y).trans ?_
  unfold out0_4
  frame_out
  exact (body_b _ _ y).trans (congrArg₂ hiddenB (by blk_point [iblk, V, places t]) (by blk_point [iblk, V, places t]))

theorem algebraic : Cert.algebraic_SwigluBwdIdeal_SwigluBwdReferenceIdeal := by
  intro m g m' g' _ same
  refine ⟨fun c j => hiddenA (a0 m c j) (a1 m c j) (a2 m c j), fun c j => hiddenB (a0 m c j) (a1 m c j),
    (θ_run defs _ _).mono (fun _ h c => ?_) (run_main m g),
    (θ_run Cert.SwigluBwdReferenceIdeal.defs _ _).mono (fun _ h c => ?_) (Cert.SwigluBwdReferenceIdeal.Value.run m' g')⟩
  · have i := (dats m 0 c).arrAt_in
    exact ⟨((h c).1 3).trans (array_a m c), ((h c).1 4).trans (array_b m c), ((h c).1 0).trans (i 0 rfl _), ((h c).1 1).trans (i 1 rfl _),
      ((h c).1 2).trans (i 2 rfl _)⟩
  · obtain ⟨s0, s1, s2⟩ := same c
    exact ⟨(h c).1.trans (by rw [s0, s1, s2]; rfl), (h c).2.1.trans (by rw [s0, s1]; rfl), (h c).2.2⟩

theorem frame_reference : Cert.quiescent_SwigluBwdReferenceIdeal := fun m ρ _ =>
  (θ_run _ _ _).mono (fun r h => ⟨fun c => (h c).2.2, sem_eq_zero_of_no_sems (by decide) r.2⟩) (Cert.SwigluBwdReferenceIdeal.Value.run m ρ)

end Cert.Wise.SwigluBwdCall

/-! ## The activation of the state space's output -/

namespace Cert.Wise.SsmGeluCall

open Cert.SsmGeluIdeal Cert.SsmGeluIdeal.Gen

variable (m : (ℓ : Loc nD τ sig) → Buf (Elt Ideal) ℓ) (c : Dev nD)

abbrev a0 : (Flat 8192 1024).Idx → EReal := m ((c : Thread nD τ).loc main_arg0)
abbrev a1 : (Flat 8192 1024).Idx → EReal := m ((c : Thread nD τ).loc main_arg1)
abbrev a2 : (Flat 1 1024).Idx → EReal := m ((c : Thread nD τ).loc main_arg2)

/-- Where each block of a point lies. -/
theorem places : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

theorem body_y (y u : Vec Ideal S512x1024 .f32) (d : Vec Ideal S1x1024 .f32) (j : S512x1024.Idx) :
    k0_pay1 (F := Ideal) y u d j = skip (y j) (d (ix2 0 (j 1))) (u j) := by
  unfold skip
  pointwise [k0_pay1]

theorem body_g (y u : Vec Ideal S512x1024 .f32) (d : Vec Ideal S1x1024 .f32) (j : S512x1024.Idx) :
    k0_pay2 (F := Ideal) y u d j = gelu (skip (y j) (d (ix2 0 (j 1))) (u j)) := by
  rw [← gelu_eq, ← body_y]
  unfold geluK
  pointwise [k0_pay2]

/-- The output with its skip, as an array. -/
def skipped (j : (Flat 8192 1024).Idx) : EReal := skip (a0 m c j) (a2 m c (ix2 0 (j 1))) (a1 m c j)

theorem array_g : (dats m 0 c).arrAt 3 cfg0.N = fun j => gelu (skipped m c j) := by
  refine (dats m 0 c).arrAt_eq_of_covers 3 _ (by decide +kernel) fun t hf y => ?_
  unfold skipped
  blk_simp
  refine (congrFun (after0_3 m c t) y).trans ?_
  unfold out0_3
  frame_out
  exact (body_g _ _ _ y).trans (congrArg gelu (congr (congrArg₂ skip (by blk_point [iblk, V, places t]) (by blk_point [iblk, V, places t]))
    (by blk_point [iblk, V, places t])))

theorem array_y : (dats m 0 c).arrAt 4 cfg0.N = skipped m c := by
  refine (dats m 0 c).arrAt_eq_of_covers 4 _ (by decide +kernel) fun t hf y => ?_
  unfold skipped
  blk_simp
  refine (congrFun (after0_4 m c t) y).trans ?_
  unfold out0_4
  frame_out
  exact (body_y _ _ _ y).trans (congr (congrArg₂ skip (by blk_point [iblk, V, places t]) (by blk_point [iblk, V, places t]))
    (by blk_point [iblk, V, places t]))

theorem algebraic : Cert.algebraic_SsmGeluIdeal_SsmGeluReferenceIdeal := by
  intro m g m' g' _ same
  refine ⟨fun c j => gelu (skipped m c j), fun c => skipped m c,
    (θ_run defs _ _).mono (fun _ h c => ?_) (run_main m g),
    (θ_run Cert.SsmGeluReferenceIdeal.defs _ _).mono (fun _ h c => ?_) (Cert.SsmGeluReferenceIdeal.Value.run m' g')⟩
  · have i := (dats m 0 c).arrAt_in
    exact ⟨((h c).1 3).trans (array_g m c), ((h c).1 4).trans (array_y m c), ((h c).1 0).trans (i 0 rfl _), ((h c).1 1).trans (i 1 rfl _),
      ((h c).1 2).trans (i 2 rfl _)⟩
  · obtain ⟨s0, s1, s2⟩ := same c
    refine ⟨(h c).1.trans (funext fun j => ?_), (h c).2.1.trans (funext fun j => ?_), (h c).2.2⟩
    · rw [s0, s1, s2]
      unfold gelu skipped skip
      pointwise
    · rw [s0, s1, s2]
      unfold skipped skip
      pointwise

theorem frame_reference : Cert.quiescent_SsmGeluReferenceIdeal := fun m ρ _ =>
  (θ_run _ _ _).mono (fun r h => ⟨fun c => (h c).2.2, sem_eq_zero_of_no_sems (by decide) r.2⟩) (Cert.SsmGeluReferenceIdeal.Value.run m ρ)

end Cert.Wise.SsmGeluCall

/-! ## The gated sum of the branches -/

namespace Cert.Wise.GateMergeCall

open Cert.GateMergeIdeal Cert.GateMergeIdeal.Gen

variable (m : (ℓ : Loc nD τ sig) → Buf (Elt Ideal) ℓ) (c : Dev nD)

abbrev a0 : (Flat 8192 4096).Idx → EReal := m ((c : Thread nD τ).loc main_arg0)
abbrev a1 : (Flat 8192 2048).Idx → EReal := m ((c : Thread nD τ).loc main_arg1)
abbrev a2 : (Flat 8192 2048).Idx → EReal := m ((c : Thread nD τ).loc main_arg2)
abbrev a3 : (Flat 8192 2048).Idx → EReal := m ((c : Thread nD τ).loc main_arg3)

/-- Where each block of a point lies. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

theorem body (g : Vec Ideal S128x4096 .f32) (ab gv gg : Vec Ideal S128x2048 .f32) (j : S128x2048.Idx) :
    k0_pay1 (F := Ideal) g ab gv gg j = merged (left (R := 128) g j) (right (R := 128) g j) (ab j) (gv j) (gg j) := by
  unfold merged left right
  simp only [← sigmoid_eq]
  pointwise [k0_pay1]

theorem array : (dats m 0 c).arrAt 4 cfg0.N = fun j => merged (left (a0 m c) j) (right (a0 m c) j) (a1 m c j) (a2 m c j) (a3 m c j) := by
  refine (dats m 0 c).arrAt_eq_of_covers 4 _ (by decide +kernel) fun t hf y => ?_
  unfold left right
  blk_simp
  refine (congrFun (after0_4 m c t) y).trans ?_
  unfold out0_4
  frame_out
  exact (body _ _ _ _ y).trans (congr (congr (congr (congrArg₂ merged (by unfold left; blk_point [iblk, V, places t])
    (by unfold right; blk_point [iblk, V, places t])) (by blk_point [iblk, V, places t])) (by blk_point [iblk, V, places t])) (by blk_point [iblk, V, places t]))

theorem algebraic : Cert.algebraic_GateMergeIdeal_GateMergeReferenceIdeal := by
  intro m g m' g' _ same
  refine ⟨fun c j => merged (left (a0 m c) j) (right (a0 m c) j) (a1 m c j) (a2 m c j) (a3 m c j),
    (θ_run defs _ _).mono (fun _ h c => ?_) (run_main m g),
    (θ_run Cert.GateMergeReferenceIdeal.defs _ _).mono (fun _ h c => ?_) (Cert.GateMergeReferenceIdeal.Value.run m' g')⟩
  · have i := (dats m 0 c).arrAt_in
    exact ⟨((h c).1 4).trans (array m c), ((h c).1 0).trans (i 0 rfl _), ((h c).1 1).trans (i 1 rfl _),
      ((h c).1 2).trans (i 2 rfl _), ((h c).1 3).trans (i 3 rfl _)⟩
  · obtain ⟨s0, s1, s2, s3⟩ := same c
    refine ⟨(h c).1.trans (funext fun j => ?_), (h c).2⟩
    rw [s0, s1, s2, s3]
    unfold merged sigmoid left right
    pointwise

theorem frame_reference : Cert.quiescent_GateMergeReferenceIdeal := fun m ρ _ => quiet rfl (Cert.GateMergeReferenceIdeal.Value.run m ρ)

end Cert.Wise.GateMergeCall

/-! ## The slopes of the gated sum -/

namespace Cert.Wise.GateBwdCall

open Cert.GateBwdIdeal Cert.GateBwdIdeal.Gen

variable (m : (ℓ : Loc nD τ sig) → Buf (Elt Ideal) ℓ) (c : Dev nD)

abbrev a0 : (Flat 8192 2048).Idx → EReal := m ((c : Thread nD τ).loc main_arg0)
abbrev a1 : (Flat 8192 4096).Idx → EReal := m ((c : Thread nD τ).loc main_arg1)
abbrev a2 : (Flat 8192 2048).Idx → EReal := m ((c : Thread nD τ).loc main_arg2)
abbrev a3 : (Flat 8192 2048).Idx → EReal := m ((c : Thread nD τ).loc main_arg3)
abbrev a4 : (Flat 8192 2048).Idx → EReal := m ((c : Thread nD τ).loc main_arg4)

/-- Where each block of a point lies. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section

variable (d ab gv gg : Vec Ideal S128x2048 .f32) (g : Vec Ideal S128x4096 .f32)

/-- The three sigmoids of a block. -/
theorem sigmoid_a (j : S128x2048.Idx) : k0_pay5 (F := Ideal) g j = sigmoid (left (R := 128) g j) := by
  unfold left
  rw [← sigmoid_eq]
  pointwise [k0_pay5]

theorem sigmoid_s (j : S128x2048.Idx) : k0_pay6 (F := Ideal) g j = sigmoid (right (R := 128) g j) := by
  unfold right
  rw [← sigmoid_eq]
  pointwise [k0_pay6]

theorem sigmoid_g (j : S128x2048.Idx) : k0_pay7 (F := Ideal) gg j = sigmoid (gg j) := by
  rw [← sigmoid_eq]
  pointwise [k0_pay7]

theorem body_gates (j : S128x4096.Idx) : k0_pay1 (F := Ideal) (k0_pay6 g) (k0_pay9 d g ab) (k0_pay10 d g gv gg) k0_pay11 j
    = paired (R := 128) (fun j => slopeA (d j) (left (R := 128) g j) (ab j)) (fun j => slopeS (d j) (right (R := 128) g j) (gv j) (gg j)) j := by
  unfold paired slopeA slopeS gateSlope
  simp only [← sigmoid_a, ← sigmoid_s]
  simp only [← sigmoid_g]
  pointwise [k0_pay1, k0_pay9, k0_pay10, k0_pay11]
  by_cases h : (j 1).val < 2048
  · simp only [dif_pos h, mul_assoc]
  · simp only [dif_neg h, mul_assoc]

theorem body_branch (j : S128x2048.Idx) : k0_pay2 (F := Ideal) d (k0_pay5 g) j = slopeBranch (d j) (left (R := 128) g j) := by
  unfold slopeBranch
  rw [mul_comm, ← sigmoid_a]
  pointwise [k0_pay2]

theorem body_v (j : S128x2048.Idx) : k0_pay3 (F := Ideal) (k0_pay7 gg) (k0_pay8 d g) j = slopeV (d j) (right (R := 128) g j) (gg j) := by
  unfold slopeV
  rw [mul_comm (sigmoid (right _ _)), ← sigmoid_s, ← sigmoid_g]
  pointwise [k0_pay3, k0_pay8]

theorem body_g (j : S128x2048.Idx) : k0_pay4 (F := Ideal) gv (k0_pay7 gg) (k0_pay8 d g) j = slopeG (d j) (right (R := 128) g j) (gv j) (gg j) := by
  unfold slopeG gateSlope
  rw [mul_comm (gv j), mul_comm (sigmoid (right _ _)), ← sigmoid_s, ← sigmoid_g, ← mul_assoc]
  pointwise [k0_pay4, k0_pay8]

end

theorem array_gates : (dats m 0 c).arrAt 5 cfg0.N = paired (fun j => slopeA (a0 m c j) (left (a1 m c) j) (a2 m c j))
    (fun j => slopeS (a0 m c j) (right (a1 m c) j) (a3 m c j) (a4 m c j)) := by
  refine (dats m 0 c).arrAt_eq_of_covers 5 _ (by decide +kernel) fun t hf y => ?_
  unfold paired left right
  blk_simp
  refine (congrFun (after0_5 m c t) y).trans ?_
  unfold out0_5
  frame_out
  refine (body_gates _ _ _ _ _ y).trans ?_
  unfold paired left right
  by_cases h : (y 1).val < 2048
  · rw [dif_pos h, dif_pos (by rw [(places t).2.2.2.2.2.1]; simpa using h)]
    exact congr (congrArg₂ slopeA (by blk_point [iblk, V, places t]) (by blk_point [iblk, V, places t])) (by blk_point [iblk, V, places t])
  · rw [dif_neg h, dif_neg (by rw [(places t).2.2.2.2.2.1]; simpa using h)]
    exact congr (congr (congrArg₂ slopeS (by blk_point [iblk, V, places t]) (by blk_point [iblk, V, places t])) (by blk_point [iblk, V, places t]))
      (by blk_point [iblk, V, places t])

theorem array_branch : (dats m 0 c).arrAt 6 cfg0.N = fun j => slopeBranch (a0 m c j) (left (a1 m c) j) := by
  refine (dats m 0 c).arrAt_eq_of_covers 6 _ (by decide +kernel) fun t hf y => ?_
  unfold left
  blk_simp
  refine (congrFun (after0_6 m c t) y).trans ?_
  unfold out0_6
  frame_out
  exact (body_branch _ _ y).trans (congrArg₂ slopeBranch (by blk_point [iblk, V, places t]) (by unfold left; blk_point [iblk, V, places t]))

theorem array_v : (dats m 0 c).arrAt 7 cfg0.N = fun j => slopeV (a0 m c j) (right (a1 m c) j) (a4 m c j) := by
  refine (dats m 0 c).arrAt_eq_of_covers 7 _ (by decide +kernel) fun t hf y => ?_
  unfold right
  blk_simp
  refine (congrFun (after0_7 m c t) y).trans ?_
  unfold out0_7
  frame_out
  exact (body_v _ _ _ y).trans (congr (congrArg₂ slopeV (by blk_point [iblk, V, places t]) (by unfold right; blk_point [iblk, V, places t]))
    (by blk_point [iblk, V, places t]))

theorem array_g : (dats m 0 c).arrAt 8 cfg0.N = fun j => slopeG (a0 m c j) (right (a1 m c) j) (a3 m c j) (a4 m c j) := by
  refine (dats m 0 c).arrAt_eq_of_covers 8 _ (by decide +kernel) fun t hf y => ?_
  unfold right
  blk_simp
  refine (congrFun (after0_8 m c t) y).trans ?_
  unfold out0_8
  frame_out
  exact (body_g _ _ _ _ y).trans (congr (congr (congrArg₂ slopeG (by blk_point [iblk, V, places t]) (by unfold right; blk_point [iblk, V, places t]))
    (by blk_point [iblk, V, places t])) (by blk_point [iblk, V, places t]))

theorem algebraic : Cert.algebraic_GateBwdIdeal_GateBwdReferenceIdeal := by
  intro m g m' g' _ same
  refine ⟨fun c => paired (fun j => slopeA (a0 m c j) (left (a1 m c) j) (a2 m c j)) (fun j => slopeS (a0 m c j) (right (a1 m c) j) (a3 m c j) (a4 m c j)),
    fun c j => slopeBranch (a0 m c j) (left (a1 m c) j), fun c j => slopeV (a0 m c j) (right (a1 m c) j) (a4 m c j),
    fun c j => slopeG (a0 m c j) (right (a1 m c) j) (a3 m c j) (a4 m c j),
    (θ_run defs _ _).mono (fun _ h c => ?_) (run_main m g),
    (θ_run Cert.GateBwdReferenceIdeal.defs _ _).mono (fun _ h c => ?_) (Cert.GateBwdReferenceIdeal.Value.run m' g')⟩
  · have i := (dats m 0 c).arrAt_in
    exact ⟨((h c).1 5).trans (array_gates m c), ((h c).1 6).trans (array_branch m c), ((h c).1 7).trans (array_v m c), ((h c).1 8).trans (array_g m c),
      ((h c).1 0).trans (i 0 rfl _), ((h c).1 1).trans (i 1 rfl _), ((h c).1 2).trans (i 2 rfl _), ((h c).1 3).trans (i 3 rfl _),
      ((h c).1 4).trans (i 4 rfl _)⟩
  · obtain ⟨s0, s1, s2, s3, s4⟩ := same c
    refine ⟨(h c).1.trans (funext fun j => ?_), (h c).2.1.trans (funext fun j => ?_), (h c).2.2.1.trans (funext fun j => ?_),
      (h c).2.2.2.1.trans (funext fun j => ?_), (h c).2.2.2.2⟩
    · rw [s0, s1, s2, s3, s4]
      unfold paired slopeA slopeS gateSlope sigmoid left right
      pointwise
    · rw [s0, s1]
      unfold slopeBranch sigmoid left
      pointwise
    · rw [s0, s1, s4]
      unfold slopeV sigmoid right
      pointwise
    · rw [s0, s1, s3, s4]
      unfold slopeG gateSlope sigmoid right
      pointwise

theorem frame_reference : Cert.quiescent_GateBwdReferenceIdeal := fun m ρ _ =>
  (θ_run _ _ _).mono (fun r h => ⟨fun c => (h c).2.2.2.2, sem_eq_zero_of_no_sems (by decide) r.2⟩) (Cert.GateBwdReferenceIdeal.Value.run m ρ)

end Cert.Wise.GateBwdCall

/-! ## The slopes of the decay, folded over the segments -/

namespace Cert.Wise.DlFoldCall

open Cert.DlFoldIdeal Cert.DlFoldIdeal.Gen

variable (m : (ℓ : Loc nD τ sig) → Buf (Elt Ideal) ℓ) (c : Dev nD)

abbrev a0 : (Flat 8 4096).Idx → EReal := m ((c : Thread nD τ).loc main_arg0)
abbrev a1 : (Flat 8 4096).Idx → EReal := m ((c : Thread nD τ).loc main_arg1)

/-- The sums of an array's columns. -/
def columns (x : (Flat 8 4096).Idx → EReal) (j : (Flat 1 4096).Idx) : EReal := ∑ r : Fin 8, x (ix2 r (j 1))

theorem places : ∀ t : Fin cfg0.N, win0_0.index t = ![0, 0] ∧ win0_1.index t = ![0, 0] ∧ win0_2.index t = ![0, 0] ∧ win0_3.index t = ![0, 0] :=
  (by decide +kernel : ∀ t : Fin grid0.N, _)

theorem body (x : Vec Ideal S8x4096 .f32) (j : S1x4096.Idx) : k0_pay1 (F := Ideal) x j = columns x j := by
  unfold columns
  pointwise [k0_pay1]

theorem array_re : (dats m 0 c).arrAt 2 cfg0.N = columns (a0 m c) := by
  refine (dats m 0 c).arrAt_eq_of_covers 2 _ (by decide +kernel) fun t hf y => ?_
  unfold columns
  blk_simp
  refine (congrFun (after0_2 m c t) y).trans ?_
  unfold outsAt0
  frame_out
  exact (body _ y).trans (Finset.sum_congr rfl fun r _ => by blk_point [iblk, V, places t])

theorem array_im : (dats m 0 c).arrAt 3 cfg0.N = columns (a1 m c) := by
  refine (dats m 0 c).arrAt_eq_of_covers 3 _ (by decide +kernel) fun t hf y => ?_
  unfold columns
  blk_simp
  refine (congrFun (after0_3 m c t) y).trans ?_
  unfold outsAt0
  frame_out
  exact (body _ y).trans (Finset.sum_congr rfl fun r _ => by blk_point [iblk, V, places t])

theorem algebraic : Cert.algebraic_DlFoldIdeal_DlFoldReferenceIdeal := by
  intro m g m' g' _ same
  refine ⟨fun c => columns (a0 m c), fun c => columns (a1 m c), (θ_run defs _ _).mono (fun _ h c => ?_) (run_main m g),
    (θ_run Cert.DlFoldReferenceIdeal.defs _ _).mono (fun _ h c => ?_) (Cert.DlFoldReferenceIdeal.Value.run m' g')⟩
  · have i := (dats m 0 c).arrAt_in
    exact ⟨((h c).1 2).trans (array_re m c), ((h c).1 3).trans (array_im m c), ((h c).1 0).trans (i 0 rfl _), ((h c).1 1).trans (i 1 rfl _)⟩
  · obtain ⟨s0, s1⟩ := same c
    refine ⟨(h c).1.trans (funext fun j => ?_), (h c).2.1.trans (funext fun j => ?_), (h c).2.2⟩
    · rw [s0]
      unfold columns
      pointwise
    · rw [s1]
      unfold columns
      pointwise

theorem frame_reference : Cert.quiescent_DlFoldReferenceIdeal := fun m ρ _ =>
  (θ_run _ _ _).mono (fun r h => ⟨fun c => (h c).2.2, sem_eq_zero_of_no_sems (by decide) r.2⟩) (Cert.DlFoldReferenceIdeal.Value.run m ρ)

end Cert.Wise.DlFoldCall

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Gather
public import proofs.«01_k».proof.Proof.Gen.GatherIdeal
public import proofs.«01_k».proof.Proof.Gen.GatherReferenceIdeal
public import proofs.«01_k».proof.Proof.Gen.GatherReference
public import proofs.«01_k».proof.Proof.Gen.GatherReferenceIdeal.Run
public import proofs.«01_k».proof.Proof.Gen.GatherReference.Run
public import proofs.«01_k».proof.Proof.Gen.Small
public import proofs.«01_k».proof.Proof.Gen.SmallIdeal
public import proofs.«01_k».proof.Proof.Gen.SmallReferenceIdeal
public import proofs.«01_k».proof.Proof.Gen.SmallReference
public import proofs.«01_k».proof.Proof.Gen.SmallReferenceIdeal.Run
public import proofs.«01_k».proof.Proof.Gen.SmallReference.Run
public import proofs.«01_k».proof.Proof.SwapValue
public import proofs.«01_k».proof.Proof.CollectValue
public import proofs.«01_k».proof.Proof.AdamSmallValue
public import proofs.«01_k».proof.Proof.AdamInValue
public import proofs.«01_k».proof.Proof.AdamUpValue
public import proofs.«01_k».proof.Proof.AdamGluValue
public import proofs.«01_k».proof.Proof.AdamOutValue
public import proofs.«01_k».proof.Proof.AdamGateValue
public import proofs.«01_k».proof.Proof.AdamDownValue
public import proofs.«01_k».proof.Proof.LossValue
public import proofs.«01_k».proof.Proof.GradXValue
public import proofs.«01_k».proof.Proof.WiseRuns
public import proofs.«01_k».proof.Proof.MatRuns
public import proofs.«01_k».proof.Proof.MatForward
public import proofs.«01_k».proof.Proof.MatBackward
public import proofs.«01_k».proof.Proof.MatWeights
public import proofs.«01_k».proof.Proof.NormValue
public import proofs.«01_k».proof.Proof.WiseValue

@[expose] public section

noncomputable section

namespace Cert.Proof

open Idealize.ShloMosaic Idealize.SL.Sem

/-! ## The all-to-all of the gradients -/

theorem frame_kernel : Cert.quiescent_Kernel := fun m ρ _ =>
  (θ_run Cert.KernelIdeal.defs _ _).mono (fun _ h => ⟨fun c => (h.1 c).2, h.2⟩) (Swap.run_main (F := Bits) m ρ)

theorem frame_kernelIdeal : Cert.quiescent_KernelIdeal := fun m ρ _ =>
  (θ_run Cert.KernelIdeal.defs _ _).mono (fun _ h => ⟨fun c => (h.1 c).2, h.2⟩) (Swap.run_main (F := Ideal) m ρ)

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal := fun m g m' g' _ hX =>
  ⟨_, (θ_run Cert.KernelIdeal.defs _ _).mono (fun _ h c => ⟨(h.1 c).1.trans (Swap.out_eq m _ _ _ _ _ hX c), (h.1 c).2⟩) (Swap.run_main (F := Ideal) m g),
    (θ_run Cert.ReferenceIdeal.defs _ _).mono (fun _ h => h 0) (Cert.ReferenceIdeal.Value.run (F := Ideal) m' g')⟩

theorem bitexact : Cert.bitexact_Kernel_Reference := fun m g m' g' _ hX =>
  ⟨_, (θ_run Cert.KernelIdeal.defs _ _).mono (fun _ h c => ⟨(h.1 c).1.trans (Swap.out_eq m _ _ _ _ _ hX c), (h.1 c).2⟩) (Swap.run_main (F := Bits) m g),
    (θ_run Cert.Reference.defs _ _).mono (fun _ h => h 0) (Cert.Reference.Value.run (F := Bits) m' g')⟩

/-! ## The all-gather of the weights -/

theorem frame_gather : Cert.quiescent_Gather := fun m ρ _ =>
  (θ_run Cert.GatherIdeal.defs _ _).mono (fun _ h => ⟨fun c => (h.1 c).2, h.2⟩) (Weights.run_main (F := Bits) m ρ)

theorem frame_gatherIdeal : Cert.quiescent_GatherIdeal := fun m ρ _ =>
  (θ_run Cert.GatherIdeal.defs _ _).mono (fun _ h => ⟨fun c => (h.1 c).2, h.2⟩) (Weights.run_main (F := Ideal) m ρ)

theorem frame_gatherReference : Cert.quiescent_GatherReference := fun m ρ _ =>
  (θ_run Cert.GatherReference.defs _ _).mono (fun r h => ⟨fun c => (h c).2, sem_eq_zero_of_no_sems (by decide) r.2⟩) (Cert.GatherReference.Value.run (F := Bits) m ρ)

theorem frame_gatherReferenceIdeal : Cert.quiescent_GatherReferenceIdeal := fun m ρ _ =>
  (θ_run Cert.GatherReferenceIdeal.defs _ _).mono (fun r h => ⟨fun c => (h c).2, sem_eq_zero_of_no_sems (by decide) r.2⟩) (Cert.GatherReferenceIdeal.Value.run (F := Ideal) m ρ)

theorem algebraic_gather : Cert.algebraic_GatherIdeal_GatherReferenceIdeal := fun m g m' g' _ hX =>
  ⟨_, (θ_run Cert.GatherIdeal.defs _ _).mono (fun _ h c => ⟨(h.1 c).1.trans (Collect.all_eq rfl _ _ _ _ hX), (h.1 c).2⟩) (Weights.run_main (F := Ideal) m g),
    (θ_run Cert.GatherReferenceIdeal.defs _ _).mono (fun _ h => h 0) (Cert.GatherReferenceIdeal.Value.run (F := Ideal) m' g')⟩

theorem bitexact_gather : Cert.bitexact_Gather_GatherReference := fun m g m' g' _ hX =>
  ⟨_, (θ_run Cert.GatherIdeal.defs _ _).mono (fun _ h c => ⟨(h.1 c).1.trans (Collect.all_eq rfl _ _ _ _ hX), (h.1 c).2⟩) (Weights.run_main (F := Bits) m g),
    (θ_run Cert.GatherReference.defs _ _).mono (fun _ h => h 0) (Cert.GatherReference.Value.run (F := Bits) m' g')⟩

/-! ## The all-gather of the small gradients -/

theorem frame_small : Cert.quiescent_Small := fun m ρ _ =>
  (θ_run Cert.SmallIdeal.defs _ _).mono (fun _ h => ⟨fun c => (h.1 c).2, h.2⟩) (Smalls.run_main (F := Bits) m ρ)

theorem frame_smallIdeal : Cert.quiescent_SmallIdeal := fun m ρ _ =>
  (θ_run Cert.SmallIdeal.defs _ _).mono (fun _ h => ⟨fun c => (h.1 c).2, h.2⟩) (Smalls.run_main (F := Ideal) m ρ)

theorem frame_smallReference : Cert.quiescent_SmallReference := fun m ρ _ =>
  (θ_run Cert.SmallReference.defs _ _).mono (fun r h => ⟨fun c => (h c).2, sem_eq_zero_of_no_sems (by decide) r.2⟩) (Cert.SmallReference.Value.run (F := Bits) m ρ)

theorem frame_smallReferenceIdeal : Cert.quiescent_SmallReferenceIdeal := fun m ρ _ =>
  (θ_run Cert.SmallReferenceIdeal.defs _ _).mono (fun r h => ⟨fun c => (h c).2, sem_eq_zero_of_no_sems (by decide) r.2⟩) (Cert.SmallReferenceIdeal.Value.run (F := Ideal) m ρ)

theorem algebraic_small : Cert.algebraic_SmallIdeal_SmallReferenceIdeal := fun m g m' g' _ hX =>
  ⟨_, (θ_run Cert.SmallIdeal.defs _ _).mono (fun _ h c => ⟨(h.1 c).1.trans (Collect.all_eq rfl _ _ _ _ hX), (h.1 c).2⟩) (Smalls.run_main (F := Ideal) m g),
    (θ_run Cert.SmallReferenceIdeal.defs _ _).mono (fun _ h => h 0) (Cert.SmallReferenceIdeal.Value.run (F := Ideal) m' g')⟩

theorem bitexact_small : Cert.bitexact_Small_SmallReference := fun m g m' g' _ hX =>
  ⟨_, (θ_run Cert.SmallIdeal.defs _ _).mono (fun _ h c => ⟨(h.1 c).1.trans (Collect.all_eq rfl _ _ _ _ hX), (h.1 c).2⟩) (Smalls.run_main (F := Bits) m g),
    (θ_run Cert.SmallReference.defs _ _).mono (fun _ h => h 0) (Cert.SmallReference.Value.run (F := Bits) m' g')⟩

/-! ## The calls on one device: the frames that no generated module states -/

theorem frame_adamSmallReference : Cert.quiescent_AdamSmallReferenceIdeal := fun m ρ _ =>
  (θ_run Cert.AdamSmallReferenceIdeal.defs _ _).mono (fun r h => ⟨fun c => (h c).2.2.2.2, sem_eq_zero_of_no_sems (by decide) r.2⟩) (Cert.AdamSmallReferenceIdeal.Value.run (F := Ideal) m ρ)

theorem frame_adamInReference : Cert.quiescent_AdamInReferenceIdeal := fun m ρ _ =>
  (θ_run Cert.AdamInReferenceIdeal.defs _ _).mono (fun r h => ⟨fun c => (h c).2.2.2.2, sem_eq_zero_of_no_sems (by decide) r.2⟩) (Cert.AdamInReferenceIdeal.Value.run (F := Ideal) m ρ)

theorem frame_adamUpReference : Cert.quiescent_AdamUpReferenceIdeal := fun m ρ _ =>
  (θ_run Cert.AdamUpReferenceIdeal.defs _ _).mono (fun r h => ⟨fun c => (h c).2.2.2.2, sem_eq_zero_of_no_sems (by decide) r.2⟩) (Cert.AdamUpReferenceIdeal.Value.run (F := Ideal) m ρ)

theorem frame_adamGluReference : Cert.quiescent_AdamGluReferenceIdeal := fun m ρ _ =>
  (θ_run Cert.AdamGluReferenceIdeal.defs _ _).mono (fun r h => ⟨fun c => (h c).2.2.2.2, sem_eq_zero_of_no_sems (by decide) r.2⟩) (Cert.AdamGluReferenceIdeal.Value.run (F := Ideal) m ρ)

theorem frame_adamOutReference : Cert.quiescent_AdamOutReferenceIdeal := fun m ρ _ =>
  (θ_run Cert.AdamOutReferenceIdeal.defs _ _).mono (fun r h => ⟨fun c => (h c).2.2.2.2, sem_eq_zero_of_no_sems (by decide) r.2⟩) (Cert.AdamOutReferenceIdeal.Value.run (F := Ideal) m ρ)

theorem frame_adamGateReference : Cert.quiescent_AdamGateReferenceIdeal := fun m ρ _ =>
  (θ_run Cert.AdamGateReferenceIdeal.defs _ _).mono (fun r h => ⟨fun c => (h c).2.2.2.2, sem_eq_zero_of_no_sems (by decide) r.2⟩) (Cert.AdamGateReferenceIdeal.Value.run (F := Ideal) m ρ)

theorem frame_adamDownReference : Cert.quiescent_AdamDownReferenceIdeal := fun m ρ _ =>
  (θ_run Cert.AdamDownReferenceIdeal.defs _ _).mono (fun r h => ⟨fun c => (h c).2.2.2.2, sem_eq_zero_of_no_sems (by decide) r.2⟩) (Cert.AdamDownReferenceIdeal.Value.run (F := Ideal) m ρ)

theorem frame_lossReference : Cert.quiescent_LossReferenceIdeal := fun m ρ _ =>
  (θ_run Cert.LossReferenceIdeal.defs _ _).mono (fun r h => ⟨fun c => (h c).2.2.2.2, sem_eq_zero_of_no_sems (by decide) r.2⟩) (Cert.LossReferenceIdeal.Value.run (F := Ideal) m ρ)

theorem frame_gradXReference : Cert.quiescent_GradXReferenceIdeal := fun m ρ _ =>
  (θ_run Cert.GradXReferenceIdeal.defs _ _).mono (fun r h => ⟨fun c => (h c).2.2, sem_eq_zero_of_no_sems (by decide) r.2⟩) (Cert.GradXReferenceIdeal.Value.run (F := Ideal) m ρ)

theorem claim : Cert.Claim :=
  ⟨Cert.Kernel.Gen.facts, Cert.KernelIdeal.Gen.facts, Cert.ReferenceIdeal.Gen.facts, Cert.Reference.Gen.facts,
    Cert.Gather.Gen.facts, Cert.GatherIdeal.Gen.facts, Cert.GatherReferenceIdeal.Gen.facts, Cert.GatherReference.Gen.facts,
    Cert.Small.Gen.facts, Cert.SmallIdeal.Gen.facts, Cert.SmallReferenceIdeal.Gen.facts, Cert.SmallReference.Gen.facts,
    Cert.AdamSmall.Gen.facts, Cert.AdamSmallIdeal.Gen.facts, Cert.AdamSmallReferenceIdeal.Gen.facts,
    Cert.AdamIn.Gen.facts, Cert.AdamInIdeal.Gen.facts, Cert.AdamInReferenceIdeal.Gen.facts,
    Cert.AdamUp.Gen.facts, Cert.AdamUpIdeal.Gen.facts, Cert.AdamUpReferenceIdeal.Gen.facts,
    Cert.AdamGlu.Gen.facts, Cert.AdamGluIdeal.Gen.facts, Cert.AdamGluReferenceIdeal.Gen.facts,
    Cert.AdamOut.Gen.facts, Cert.AdamOutIdeal.Gen.facts, Cert.AdamOutReferenceIdeal.Gen.facts,
    Cert.AdamGate.Gen.facts, Cert.AdamGateIdeal.Gen.facts, Cert.AdamGateReferenceIdeal.Gen.facts,
    Cert.AdamDown.Gen.facts, Cert.AdamDownIdeal.Gen.facts, Cert.AdamDownReferenceIdeal.Gen.facts,
    Cert.Loss.Gen.facts, Cert.LossIdeal.Gen.facts, Cert.LossReferenceIdeal.Gen.facts,
    Cert.GradX.Gen.facts, Cert.GradXIdeal.Gen.facts, Cert.GradXReferenceIdeal.Gen.facts,
    Cert.FwdQkv.Gen.facts, Cert.FwdQkvIdeal.Gen.facts, Cert.FwdQkvReferenceIdeal.Gen.facts,
    Cert.FwdU.Gen.facts, Cert.FwdUIdeal.Gen.facts, Cert.FwdUReferenceIdeal.Gen.facts,
    Cert.FwdGates.Gen.facts, Cert.FwdGatesIdeal.Gen.facts, Cert.FwdGatesReferenceIdeal.Gen.facts,
    Cert.FwdUp.Gen.facts, Cert.FwdUpIdeal.Gen.facts, Cert.FwdUpReferenceIdeal.Gen.facts,
    Cert.FwdGlu.Gen.facts, Cert.FwdGluIdeal.Gen.facts, Cert.FwdGluReferenceIdeal.Gen.facts,
    Cert.FwdOut.Gen.facts, Cert.FwdOutIdeal.Gen.facts, Cert.FwdOutReferenceIdeal.Gen.facts,
    Cert.FwdFfn.Gen.facts, Cert.FwdFfnIdeal.Gen.facts, Cert.FwdFfnReferenceIdeal.Gen.facts,
    Cert.FwdDown.Gen.facts, Cert.FwdDownIdeal.Gen.facts, Cert.FwdDownReferenceIdeal.Gen.facts,
    Cert.BwdDown.Gen.facts, Cert.BwdDownIdeal.Gen.facts, Cert.BwdDownReferenceIdeal.Gen.facts,
    Cert.BwdOut.Gen.facts, Cert.BwdOutIdeal.Gen.facts, Cert.BwdOutReferenceIdeal.Gen.facts,
    Cert.BwdUp.Gen.facts, Cert.BwdUpIdeal.Gen.facts, Cert.BwdUpReferenceIdeal.Gen.facts,
    Cert.BwdQkv.Gen.facts, Cert.BwdQkvIdeal.Gen.facts, Cert.BwdQkvReferenceIdeal.Gen.facts,
    Cert.BwdU.Gen.facts, Cert.BwdUIdeal.Gen.facts, Cert.BwdUReferenceIdeal.Gen.facts,
    Cert.BwdGates.Gen.facts, Cert.BwdGatesIdeal.Gen.facts, Cert.BwdGatesReferenceIdeal.Gen.facts,
    Cert.BwdFfn.Gen.facts, Cert.BwdFfnIdeal.Gen.facts, Cert.BwdFfnReferenceIdeal.Gen.facts,
    Cert.BwdGlu.Gen.facts, Cert.BwdGluIdeal.Gen.facts, Cert.BwdGluReferenceIdeal.Gen.facts,
    Cert.DwDown.Gen.facts, Cert.DwDownIdeal.Gen.facts, Cert.DwDownReferenceIdeal.Gen.facts,
    Cert.DwFfn.Gen.facts, Cert.DwFfnIdeal.Gen.facts, Cert.DwFfnReferenceIdeal.Gen.facts,
    Cert.DwOut.Gen.facts, Cert.DwOutIdeal.Gen.facts, Cert.DwOutReferenceIdeal.Gen.facts,
    Cert.DwUp.Gen.facts, Cert.DwUpIdeal.Gen.facts, Cert.DwUpReferenceIdeal.Gen.facts,
    Cert.DwGlu.Gen.facts, Cert.DwGluIdeal.Gen.facts, Cert.DwGluReferenceIdeal.Gen.facts,
    Cert.DwQkv.Gen.facts, Cert.DwQkvIdeal.Gen.facts, Cert.DwQkvReferenceIdeal.Gen.facts,
    Cert.DwU.Gen.facts, Cert.DwUIdeal.Gen.facts, Cert.DwUReferenceIdeal.Gen.facts,
    Cert.DwGates.Gen.facts, Cert.DwGatesIdeal.Gen.facts, Cert.DwGatesReferenceIdeal.Gen.facts,
    Cert.RmsIn.Gen.facts, Cert.RmsInIdeal.Gen.facts, Cert.RmsInReferenceIdeal.Gen.facts,
    Cert.RmsMid.Gen.facts, Cert.RmsMidIdeal.Gen.facts, Cert.RmsMidReferenceIdeal.Gen.facts,
    Cert.RmsMidBwd.Gen.facts, Cert.RmsMidBwdIdeal.Gen.facts, Cert.RmsMidBwdReferenceIdeal.Gen.facts,
    Cert.SsmGelu.Gen.facts, Cert.SsmGeluIdeal.Gen.facts, Cert.SsmGeluReferenceIdeal.Gen.facts,
    Cert.GateMerge.Gen.facts, Cert.GateMergeIdeal.Gen.facts, Cert.GateMergeReferenceIdeal.Gen.facts,
    Cert.GateBwd.Gen.facts, Cert.GateBwdIdeal.Gen.facts, Cert.GateBwdReferenceIdeal.Gen.facts,
    Cert.Swiglu.Gen.facts, Cert.SwigluIdeal.Gen.facts, Cert.SwigluReferenceIdeal.Gen.facts,
    Cert.SwigluBwd.Gen.facts, Cert.SwigluBwdIdeal.Gen.facts, Cert.SwigluBwdReferenceIdeal.Gen.facts,
    Cert.DlFold.Gen.facts, Cert.DlFoldIdeal.Gen.facts, Cert.DlFoldReferenceIdeal.Gen.facts,
    frame_kernel, frame_kernelIdeal, frame_referenceIdeal, frame_reference,
    frame_gather, frame_gatherIdeal, frame_gatherReferenceIdeal, frame_gatherReference,
    frame_small, frame_smallIdeal, frame_smallReferenceIdeal, frame_smallReference,
    fun m ρ _ => Cert.AdamSmall.Gen.frame m ρ, fun m ρ _ => Cert.AdamSmallIdeal.Gen.frame m ρ, frame_adamSmallReference,
    fun m ρ _ => Cert.AdamIn.Gen.frame m ρ, fun m ρ _ => Cert.AdamInIdeal.Gen.frame m ρ, frame_adamInReference,
    fun m ρ _ => Cert.AdamUp.Gen.frame m ρ, fun m ρ _ => Cert.AdamUpIdeal.Gen.frame m ρ, frame_adamUpReference,
    fun m ρ _ => Cert.AdamGlu.Gen.frame m ρ, fun m ρ _ => Cert.AdamGluIdeal.Gen.frame m ρ, frame_adamGluReference,
    fun m ρ _ => Cert.AdamOut.Gen.frame m ρ, fun m ρ _ => Cert.AdamOutIdeal.Gen.frame m ρ, frame_adamOutReference,
    fun m ρ _ => Cert.AdamGate.Gen.frame m ρ, fun m ρ _ => Cert.AdamGateIdeal.Gen.frame m ρ, frame_adamGateReference,
    fun m ρ _ => Cert.AdamDown.Gen.frame m ρ, fun m ρ _ => Cert.AdamDownIdeal.Gen.frame m ρ, frame_adamDownReference,
    fun m ρ _ => Cert.Loss.Gen.frame m ρ, fun m ρ _ => Cert.LossIdeal.Gen.frame m ρ, frame_lossReference,
    fun m ρ _ => Cert.GradX.Gen.frame m ρ, fun m ρ _ => Cert.GradXIdeal.Gen.frame m ρ, frame_gradXReference,
    fun m ρ _ => Cert.FwdQkv.Gen.frame m ρ, fun m ρ _ => Cert.FwdQkvIdeal.Gen.frame m ρ, Mats.FwdQkv.frame_reference,
    fun m ρ _ => Cert.FwdU.Gen.frame m ρ, fun m ρ _ => Cert.FwdUIdeal.Gen.frame m ρ, Mats.FwdU.frame_reference,
    fun m ρ _ => Cert.FwdGates.Gen.frame m ρ, fun m ρ _ => Cert.FwdGatesIdeal.Gen.frame m ρ, Mats.FwdGates.frame_reference,
    fun m ρ _ => Cert.FwdUp.Gen.frame m ρ, fun m ρ _ => Cert.FwdUpIdeal.Gen.frame m ρ, Mats.FwdUp.frame_reference,
    fun m ρ _ => Cert.FwdGlu.Gen.frame m ρ, fun m ρ _ => Cert.FwdGluIdeal.Gen.frame m ρ, Mats.FwdGlu.frame_reference,
    fun m ρ _ => Cert.FwdOut.Gen.frame m ρ, fun m ρ _ => Cert.FwdOutIdeal.Gen.frame m ρ, Mats.FwdOut.frame_reference,
    fun m ρ _ => Cert.FwdFfn.Gen.frame m ρ, fun m ρ _ => Cert.FwdFfnIdeal.Gen.frame m ρ, Mats.FwdFfn.frame_reference,
    fun m ρ _ => Cert.FwdDown.Gen.frame m ρ, fun m ρ _ => Cert.FwdDownIdeal.Gen.frame m ρ, Mats.FwdDown.frame_reference,
    fun m ρ _ => Cert.BwdDown.Gen.frame m ρ, fun m ρ _ => Cert.BwdDownIdeal.Gen.frame m ρ, Mats.BwdDown.frame_reference,
    fun m ρ _ => Cert.BwdOut.Gen.frame m ρ, fun m ρ _ => Cert.BwdOutIdeal.Gen.frame m ρ, Mats.BwdOut.frame_reference,
    fun m ρ _ => Cert.BwdUp.Gen.frame m ρ, fun m ρ _ => Cert.BwdUpIdeal.Gen.frame m ρ, Mats.BwdUp.frame_reference,
    fun m ρ _ => Cert.BwdQkv.Gen.frame m ρ, fun m ρ _ => Cert.BwdQkvIdeal.Gen.frame m ρ, Mats.BwdQkv.frame_reference,
    fun m ρ _ => Cert.BwdU.Gen.frame m ρ, fun m ρ _ => Cert.BwdUIdeal.Gen.frame m ρ, Mats.BwdU.frame_reference,
    fun m ρ _ => Cert.BwdGates.Gen.frame m ρ, fun m ρ _ => Cert.BwdGatesIdeal.Gen.frame m ρ, Mats.BwdGates.frame_reference,
    fun m ρ _ => Cert.BwdFfn.Gen.frame m ρ, fun m ρ _ => Cert.BwdFfnIdeal.Gen.frame m ρ, Mats.BwdFfn.frame_reference,
    fun m ρ _ => Cert.BwdGlu.Gen.frame m ρ, fun m ρ _ => Cert.BwdGluIdeal.Gen.frame m ρ, Mats.BwdGlu.frame_reference,
    fun m ρ _ => Cert.DwDown.Gen.frame m ρ, fun m ρ _ => Cert.DwDownIdeal.Gen.frame m ρ, Mats.DwDown.frame_reference,
    fun m ρ _ => Cert.DwFfn.Gen.frame m ρ, fun m ρ _ => Cert.DwFfnIdeal.Gen.frame m ρ, Mats.DwFfn.frame_reference,
    fun m ρ _ => Cert.DwOut.Gen.frame m ρ, fun m ρ _ => Cert.DwOutIdeal.Gen.frame m ρ, Mats.DwOut.frame_reference,
    fun m ρ _ => Cert.DwUp.Gen.frame m ρ, fun m ρ _ => Cert.DwUpIdeal.Gen.frame m ρ, Mats.DwUp.frame_reference,
    fun m ρ _ => Cert.DwGlu.Gen.frame m ρ, fun m ρ _ => Cert.DwGluIdeal.Gen.frame m ρ, Mats.DwGlu.frame_reference,
    fun m ρ _ => Cert.DwQkv.Gen.frame m ρ, fun m ρ _ => Cert.DwQkvIdeal.Gen.frame m ρ, Mats.DwQkv.frame_reference,
    fun m ρ _ => Cert.DwU.Gen.frame m ρ, fun m ρ _ => Cert.DwUIdeal.Gen.frame m ρ, Mats.DwU.frame_reference,
    fun m ρ _ => Cert.DwGates.Gen.frame m ρ, fun m ρ _ => Cert.DwGatesIdeal.Gen.frame m ρ, Mats.DwGates.frame_reference,
    fun m ρ _ => Cert.RmsIn.Gen.frame m ρ, fun m ρ _ => Cert.RmsInIdeal.Gen.frame m ρ, Norms.RmsInCall.frame_reference,
    fun m ρ _ => Cert.RmsMid.Gen.frame m ρ, fun m ρ _ => Cert.RmsMidIdeal.Gen.frame m ρ, Norms.RmsMidCall.frame_reference,
    fun m ρ _ => Cert.RmsMidBwd.Gen.frame m ρ, fun m ρ _ => Cert.RmsMidBwdIdeal.Gen.frame m ρ, Norms.RmsMidBwdCall.frame_reference,
    fun m ρ _ => Cert.SsmGelu.Gen.frame m ρ, fun m ρ _ => Cert.SsmGeluIdeal.Gen.frame m ρ, Wise.SsmGeluCall.frame_reference,
    fun m ρ _ => Cert.GateMerge.Gen.frame m ρ, fun m ρ _ => Cert.GateMergeIdeal.Gen.frame m ρ, Wise.GateMergeCall.frame_reference,
    fun m ρ _ => Cert.GateBwd.Gen.frame m ρ, fun m ρ _ => Cert.GateBwdIdeal.Gen.frame m ρ, Wise.GateBwdCall.frame_reference,
    fun m ρ _ => Cert.Swiglu.Gen.frame m ρ, fun m ρ _ => Cert.SwigluIdeal.Gen.frame m ρ, Wise.SwigluCall.frame_reference,
    fun m ρ _ => Cert.SwigluBwd.Gen.frame m ρ, fun m ρ _ => Cert.SwigluBwdIdeal.Gen.frame m ρ, Wise.SwigluBwdCall.frame_reference,
    fun m ρ _ => Cert.DlFold.Gen.frame m ρ, fun m ρ _ => Cert.DlFoldIdeal.Gen.frame m ρ, Wise.DlFoldCall.frame_reference,
    trivial, algebraic, bitexact,
    trivial, algebraic_gather, bitexact_gather,
    trivial, algebraic_small, bitexact_small,
    Adam.reciprocals rfl rfl, Adam.SmallCall.algebraic,
    Adam.reciprocals rfl rfl, Adam.InCall.algebraic,
    Adam.reciprocals rfl rfl, Adam.UpCall.algebraic,
    Adam.reciprocals rfl rfl, Adam.GluCall.algebraic,
    Adam.reciprocals rfl rfl, Adam.OutCall.algebraic,
    Adam.reciprocals rfl rfl, Adam.GateCall.algebraic,
    Adam.reciprocals rfl rfl, Adam.DownCall.algebraic,
    trivial, Rows.LossCall.algebraic,
    trivial, Rows.GradXCall.algebraic,
    trivial, Mats.FwdQkv.algebraic,
    trivial, Mats.FwdU.algebraic,
    trivial, Mats.FwdGates.algebraic,
    trivial, Mats.FwdUp.algebraic,
    trivial, Mats.FwdGlu.algebraic,
    trivial, Mats.FwdOut.algebraic,
    trivial, Mats.FwdFfn.algebraic,
    trivial, Mats.FwdDown.algebraic,
    trivial, Mats.BwdDown.algebraic,
    trivial, Mats.BwdOut.algebraic,
    trivial, Mats.BwdUp.algebraic,
    trivial, Mats.BwdQkv.algebraic,
    trivial, Mats.BwdU.algebraic,
    trivial, Mats.BwdGates.algebraic,
    trivial, Mats.BwdFfn.algebraic,
    trivial, Mats.BwdGlu.algebraic,
    trivial, Mats.DwDown.algebraic,
    trivial, Mats.DwFfn.algebraic,
    trivial, Mats.DwOut.algebraic,
    trivial, Mats.DwUp.algebraic,
    trivial, Mats.DwGlu.algebraic,
    trivial, Mats.DwQkv.algebraic,
    trivial, Mats.DwU.algebraic,
    trivial, Mats.DwGates.algebraic,
    trivial, Norms.RmsInCall.algebraic,
    trivial, Norms.RmsMidCall.algebraic,
    trivial, Norms.RmsMidBwdCall.algebraic,
    trivial, Wise.SsmGeluCall.algebraic,
    trivial, Wise.GateMergeCall.algebraic,
    trivial, Wise.GateBwdCall.algebraic,
    trivial, Wise.SwigluCall.algebraic,
    trivial, Wise.SwigluBwdCall.algebraic,
    trivial, Wise.DlFoldCall.algebraic⟩

end Cert.Proof

end
